-- ==== Defs.lean ====
def Pre_Kernel [hPre_offsets_ok : Cert.Pre_offsets_ok.Facts] (m : (ℓ : Loc Cert.Kernel.nD Cert.Kernel.τ Cert.Kernel.sig) → Buf (Elt Bits) ℓ) : Prop :=
  ∀ c : Dev Cert.Kernel.nD,
    (Cert.Pre_offsets_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_offsets_ok : Cert.Pre_offsets_ok.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_ok [hPre_offsets_ok : Cert.Pre_offsets_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersReferenceIdeal (m : (ℓ : Loc Cert.LayersReferenceIdeal.nD Cert.LayersReferenceIdeal.τ Cert.LayersReferenceIdeal.sig) → Buf (Elt Ideal) ℓ) : Prop :=
  True

def quiescent_Kernel [hKernel : Cert.Kernel.Facts] [hPre_offsets_ok : Cert.Pre_offsets_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_offsets_ok : Cert.Pre_offsets_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_offsets_ok [hReferenceIdeal : Cert.ReferenceIdeal.Facts] [hPre_offsets_ok : Cert.Pre_offsets_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0)
      ∧ r.2.mem ((c.tc : Thread Cert.TableReferenceIdeal.nD Cert.TableReferenceIdeal.τ).loc Cert.TableReferenceIdeal.main_arg1) = m ((c.tc : Thread Cert.TableReferenceIdeal.nD Cert.TableReferenceIdeal.τ).loc Cert.TableReferenceIdeal.main_arg1))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11))
      ∧ r.2.sem = fun _ => 0)

def quiescent_LayersReferenceIdeal [hLayersReferenceIdeal : Cert.LayersReferenceIdeal.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8)
      ∧ r.2.mem ((c.tc : Thread Cert.LayersReferenceIdeal.nD Cert.LayersReferenceIdeal.τ).loc Cert.LayersReferenceIdeal.main_arg9) = m ((c.tc : Thread Cert.LayersReferenceIdeal.nD Cert.LayersReferenceIdeal.τ).loc Cert.LayersReferenceIdeal.main_arg9)
      ∧ r.2.mem ((c.tc : Thread Cert.LayersReferenceIdeal.nD Cert.LayersReferenceIdeal.τ).loc Cert.LayersReferenceIdeal.main_arg10) = m ((c.tc : Thread Cert.LayersReferenceIdeal.nD Cert.LayersReferenceIdeal.τ).loc Cert.LayersReferenceIdeal.main_arg10)
      ∧ r.2.mem ((c.tc : Thread Cert.LayersReferenceIdeal.nD Cert.LayersReferenceIdeal.τ).loc Cert.LayersReferenceIdeal.main_arg11) = m ((c.tc : Thread Cert.LayersReferenceIdeal.nD Cert.LayersReferenceIdeal.τ).loc Cert.LayersReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_offsets_ok : Cert.Pre_offsets_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Table_TableIdeal : Prop :=
  True

def algebraic_TableIdeal_TableReferenceIdeal [hTableIdeal : Cert.TableIdeal.Facts] [hTableReferenceIdeal : Cert.TableReferenceIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableIdeal m →
    (∀ c : Dev Cert.TableIdeal.nD,
      m' ((c.tc : Thread Cert.TableReferenceIdeal.nD Cert.TableReferenceIdeal.τ).loc Cert.TableReferenceIdeal.main_arg0) = m ((c.tc : Thread Cert.TableIdeal.nD Cert.TableIdeal.τ).loc Cert.TableIdeal.main_arg0)
      ∧ m' ((c.tc : Thread Cert.TableReferenceIdeal.nD Cert.TableReferenceIdeal.τ).loc Cert.TableReferenceIdeal.main_arg1) = m ((c.tc : Thread Cert.TableIdeal.nD Cert.TableIdeal.τ).loc Cert.TableIdeal.main_arg1)) →
    ∃ (v0 : (c : Dev Cert.TableIdeal.nD) → Buf (Elt Ideal) ((c.tc : Thread Cert.TableIdeal.nD Cert.TableIdeal.τ).loc Cert.TableIdeal.main_v0)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v0) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v0) = v0 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0)
          ∧ r.2.mem ((c.tc : Thread Cert.TableReferenceIdeal.nD Cert.TableReferenceIdeal.τ).loc Cert.TableReferenceIdeal.main_arg1) = m' ((c.tc : Thread Cert.TableReferenceIdeal.nD Cert.TableReferenceIdeal.τ).loc Cert.TableReferenceIdeal.main_arg1))

def preserves_Layers_LayersIdeal : Prop :=
  True

def algebraic_LayersIdeal_LayersReferenceIdeal [hLayersIdeal : Cert.LayersIdeal.Facts] [hLayersReferenceIdeal : Cert.LayersReferenceIdeal.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersReferenceIdeal.nD Cert.LayersReferenceIdeal.τ Cert.LayersReferenceIdeal.sig) → Buf (Elt Ideal) ℓ) (g' : Dev Cert.LayersReferenceIdeal.nD → PrngReg), Pre_LayersIdeal m →
    (∀ c : Dev Cert.LayersIdeal.nD,
      m' ((c.tc : Thread Cert.LayersReferenceIdeal.nD Cert.LayersReferenceIdeal.τ).loc Cert.LayersReferenceIdeal.main_arg0) = m ((c.tc : Thread Cert.LayersIdeal.nD Cert.LayersIdeal.τ).loc Cert.LayersIdeal.main_arg0)
      ∧ m' ((c.tc : Thread Cert.LayersReferenceIdeal.nD Cert.LayersReferenceIdeal.τ).loc Cert.LayersReferenceIdeal.main_arg1) = m ((c.tc : Thread Cert.LayersIdeal.nD Cert.LayersIdeal.τ).loc Cert.LayersIdeal.main_arg1)
      ∧ m' ((c.tc : Thread Cert.LayersReferenceIdeal.nD Cert.LayersReferenceIdeal.τ).loc Cert.LayersReferenceIdeal.main_arg2) = m ((c.tc : Thread Cert.LayersIdeal.nD Cert.LayersIdeal.τ).loc Cert.LayersIdeal.main_arg2)
      ∧ m' ((c.tc : Thread Cert.LayersReferenceIdeal.nD Cert.LayersReferenceIdeal.τ).loc Cert.LayersReferenceIdeal.main_arg3) = m ((c.tc : Thread Cert.LayersIdeal.nD Cert.LayersIdeal.τ).loc Cert.LayersIdeal.main_arg3)
      ∧ m' ((c.tc : Thread Cert.LayersReferenceIdeal.nD Cert.LayersReferenceIdeal.τ).loc Cert.LayersReferenceIdeal.main_arg4) = m ((c.tc : Thread Cert.LayersIdeal.nD Cert.LayersIdeal.τ).loc Cert.LayersIdeal.main_arg4)
      ∧ m' ((c.tc : Thread Cert.LayersReferenceIdeal.nD Cert.LayersReferenceIdeal.τ).loc Cert.LayersReferenceIdeal.main_arg5) = m ((c.tc : Thread Cert.LayersIdeal.nD Cert.LayersIdeal.τ).loc Cert.LayersIdeal.main_arg5)
      ∧ m' ((c.tc : Thread Cert.LayersReferenceIdeal.nD Cert.LayersReferenceIdeal.τ).loc Cert.LayersReferenceIdeal.main_arg6) = m ((c.tc : Thread Cert.LayersIdeal.nD Cert.LayersIdeal.τ).loc Cert.LayersIdeal.main_arg6)
      ∧ m' ((c.tc : Thread Cert.LayersReferenceIdeal.nD Cert.LayersReferenceIdeal.τ).loc Cert.LayersReferenceIdeal.main_arg7) = m ((c.tc : Thread Cert.LayersIdeal.nD Cert.LayersIdeal.τ).loc Cert.LayersIdeal.main_arg7)
      ∧ m' ((c.tc : Thread Cert.LayersReferenceIdeal.nD Cert.LayersReferenceIdeal.τ).loc Cert.LayersReferenceIdeal.main_arg8) = m ((c.tc : Thread Cert.LayersIdeal.nD Cert.LayersIdeal.τ).loc Cert.LayersIdeal.main_arg8)
      ∧ m' ((c.tc : Thread Cert.LayersReferenceIdeal.nD Cert.LayersReferenceIdeal.τ).loc Cert.LayersReferenceIdeal.main_arg9) = m ((c.tc : Thread Cert.LayersIdeal.nD Cert.LayersIdeal.τ).loc Cert.LayersIdeal.main_arg9)
      ∧ m' ((c.tc : Thread Cert.LayersReferenceIdeal.nD Cert.LayersReferenceIdeal.τ).loc Cert.LayersReferenceIdeal.main_arg10) = m ((c.tc : Thread Cert.LayersIdeal.nD Cert.LayersIdeal.τ).loc Cert.LayersIdeal.main_arg10)
      ∧ m' ((c.tc : Thread Cert.LayersReferenceIdeal.nD Cert.LayersReferenceIdeal.τ).loc Cert.LayersReferenceIdeal.main_arg11) = m ((c.tc : Thread Cert.LayersIdeal.nD Cert.LayersIdeal.τ).loc Cert.LayersIdeal.main_arg11)) →
    ∃ (v0 : (c : Dev Cert.LayersIdeal.nD) → Buf (Elt Ideal) ((c.tc : Thread Cert.LayersIdeal.nD Cert.LayersIdeal.τ).loc Cert.LayersIdeal.main_v5)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v5) = v0 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11))
      ∧ θ_run (Cert.LayersReferenceIdeal.defs (F := Ideal)) (onTc (τ := Cert.LayersReferenceIdeal.τ) (Cert.LayersReferenceIdeal.main (F := Ideal))) ⟨m', fun _ => 0, g'⟩ (fun r => ∀ c : Dev Cert.LayersReferenceIdeal.nD,
          r.2.mem ((c.tc : Thread Cert.LayersReferenceIdeal.nD Cert.LayersReferenceIdeal.τ).loc Cert.LayersReferenceIdeal.main_v30) = v0 c
          ∧ r.2.mem ((c.tc : Thread Cert.LayersReferenceIdeal.nD Cert.LayersReferenceIdeal.τ).loc Cert.LayersReferenceIdeal.main_arg0) = m' ((c.tc : Thread Cert.LayersReferenceIdeal.nD Cert.LayersReferenceIdeal.τ).loc Cert.LayersReferenceIdeal.main_arg0)
          ∧ r.2.mem ((c.tc : Thread Cert.LayersReferenceIdeal.nD Cert.LayersReferenceIdeal.τ).loc Cert.LayersReferenceIdeal.main_arg1) = m' ((c.tc : Thread Cert.LayersReferenceIdeal.nD Cert.LayersReferenceIdeal.τ).loc Cert.LayersReferenceIdeal.main_arg1)
          ∧ r.2.mem ((c.tc : Thread Cert.LayersReferenceIdeal.nD Cert.LayersReferenceIdeal.τ).loc Cert.LayersReferenceIdeal.main_arg2) = m' ((c.tc : Thread Cert.LayersReferenceIdeal.nD Cert.LayersReferenceIdeal.τ).loc Cert.LayersReferenceIdeal.main_arg2)
          ∧ r.2.mem ((c.tc : Thread Cert.LayersReferenceIdeal.nD Cert.LayersReferenceIdeal.τ).loc Cert.LayersReferenceIdeal.main_arg3) = m' ((c.tc : Thread Cert.LayersReferenceIdeal.nD Cert.LayersReferenceIdeal.τ).loc Cert.LayersReferenceIdeal.main_arg3)
          ∧ r.2.mem ((c.tc : Thread Cert.LayersReferenceIdeal.nD Cert.LayersReferenceIdeal.τ).loc Cert.LayersReferenceIdeal.main_arg4) = m' ((c.tc : Thread Cert.LayersReferenceIdeal.nD Cert.LayersReferenceIdeal.τ).loc Cert.LayersReferenceIdeal.main_arg4)
          ∧ r.2.mem ((c.tc : Thread Cert.LayersReferenceIdeal.nD Cert.LayersReferenceIdeal.τ).loc Cert.LayersReferenceIdeal.main_arg5) = m' ((c.tc : Thread Cert.LayersReferenceIdeal.nD Cert.LayersReferenceIdeal.τ).loc Cert.LayersReferenceIdeal.main_arg5)
          ∧ r.2.mem ((c.tc : Thread Cert.LayersReferenceIdeal.nD Cert.LayersReferenceIdeal.τ).loc Cert.LayersReferenceIdeal.main_arg6) = m' ((c.tc : Thread Cert.LayersReferenceIdeal.nD Cert.LayersReferenceIdeal.τ).loc Cert.LayersReferenceIdeal.main_arg6)
          ∧ r.2.mem ((c.tc : Thread Cert.LayersReferenceIdeal.nD Cert.LayersReferenceIdeal.τ).loc Cert.LayersReferenceIdeal.main_arg7) = m' ((c.tc : Thread Cert.LayersReferenceIdeal.nD Cert.LayersReferenceIdeal.τ).loc Cert.LayersReferenceIdeal.main_arg7)
          ∧ r.2.mem ((c.tc : Thread Cert.LayersReferenceIdeal.nD Cert.LayersReferenceIdeal.τ).loc Cert.LayersReferenceIdeal.main_arg8) = m' ((c.tc : Thread Cert.LayersReferenceIdeal.nD Cert.LayersReferenceIdeal.τ).loc Cert.LayersReferenceIdeal.main_arg8)
          ∧ r.2.mem ((c.tc : Thread Cert.LayersReferenceIdeal.nD Cert.LayersReferenceIdeal.τ).loc Cert.LayersReferenceIdeal.main_arg9) = m' ((c.tc : Thread Cert.LayersReferenceIdeal.nD Cert.LayersReferenceIdeal.τ).loc Cert.LayersReferenceIdeal.main_arg9)
          ∧ r.2.mem ((c.tc : Thread Cert.LayersReferenceIdeal.nD Cert.LayersReferenceIdeal.τ).loc Cert.LayersReferenceIdeal.main_arg10) = m' ((c.tc : Thread Cert.LayersReferenceIdeal.nD Cert.LayersReferenceIdeal.τ).loc Cert.LayersReferenceIdeal.main_arg10)
          ∧ r.2.mem ((c.tc : Thread Cert.LayersReferenceIdeal.nD Cert.LayersReferenceIdeal.τ).loc Cert.LayersReferenceIdeal.main_arg11) = m' ((c.tc : Thread Cert.LayersReferenceIdeal.nD Cert.LayersReferenceIdeal.τ).loc Cert.LayersReferenceIdeal.main_arg11))

def Claim : Prop :=
  ∃ (hKernel : Cert.Kernel.Facts) (hKernelIdeal : Cert.KernelIdeal.Facts) (hReferenceIdeal : Cert.ReferenceIdeal.Facts) (hTable : Cert.Table.Facts) (hTableIdeal : Cert.TableIdeal.Facts) (hTableReferenceIdeal : Cert.TableReferenceIdeal.Facts) (hLayers : Cert.Layers.Facts) (hLayersIdeal : Cert.LayersIdeal.Facts) (hLayersReferenceIdeal : Cert.LayersReferenceIdeal.Facts) (hPre_offsets_ok : Cert.Pre_offsets_ok.Facts),
    quiescent_Kernel (hKernel := hKernel) (hPre_offsets_ok := hPre_offsets_ok)
    ∧ quiescent_KernelIdeal (hKernelIdeal := hKernelIdeal) (hPre_offsets_ok := hPre_offsets_ok)
    ∧ quiescent_ReferenceIdeal (hReferenceIdeal := hReferenceIdeal)
    ∧ quiescent_ReferenceIdeal_pre_offsets_ok (hReferenceIdeal := hReferenceIdeal) (hPre_offsets_ok := hPre_offsets_ok)
    ∧ quiescent_Table (hTable := hTable)
    ∧ quiescent_TableIdeal (hTableIdeal := hTableIdeal)
    ∧ quiescent_TableReferenceIdeal (hTableReferenceIdeal := hTableReferenceIdeal)
    ∧ quiescent_Layers (hLayers := hLayers)
    ∧ quiescent_LayersIdeal (hLayersIdeal := hLayersIdeal)
    ∧ quiescent_LayersReferenceIdeal (hLayersReferenceIdeal := hLayersReferenceIdeal)
    ∧ preserves_Kernel_KernelIdeal
    ∧ algebraic_KernelIdeal_ReferenceIdeal (hKernelIdeal := hKernelIdeal) (hReferenceIdeal := hReferenceIdeal) (hPre_offsets_ok := hPre_offsets_ok)
    ∧ preserves_Table_TableIdeal
    ∧ algebraic_TableIdeal_TableReferenceIdeal (hTableIdeal := hTableIdeal) (hTableReferenceIdeal := hTableReferenceIdeal)
    ∧ preserves_Layers_LayersIdeal
    ∧ algebraic_LayersIdeal_LayersReferenceIdeal (hLayersIdeal := hLayersIdeal) (hLayersReferenceIdeal := hLayersReferenceIdeal)
-- ==== Pre_offsets_ok.lean ====
abbrev S327680 : Shape := ⟨1, ![327680]⟩
abbrev S16384 : Shape := ⟨1, ![16384]⟩
abbrev S100000x64 : Shape := ⟨2, ![100000, 64]⟩
abbrev S64 : Shape := ⟨1, ![64]⟩
abbrev S_ : Shape := ⟨0, ![]⟩
abbrev S16383 : Shape := ⟨1, ![16383]⟩
abbrev S1 : Shape := ⟨1, ![1]⟩

class Facts : Prop where
  bcast_S_S327680 : S_.BroadcastsInDim S327680 (![] : Fin 0 → Fin S327680.rank)
  reducesTo_S327680_S_d0 : S327680.ReducesTo [0] S_
  h_S_ : 0 < S_.numel
  bcast_S_S16384 : S_.BroadcastsInDim S16384 (![] : Fin 0 → Fin S16384.rank)
  reducesTo_S16384_S_d0 : S16384.ReducesTo [0] S_
  slices_S16384_S16383_0 : S16384.Slices ![0] S16383
  slices_S16384_S16383_1 : S16384.Slices ![1] S16383
  reducesTo_S16383_S_d0 : S16383.ReducesTo [0] S_
  slices_S16384_S1_0 : S16384.Slices ![0] S1
  shapeCasts_S1_S_ : S1.ShapeCasts S_

variable [Facts]

def fn_part1 {F : FTy → Type} [FloatOps F] (main_arg1 : IVec S16384 32) (main_v12 : IVec S_ 1) (main_v16 : IVec S_ 1) : IVec S_ 1 :=
  let main_v17 : IVec S_ 1 := andi main_v12 main_v16
  let main_v18 : IVec S1 32 := (extractStridedSlice S1 ![0] · slices_S16384_S1_0) main_arg1
  let main_v19 : IVec S_ 32 := shapeCast S_ main_v18 shapeCasts_S1_S_
  let main_c_6 : IVec S_ 32 := constantI S_ 32 0#32
  let main_v20 : IVec S_ 1 := cmpi .eq main_v19 main_c_6
  let main_v21 : IVec S_ 1 := andi main_v17 main_v20
  main_v21

def fn {F : FTy → Type} [FloatOps F] (main_arg0 : IVec S327680 32) (main_arg1 : IVec S16384 32) (main_arg2 : FVec F S100000x64 .f32) (main_arg3 : FVec F S64 .f32) : IVec S_ 1 :=
  let main_c : IVec S_ 32 := constantI S_ 32 0#32
  let main_v0 : IVec S327680 32 := broadcastInDim S327680 ![] bcast_S_S327680 main_c
  let main_v1 : IVec S327680 1 := cmpi .sge main_arg0 main_v0
  let main_c_0 : IVec S_ 32 := constantI S_ 32 100000#32
  let main_v2 : IVec S327680 32 := broadcastInDim S327680 ![] bcast_S_S327680 main_c_0
  let main_v3 : IVec S327680 1 := cmpi .slt main_arg0 main_v2
  let main_v4 : IVec S327680 1 := andi main_v1 main_v3
  let main_c_1 : IVec S_ 1 := constantI S_ 1 1#1
  let main_v5 : IVec S_ 1 := (fun x v => Host.reduce IntOp.andi x v reducesTo_S327680_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 327680#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_v13 : IVec S16383 32 := (extractStridedSlice S16383 ![0] · slices_S16384_S16383_0) main_arg1
  let main_v14 : IVec S16383 32 := (extractStridedSlice S16383 ![1] · slices_S16384_S16383_1) main_arg1
  let main_v15 : IVec S16383 1 := cmpi .sle main_v13 main_v14
  let main_c_5 : IVec S_ 1 := constantI S_ 1 1#1
  let main_v16 : IVec S_ 1 := (fun x v => Host.reduce IntOp.andi x v reducesTo_S16383_S_d0 h_S_) main_v15 main_c_5
  fn_part1 (F := F) main_arg1 main_v12 main_v16
-- ==== Kernel.lean ====
abbrev S327680 : Shape := ⟨1, ![327680]⟩
abbrev S16384 : Shape := ⟨1, ![16384]⟩
abbrev S100000x64 : Shape := ⟨2, ![100000, 64]⟩
abbrev S64 : Shape := ⟨1, ![64]⟩
abbrev S_ : Shape := ⟨0, ![]⟩
abbrev S100000x128 : Shape := ⟨2, ![100000, 128]⟩
abbrev S128 : Shape := ⟨1, ![128]⟩
abbrev S327808 : Shape := ⟨1, ![327808]⟩
abbrev S24 : Shape := ⟨1, ![24]⟩
abbrev S16408 : Shape := ⟨1, ![16408]⟩
abbrev S16384x64 : Shape := ⟨2, ![16384, 64]⟩
abbrev S536 : Shape := ⟨1, ![536]⟩
abbrev S128x128 : Shape := ⟨2, ![128, 128]⟩
abbrev S512x64 : Shape := ⟨2, ![512, 64]⟩
abbrev S16 : Shape := ⟨1, ![16]⟩
abbrev S1 : Shape := ⟨1, ![1]⟩
abbrev S1x16 : Shape := ⟨2, ![1, 16]⟩

abbrev nBuf : Table → Nat
  | .hbm => 14
  | .local .scVector .vmem => 7
  | _ => 0

abbrev bufTy : (tb : Table) → Fin (nBuf tb) → BufTy
  | .hbm, ⟨0, _⟩ => ⟨S327680, .i32⟩
  | .hbm, ⟨1, _⟩ => ⟨S16384, .i32⟩
  | .hbm, ⟨2, _⟩ => ⟨S100000x64, .f32⟩
  | .hbm, ⟨3, _⟩ => ⟨S64, .f32⟩
  | .hbm, ⟨4, _⟩ => ⟨S_, .i32⟩
  | .hbm, ⟨5, _⟩ => ⟨S_, .f32⟩
  | .hbm, ⟨6, _⟩ => ⟨S100000x128, .f32⟩
  | .hbm, ⟨7, _⟩ => ⟨S_, .i32⟩
  | .hbm, ⟨8, _⟩ => ⟨S128, .i32⟩
  | .hbm, ⟨9, _⟩ => ⟨S327808, .i32⟩
  | .hbm, ⟨10, _⟩ => ⟨S_, .i32⟩
  | .hbm, ⟨11, _⟩ => ⟨S24, .i32⟩
  | .hbm, ⟨12, _⟩ => ⟨S16408, .i32⟩
  | .hbm, ⟨13, _⟩ => ⟨S16384x64, .f32⟩
  | .local .scVector .vmem, ⟨0, _⟩ => ⟨S536, .i32⟩
  | .local .scVector .vmem, ⟨1, _⟩ => ⟨S128, .i32⟩
  | .local .scVector .vmem, ⟨2, _⟩ => ⟨S128, .i32⟩
  | .local .scVector .vmem, ⟨3, _⟩ => ⟨S128x128, .f32⟩
  | .local .scVector .vmem, ⟨4, _⟩ => ⟨S128x128, .f32⟩
  | .local .scVector .vmem, ⟨5, _⟩ => ⟨S64, .f32⟩
  | .local .scVector .vmem, ⟨6, _⟩ => ⟨S512x64, .f32⟩
  | _, _ => ⟨S327680, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v0_scv : Ref sig .scVector := ⟨.hbm, 6, rfl⟩
abbrev main_v2_scv : Ref sig .scVector := ⟨.hbm, 9, rfl⟩
abbrev main_v4_scv : Ref sig .scVector := ⟨.hbm, 12, rfl⟩
abbrev main_arg3_scv : Ref sig .scVector := ⟨.hbm, 3, rfl⟩
abbrev main_v5_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  v2
def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v3 : BitVec 32 := v2
  ![v3.toNat]
def k0_mult2 (v6 : BitVec 32) : BitVec 32 :=
  let c_m8_i32 : BitVec 32 := 4294967288#32
  let v10 : BitVec 32 := Scalar.andi v6 c_m8_i32
  v10

def k0_mult3 (v6 : BitVec 32) : BitVec 32 :=
  let c_m8_i32 : BitVec 32 := 4294967288#32
  let v10 : BitVec 32 := Scalar.andi v6 c_m8_i32
  let v11 : BitVec 32 := v10
  let c0_i32 : BitVec 32 := 0#32
  let c128_i32_0 : BitVec 32 := 128#32
  let v16 : BitVec 32 := Scalar.muli c0_i32 c128_i32_0
  let v17 : BitVec 32 := Scalar.addi v11 v16
  v17
def k0_off2 (v6 : BitVec 32) : Fin 1 → Nat :=
  let c_m8_i32 : BitVec 32 := 4294967288#32
  let v10 : BitVec 32 := Scalar.andi v6 c_m8_i32
  let v11 : BitVec 32 := v10
  let c0_i32 : BitVec 32 := 0#32
  let c128_i32_0 : BitVec 32 := 128#32
  let v16 : BitVec 32 := Scalar.muli c0_i32 c128_i32_0
  let v17 : BitVec 32 := Scalar.addi v11 v16
  let v18 : BitVec 32 := v17
  ![v18.toNat]
def k0_mult4 (v6 : BitVec 32) : BitVec 32 :=
  let c_m8_i32 : BitVec 32 := 4294967288#32
  let v10 : BitVec 32 := Scalar.andi v6 c_m8_i32
  let v11 : BitVec 32 := v10
  let c1_i32_13 : BitVec 32 := 1#32
  let c128_i32_14 : BitVec 32 := 128#32
  let v42 : BitVec 32 := Scalar.muli c1_i32_13 c128_i32_14
  let v43 : BitVec 32 := Scalar.addi v11 v42
  v43
def k0_cond1 (v6 : BitVec 32) (v9 : BitVec 32) : BitVec 1 :=
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_1 : BitVec 32 := 1#32
  let v21 : BitVec 1 := Scalar.cmpi .sgt v15 c1_i32_1
  let v22 : BitVec 32 := Scalar.extui v21
  let c0_i32_2 : BitVec 32 := 0#32
  let v23 : BitVec 1 := Scalar.cmpi .ne v22 c0_i32_2
  v23

def k0_off3 (v6 : BitVec 32) : Fin 1 → Nat :=
  let c_m8_i32 : BitVec 32 := 4294967288#32
  let v10 : BitVec 32 := Scalar.andi v6 c_m8_i32
  let v11 : BitVec 32 := v10
  let c1_i32_13 : BitVec 32 := 1#32
  let c128_i32_14 : BitVec 32 := 128#32
  let v42 : BitVec 32 := Scalar.muli c1_i32_13 c128_i32_14
  let v43 : BitVec 32 := Scalar.addi v11 v42
  let v44 : BitVec 32 := v43
  ![v44.toNat]
def k0_mult5 (v6 : BitVec 32) : BitVec 32 :=
  let c_m8_i32 : BitVec 32 := 4294967288#32
  let v10 : BitVec 32 := Scalar.andi v6 c_m8_i32
  let v11 : BitVec 32 := v10
  let c0_i32_3 : BitVec 32 := 0#32
  let c128_i32_4 : BitVec 32 := 128#32
  let v24 : BitVec 32 := Scalar.muli c0_i32_3 c128_i32_4
  let v25 : BitVec 32 := Scalar.addi v11 v24
  v25
def k0_off4 (v6 : BitVec 32) : Fin 1 → Nat :=
  let c_m8_i32 : BitVec 32 := 4294967288#32
  let v10 : BitVec 32 := Scalar.andi v6 c_m8_i32
  let v11 : BitVec 32 := v10
  let c0_i32_3 : BitVec 32 := 0#32
  let c128_i32_4 : BitVec 32 := 128#32
  let v24 : BitVec 32 := Scalar.muli c0_i32_3 c128_i32_4
  let v25 : BitVec 32 := Scalar.addi v11 v24
  let v26 : BitVec 32 := v25
  ![v26.toNat]

def k0_chk1 (v6 : BitVec 32) : Prop :=
  (8 ∣ (k0_mult2 v6).toNat) ∧
  (8 ∣ (k0_mult3 v6).toNat) ∧
  (∀ a, (k0_off2 v6) a + S128.size a ≤ S327808.size a) ∧
  (8 ∣ (k0_mult5 v6).toNat) ∧
  (∀ a, (k0_off4 v6) a + S128.size a ≤ S327808.size a)
theorem k0_mult2_dvd : ∀ (v6 : BitVec 32) (k0_hw1 : k0_chk1 v6), 8 ∣ (k0_mult2 v6).toNat := fun v6 k0_hw1 => k0_hw1.1
theorem k0_mult3_dvd : ∀ (v6 : BitVec 32) (k0_hw1 : k0_chk1 v6), 8 ∣ (k0_mult3 v6).toNat := fun v6 k0_hw1 => k0_hw1.2.1
theorem k0_off2_inb : ∀ (v6 : BitVec 32) (k0_hw1 : k0_chk1 v6), ∀ a, (k0_off2 v6) a + S128.size a ≤ S327808.size a := fun v6 k0_hw1 => k0_hw1.2.2.1
theorem k0_mult5_dvd : ∀ (v6 : BitVec 32) (k0_hw1 : k0_chk1 v6), 8 ∣ (k0_mult5 v6).toNat := fun v6 k0_hw1 => k0_hw1.2.2.2.1
theorem k0_off4_inb : ∀ (v6 : BitVec 32) (k0_hw1 : k0_chk1 v6), ∀ a, (k0_off4 v6) a + S128.size a ≤ S327808.size a := fun v6 k0_hw1 => k0_hw1.2.2.2.2

@[reducible] def k0_t1_loop (v6 : BitVec 32) (v9 : BitVec 32) : Scf.Loop 32 :=
  let c0_i32_8 : BitVec 32 := 0#32
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_11 : BitVec 32 := 1#32
  ⟨c0_i32_8, v39, c1_i32_11⟩
def k0_mult6 (v6 : BitVec 32) (v9 : BitVec 32) (k0_t1 : Fin (k0_t1_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c2_i32_54 : BitVec 32 := 2#32
  let v122 : BitVec 32 := Scalar.addi v42 c2_i32_54
  let c128_i32_55 : BitVec 32 := 128#32
  let v123 : BitVec 32 := Scalar.muli v122 c128_i32_55
  let v124 : BitVec 32 := Scalar.addi v11 v123
  v124
def k0_cond3 (v6 : BitVec 32) (v9 : BitVec 32) (k0_t1 : Fin (k0_t1_loop v6 v9).trips) : BitVec 1 :=
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c2_i32_15 : BitVec 32 := 2#32
  let v46 : BitVec 32 := Scalar.addi v42 c2_i32_15
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let v47 : BitVec 1 := Scalar.cmpi .slt v46 v15
  let v48 : BitVec 32 := Scalar.extui v47
  let c0_i32_16 : BitVec 32 := 0#32
  let v49 : BitVec 1 := Scalar.cmpi .ne v48 c0_i32_16
  v49

def k0_off5 (v6 : BitVec 32) (v9 : BitVec 32) (k0_t1 : Fin (k0_t1_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c2_i32_54 : BitVec 32 := 2#32
  let v122 : BitVec 32 := Scalar.addi v42 c2_i32_54
  let c128_i32_55 : BitVec 32 := 128#32
  let v123 : BitVec 32 := Scalar.muli v122 c128_i32_55
  let v124 : BitVec 32 := Scalar.addi v11 v123
  let v125 : BitVec 32 := v124
  ![v125.toNat]
def k0_mult7 (v6 : BitVec 32) (v9 : BitVec 32) (k0_t1 : Fin (k0_t1_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_54 : BitVec 32 := 1#32
  let v122 : BitVec 32 := Scalar.addi v42 c1_i32_54
  let c128_i32_55 : BitVec 32 := 128#32
  let v123 : BitVec 32 := Scalar.muli v122 c128_i32_55
  let v124 : BitVec 32 := Scalar.addi v11 v123
  v124
def k0_cond4 (v6 : BitVec 32) (v9 : BitVec 32) (k0_t1 : Fin (k0_t1_loop v6 v9).trips) : BitVec 1 :=
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_17 : BitVec 32 := 1#32
  let v50 : BitVec 32 := Scalar.addi v42 c1_i32_17
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let v51 : BitVec 1 := Scalar.cmpi .slt v50 v15
  let v52 : BitVec 32 := Scalar.extui v51
  let c0_i32_18 : BitVec 32 := 0#32
  let v53 : BitVec 1 := Scalar.cmpi .ne v52 c0_i32_18
  v53

def k0_off6 (v6 : BitVec 32) (v9 : BitVec 32) (k0_t1 : Fin (k0_t1_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_54 : BitVec 32 := 1#32
  let v122 : BitVec 32 := Scalar.addi v42 c1_i32_54
  let c128_i32_55 : BitVec 32 := 128#32
  let v123 : BitVec 32 := Scalar.muli v122 c128_i32_55
  let v124 : BitVec 32 := Scalar.addi v11 v123
  let v125 : BitVec 32 := v124
  ![v125.toNat]
@[reducible] def k0_t2_loop : Scf.Loop 32 :=
  let c0_i32_21 : BitVec 32 := 0#32
  let c32_i32 : BitVec 32 := 32#32
  let v58 : BitVec 32 := Scalar.subi c32_i32 c0_i32_21
  let c1_i32_23 : BitVec 32 := 1#32
  let v60 : BitVec 32 := Scalar.divsi v58 c1_i32_23
  let v61 : BitVec 32 := Scalar.muli v60 c1_i32_23
  let v62 : BitVec 32 := Scalar.addi c0_i32_21 v61
  let c1_i32_24 : BitVec 32 := 1#32
  ⟨c0_i32_21, v62, c1_i32_24⟩
def k0_off7 (k0_t2 : Fin k0_t2_loop.trips) : Fin 1 → Nat :=
  let c0_i32_21 : BitVec 32 := 0#32
  let c1_i32_24 : BitVec 32 := 1#32
  let arg26 : BitVec 32 := Scf.iv c0_i32_21 c1_i32_24 k0_t2
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t3_loop : Scf.Loop 32 :=
  let c0_i32_21 : BitVec 32 := 0#32
  let c32_i32 : BitVec 32 := 32#32
  let v58 : BitVec 32 := Scalar.subi c32_i32 c0_i32_21
  let c1_i32_23 : BitVec 32 := 1#32
  let v60 : BitVec 32 := Scalar.divsi v58 c1_i32_23
  let v61 : BitVec 32 := Scalar.muli v60 c1_i32_23
  let v62 : BitVec 32 := Scalar.addi c0_i32_21 v61
  let v59 : BitVec 32 := Scalar.addi c0_i32_21 v58
  let c1_i32_25 : BitVec 32 := 1#32
  ⟨v62, v59, c1_i32_25⟩
def k0_off8 (k0_t3 : Fin k0_t3_loop.trips) : Fin 1 → Nat :=
  let c0_i32_21 : BitVec 32 := 0#32
  let c32_i32 : BitVec 32 := 32#32
  let v58 : BitVec 32 := Scalar.subi c32_i32 c0_i32_21
  let c1_i32_23 : BitVec 32 := 1#32
  let v60 : BitVec 32 := Scalar.divsi v58 c1_i32_23
  let v61 : BitVec 32 := Scalar.muli v60 c1_i32_23
  let v62 : BitVec 32 := Scalar.addi c0_i32_21 v61
  let c1_i32_25 : BitVec 32 := 1#32
  let arg26 : BitVec 32 := Scf.iv v62 c1_i32_25 k0_t3
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t4_loop (arg20 : BitVec 32) (v64 : BitVec 32) : Scf.Loop 32 :=
  let c0_i32_26 : BitVec 32 := 0#32
  let v65 : BitVec 32 := Scalar.subi v64 arg20
  let v66 : BitVec 32 := Scalar.subi v65 c0_i32_26
  let c1_i32_27 : BitVec 32 := 1#32
  let v68 : BitVec 32 := Scalar.divsi v66 c1_i32_27
  let v69 : BitVec 32 := Scalar.muli v68 c1_i32_27
  let v70 : BitVec 32 := Scalar.addi c0_i32_26 v69
  let c1_i32_28 : BitVec 32 := 1#32
  ⟨c0_i32_26, v70, c1_i32_28⟩

@[reducible] def k0_t5_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off9 (v6 : BitVec 32) (v9 : BitVec 32) (k0_t1 : Fin (k0_t1_loop v6 v9).trips) (arg27 : BitVec 32) (arg29 : BitVec 32) (k0_t5 : Fin (k0_t5_loop arg27 arg29).trips) : Fin 2 → Nat :=
  let c1_i32_55 : BitVec 32 := 1#32
  let arg34 : BitVec 32 := Scf.iv arg27 c1_i32_55 k0_t5
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off10 (v6 : BitVec 32) (v9 : BitVec 32) (k0_t1 : Fin (k0_t1_loop v6 v9).trips) (arg27 : BitVec 32) (arg29 : BitVec 32) (k0_t5 : Fin (k0_t5_loop arg27 arg29).trips) : Fin 2 → Nat :=
  let c1_i32_55 : BitVec 32 := 1#32
  let arg34 : BitVec 32 := Scf.iv arg27 c1_i32_55 k0_t5
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off11 (v6 : BitVec 32) (v9 : BitVec 32) (k0_t1 : Fin (k0_t1_loop v6 v9).trips) (arg27 : BitVec 32) (arg29 : BitVec 32) (k0_t5 : Fin (k0_t5_loop arg27 arg29).trips) : Fin 2 → Nat :=
  let c1_i32_55 : BitVec 32 := 1#32
  let arg34 : BitVec 32 := Scf.iv arg27 c1_i32_55 k0_t5
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off12 (v6 : BitVec 32) (v9 : BitVec 32) (k0_t1 : Fin (k0_t1_loop v6 v9).trips) (arg27 : BitVec 32) (arg29 : BitVec 32) (k0_t5 : Fin (k0_t5_loop arg27 arg29).trips) : Fin 2 → Nat :=
  let c1_i32_55 : BitVec 32 := 1#32
  let arg34 : BitVec 32 := Scf.iv arg27 c1_i32_55 k0_t5
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]
@[reducible] def k0_t6_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off13 (v6 : BitVec 32) (v9 : BitVec 32) (k0_t1 : Fin (k0_t1_loop v6 v9).trips) (arg27 : BitVec 32) (arg29 : BitVec 32) (k0_t6 : Fin (k0_t6_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t6
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off14 (v6 : BitVec 32) (v9 : BitVec 32) (k0_t1 : Fin (k0_t1_loop v6 v9).trips) (arg27 : BitVec 32) (arg29 : BitVec 32) (k0_t6 : Fin (k0_t6_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t6
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off15 (v6 : BitVec 32) (v9 : BitVec 32) (k0_t1 : Fin (k0_t1_loop v6 v9).trips) (arg27 : BitVec 32) (arg29 : BitVec 32) (k0_t6 : Fin (k0_t6_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t6
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off16 (v6 : BitVec 32) (v9 : BitVec 32) (k0_t1 : Fin (k0_t1_loop v6 v9).trips) (arg27 : BitVec 32) (arg29 : BitVec 32) (k0_t6 : Fin (k0_t6_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t6
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]

def k0_chk4 (v6 : BitVec 32) (v9 : BitVec 32) (k0_t1 : Fin (k0_t1_loop v6 v9).trips) (arg27 : BitVec 32) (arg29 : BitVec 32) : Prop :=
  ((k0_t5_loop arg27 arg29).OK) ∧
  (∀ k0_t5 : Fin (k0_t5_loop arg27 arg29).trips, ∀ a, (k0_off9 v6 v9 k0_t1 arg27 arg29 k0_t5) a + S1x16.size a ≤ S128x128.size a) ∧
  (∀ k0_t5 : Fin (k0_t5_loop arg27 arg29).trips, ∀ a, (k0_off10 v6 v9 k0_t1 arg27 arg29 k0_t5) a + S1x16.size a ≤ S128x128.size a) ∧
  (∀ k0_t5 : Fin (k0_t5_loop arg27 arg29).trips, ∀ a, (k0_off11 v6 v9 k0_t1 arg27 arg29 k0_t5) a + S1x16.size a ≤ S128x128.size a) ∧
  (∀ k0_t5 : Fin (k0_t5_loop arg27 arg29).trips, ∀ a, (k0_off12 v6 v9 k0_t1 arg27 arg29 k0_t5) a + S1x16.size a ≤ S128x128.size a) ∧
  ((k0_t6_loop arg27 arg29).OK) ∧
  (∀ k0_t6 : Fin (k0_t6_loop arg27 arg29).trips, ∀ a, (k0_off13 v6 v9 k0_t1 arg27 arg29 k0_t6) a + S1x16.size a ≤ S128x128.size a) ∧
  (∀ k0_t6 : Fin (k0_t6_loop arg27 arg29).trips, ∀ a, (k0_off14 v6 v9 k0_t1 arg27 arg29 k0_t6) a + S1x16.size a ≤ S128x128.size a) ∧
  (∀ k0_t6 : Fin (k0_t6_loop arg27 arg29).trips, ∀ a, (k0_off15 v6 v9 k0_t1 arg27 arg29 k0_t6) a + S1x16.size a ≤ S128x128.size a) ∧
  (∀ k0_t6 : Fin (k0_t6_loop arg27 arg29).trips, ∀ a, (k0_off16 v6 v9 k0_t1 arg27 arg29 k0_t6) a + S1x16.size a ≤ S128x128.size a)
theorem k0_t5_ok : ∀ (v6 : BitVec 32) (v9 : BitVec 32) (k0_t1 : Fin (k0_t1_loop v6 v9).trips) (arg27 : BitVec 32) (arg29 : BitVec 32) (k0_hw4 : k0_chk4 v6 v9 k0_t1 arg27 arg29), (k0_t5_loop arg27 arg29).OK := fun v6 v9 k0_t1 arg27 arg29 k0_hw4 => k0_hw4.1
theorem k0_off9_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t5 : Fin (k0_t5_loop arg27 arg29).trips), ∀ a, (k0_off9 v6 v9 k0_t1 arg27 arg29 k0_t5) a + S1x16.size a ≤ S128x128.size a := fun v6 v9 k0_t1 arg27 arg29 k0_hw4 k0_t5 => k0_hw4.2.1 k0_t5
theorem k0_off10_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t5 : Fin (k0_t5_loop arg27 arg29).trips), ∀ a, (k0_off10 v6 v9 k0_t1 arg27 arg29 k0_t5) a + S1x16.size a ≤ S128x128.size a := fun v6 v9 k0_t1 arg27 arg29 k0_hw4 k0_t5 => k0_hw4.2.2.1 k0_t5
theorem k0_off11_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t5 : Fin (k0_t5_loop arg27 arg29).trips), ∀ a, (k0_off11 v6 v9 k0_t1 arg27 arg29 k0_t5) a + S1x16.size a ≤ S128x128.size a := fun v6 v9 k0_t1 arg27 arg29 k0_hw4 k0_t5 => k0_hw4.2.2.2.1 k0_t5
theorem k0_off12_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t5 : Fin (k0_t5_loop arg27 arg29).trips), ∀ a, (k0_off12 v6 v9 k0_t1 arg27 arg29 k0_t5) a + S1x16.size a ≤ S128x128.size a := fun v6 v9 k0_t1 arg27 arg29 k0_hw4 k0_t5 => k0_hw4.2.2.2.2.1 k0_t5
theorem k0_t6_ok : ∀ (v6 : BitVec 32) (v9 : BitVec 32) (k0_t1 : Fin (k0_t1_loop v6 v9).trips) (arg27 : BitVec 32) (arg29 : BitVec 32) (k0_hw4 : k0_chk4 v6 v9 k0_t1 arg27 arg29), (k0_t6_loop arg27 arg29).OK := fun v6 v9 k0_t1 arg27 arg29 k0_hw4 => k0_hw4.2.2.2.2.2.1
theorem k0_off13_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t6 : Fin (k0_t6_loop arg27 arg29).trips), ∀ a, (k0_off13 v6 v9 k0_t1 arg27 arg29 k0_t6) a + S1x16.size a ≤ S128x128.size a := fun v6 v9 k0_t1 arg27 arg29 k0_hw4 k0_t6 => k0_hw4.2.2.2.2.2.2.1 k0_t6
theorem k0_off14_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t6 : Fin (k0_t6_loop arg27 arg29).trips), ∀ a, (k0_off14 v6 v9 k0_t1 arg27 arg29 k0_t6) a + S1x16.size a ≤ S128x128.size a := fun v6 v9 k0_t1 arg27 arg29 k0_hw4 k0_t6 => k0_hw4.2.2.2.2.2.2.2.1 k0_t6
theorem k0_off15_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t6 : Fin (k0_t6_loop arg27 arg29).trips), ∀ a, (k0_off15 v6 v9 k0_t1 arg27 arg29 k0_t6) a + S1x16.size a ≤ S128x128.size a := fun v6 v9 k0_t1 arg27 arg29 k0_hw4 k0_t6 => k0_hw4.2.2.2.2.2.2.2.2.1 k0_t6
theorem k0_off16_inb : ∀ (v6 : BitVec 32) (v9 : BitVec 32) (k0_t1 : Fin (k0_t1_loop v6 v9).trips) (arg27 : BitVec 32) (arg29 : BitVec 32) (k0_hw4 : k0_chk4 v6 v9 k0_t1 arg27 arg29) (k0_t6 : Fin (k0_t6_loop arg27 arg29).trips), ∀ a, (k0_off16 v6 v9 k0_t1 arg27 arg29 k0_t6) a + S1x16.size a ≤ S128x128.size a := fun v6 v9 k0_t1 arg27 arg29 k0_hw4 k0_t6 => k0_hw4.2.2.2.2.2.2.2.2.2 k0_t6

def k0_off17 (arg28 : BitVec 32) : Fin 1 → Nat :=
  let v129 : Index := Scalar.indexCast arg28
  ![v129.toNat]

def k0_off18 (arg28 : BitVec 32) : Fin 2 → Nat :=
  let v144 : Index := Scalar.indexCast arg28
  let c0_61 : Index := 0#32
  ![v144.toNat, 0]
def k0_off19 (arg28 : BitVec 32) : Fin 2 → Nat :=
  let v151 : Index := Scalar.indexCast arg28
  let c16_63 : Index := 16#32
  ![v151.toNat, 16]
def k0_off20 (arg28 : BitVec 32) : Fin 2 → Nat :=
  let v158 : Index := Scalar.indexCast arg28
  let c32_65 : Index := 32#32
  ![v158.toNat, 32]
def k0_off21 (arg28 : BitVec 32) : Fin 2 → Nat :=
  let v165 : Index := Scalar.indexCast arg28
  let c48_67 : Index := 48#32
  ![v165.toNat, 48]

def k0_chk5 (arg28 : BitVec 32) : Prop :=
  (∀ a, (k0_off17 arg28) a + S16.size a ≤ S536.size a) ∧
  (∀ a, (k0_off18 arg28) a + S1x16.size a ≤ S512x64.size a) ∧
  (∀ a, (k0_off19 arg28) a + S1x16.size a ≤ S512x64.size a) ∧
  (∀ a, (k0_off20 arg28) a + S1x16.size a ≤ S512x64.size a) ∧
  (∀ a, (k0_off21 arg28) a + S1x16.size a ≤ S512x64.size a)
theorem k0_off17_inb : ∀ (arg28 : BitVec 32) (k0_hw5 : k0_chk5 arg28), ∀ a, (k0_off17 arg28) a + S16.size a ≤ S536.size a := fun arg28 k0_hw5 => k0_hw5.1
theorem k0_off18_inb : ∀ (arg28 : BitVec 32) (k0_hw5 : k0_chk5 arg28), ∀ a, (k0_off18 arg28) a + S1x16.size a ≤ S512x64.size a := fun arg28 k0_hw5 => k0_hw5.2.1
theorem k0_off19_inb : ∀ (arg28 : BitVec 32) (k0_hw5 : k0_chk5 arg28), ∀ a, (k0_off19 arg28) a + S1x16.size a ≤ S512x64.size a := fun arg28 k0_hw5 => k0_hw5.2.2.1
theorem k0_off20_inb : ∀ (arg28 : BitVec 32) (k0_hw5 : k0_chk5 arg28), ∀ a, (k0_off20 arg28) a + S1x16.size a ≤ S512x64.size a := fun arg28 k0_hw5 => k0_hw5.2.2.2.1
theorem k0_off21_inb : ∀ (arg28 : BitVec 32) (k0_hw5 : k0_chk5 arg28), ∀ a, (k0_off21 arg28) a + S1x16.size a ≤ S512x64.size a := fun arg28 k0_hw5 => k0_hw5.2.2.2.2

@[reducible] def k0_t7_loop (arg20 : BitVec 32) (v64 : BitVec 32) : Scf.Loop 32 :=
  let c0_i32_26 : BitVec 32 := 0#32
  let v65 : BitVec 32 := Scalar.subi v64 arg20
  let v66 : BitVec 32 := Scalar.subi v65 c0_i32_26
  let c1_i32_27 : BitVec 32 := 1#32
  let v68 : BitVec 32 := Scalar.divsi v66 c1_i32_27
  let v69 : BitVec 32 := Scalar.muli v68 c1_i32_27
  let v70 : BitVec 32 := Scalar.addi c0_i32_26 v69
  let v67 : BitVec 32 := Scalar.addi c0_i32_26 v66
  let c1_i32_29 : BitVec 32 := 1#32
  ⟨v70, v67, c1_i32_29⟩

def k0_chk3 (arg20 : BitVec 32) (v64 : BitVec 32) : Prop :=
  ((k0_t4_loop arg20 v64).OK) ∧
  ((k0_t7_loop arg20 v64).OK)
theorem k0_t4_ok : ∀ (arg20 : BitVec 32) (v64 : BitVec 32) (k0_hw3 : k0_chk3 arg20 v64), (k0_t4_loop arg20 v64).OK := fun arg20 v64 k0_hw3 => k0_hw3.1
theorem k0_t7_ok : ∀ (arg20 : BitVec 32) (v64 : BitVec 32) (k0_hw3 : k0_chk3 arg20 v64), (k0_t7_loop arg20 v64).OK := fun arg20 v64 k0_hw3 => k0_hw3.2

@[reducible] def k0_t8_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off22 (v6 : BitVec 32) (v9 : BitVec 32) (k0_t1 : Fin (k0_t1_loop v6 v9).trips) (arg27 : BitVec 32) (arg29 : BitVec 32) (k0_t8 : Fin (k0_t8_loop arg27 arg29).trips) : Fin 2 → Nat :=
  let c1_i32_55 : BitVec 32 := 1#32
  let arg34 : BitVec 32 := Scf.iv arg27 c1_i32_55 k0_t8
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off23 (v6 : BitVec 32) (v9 : BitVec 32) (k0_t1 : Fin (k0_t1_loop v6 v9).trips) (arg27 : BitVec 32) (arg29 : BitVec 32) (k0_t8 : Fin (k0_t8_loop arg27 arg29).trips) : Fin 2 → Nat :=
  let c1_i32_55 : BitVec 32 := 1#32
  let arg34 : BitVec 32 := Scf.iv arg27 c1_i32_55 k0_t8
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off24 (v6 : BitVec 32) (v9 : BitVec 32) (k0_t1 : Fin (k0_t1_loop v6 v9).trips) (arg27 : BitVec 32) (arg29 : BitVec 32) (k0_t8 : Fin (k0_t8_loop arg27 arg29).trips) : Fin 2 → Nat :=
  let c1_i32_55 : BitVec 32 := 1#32
  let arg34 : BitVec 32 := Scf.iv arg27 c1_i32_55 k0_t8
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off25 (v6 : BitVec 32) (v9 : BitVec 32) (k0_t1 : Fin (k0_t1_loop v6 v9).trips) (arg27 : BitVec 32) (arg29 : BitVec 32) (k0_t8 : Fin (k0_t8_loop arg27 arg29).trips) : Fin 2 → Nat :=
  let c1_i32_55 : BitVec 32 := 1#32
  let arg34 : BitVec 32 := Scf.iv arg27 c1_i32_55 k0_t8
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]
@[reducible] def k0_t9_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off26 (v6 : BitVec 32) (v9 : BitVec 32) (k0_t1 : Fin (k0_t1_loop v6 v9).trips) (arg27 : BitVec 32) (arg29 : BitVec 32) (k0_t9 : Fin (k0_t9_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t9
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off27 (v6 : BitVec 32) (v9 : BitVec 32) (k0_t1 : Fin (k0_t1_loop v6 v9).trips) (arg27 : BitVec 32) (arg29 : BitVec 32) (k0_t9 : Fin (k0_t9_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t9
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off28 (v6 : BitVec 32) (v9 : BitVec 32) (k0_t1 : Fin (k0_t1_loop v6 v9).trips) (arg27 : BitVec 32) (arg29 : BitVec 32) (k0_t9 : Fin (k0_t9_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t9
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off29 (v6 : BitVec 32) (v9 : BitVec 32) (k0_t1 : Fin (k0_t1_loop v6 v9).trips) (arg27 : BitVec 32) (arg29 : BitVec 32) (k0_t9 : Fin (k0_t9_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t9
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]

def k0_chk6 (v6 : BitVec 32) (v9 : BitVec 32) (k0_t1 : Fin (k0_t1_loop v6 v9).trips) (arg27 : BitVec 32) (arg29 : BitVec 32) : Prop :=
  ((k0_t8_loop arg27 arg29).OK) ∧
  (∀ k0_t8 : Fin (k0_t8_loop arg27 arg29).trips, ∀ a, (k0_off22 v6 v9 k0_t1 arg27 arg29 k0_t8) a + S1x16.size a ≤ S128x128.size a) ∧
  (∀ k0_t8 : Fin (k0_t8_loop arg27 arg29).trips, ∀ a, (k0_off23 v6 v9 k0_t1 arg27 arg29 k0_t8) a + S1x16.size a ≤ S128x128.size a) ∧
  (∀ k0_t8 : Fin (k0_t8_loop arg27 arg29).trips, ∀ a, (k0_off24 v6 v9 k0_t1 arg27 arg29 k0_t8) a + S1x16.size a ≤ S128x128.size a) ∧
  (∀ k0_t8 : Fin (k0_t8_loop arg27 arg29).trips, ∀ a, (k0_off25 v6 v9 k0_t1 arg27 arg29 k0_t8) a + S1x16.size a ≤ S128x128.size a) ∧
  ((k0_t9_loop arg27 arg29).OK) ∧
  (∀ k0_t9 : Fin (k0_t9_loop arg27 arg29).trips, ∀ a, (k0_off26 v6 v9 k0_t1 arg27 arg29 k0_t9) a + S1x16.size a ≤ S128x128.size a) ∧
  (∀ k0_t9 : Fin (k0_t9_loop arg27 arg29).trips, ∀ a, (k0_off27 v6 v9 k0_t1 arg27 arg29 k0_t9) a + S1x16.size a ≤ S128x128.size a) ∧
  (∀ k0_t9 : Fin (k0_t9_loop arg27 arg29).trips, ∀ a, (k0_off28 v6 v9 k0_t1 arg27 arg29 k0_t9) a + S1x16.size a ≤ S128x128.size a) ∧
  (∀ k0_t9 : Fin (k0_t9_loop arg27 arg29).trips, ∀ a, (k0_off29 v6 v9 k0_t1 arg27 arg29 k0_t9) a + S1x16.size a ≤ S128x128.size a)
theorem k0_t8_ok : ∀ (v6 : BitVec 32) (v9 : BitVec 32) (k0_t1 : Fin (k0_t1_loop v6 v9).trips) (arg27 : BitVec 32) (arg29 : BitVec 32) (k0_hw6 : k0_chk6 v6 v9 k0_t1 arg27 arg29), (k0_t8_loop arg27 arg29).OK := fun v6 v9 k0_t1 arg27 arg29 k0_hw6 => k0_hw6.1
theorem k0_off22_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t8 : Fin (k0_t8_loop arg27 arg29).trips), ∀ a, (k0_off22 v6 v9 k0_t1 arg27 arg29 k0_t8) a + S1x16.size a ≤ S128x128.size a := fun v6 v9 k0_t1 arg27 arg29 k0_hw6 k0_t8 => k0_hw6.2.1 k0_t8
theorem k0_off23_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t8 : Fin (k0_t8_loop arg27 arg29).trips), ∀ a, (k0_off23 v6 v9 k0_t1 arg27 arg29 k0_t8) a + S1x16.size a ≤ S128x128.size a := fun v6 v9 k0_t1 arg27 arg29 k0_hw6 k0_t8 => k0_hw6.2.2.1 k0_t8
theorem k0_off24_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t8 : Fin (k0_t8_loop arg27 arg29).trips), ∀ a, (k0_off24 v6 v9 k0_t1 arg27 arg29 k0_t8) a + S1x16.size a ≤ S128x128.size a := fun v6 v9 k0_t1 arg27 arg29 k0_hw6 k0_t8 => k0_hw6.2.2.2.1 k0_t8
theorem k0_off25_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t8 : Fin (k0_t8_loop arg27 arg29).trips), ∀ a, (k0_off25 v6 v9 k0_t1 arg27 arg29 k0_t8) a + S1x16.size a ≤ S128x128.size a := fun v6 v9 k0_t1 arg27 arg29 k0_hw6 k0_t8 => k0_hw6.2.2.2.2.1 k0_t8
theorem k0_t9_ok : ∀ (v6 : BitVec 32) (v9 : BitVec 32) (k0_t1 : Fin (k0_t1_loop v6 v9).trips) (arg27 : BitVec 32) (arg29 : BitVec 32) (k0_hw6 : k0_chk6 v6 v9 k0_t1 arg27 arg29), (k0_t9_loop arg27 arg29).OK := fun v6 v9 k0_t1 arg27 arg29 k0_hw6 => k0_hw6.2.2.2.2.2.1
theorem k0_off26_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t9 : Fin (k0_t9_loop arg27 arg29).trips), ∀ a, (k0_off26 v6 v9 k0_t1 arg27 arg29 k0_t9) a + S1x16.size a ≤ S128x128.size a := fun v6 v9 k0_t1 arg27 arg29 k0_hw6 k0_t9 => k0_hw6.2.2.2.2.2.2.1 k0_t9
theorem k0_off27_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t9 : Fin (k0_t9_loop arg27 arg29).trips), ∀ a, (k0_off27 v6 v9 k0_t1 arg27 arg29 k0_t9) a + S1x16.size a ≤ S128x128.size a := fun v6 v9 k0_t1 arg27 arg29 k0_hw6 k0_t9 => k0_hw6.2.2.2.2.2.2.2.1 k0_t9
theorem k0_off28_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t9 : Fin (k0_t9_loop arg27 arg29).trips), ∀ a, (k0_off28 v6 v9 k0_t1 arg27 arg29 k0_t9) a + S1x16.size a ≤ S128x128.size a := fun v6 v9 k0_t1 arg27 arg29 k0_hw6 k0_t9 => k0_hw6.2.2.2.2.2.2.2.2.1 k0_t9
theorem k0_off29_inb : ∀ (v6 : BitVec 32) (v9 : BitVec 32) (k0_t1 : Fin (k0_t1_loop v6 v9).trips) (arg27 : BitVec 32) (arg29 : BitVec 32) (k0_hw6 : k0_chk6 v6 v9 k0_t1 arg27 arg29) (k0_t9 : Fin (k0_t9_loop arg27 arg29).trips), ∀ a, (k0_off29 v6 v9 k0_t1 arg27 arg29 k0_t9) a + S1x16.size a ≤ S128x128.size a := fun v6 v9 k0_t1 arg27 arg29 k0_hw6 k0_t9 => k0_hw6.2.2.2.2.2.2.2.2.2 k0_t9

def k0_off30 (arg28 : BitVec 32) : Fin 1 → Nat :=
  let v129 : Index := Scalar.indexCast arg28
  ![v129.toNat]

def k0_off31 (arg28 : BitVec 32) : Fin 2 → Nat :=
  let v144 : Index := Scalar.indexCast arg28
  let c0_61 : Index := 0#32
  ![v144.toNat, 0]
def k0_off32 (arg28 : BitVec 32) : Fin 2 → Nat :=
  let v151 : Index := Scalar.indexCast arg28
  let c16_63 : Index := 16#32
  ![v151.toNat, 16]
def k0_off33 (arg28 : BitVec 32) : Fin 2 → Nat :=
  let v158 : Index := Scalar.indexCast arg28
  let c32_65 : Index := 32#32
  ![v158.toNat, 32]
def k0_off34 (arg28 : BitVec 32) : Fin 2 → Nat :=
  let v165 : Index := Scalar.indexCast arg28
  let c48_67 : Index := 48#32
  ![v165.toNat, 48]

def k0_chk7 (arg28 : BitVec 32) : Prop :=
  (∀ a, (k0_off30 arg28) a + S16.size a ≤ S536.size a) ∧
  (∀ a, (k0_off31 arg28) a + S1x16.size a ≤ S512x64.size a) ∧
  (∀ a, (k0_off32 arg28) a + S1x16.size a ≤ S512x64.size a) ∧
  (∀ a, (k0_off33 arg28) a + S1x16.size a ≤ S512x64.size a) ∧
  (∀ a, (k0_off34 arg28) a + S1x16.size a ≤ S512x64.size a)
theorem k0_off30_inb : ∀ (arg28 : BitVec 32) (k0_hw7 : k0_chk7 arg28), ∀ a, (k0_off30 arg28) a + S16.size a ≤ S536.size a := fun arg28 k0_hw7 => k0_hw7.1
theorem k0_off31_inb : ∀ (arg28 : BitVec 32) (k0_hw7 : k0_chk7 arg28), ∀ a, (k0_off31 arg28) a + S1x16.size a ≤ S512x64.size a := fun arg28 k0_hw7 => k0_hw7.2.1
theorem k0_off32_inb : ∀ (arg28 : BitVec 32) (k0_hw7 : k0_chk7 arg28), ∀ a, (k0_off32 arg28) a + S1x16.size a ≤ S512x64.size a := fun arg28 k0_hw7 => k0_hw7.2.2.1
theorem k0_off33_inb : ∀ (arg28 : BitVec 32) (k0_hw7 : k0_chk7 arg28), ∀ a, (k0_off33 arg28) a + S1x16.size a ≤ S512x64.size a := fun arg28 k0_hw7 => k0_hw7.2.2.2.1
theorem k0_off34_inb : ∀ (arg28 : BitVec 32) (k0_hw7 : k0_chk7 arg28), ∀ a, (k0_off34 arg28) a + S1x16.size a ≤ S512x64.size a := fun arg28 k0_hw7 => k0_hw7.2.2.2.2

@[reducible] def k0_t10_loop (v6 : BitVec 32) (v9 : BitVec 32) (k0_t1 : Fin (k0_t1_loop v6 v9).trips) (v72_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_31 : BitVec 32 := 1#32
  ⟨v73, v78, c1_i32_31⟩

def k0_off35 (v6 : BitVec 32) (v9 : BitVec 32) (k0_t1 : Fin (k0_t1_loop v6 v9).trips) (v72_0 : BitVec 32) (k0_t10 : Fin (k0_t10_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t10
  let v122 : BitVec 32 := Scalar.subi arg26 v55
  let v123 : Index := Scalar.indexCast v122
  let c0_54 : Index := 0#32
  ![v123.toNat, 0]
def k0_off36 (v6 : BitVec 32) (v9 : BitVec 32) (k0_t1 : Fin (k0_t1_loop v6 v9).trips) (v72_0 : BitVec 32) (k0_t10 : Fin (k0_t10_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t10
  let v122 : BitVec 32 := Scalar.subi arg26 v55
  let v126 : Index := Scalar.indexCast v122
  let c16 : Index := 16#32
  ![v126.toNat, 16]
def k0_off37 (v6 : BitVec 32) (v9 : BitVec 32) (k0_t1 : Fin (k0_t1_loop v6 v9).trips) (v72_0 : BitVec 32) (k0_t10 : Fin (k0_t10_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t10
  let v122 : BitVec 32 := Scalar.subi arg26 v55
  let v129 : Index := Scalar.indexCast v122
  let c32 : Index := 32#32
  ![v129.toNat, 32]
def k0_off38 (v6 : BitVec 32) (v9 : BitVec 32) (k0_t1 : Fin (k0_t1_loop v6 v9).trips) (v72_0 : BitVec 32) (k0_t10 : Fin (k0_t10_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t10
  let v122 : BitVec 32 := Scalar.subi arg26 v55
  let v132 : Index := Scalar.indexCast v122
  let c48 : Index := 48#32
  ![v132.toNat, 48]
@[reducible] def k0_t11_loop (v6 : BitVec 32) (v9 : BitVec 32) (k0_t1 : Fin (k0_t1_loop v6 v9).trips) (v72_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let v75 : BitVec 32 := Scalar.addi v73 v74
  let c1_i32_32 : BitVec 32 := 1#32
  ⟨v78, v75, c1_i32_32⟩
def k0_off39 (v6 : BitVec 32) (v9 : BitVec 32) (k0_t1 : Fin (k0_t1_loop v6 v9).trips) (v72_0 : BitVec 32) (k0_t11 : Fin (k0_t11_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t11
  let v122 : BitVec 32 := Scalar.subi arg26 v55
  let v123 : Index := Scalar.indexCast v122
  let c0_54 : Index := 0#32
  ![v123.toNat, 0]
def k0_off40 (v6 : BitVec 32) (v9 : BitVec 32) (k0_t1 : Fin (k0_t1_loop v6 v9).trips) (v72_0 : BitVec 32) (k0_t11 : Fin (k0_t11_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t11
  let v122 : BitVec 32 := Scalar.subi arg26 v55
  let v126 : Index := Scalar.indexCast v122
  let c16 : Index := 16#32
  ![v126.toNat, 16]
def k0_off41 (v6 : BitVec 32) (v9 : BitVec 32) (k0_t1 : Fin (k0_t1_loop v6 v9).trips) (v72_0 : BitVec 32) (k0_t11 : Fin (k0_t11_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t11
  let v122 : BitVec 32 := Scalar.subi arg26 v55
  let v129 : Index := Scalar.indexCast v122
  let c32 : Index := 32#32
  ![v129.toNat, 32]
def k0_off42 (v6 : BitVec 32) (v9 : BitVec 32) (k0_t1 : Fin (k0_t1_loop v6 v9).trips) (v72_0 : BitVec 32) (k0_t11 : Fin (k0_t11_loop v6 v9 k0_t1 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t11
  let v122 : BitVec 32 := Scalar.subi arg26 v55
  let v132 : Index := Scalar.indexCast v122
  let c48 : Index := 48#32
  ![v132.toNat, 48]

def k0_chk8 (v6 : BitVec 32) (v9 : BitVec 32) (k0_t1 : Fin (k0_t1_loop v6 v9).trips) (v72_0 : BitVec 32) : Prop :=
  ((k0_t10_loop v6 v9 k0_t1 v72_0).OK) ∧
  (∀ k0_t10 : Fin (k0_t10_loop v6 v9 k0_t1 v72_0).trips, ∀ a, (k0_off35 v6 v9 k0_t1 v72_0 k0_t10) a + S1x16.size a ≤ S128x128.size a) ∧
  (∀ k0_t10 : Fin (k0_t10_loop v6 v9 k0_t1 v72_0).trips, ∀ a, (k0_off36 v6 v9 k0_t1 v72_0 k0_t10) a + S1x16.size a ≤ S128x128.size a) ∧
  (∀ k0_t10 : Fin (k0_t10_loop v6 v9 k0_t1 v72_0).trips, ∀ a, (k0_off37 v6 v9 k0_t1 v72_0 k0_t10) a + S1x16.size a ≤ S128x128.size a) ∧
  (∀ k0_t10 : Fin (k0_t10_loop v6 v9 k0_t1 v72_0).trips, ∀ a, (k0_off38 v6 v9 k0_t1 v72_0 k0_t10) a + S1x16.size a ≤ S128x128.size a) ∧
  ((k0_t11_loop v6 v9 k0_t1 v72_0).OK) ∧
  (∀ k0_t11 : Fin (k0_t11_loop v6 v9 k0_t1 v72_0).trips, ∀ a, (k0_off39 v6 v9 k0_t1 v72_0 k0_t11) a + S1x16.size a ≤ S128x128.size a) ∧
  (∀ k0_t11 : Fin (k0_t11_loop v6 v9 k0_t1 v72_0).trips, ∀ a, (k0_off40 v6 v9 k0_t1 v72_0 k0_t11) a + S1x16.size a ≤ S128x128.size a) ∧
  (∀ k0_t11 : Fin (k0_t11_loop v6 v9 k0_t1 v72_0).trips, ∀ a, (k0_off41 v6 v9 k0_t1 v72_0 k0_t11) a + S1x16.size a ≤ S128x128.size a) ∧
  (∀ k0_t11 : Fin (k0_t11_loop v6 v9 k0_t1 v72_0).trips, ∀ a, (k0_off42 v6 v9 k0_t1 v72_0 k0_t11) a + S1x16.size a ≤ S128x128.size a)
theorem k0_t10_ok : ∀ (v6 : BitVec 32) (v9 : BitVec 32) (k0_t1 : Fin (k0_t1_loop v6 v9).trips) (v72_0 : BitVec 32) (k0_hw8 : k0_chk8 v6 v9 k0_t1 v72_0), (k0_t10_loop v6 v9 k0_t1 v72_0).OK := fun v6 v9 k0_t1 v72_0 k0_hw8 => k0_hw8.1
theorem k0_off35_inb : ∀ (v6 : BitVec 32) (v9 : BitVec 32) (k0_t1 : Fin (k0_t1_loop v6 v9).trips) (v72_0 : BitVec 32) (k0_hw8 : k0_chk8 v6 v9 k0_t1 v72_0) (k0_t10 : Fin (k0_t10_loop v6 v9 k0_t1 v72_0).trips), ∀ a, (k0_off35 v6 v9 k0_t1 v72_0 k0_t10) a + S1x16.size a ≤ S128x128.size a := fun v6 v9 k0_t1 v72_0 k0_hw8 k0_t10 => k0_hw8.2.1 k0_t10
theorem k0_off36_inb : ∀ (v6 : BitVec 32) (v9 : BitVec 32) (k0_t1 : Fin (k0_t1_loop v6 v9).trips) (v72_0 : BitVec 32) (k0_hw8 : k0_chk8 v6 v9 k0_t1 v72_0) (k0_t10 : Fin (k0_t10_loop v6 v9 k0_t1 v72_0).trips), ∀ a, (k0_off36 v6 v9 k0_t1 v72_0 k0_t10) a + S1x16.size a ≤ S128x128.size a := fun v6 v9 k0_t1 v72_0 k0_hw8 k0_t10 => k0_hw8.2.2.1 k0_t10
theorem k0_off37_inb : ∀ (v6 : BitVec 32) (v9 : BitVec 32) (k0_t1 : Fin (k0_t1_loop v6 v9).trips) (v72_0 : BitVec 32) (k0_hw8 : k0_chk8 v6 v9 k0_t1 v72_0) (k0_t10 : Fin (k0_t10_loop v6 v9 k0_t1 v72_0).trips), ∀ a, (k0_off37 v6 v9 k0_t1 v72_0 k0_t10) a + S1x16.size a ≤ S128x128.size a := fun v6 v9 k0_t1 v72_0 k0_hw8 k0_t10 => k0_hw8.2.2.2.1 k0_t10
theorem k0_off38_inb : ∀ (v6 : BitVec 32) (v9 : BitVec 32) (k0_t1 : Fin (k0_t1_loop v6 v9).trips) (v72_0 : BitVec 32) (k0_hw8 : k0_chk8 v6 v9 k0_t1 v72_0) (k0_t10 : Fin (k0_t10_loop v6 v9 k0_t1 v72_0).trips), ∀ a, (k0_off38 v6 v9 k0_t1 v72_0 k0_t10) a + S1x16.size a ≤ S128x128.size a := fun v6 v9 k0_t1 v72_0 k0_hw8 k0_t10 => k0_hw8.2.2.2.2.1 k0_t10
theorem k0_t11_ok : ∀ (v6 : BitVec 32) (v9 : BitVec 32) (k0_t1 : Fin (k0_t1_loop v6 v9).trips) (v72_0 : BitVec 32) (k0_hw8 : k0_chk8 v6 v9 k0_t1 v72_0), (k0_t11_loop v6 v9 k0_t1 v72_0).OK := fun v6 v9 k0_t1 v72_0 k0_hw8 => k0_hw8.2.2.2.2.2.1
theorem k0_off39_inb : ∀ (v6 : BitVec 32) (v9 : BitVec 32) (k0_t1 : Fin (k0_t1_loop v6 v9).trips) (v72_0 : BitVec 32) (k0_hw8 : k0_chk8 v6 v9 k0_t1 v72_0) (k0_t11 : Fin (k0_t11_loop v6 v9 k0_t1 v72_0).trips), ∀ a, (k0_off39 v6 v9 k0_t1 v72_0 k0_t11) a + S1x16.size a ≤ S128x128.size a := fun v6 v9 k0_t1 v72_0 k0_hw8 k0_t11 => k0_hw8.2.2.2.2.2.2.1 k0_t11
theorem k0_off40_inb : ∀ (v6 : BitVec 32) (v9 : BitVec 32) (k0_t1 : Fin (k0_t1_loop v6 v9).trips) (v72_0 : BitVec 32) (k0_hw8 : k0_chk8 v6 v9 k0_t1 v72_0) (k0_t11 : Fin (k0_t11_loop v6 v9 k0_t1 v72_0).trips), ∀ a, (k0_off40 v6 v9 k0_t1 v72_0 k0_t11) a + S1x16.size a ≤ S128x128.size a := fun v6 v9 k0_t1 v72_0 k0_hw8 k0_t11 => k0_hw8.2.2.2.2.2.2.2.1 k0_t11
theorem k0_off41_inb : ∀ (v6 : BitVec 32) (v9 : BitVec 32) (k0_t1 : Fin (k0_t1_loop v6 v9).trips) (v72_0 : BitVec 32) (k0_hw8 : k0_chk8 v6 v9 k0_t1 v72_0) (k0_t11 : Fin (k0_t11_loop v6 v9 k0_t1 v72_0).trips), ∀ a, (k0_off41 v6 v9 k0_t1 v72_0 k0_t11) a + S1x16.size a ≤ S128x128.size a := fun v6 v9 k0_t1 v72_0 k0_hw8 k0_t11 => k0_hw8.2.2.2.2.2.2.2.2.1 k0_t11
theorem k0_off42_inb : ∀ (v6 : BitVec 32) (v9 : BitVec 32) (k0_t1 : Fin (k0_t1_loop v6 v9).trips) (v72_0 : BitVec 32) (k0_hw8 : k0_chk8 v6 v9 k0_t1 v72_0) (k0_t11 : Fin (k0_t11_loop v6 v9 k0_t1 v72_0).trips), ∀ a, (k0_off42 v6 v9 k0_t1 v72_0 k0_t11) a + S1x16.size a ≤ S128x128.size a := fun v6 v9 k0_t1 v72_0 k0_hw8 k0_t11 => k0_hw8.2.2.2.2.2.2.2.2.2 k0_t11

def k0_mult8 (v6 : BitVec 32) (v9 : BitVec 32) (k0_t1 : Fin (k0_t1_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c2_i32_54 : BitVec 32 := 2#32
  let v122 : BitVec 32 := Scalar.addi v82 c2_i32_54
  let c128_i32_55 : BitVec 32 := 128#32
  let v123 : BitVec 32 := Scalar.muli v122 c128_i32_55
  let v124 : BitVec 32 := Scalar.addi v11 v123
  v124
def k0_cond6 (v6 : BitVec 32) (v9 : BitVec 32) (k0_t1 : Fin (k0_t1_loop v6 v9).trips) : BitVec 1 :=
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c2_i32_35 : BitVec 32 := 2#32
  let v86 : BitVec 32 := Scalar.addi v82 c2_i32_35
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let v87 : BitVec 1 := Scalar.cmpi .slt v86 v15
  let v88 : BitVec 32 := Scalar.extui v87
  let c0_i32_36 : BitVec 32 := 0#32
  let v89 : BitVec 1 := Scalar.cmpi .ne v88 c0_i32_36
  v89

def k0_off43 (v6 : BitVec 32) (v9 : BitVec 32) (k0_t1 : Fin (k0_t1_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c2_i32_54 : BitVec 32 := 2#32
  let v122 : BitVec 32 := Scalar.addi v82 c2_i32_54
  let c128_i32_55 : BitVec 32 := 128#32
  let v123 : BitVec 32 := Scalar.muli v122 c128_i32_55
  let v124 : BitVec 32 := Scalar.addi v11 v123
  let v125 : BitVec 32 := v124
  ![v125.toNat]
def k0_mult9 (v6 : BitVec 32) (v9 : BitVec 32) (k0_t1 : Fin (k0_t1_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c1_i32_54 : BitVec 32 := 1#32
  let v122 : BitVec 32 := Scalar.addi v82 c1_i32_54
  let c128_i32_55 : BitVec 32 := 128#32
  let v123 : BitVec 32 := Scalar.muli v122 c128_i32_55
  let v124 : BitVec 32 := Scalar.addi v11 v123
  v124
def k0_cond7 (v6 : BitVec 32) (v9 : BitVec 32) (k0_t1 : Fin (k0_t1_loop v6 v9).trips) : BitVec 1 :=
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c1_i32_37 : BitVec 32 := 1#32
  let v90 : BitVec 32 := Scalar.addi v82 c1_i32_37
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let v91 : BitVec 1 := Scalar.cmpi .slt v90 v15
  let v92 : BitVec 32 := Scalar.extui v91
  let c0_i32_38 : BitVec 32 := 0#32
  let v93 : BitVec 1 := Scalar.cmpi .ne v92 c0_i32_38
  v93

def k0_off44 (v6 : BitVec 32) (v9 : BitVec 32) (k0_t1 : Fin (k0_t1_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c1_i32_54 : BitVec 32 := 1#32
  let v122 : BitVec 32 := Scalar.addi v82 c1_i32_54
  let c128_i32_55 : BitVec 32 := 128#32
  let v123 : BitVec 32 := Scalar.muli v122 c128_i32_55
  let v124 : BitVec 32 := Scalar.addi v11 v123
  let v125 : BitVec 32 := v124
  ![v125.toNat]
@[reducible] def k0_t12_loop : Scf.Loop 32 :=
  let c0_i32_41 : BitVec 32 := 0#32
  let c32_i32_42 : BitVec 32 := 32#32
  let v98 : BitVec 32 := Scalar.subi c32_i32_42 c0_i32_41
  let c1_i32_44 : BitVec 32 := 1#32
  let v100 : BitVec 32 := Scalar.divsi v98 c1_i32_44
  let v101 : BitVec 32 := Scalar.muli v100 c1_i32_44
  let v102 : BitVec 32 := Scalar.addi c0_i32_41 v101
  let c1_i32_45 : BitVec 32 := 1#32
  ⟨c0_i32_41, v102, c1_i32_45⟩
def k0_off45 (k0_t12 : Fin k0_t12_loop.trips) : Fin 1 → Nat :=
  let c0_i32_41 : BitVec 32 := 0#32
  let c1_i32_45 : BitVec 32 := 1#32
  let arg26 : BitVec 32 := Scf.iv c0_i32_41 c1_i32_45 k0_t12
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t13_loop : Scf.Loop 32 :=
  let c0_i32_41 : BitVec 32 := 0#32
  let c32_i32_42 : BitVec 32 := 32#32
  let v98 : BitVec 32 := Scalar.subi c32_i32_42 c0_i32_41
  let c1_i32_44 : BitVec 32 := 1#32
  let v100 : BitVec 32 := Scalar.divsi v98 c1_i32_44
  let v101 : BitVec 32 := Scalar.muli v100 c1_i32_44
  let v102 : BitVec 32 := Scalar.addi c0_i32_41 v101
  let v99 : BitVec 32 := Scalar.addi c0_i32_41 v98
  let c1_i32_46 : BitVec 32 := 1#32
  ⟨v102, v99, c1_i32_46⟩
def k0_off46 (k0_t13 : Fin k0_t13_loop.trips) : Fin 1 → Nat :=
  let c0_i32_41 : BitVec 32 := 0#32
  let c32_i32_42 : BitVec 32 := 32#32
  let v98 : BitVec 32 := Scalar.subi c32_i32_42 c0_i32_41
  let c1_i32_44 : BitVec 32 := 1#32
  let v100 : BitVec 32 := Scalar.divsi v98 c1_i32_44
  let v101 : BitVec 32 := Scalar.muli v100 c1_i32_44
  let v102 : BitVec 32 := Scalar.addi c0_i32_41 v101
  let c1_i32_46 : BitVec 32 := 1#32
  let arg26 : BitVec 32 := Scf.iv v102 c1_i32_46 k0_t13
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t14_loop (v72_1 : BitVec 32) (v104 : BitVec 32) : Scf.Loop 32 :=
  let c0_i32_47 : BitVec 32 := 0#32
  let v105 : BitVec 32 := Scalar.subi v104 v72_1
  let v106 : BitVec 32 := Scalar.subi v105 c0_i32_47
  let c1_i32_48 : BitVec 32 := 1#32
  let v108 : BitVec 32 := Scalar.divsi v106 c1_i32_48
  let v109 : BitVec 32 := Scalar.muli v108 c1_i32_48
  let v110 : BitVec 32 := Scalar.addi c0_i32_47 v109
  let c1_i32_49 : BitVec 32 := 1#32
  ⟨c0_i32_47, v110, c1_i32_49⟩

@[reducible] def k0_t15_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off47 (v6 : BitVec 32) (v9 : BitVec 32) (k0_t1 : Fin (k0_t1_loop v6 v9).trips) (arg27 : BitVec 32) (arg29 : BitVec 32) (k0_t15 : Fin (k0_t15_loop arg27 arg29).trips) : Fin 2 → Nat :=
  let c1_i32_55 : BitVec 32 := 1#32
  let arg34 : BitVec 32 := Scf.iv arg27 c1_i32_55 k0_t15
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off48 (v6 : BitVec 32) (v9 : BitVec 32) (k0_t1 : Fin (k0_t1_loop v6 v9).trips) (arg27 : BitVec 32) (arg29 : BitVec 32) (k0_t15 : Fin (k0_t15_loop arg27 arg29).trips) : Fin 2 → Nat :=
  let c1_i32_55 : BitVec 32 := 1#32
  let arg34 : BitVec 32 := Scf.iv arg27 c1_i32_55 k0_t15
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off49 (v6 : BitVec 32) (v9 : BitVec 32) (k0_t1 : Fin (k0_t1_loop v6 v9).trips) (arg27 : BitVec 32) (arg29 : BitVec 32) (k0_t15 : Fin (k0_t15_loop arg27 arg29).trips) : Fin 2 → Nat :=
  let c1_i32_55 : BitVec 32 := 1#32
  let arg34 : BitVec 32 := Scf.iv arg27 c1_i32_55 k0_t15
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off50 (v6 : BitVec 32) (v9 : BitVec 32) (k0_t1 : Fin (k0_t1_loop v6 v9).trips) (arg27 : BitVec 32) (arg29 : BitVec 32) (k0_t15 : Fin (k0_t15_loop arg27 arg29).trips) : Fin 2 → Nat :=
  let c1_i32_55 : BitVec 32 := 1#32
  let arg34 : BitVec 32 := Scf.iv arg27 c1_i32_55 k0_t15
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]
@[reducible] def k0_t16_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off51 (v6 : BitVec 32) (v9 : BitVec 32) (k0_t1 : Fin (k0_t1_loop v6 v9).trips) (arg27 : BitVec 32) (arg29 : BitVec 32) (k0_t16 : Fin (k0_t16_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t16
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off52 (v6 : BitVec 32) (v9 : BitVec 32) (k0_t1 : Fin (k0_t1_loop v6 v9).trips) (arg27 : BitVec 32) (arg29 : BitVec 32) (k0_t16 : Fin (k0_t16_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t16
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off53 (v6 : BitVec 32) (v9 : BitVec 32) (k0_t1 : Fin (k0_t1_loop v6 v9).trips) (arg27 : BitVec 32) (arg29 : BitVec 32) (k0_t16 : Fin (k0_t16_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t16
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off54 (v6 : BitVec 32) (v9 : BitVec 32) (k0_t1 : Fin (k0_t1_loop v6 v9).trips) (arg27 : BitVec 32) (arg29 : BitVec 32) (k0_t16 : Fin (k0_t16_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t16
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]

def k0_chk10 (v6 : BitVec 32) (v9 : BitVec 32) (k0_t1 : Fin (k0_t1_loop v6 v9).trips) (arg27 : BitVec 32) (arg29 : BitVec 32) : Prop :=
  ((k0_t15_loop arg27 arg29).OK) ∧
  (∀ k0_t15 : Fin (k0_t15_loop arg27 arg29).trips, ∀ a, (k0_off47 v6 v9 k0_t1 arg27 arg29 k0_t15) a + S1x16.size a ≤ S128x128.size a) ∧
  (∀ k0_t15 : Fin (k0_t15_loop arg27 arg29).trips, ∀ a, (k0_off48 v6 v9 k0_t1 arg27 arg29 k0_t15) a + S1x16.size a ≤ S128x128.size a) ∧
  (∀ k0_t15 : Fin (k0_t15_loop arg27 arg29).trips, ∀ a, (k0_off49 v6 v9 k0_t1 arg27 arg29 k0_t15) a + S1x16.size a ≤ S128x128.size a) ∧
  (∀ k0_t15 : Fin (k0_t15_loop arg27 arg29).trips, ∀ a, (k0_off50 v6 v9 k0_t1 arg27 arg29 k0_t15) a + S1x16.size a ≤ S128x128.size a) ∧
  ((k0_t16_loop arg27 arg29).OK) ∧
  (∀ k0_t16 : Fin (k0_t16_loop arg27 arg29).trips, ∀ a, (k0_off51 v6 v9 k0_t1 arg27 arg29 k0_t16) a + S1x16.size a ≤ S128x128.size a) ∧
  (∀ k0_t16 : Fin (k0_t16_loop arg27 arg29).trips, ∀ a, (k0_off52 v6 v9 k0_t1 arg27 arg29 k0_t16) a + S1x16.size a ≤ S128x128.size a) ∧
  (∀ k0_t16 : Fin (k0_t16_loop arg27 arg29).trips, ∀ a, (k0_off53 v6 v9 k0_t1 arg27 arg29 k0_t16) a + S1x16.size a ≤ S128x128.size a) ∧
  (∀ k0_t16 : Fin (k0_t16_loop arg27 arg29).trips, ∀ a, (k0_off54 v6 v9 k0_t1 arg27 arg29 k0_t16) a + S1x16.size a ≤ S128x128.size a)
theorem k0_t15_ok : ∀ (v6 : BitVec 32) (v9 : BitVec 32) (k0_t1 : Fin (k0_t1_loop v6 v9).trips) (arg27 : BitVec 32) (arg29 : BitVec 32) (k0_hw10 : k0_chk10 v6 v9 k0_t1 arg27 arg29), (k0_t15_loop arg27 arg29).OK := fun v6 v9 k0_t1 arg27 arg29 k0_hw10 => k0_hw10.1
theorem k0_off47_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t15 : Fin (k0_t15_loop arg27 arg29).trips), ∀ a, (k0_off47 v6 v9 k0_t1 arg27 arg29 k0_t15) a + S1x16.size a ≤ S128x128.size a := fun v6 v9 k0_t1 arg27 arg29 k0_hw10 k0_t15 => k0_hw10.2.1 k0_t15
theorem k0_off48_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t15 : Fin (k0_t15_loop arg27 arg29).trips), ∀ a, (k0_off48 v6 v9 k0_t1 arg27 arg29 k0_t15) a + S1x16.size a ≤ S128x128.size a := fun v6 v9 k0_t1 arg27 arg29 k0_hw10 k0_t15 => k0_hw10.2.2.1 k0_t15
theorem k0_off49_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t15 : Fin (k0_t15_loop arg27 arg29).trips), ∀ a, (k0_off49 v6 v9 k0_t1 arg27 arg29 k0_t15) a + S1x16.size a ≤ S128x128.size a := fun v6 v9 k0_t1 arg27 arg29 k0_hw10 k0_t15 => k0_hw10.2.2.2.1 k0_t15
theorem k0_off50_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t15 : Fin (k0_t15_loop arg27 arg29).trips), ∀ a, (k0_off50 v6 v9 k0_t1 arg27 arg29 k0_t15) a + S1x16.size a ≤ S128x128.size a := fun v6 v9 k0_t1 arg27 arg29 k0_hw10 k0_t15 => k0_hw10.2.2.2.2.1 k0_t15
theorem k0_t16_ok : ∀ (v6 : BitVec 32) (v9 : BitVec 32) (k0_t1 : Fin (k0_t1_loop v6 v9).trips) (arg27 : BitVec 32) (arg29 : BitVec 32) (k0_hw10 : k0_chk10 v6 v9 k0_t1 arg27 arg29), (k0_t16_loop arg27 arg29).OK := fun v6 v9 k0_t1 arg27 arg29 k0_hw10 => k0_hw10.2.2.2.2.2.1
theorem k0_off51_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t16 : Fin (k0_t16_loop arg27 arg29).trips), ∀ a, (k0_off51 v6 v9 k0_t1 arg27 arg29 k0_t16) a + S1x16.size a ≤ S128x128.size a := fun v6 v9 k0_t1 arg27 arg29 k0_hw10 k0_t16 => k0_hw10.2.2.2.2.2.2.1 k0_t16
theorem k0_off52_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t16 : Fin (k0_t16_loop arg27 arg29).trips), ∀ a, (k0_off52 v6 v9 k0_t1 arg27 arg29 k0_t16) a + S1x16.size a ≤ S128x128.size a := fun v6 v9 k0_t1 arg27 arg29 k0_hw10 k0_t16 => k0_hw10.2.2.2.2.2.2.2.1 k0_t16
theorem k0_off53_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t16 : Fin (k0_t16_loop arg27 arg29).trips), ∀ a, (k0_off53 v6 v9 k0_t1 arg27 arg29 k0_t16) a + S1x16.size a ≤ S128x128.size a := fun v6 v9 k0_t1 arg27 arg29 k0_hw10 k0_t16 => k0_hw10.2.2.2.2.2.2.2.2.1 k0_t16
theorem k0_off54_inb : ∀ (v6 : BitVec 32) (v9 : BitVec 32) (k0_t1 : Fin (k0_t1_loop v6 v9).trips) (arg27 : BitVec 32) (arg29 : BitVec 32) (k0_hw10 : k0_chk10 v6 v9 k0_t1 arg27 arg29) (k0_t16 : Fin (k0_t16_loop arg27 arg29).trips), ∀ a, (k0_off54 v6 v9 k0_t1 arg27 arg29 k0_t16) a + S1x16.size a ≤ S128x128.size a := fun v6 v9 k0_t1 arg27 arg29 k0_hw10 k0_t16 => k0_hw10.2.2.2.2.2.2.2.2.2 k0_t16

def k0_off55 (arg28 : BitVec 32) : Fin 1 → Nat :=
  let v129 : Index := Scalar.indexCast arg28
  ![v129.toNat]

def k0_off56 (arg28 : BitVec 32) : Fin 2 → Nat :=
  let v144 : Index := Scalar.indexCast arg28
  let c0_61 : Index := 0#32
  ![v144.toNat, 0]
def k0_off57 (arg28 : BitVec 32) : Fin 2 → Nat :=
  let v151 : Index := Scalar.indexCast arg28
  let c16_63 : Index := 16#32
  ![v151.toNat, 16]
def k0_off58 (arg28 : BitVec 32) : Fin 2 → Nat :=
  let v158 : Index := Scalar.indexCast arg28
  let c32_65 : Index := 32#32
  ![v158.toNat, 32]
def k0_off59 (arg28 : BitVec 32) : Fin 2 → Nat :=
  let v165 : Index := Scalar.indexCast arg28
  let c48_67 : Index := 48#32
  ![v165.toNat, 48]

def k0_chk11 (arg28 : BitVec 32) : Prop :=
  (∀ a, (k0_off55 arg28) a + S16.size a ≤ S536.size a) ∧
  (∀ a, (k0_off56 arg28) a + S1x16.size a ≤ S512x64.size a) ∧
  (∀ a, (k0_off57 arg28) a + S1x16.size a ≤ S512x64.size a) ∧
  (∀ a, (k0_off58 arg28) a + S1x16.size a ≤ S512x64.size a) ∧
  (∀ a, (k0_off59 arg28) a + S1x16.size a ≤ S512x64.size a)
theorem k0_off55_inb : ∀ (arg28 : BitVec 32) (k0_hw11 : k0_chk11 arg28), ∀ a, (k0_off55 arg28) a + S16.size a ≤ S536.size a := fun arg28 k0_hw11 => k0_hw11.1
theorem k0_off56_inb : ∀ (arg28 : BitVec 32) (k0_hw11 : k0_chk11 arg28), ∀ a, (k0_off56 arg28) a + S1x16.size a ≤ S512x64.size a := fun arg28 k0_hw11 => k0_hw11.2.1
theorem k0_off57_inb : ∀ (arg28 : BitVec 32) (k0_hw11 : k0_chk11 arg28), ∀ a, (k0_off57 arg28) a + S1x16.size a ≤ S512x64.size a := fun arg28 k0_hw11 => k0_hw11.2.2.1
theorem k0_off58_inb : ∀ (arg28 : BitVec 32) (k0_hw11 : k0_chk11 arg28), ∀ a, (k0_off58 arg28) a + S1x16.size a ≤ S512x64.size a := fun arg28 k0_hw11 => k0_hw11.2.2.2.1
theorem k0_off59_inb : ∀ (arg28 : BitVec 32) (k0_hw11 : k0_chk11 arg28), ∀ a, (k0_off59 arg28) a + S1x16.size a ≤ S512x64.size a := fun arg28 k0_hw11 => k0_hw11.2.2.2.2

@[reducible] def k0_t17_loop (v72_1 : BitVec 32) (v104 : BitVec 32) : Scf.Loop 32 :=
  let c0_i32_47 : BitVec 32 := 0#32
  let v105 : BitVec 32 := Scalar.subi v104 v72_1
  let v106 : BitVec 32 := Scalar.subi v105 c0_i32_47
  let c1_i32_48 : BitVec 32 := 1#32
  let v108 : BitVec 32 := Scalar.divsi v106 c1_i32_48
  let v109 : BitVec 32 := Scalar.muli v108 c1_i32_48
  let v110 : BitVec 32 := Scalar.addi c0_i32_47 v109
  let v107 : BitVec 32 := Scalar.addi c0_i32_47 v106
  let c1_i32_50 : BitVec 32 := 1#32
  ⟨v110, v107, c1_i32_50⟩

def k0_chk9 (v72_1 : BitVec 32) (v104 : BitVec 32) : Prop :=
  ((k0_t14_loop v72_1 v104).OK) ∧
  ((k0_t17_loop v72_1 v104).OK)
theorem k0_t14_ok : ∀ (v72_1 : BitVec 32) (v104 : BitVec 32) (k0_hw9 : k0_chk9 v72_1 v104), (k0_t14_loop v72_1 v104).OK := fun v72_1 v104 k0_hw9 => k0_hw9.1
theorem k0_t17_ok : ∀ (v72_1 : BitVec 32) (v104 : BitVec 32) (k0_hw9 : k0_chk9 v72_1 v104), (k0_t17_loop v72_1 v104).OK := fun v72_1 v104 k0_hw9 => k0_hw9.2

@[reducible] def k0_t18_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off60 (v6 : BitVec 32) (v9 : BitVec 32) (k0_t1 : Fin (k0_t1_loop v6 v9).trips) (arg27 : BitVec 32) (arg29 : BitVec 32) (k0_t18 : Fin (k0_t18_loop arg27 arg29).trips) : Fin 2 → Nat :=
  let c1_i32_55 : BitVec 32 := 1#32
  let arg34 : BitVec 32 := Scf.iv arg27 c1_i32_55 k0_t18
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off61 (v6 : BitVec 32) (v9 : BitVec 32) (k0_t1 : Fin (k0_t1_loop v6 v9).trips) (arg27 : BitVec 32) (arg29 : BitVec 32) (k0_t18 : Fin (k0_t18_loop arg27 arg29).trips) : Fin 2 → Nat :=
  let c1_i32_55 : BitVec 32 := 1#32
  let arg34 : BitVec 32 := Scf.iv arg27 c1_i32_55 k0_t18
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off62 (v6 : BitVec 32) (v9 : BitVec 32) (k0_t1 : Fin (k0_t1_loop v6 v9).trips) (arg27 : BitVec 32) (arg29 : BitVec 32) (k0_t18 : Fin (k0_t18_loop arg27 arg29).trips) : Fin 2 → Nat :=
  let c1_i32_55 : BitVec 32 := 1#32
  let arg34 : BitVec 32 := Scf.iv arg27 c1_i32_55 k0_t18
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off63 (v6 : BitVec 32) (v9 : BitVec 32) (k0_t1 : Fin (k0_t1_loop v6 v9).trips) (arg27 : BitVec 32) (arg29 : BitVec 32) (k0_t18 : Fin (k0_t18_loop arg27 arg29).trips) : Fin 2 → Nat :=
  let c1_i32_55 : BitVec 32 := 1#32
  let arg34 : BitVec 32 := Scf.iv arg27 c1_i32_55 k0_t18
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]
@[reducible] def k0_t19_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off64 (v6 : BitVec 32) (v9 : BitVec 32) (k0_t1 : Fin (k0_t1_loop v6 v9).trips) (arg27 : BitVec 32) (arg29 : BitVec 32) (k0_t19 : Fin (k0_t19_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t19
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off65 (v6 : BitVec 32) (v9 : BitVec 32) (k0_t1 : Fin (k0_t1_loop v6 v9).trips) (arg27 : BitVec 32) (arg29 : BitVec 32) (k0_t19 : Fin (k0_t19_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t19
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off66 (v6 : BitVec 32) (v9 : BitVec 32) (k0_t1 : Fin (k0_t1_loop v6 v9).trips) (arg27 : BitVec 32) (arg29 : BitVec 32) (k0_t19 : Fin (k0_t19_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t19
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off67 (v6 : BitVec 32) (v9 : BitVec 32) (k0_t1 : Fin (k0_t1_loop v6 v9).trips) (arg27 : BitVec 32) (arg29 : BitVec 32) (k0_t19 : Fin (k0_t19_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t19
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]

def k0_chk12 (v6 : BitVec 32) (v9 : BitVec 32) (k0_t1 : Fin (k0_t1_loop v6 v9).trips) (arg27 : BitVec 32) (arg29 : BitVec 32) : Prop :=
  ((k0_t18_loop arg27 arg29).OK) ∧
  (∀ k0_t18 : Fin (k0_t18_loop arg27 arg29).trips, ∀ a, (k0_off60 v6 v9 k0_t1 arg27 arg29 k0_t18) a + S1x16.size a ≤ S128x128.size a) ∧
  (∀ k0_t18 : Fin (k0_t18_loop arg27 arg29).trips, ∀ a, (k0_off61 v6 v9 k0_t1 arg27 arg29 k0_t18) a + S1x16.size a ≤ S128x128.size a) ∧
  (∀ k0_t18 : Fin (k0_t18_loop arg27 arg29).trips, ∀ a, (k0_off62 v6 v9 k0_t1 arg27 arg29 k0_t18) a + S1x16.size a ≤ S128x128.size a) ∧
  (∀ k0_t18 : Fin (k0_t18_loop arg27 arg29).trips, ∀ a, (k0_off63 v6 v9 k0_t1 arg27 arg29 k0_t18) a + S1x16.size a ≤ S128x128.size a) ∧
  ((k0_t19_loop arg27 arg29).OK) ∧
  (∀ k0_t19 : Fin (k0_t19_loop arg27 arg29).trips, ∀ a, (k0_off64 v6 v9 k0_t1 arg27 arg29 k0_t19) a + S1x16.size a ≤ S128x128.size a) ∧
  (∀ k0_t19 : Fin (k0_t19_loop arg27 arg29).trips, ∀ a, (k0_off65 v6 v9 k0_t1 arg27 arg29 k0_t19) a + S1x16.size a ≤ S128x128.size a) ∧
  (∀ k0_t19 : Fin (k0_t19_loop arg27 arg29).trips, ∀ a, (k0_off66 v6 v9 k0_t1 arg27 arg29 k0_t19) a + S1x16.size a ≤ S128x128.size a) ∧
  (∀ k0_t19 : Fin (k0_t19_loop arg27 arg29).trips, ∀ a, (k0_off67 v6 v9 k0_t1 arg27 arg29 k0_t19) a + S1x16.size a ≤ S128x128.size a)
theorem k0_t18_ok : ∀ (v6 : BitVec 32) (v9 : BitVec 32) (k0_t1 : Fin (k0_t1_loop v6 v9).trips) (arg27 : BitVec 32) (arg29 : BitVec 32) (k0_hw12 : k0_chk12 v6 v9 k0_t1 arg27 arg29), (k0_t18_loop arg27 arg29).OK := fun v6 v9 k0_t1 arg27 arg29 k0_hw12 => k0_hw12.1
theorem k0_off60_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t18 : Fin (k0_t18_loop arg27 arg29).trips), ∀ a, (k0_off60 v6 v9 k0_t1 arg27 arg29 k0_t18) a + S1x16.size a ≤ S128x128.size a := fun v6 v9 k0_t1 arg27 arg29 k0_hw12 k0_t18 => k0_hw12.2.1 k0_t18
theorem k0_off61_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t18 : Fin (k0_t18_loop arg27 arg29).trips), ∀ a, (k0_off61 v6 v9 k0_t1 arg27 arg29 k0_t18) a + S1x16.size a ≤ S128x128.size a := fun v6 v9 k0_t1 arg27 arg29 k0_hw12 k0_t18 => k0_hw12.2.2.1 k0_t18
theorem k0_off62_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t18 : Fin (k0_t18_loop arg27 arg29).trips), ∀ a, (k0_off62 v6 v9 k0_t1 arg27 arg29 k0_t18) a + S1x16.size a ≤ S128x128.size a := fun v6 v9 k0_t1 arg27 arg29 k0_hw12 k0_t18 => k0_hw12.2.2.2.1 k0_t18
theorem k0_off63_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t18 : Fin (k0_t18_loop arg27 arg29).trips), ∀ a, (k0_off63 v6 v9 k0_t1 arg27 arg29 k0_t18) a + S1x16.size a ≤ S128x128.size a := fun v6 v9 k0_t1 arg27 arg29 k0_hw12 k0_t18 => k0_hw12.2.2.2.2.1 k0_t18
theorem k0_t19_ok : ∀ (v6 : BitVec 32) (v9 : BitVec 32) (k0_t1 : Fin (k0_t1_loop v6 v9).trips) (arg27 : BitVec 32) (arg29 : BitVec 32) (k0_hw12 : k0_chk12 v6 v9 k0_t1 arg27 arg29), (k0_t19_loop arg27 arg29).OK := fun v6 v9 k0_t1 arg27 arg29 k0_hw12 => k0_hw12.2.2.2.2.2.1
theorem k0_off64_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t19 : Fin (k0_t19_loop arg27 arg29).trips), ∀ a, (k0_off64 v6 v9 k0_t1 arg27 arg29 k0_t19) a + S1x16.size a ≤ S128x128.size a := fun v6 v9 k0_t1 arg27 arg29 k0_hw12 k0_t19 => k0_hw12.2.2.2.2.2.2.1 k0_t19
theorem k0_off65_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t19 : Fin (k0_t19_loop arg27 arg29).trips), ∀ a, (k0_off65 v6 v9 k0_t1 arg27 arg29 k0_t19) a + S1x16.size a ≤ S128x128.size a := fun v6 v9 k0_t1 arg27 arg29 k0_hw12 k0_t19 => k0_hw12.2.2.2.2.2.2.2.1 k0_t19
theorem k0_off66_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t19 : Fin (k0_t19_loop arg27 arg29).trips), ∀ a, (k0_off66 v6 v9 k0_t1 arg27 arg29 k0_t19) a + S1x16.size a ≤ S128x128.size a := fun v6 v9 k0_t1 arg27 arg29 k0_hw12 k0_t19 => k0_hw12.2.2.2.2.2.2.2.2.1 k0_t19
theorem k0_off67_inb : ∀ (v6 : BitVec 32) (v9 : BitVec 32) (k0_t1 : Fin (k0_t1_loop v6 v9).trips) (arg27 : BitVec 32) (arg29 : BitVec 32) (k0_hw12 : k0_chk12 v6 v9 k0_t1 arg27 arg29) (k0_t19 : Fin (k0_t19_loop arg27 arg29).trips), ∀ a, (k0_off67 v6 v9 k0_t1 arg27 arg29 k0_t19) a + S1x16.size a ≤ S128x128.size a := fun v6 v9 k0_t1 arg27 arg29 k0_hw12 k0_t19 => k0_hw12.2.2.2.2.2.2.2.2.2 k0_t19

def k0_off68 (arg28 : BitVec 32) : Fin 1 → Nat :=
  let v129 : Index := Scalar.indexCast arg28
  ![v129.toNat]

def k0_off69 (arg28 : BitVec 32) : Fin 2 → Nat :=
  let v144 : Index := Scalar.indexCast arg28
  let c0_61 : Index := 0#32
  ![v144.toNat, 0]
def k0_off70 (arg28 : BitVec 32) : Fin 2 → Nat :=
  let v151 : Index := Scalar.indexCast arg28
  let c16_63 : Index := 16#32
  ![v151.toNat, 16]
def k0_off71 (arg28 : BitVec 32) : Fin 2 → Nat :=
  let v158 : Index := Scalar.indexCast arg28
  let c32_65 : Index := 32#32
  ![v158.toNat, 32]
def k0_off72 (arg28 : BitVec 32) : Fin 2 → Nat :=
  let v165 : Index := Scalar.indexCast arg28
  let c48_67 : Index := 48#32
  ![v165.toNat, 48]

def k0_chk13 (arg28 : BitVec 32) : Prop :=
  (∀ a, (k0_off68 arg28) a + S16.size a ≤ S536.size a) ∧
  (∀ a, (k0_off69 arg28) a + S1x16.size a ≤ S512x64.size a) ∧
  (∀ a, (k0_off70 arg28) a + S1x16.size a ≤ S512x64.size a) ∧
  (∀ a, (k0_off71 arg28) a + S1x16.size a ≤ S512x64.size a) ∧
  (∀ a, (k0_off72 arg28) a + S1x16.size a ≤ S512x64.size a)
theorem k0_off68_inb : ∀ (arg28 : BitVec 32) (k0_hw13 : k0_chk13 arg28), ∀ a, (k0_off68 arg28) a + S16.size a ≤ S536.size a := fun arg28 k0_hw13 => k0_hw13.1
theorem k0_off69_inb : ∀ (arg28 : BitVec 32) (k0_hw13 : k0_chk13 arg28), ∀ a, (k0_off69 arg28) a + S1x16.size a ≤ S512x64.size a := fun arg28 k0_hw13 => k0_hw13.2.1
theorem k0_off70_inb : ∀ (arg28 : BitVec 32) (k0_hw13 : k0_chk13 arg28), ∀ a, (k0_off70 arg28) a + S1x16.size a ≤ S512x64.size a := fun arg28 k0_hw13 => k0_hw13.2.2.1
theorem k0_off71_inb : ∀ (arg28 : BitVec 32) (k0_hw13 : k0_chk13 arg28), ∀ a, (k0_off71 arg28) a + S1x16.size a ≤ S512x64.size a := fun arg28 k0_hw13 => k0_hw13.2.2.2.1
theorem k0_off72_inb : ∀ (arg28 : BitVec 32) (k0_hw13 : k0_chk13 arg28), ∀ a, (k0_off72 arg28) a + S1x16.size a ≤ S512x64.size a := fun arg28 k0_hw13 => k0_hw13.2.2.2.2

@[reducible] def k0_t20_loop (v6 : BitVec 32) (v9 : BitVec 32) (k0_t1 : Fin (k0_t1_loop v6 v9).trips) (v112_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_52 : BitVec 32 := 1#32
  ⟨v113, v118, c1_i32_52⟩

def k0_off73 (v6 : BitVec 32) (v9 : BitVec 32) (k0_t1 : Fin (k0_t1_loop v6 v9).trips) (v112_0 : BitVec 32) (k0_t20 : Fin (k0_t20_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t20
  let v122 : BitVec 32 := Scalar.subi arg26 v95
  let v123 : Index := Scalar.indexCast v122
  let c0_54 : Index := 0#32
  ![v123.toNat, 0]
def k0_off74 (v6 : BitVec 32) (v9 : BitVec 32) (k0_t1 : Fin (k0_t1_loop v6 v9).trips) (v112_0 : BitVec 32) (k0_t20 : Fin (k0_t20_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t20
  let v122 : BitVec 32 := Scalar.subi arg26 v95
  let v126 : Index := Scalar.indexCast v122
  let c16 : Index := 16#32
  ![v126.toNat, 16]
def k0_off75 (v6 : BitVec 32) (v9 : BitVec 32) (k0_t1 : Fin (k0_t1_loop v6 v9).trips) (v112_0 : BitVec 32) (k0_t20 : Fin (k0_t20_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t20
  let v122 : BitVec 32 := Scalar.subi arg26 v95
  let v129 : Index := Scalar.indexCast v122
  let c32 : Index := 32#32
  ![v129.toNat, 32]
def k0_off76 (v6 : BitVec 32) (v9 : BitVec 32) (k0_t1 : Fin (k0_t1_loop v6 v9).trips) (v112_0 : BitVec 32) (k0_t20 : Fin (k0_t20_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t20
  let v122 : BitVec 32 := Scalar.subi arg26 v95
  let v132 : Index := Scalar.indexCast v122
  let c48 : Index := 48#32
  ![v132.toNat, 48]
@[reducible] def k0_t21_loop (v6 : BitVec 32) (v9 : BitVec 32) (k0_t1 : Fin (k0_t1_loop v6 v9).trips) (v112_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let v115 : BitVec 32 := Scalar.addi v113 v114
  let c1_i32_53 : BitVec 32 := 1#32
  ⟨v118, v115, c1_i32_53⟩
def k0_off77 (v6 : BitVec 32) (v9 : BitVec 32) (k0_t1 : Fin (k0_t1_loop v6 v9).trips) (v112_0 : BitVec 32) (k0_t21 : Fin (k0_t21_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t21
  let v122 : BitVec 32 := Scalar.subi arg26 v95
  let v123 : Index := Scalar.indexCast v122
  let c0_54 : Index := 0#32
  ![v123.toNat, 0]
def k0_off78 (v6 : BitVec 32) (v9 : BitVec 32) (k0_t1 : Fin (k0_t1_loop v6 v9).trips) (v112_0 : BitVec 32) (k0_t21 : Fin (k0_t21_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t21
  let v122 : BitVec 32 := Scalar.subi arg26 v95
  let v126 : Index := Scalar.indexCast v122
  let c16 : Index := 16#32
  ![v126.toNat, 16]
def k0_off79 (v6 : BitVec 32) (v9 : BitVec 32) (k0_t1 : Fin (k0_t1_loop v6 v9).trips) (v112_0 : BitVec 32) (k0_t21 : Fin (k0_t21_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t21
  let v122 : BitVec 32 := Scalar.subi arg26 v95
  let v129 : Index := Scalar.indexCast v122
  let c32 : Index := 32#32
  ![v129.toNat, 32]
def k0_off80 (v6 : BitVec 32) (v9 : BitVec 32) (k0_t1 : Fin (k0_t1_loop v6 v9).trips) (v112_0 : BitVec 32) (k0_t21 : Fin (k0_t21_loop v6 v9 k0_t1 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let c1_i32_11 : BitVec 32 := 1#32
  let arg18 : BitVec 32 := Scf.iv c0_i32_8 c1_i32_11 k0_t1
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t21
  let v122 : BitVec 32 := Scalar.subi arg26 v95
  let v132 : Index := Scalar.indexCast v122
  let c48 : Index := 48#32
  ![v132.toNat, 48]

def k0_chk14 (v6 : BitVec 32) (v9 : BitVec 32) (k0_t1 : Fin (k0_t1_loop v6 v9).trips) (v112_0 : BitVec 32) : Prop :=
  ((k0_t20_loop v6 v9 k0_t1 v112_0).OK) ∧
  (∀ k0_t20 : Fin (k0_t20_loop v6 v9 k0_t1 v112_0).trips, ∀ a, (k0_off73 v6 v9 k0_t1 v112_0 k0_t20) a + S1x16.size a ≤ S128x128.size a) ∧
  (∀ k0_t20 : Fin (k0_t20_loop v6 v9 k0_t1 v112_0).trips, ∀ a, (k0_off74 v6 v9 k0_t1 v112_0 k0_t20) a + S1x16.size a ≤ S128x128.size a) ∧
  (∀ k0_t20 : Fin (k0_t20_loop v6 v9 k0_t1 v112_0).trips, ∀ a, (k0_off75 v6 v9 k0_t1 v112_0 k0_t20) a + S1x16.size a ≤ S128x128.size a) ∧
  (∀ k0_t20 : Fin (k0_t20_loop v6 v9 k0_t1 v112_0).trips, ∀ a, (k0_off76 v6 v9 k0_t1 v112_0 k0_t20) a + S1x16.size a ≤ S128x128.size a) ∧
  ((k0_t21_loop v6 v9 k0_t1 v112_0).OK) ∧
  (∀ k0_t21 : Fin (k0_t21_loop v6 v9 k0_t1 v112_0).trips, ∀ a, (k0_off77 v6 v9 k0_t1 v112_0 k0_t21) a + S1x16.size a ≤ S128x128.size a) ∧
  (∀ k0_t21 : Fin (k0_t21_loop v6 v9 k0_t1 v112_0).trips, ∀ a, (k0_off78 v6 v9 k0_t1 v112_0 k0_t21) a + S1x16.size a ≤ S128x128.size a) ∧
  (∀ k0_t21 : Fin (k0_t21_loop v6 v9 k0_t1 v112_0).trips, ∀ a, (k0_off79 v6 v9 k0_t1 v112_0 k0_t21) a + S1x16.size a ≤ S128x128.size a) ∧
  (∀ k0_t21 : Fin (k0_t21_loop v6 v9 k0_t1 v112_0).trips, ∀ a, (k0_off80 v6 v9 k0_t1 v112_0 k0_t21) a + S1x16.size a ≤ S128x128.size a)
theorem k0_t20_ok : ∀ (v6 : BitVec 32) (v9 : BitVec 32) (k0_t1 : Fin (k0_t1_loop v6 v9).trips) (v112_0 : BitVec 32) (k0_hw14 : k0_chk14 v6 v9 k0_t1 v112_0), (k0_t20_loop v6 v9 k0_t1 v112_0).OK := fun v6 v9 k0_t1 v112_0 k0_hw14 => k0_hw14.1
theorem k0_off73_inb : ∀ (v6 : BitVec 32) (v9 : BitVec 32) (k0_t1 : Fin (k0_t1_loop v6 v9).trips) (v112_0 : BitVec 32) (k0_hw14 : k0_chk14 v6 v9 k0_t1 v112_0) (k0_t20 : Fin (k0_t20_loop v6 v9 k0_t1 v112_0).trips), ∀ a, (k0_off73 v6 v9 k0_t1 v112_0 k0_t20) a + S1x16.size a ≤ S128x128.size a := fun v6 v9 k0_t1 v112_0 k0_hw14 k0_t20 => k0_hw14.2.1 k0_t20
theorem k0_off74_inb : ∀ (v6 : BitVec 32) (v9 : BitVec 32) (k0_t1 : Fin (k0_t1_loop v6 v9).trips) (v112_0 : BitVec 32) (k0_hw14 : k0_chk14 v6 v9 k0_t1 v112_0) (k0_t20 : Fin (k0_t20_loop v6 v9 k0_t1 v112_0).trips), ∀ a, (k0_off74 v6 v9 k0_t1 v112_0 k0_t20) a + S1x16.size a ≤ S128x128.size a := fun v6 v9 k0_t1 v112_0 k0_hw14 k0_t20 => k0_hw14.2.2.1 k0_t20
theorem k0_off75_inb : ∀ (v6 : BitVec 32) (v9 : BitVec 32) (k0_t1 : Fin (k0_t1_loop v6 v9).trips) (v112_0 : BitVec 32) (k0_hw14 : k0_chk14 v6 v9 k0_t1 v112_0) (k0_t20 : Fin (k0_t20_loop v6 v9 k0_t1 v112_0).trips), ∀ a, (k0_off75 v6 v9 k0_t1 v112_0 k0_t20) a + S1x16.size a ≤ S128x128.size a := fun v6 v9 k0_t1 v112_0 k0_hw14 k0_t20 => k0_hw14.2.2.2.1 k0_t20
theorem k0_off76_inb : ∀ (v6 : BitVec 32) (v9 : BitVec 32) (k0_t1 : Fin (k0_t1_loop v6 v9).trips) (v112_0 : BitVec 32) (k0_hw14 : k0_chk14 v6 v9 k0_t1 v112_0) (k0_t20 : Fin (k0_t20_loop v6 v9 k0_t1 v112_0).trips), ∀ a, (k0_off76 v6 v9 k0_t1 v112_0 k0_t20) a + S1x16.size a ≤ S128x128.size a := fun v6 v9 k0_t1 v112_0 k0_hw14 k0_t20 => k0_hw14.2.2.2.2.1 k0_t20
theorem k0_t21_ok : ∀ (v6 : BitVec 32) (v9 : BitVec 32) (k0_t1 : Fin (k0_t1_loop v6 v9).trips) (v112_0 : BitVec 32) (k0_hw14 : k0_chk14 v6 v9 k0_t1 v112_0), (k0_t21_loop v6 v9 k0_t1 v112_0).OK := fun v6 v9 k0_t1 v112_0 k0_hw14 => k0_hw14.2.2.2.2.2.1
theorem k0_off77_inb : ∀ (v6 : BitVec 32) (v9 : BitVec 32) (k0_t1 : Fin (k0_t1_loop v6 v9).trips) (v112_0 : BitVec 32) (k0_hw14 : k0_chk14 v6 v9 k0_t1 v112_0) (k0_t21 : Fin (k0_t21_loop v6 v9 k0_t1 v112_0).trips), ∀ a, (k0_off77 v6 v9 k0_t1 v112_0 k0_t21) a + S1x16.size a ≤ S128x128.size a := fun v6 v9 k0_t1 v112_0 k0_hw14 k0_t21 => k0_hw14.2.2.2.2.2.2.1 k0_t21
theorem k0_off78_inb : ∀ (v6 : BitVec 32) (v9 : BitVec 32) (k0_t1 : Fin (k0_t1_loop v6 v9).trips) (v112_0 : BitVec 32) (k0_hw14 : k0_chk14 v6 v9 k0_t1 v112_0) (k0_t21 : Fin (k0_t21_loop v6 v9 k0_t1 v112_0).trips), ∀ a, (k0_off78 v6 v9 k0_t1 v112_0 k0_t21) a + S1x16.size a ≤ S128x128.size a := fun v6 v9 k0_t1 v112_0 k0_hw14 k0_t21 => k0_hw14.2.2.2.2.2.2.2.1 k0_t21
theorem k0_off79_inb : ∀ (v6 : BitVec 32) (v9 : BitVec 32) (k0_t1 : Fin (k0_t1_loop v6 v9).trips) (v112_0 : BitVec 32) (k0_hw14 : k0_chk14 v6 v9 k0_t1 v112_0) (k0_t21 : Fin (k0_t21_loop v6 v9 k0_t1 v112_0).trips), ∀ a, (k0_off79 v6 v9 k0_t1 v112_0 k0_t21) a + S1x16.size a ≤ S128x128.size a := fun v6 v9 k0_t1 v112_0 k0_hw14 k0_t21 => k0_hw14.2.2.2.2.2.2.2.2.1 k0_t21
theorem k0_off80_inb : ∀ (v6 : BitVec 32) (v9 : BitVec 32) (k0_t1 : Fin (k0_t1_loop v6 v9).trips) (v112_0 : BitVec 32) (k0_hw14 : k0_chk14 v6 v9 k0_t1 v112_0) (k0_t21 : Fin (k0_t21_loop v6 v9 k0_t1 v112_0).trips), ∀ a, (k0_off80 v6 v9 k0_t1 v112_0 k0_t21) a + S1x16.size a ≤ S128x128.size a := fun v6 v9 k0_t1 v112_0 k0_hw14 k0_t21 => k0_hw14.2.2.2.2.2.2.2.2.2 k0_t21

@[reducible] def k0_t22_loop (v6 : BitVec 32) (v9 : BitVec 32) : Scf.Loop 32 :=
  let c0_i32_8 : BitVec 32 := 0#32
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let v36 : BitVec 32 := Scalar.addi c0_i32_8 v35
  let c1_i32_12 : BitVec 32 := 1#32
  ⟨v39, v36, c1_i32_12⟩
def k0_mult10 (v6 : BitVec 32) (v9 : BitVec 32) (k0_t22 : Fin (k0_t22_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c2_i32_54 : BitVec 32 := 2#32
  let v122 : BitVec 32 := Scalar.addi v42 c2_i32_54
  let c128_i32_55 : BitVec 32 := 128#32
  let v123 : BitVec 32 := Scalar.muli v122 c128_i32_55
  let v124 : BitVec 32 := Scalar.addi v11 v123
  v124
def k0_cond9 (v6 : BitVec 32) (v9 : BitVec 32) (k0_t22 : Fin (k0_t22_loop v6 v9).trips) : BitVec 1 :=
  let c0_i32_8 : BitVec 32 := 0#32
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c2_i32_15 : BitVec 32 := 2#32
  let v46 : BitVec 32 := Scalar.addi v42 c2_i32_15
  let v47 : BitVec 1 := Scalar.cmpi .slt v46 v15
  let v48 : BitVec 32 := Scalar.extui v47
  let c0_i32_16 : BitVec 32 := 0#32
  let v49 : BitVec 1 := Scalar.cmpi .ne v48 c0_i32_16
  v49

def k0_off81 (v6 : BitVec 32) (v9 : BitVec 32) (k0_t22 : Fin (k0_t22_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c2_i32_54 : BitVec 32 := 2#32
  let v122 : BitVec 32 := Scalar.addi v42 c2_i32_54
  let c128_i32_55 : BitVec 32 := 128#32
  let v123 : BitVec 32 := Scalar.muli v122 c128_i32_55
  let v124 : BitVec 32 := Scalar.addi v11 v123
  let v125 : BitVec 32 := v124
  ![v125.toNat]
def k0_mult11 (v6 : BitVec 32) (v9 : BitVec 32) (k0_t22 : Fin (k0_t22_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_54 : BitVec 32 := 1#32
  let v122 : BitVec 32 := Scalar.addi v42 c1_i32_54
  let c128_i32_55 : BitVec 32 := 128#32
  let v123 : BitVec 32 := Scalar.muli v122 c128_i32_55
  let v124 : BitVec 32 := Scalar.addi v11 v123
  v124
def k0_cond10 (v6 : BitVec 32) (v9 : BitVec 32) (k0_t22 : Fin (k0_t22_loop v6 v9).trips) : BitVec 1 :=
  let c0_i32_8 : BitVec 32 := 0#32
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_17 : BitVec 32 := 1#32
  let v50 : BitVec 32 := Scalar.addi v42 c1_i32_17
  let v51 : BitVec 1 := Scalar.cmpi .slt v50 v15
  let v52 : BitVec 32 := Scalar.extui v51
  let c0_i32_18 : BitVec 32 := 0#32
  let v53 : BitVec 1 := Scalar.cmpi .ne v52 c0_i32_18
  v53

def k0_off82 (v6 : BitVec 32) (v9 : BitVec 32) (k0_t22 : Fin (k0_t22_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_54 : BitVec 32 := 1#32
  let v122 : BitVec 32 := Scalar.addi v42 c1_i32_54
  let c128_i32_55 : BitVec 32 := 128#32
  let v123 : BitVec 32 := Scalar.muli v122 c128_i32_55
  let v124 : BitVec 32 := Scalar.addi v11 v123
  let v125 : BitVec 32 := v124
  ![v125.toNat]
@[reducible] def k0_t23_loop : Scf.Loop 32 :=
  let c0_i32_21 : BitVec 32 := 0#32
  let c32_i32 : BitVec 32 := 32#32
  let v58 : BitVec 32 := Scalar.subi c32_i32 c0_i32_21
  let c1_i32_23 : BitVec 32 := 1#32
  let v60 : BitVec 32 := Scalar.divsi v58 c1_i32_23
  let v61 : BitVec 32 := Scalar.muli v60 c1_i32_23
  let v62 : BitVec 32 := Scalar.addi c0_i32_21 v61
  let c1_i32_24 : BitVec 32 := 1#32
  ⟨c0_i32_21, v62, c1_i32_24⟩
def k0_off83 (k0_t23 : Fin k0_t23_loop.trips) : Fin 1 → Nat :=
  let c0_i32_21 : BitVec 32 := 0#32
  let c1_i32_24 : BitVec 32 := 1#32
  let arg26 : BitVec 32 := Scf.iv c0_i32_21 c1_i32_24 k0_t23
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t24_loop : Scf.Loop 32 :=
  let c0_i32_21 : BitVec 32 := 0#32
  let c32_i32 : BitVec 32 := 32#32
  let v58 : BitVec 32 := Scalar.subi c32_i32 c0_i32_21
  let c1_i32_23 : BitVec 32 := 1#32
  let v60 : BitVec 32 := Scalar.divsi v58 c1_i32_23
  let v61 : BitVec 32 := Scalar.muli v60 c1_i32_23
  let v62 : BitVec 32 := Scalar.addi c0_i32_21 v61
  let v59 : BitVec 32 := Scalar.addi c0_i32_21 v58
  let c1_i32_25 : BitVec 32 := 1#32
  ⟨v62, v59, c1_i32_25⟩
def k0_off84 (k0_t24 : Fin k0_t24_loop.trips) : Fin 1 → Nat :=
  let c0_i32_21 : BitVec 32 := 0#32
  let c32_i32 : BitVec 32 := 32#32
  let v58 : BitVec 32 := Scalar.subi c32_i32 c0_i32_21
  let c1_i32_23 : BitVec 32 := 1#32
  let v60 : BitVec 32 := Scalar.divsi v58 c1_i32_23
  let v61 : BitVec 32 := Scalar.muli v60 c1_i32_23
  let v62 : BitVec 32 := Scalar.addi c0_i32_21 v61
  let c1_i32_25 : BitVec 32 := 1#32
  let arg26 : BitVec 32 := Scf.iv v62 c1_i32_25 k0_t24
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t25_loop (arg20 : BitVec 32) (v64 : BitVec 32) : Scf.Loop 32 :=
  let c0_i32_26 : BitVec 32 := 0#32
  let v65 : BitVec 32 := Scalar.subi v64 arg20
  let v66 : BitVec 32 := Scalar.subi v65 c0_i32_26
  let c1_i32_27 : BitVec 32 := 1#32
  let v68 : BitVec 32 := Scalar.divsi v66 c1_i32_27
  let v69 : BitVec 32 := Scalar.muli v68 c1_i32_27
  let v70 : BitVec 32 := Scalar.addi c0_i32_26 v69
  let c1_i32_28 : BitVec 32 := 1#32
  ⟨c0_i32_26, v70, c1_i32_28⟩

@[reducible] def k0_t26_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off85 (v6 : BitVec 32) (v9 : BitVec 32) (k0_t22 : Fin (k0_t22_loop v6 v9).trips) (arg27 : BitVec 32) (arg29 : BitVec 32) (k0_t26 : Fin (k0_t26_loop arg27 arg29).trips) : Fin 2 → Nat :=
  let c1_i32_55 : BitVec 32 := 1#32
  let arg34 : BitVec 32 := Scf.iv arg27 c1_i32_55 k0_t26
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off86 (v6 : BitVec 32) (v9 : BitVec 32) (k0_t22 : Fin (k0_t22_loop v6 v9).trips) (arg27 : BitVec 32) (arg29 : BitVec 32) (k0_t26 : Fin (k0_t26_loop arg27 arg29).trips) : Fin 2 → Nat :=
  let c1_i32_55 : BitVec 32 := 1#32
  let arg34 : BitVec 32 := Scf.iv arg27 c1_i32_55 k0_t26
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off87 (v6 : BitVec 32) (v9 : BitVec 32) (k0_t22 : Fin (k0_t22_loop v6 v9).trips) (arg27 : BitVec 32) (arg29 : BitVec 32) (k0_t26 : Fin (k0_t26_loop arg27 arg29).trips) : Fin 2 → Nat :=
  let c1_i32_55 : BitVec 32 := 1#32
  let arg34 : BitVec 32 := Scf.iv arg27 c1_i32_55 k0_t26
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off88 (v6 : BitVec 32) (v9 : BitVec 32) (k0_t22 : Fin (k0_t22_loop v6 v9).trips) (arg27 : BitVec 32) (arg29 : BitVec 32) (k0_t26 : Fin (k0_t26_loop arg27 arg29).trips) : Fin 2 → Nat :=
  let c1_i32_55 : BitVec 32 := 1#32
  let arg34 : BitVec 32 := Scf.iv arg27 c1_i32_55 k0_t26
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]
@[reducible] def k0_t27_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off89 (v6 : BitVec 32) (v9 : BitVec 32) (k0_t22 : Fin (k0_t22_loop v6 v9).trips) (arg27 : BitVec 32) (arg29 : BitVec 32) (k0_t27 : Fin (k0_t27_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t27
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off90 (v6 : BitVec 32) (v9 : BitVec 32) (k0_t22 : Fin (k0_t22_loop v6 v9).trips) (arg27 : BitVec 32) (arg29 : BitVec 32) (k0_t27 : Fin (k0_t27_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t27
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off91 (v6 : BitVec 32) (v9 : BitVec 32) (k0_t22 : Fin (k0_t22_loop v6 v9).trips) (arg27 : BitVec 32) (arg29 : BitVec 32) (k0_t27 : Fin (k0_t27_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t27
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off92 (v6 : BitVec 32) (v9 : BitVec 32) (k0_t22 : Fin (k0_t22_loop v6 v9).trips) (arg27 : BitVec 32) (arg29 : BitVec 32) (k0_t27 : Fin (k0_t27_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t27
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]

def k0_chk16 (v6 : BitVec 32) (v9 : BitVec 32) (k0_t22 : Fin (k0_t22_loop v6 v9).trips) (arg27 : BitVec 32) (arg29 : BitVec 32) : Prop :=
  ((k0_t26_loop arg27 arg29).OK) ∧
  (∀ k0_t26 : Fin (k0_t26_loop arg27 arg29).trips, ∀ a, (k0_off85 v6 v9 k0_t22 arg27 arg29 k0_t26) a + S1x16.size a ≤ S128x128.size a) ∧
  (∀ k0_t26 : Fin (k0_t26_loop arg27 arg29).trips, ∀ a, (k0_off86 v6 v9 k0_t22 arg27 arg29 k0_t26) a + S1x16.size a ≤ S128x128.size a) ∧
  (∀ k0_t26 : Fin (k0_t26_loop arg27 arg29).trips, ∀ a, (k0_off87 v6 v9 k0_t22 arg27 arg29 k0_t26) a + S1x16.size a ≤ S128x128.size a) ∧
  (∀ k0_t26 : Fin (k0_t26_loop arg27 arg29).trips, ∀ a, (k0_off88 v6 v9 k0_t22 arg27 arg29 k0_t26) a + S1x16.size a ≤ S128x128.size a) ∧
  ((k0_t27_loop arg27 arg29).OK) ∧
  (∀ k0_t27 : Fin (k0_t27_loop arg27 arg29).trips, ∀ a, (k0_off89 v6 v9 k0_t22 arg27 arg29 k0_t27) a + S1x16.size a ≤ S128x128.size a) ∧
  (∀ k0_t27 : Fin (k0_t27_loop arg27 arg29).trips, ∀ a, (k0_off90 v6 v9 k0_t22 arg27 arg29 k0_t27) a + S1x16.size a ≤ S128x128.size a) ∧
  (∀ k0_t27 : Fin (k0_t27_loop arg27 arg29).trips, ∀ a, (k0_off91 v6 v9 k0_t22 arg27 arg29 k0_t27) a + S1x16.size a ≤ S128x128.size a) ∧
  (∀ k0_t27 : Fin (k0_t27_loop arg27 arg29).trips, ∀ a, (k0_off92 v6 v9 k0_t22 arg27 arg29 k0_t27) a + S1x16.size a ≤ S128x128.size a)
theorem k0_t26_ok : ∀ (v6 : BitVec 32) (v9 : BitVec 32) (k0_t22 : Fin (k0_t22_loop v6 v9).trips) (arg27 : BitVec 32) (arg29 : BitVec 32) (k0_hw16 : k0_chk16 v6 v9 k0_t22 arg27 arg29), (k0_t26_loop arg27 arg29).OK := fun v6 v9 k0_t22 arg27 arg29 k0_hw16 => k0_hw16.1
theorem k0_off85_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t26 : Fin (k0_t26_loop arg27 arg29).trips), ∀ a, (k0_off85 v6 v9 k0_t22 arg27 arg29 k0_t26) a + S1x16.size a ≤ S128x128.size a := fun v6 v9 k0_t22 arg27 arg29 k0_hw16 k0_t26 => k0_hw16.2.1 k0_t26
theorem k0_off86_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t26 : Fin (k0_t26_loop arg27 arg29).trips), ∀ a, (k0_off86 v6 v9 k0_t22 arg27 arg29 k0_t26) a + S1x16.size a ≤ S128x128.size a := fun v6 v9 k0_t22 arg27 arg29 k0_hw16 k0_t26 => k0_hw16.2.2.1 k0_t26
theorem k0_off87_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t26 : Fin (k0_t26_loop arg27 arg29).trips), ∀ a, (k0_off87 v6 v9 k0_t22 arg27 arg29 k0_t26) a + S1x16.size a ≤ S128x128.size a := fun v6 v9 k0_t22 arg27 arg29 k0_hw16 k0_t26 => k0_hw16.2.2.2.1 k0_t26
theorem k0_off88_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t26 : Fin (k0_t26_loop arg27 arg29).trips), ∀ a, (k0_off88 v6 v9 k0_t22 arg27 arg29 k0_t26) a + S1x16.size a ≤ S128x128.size a := fun v6 v9 k0_t22 arg27 arg29 k0_hw16 k0_t26 => k0_hw16.2.2.2.2.1 k0_t26
theorem k0_t27_ok : ∀ (v6 : BitVec 32) (v9 : BitVec 32) (k0_t22 : Fin (k0_t22_loop v6 v9).trips) (arg27 : BitVec 32) (arg29 : BitVec 32) (k0_hw16 : k0_chk16 v6 v9 k0_t22 arg27 arg29), (k0_t27_loop arg27 arg29).OK := fun v6 v9 k0_t22 arg27 arg29 k0_hw16 => k0_hw16.2.2.2.2.2.1
theorem k0_off89_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t27 : Fin (k0_t27_loop arg27 arg29).trips), ∀ a, (k0_off89 v6 v9 k0_t22 arg27 arg29 k0_t27) a + S1x16.size a ≤ S128x128.size a := fun v6 v9 k0_t22 arg27 arg29 k0_hw16 k0_t27 => k0_hw16.2.2.2.2.2.2.1 k0_t27
theorem k0_off90_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t27 : Fin (k0_t27_loop arg27 arg29).trips), ∀ a, (k0_off90 v6 v9 k0_t22 arg27 arg29 k0_t27) a + S1x16.size a ≤ S128x128.size a := fun v6 v9 k0_t22 arg27 arg29 k0_hw16 k0_t27 => k0_hw16.2.2.2.2.2.2.2.1 k0_t27
theorem k0_off91_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t27 : Fin (k0_t27_loop arg27 arg29).trips), ∀ a, (k0_off91 v6 v9 k0_t22 arg27 arg29 k0_t27) a + S1x16.size a ≤ S128x128.size a := fun v6 v9 k0_t22 arg27 arg29 k0_hw16 k0_t27 => k0_hw16.2.2.2.2.2.2.2.2.1 k0_t27
theorem k0_off92_inb : ∀ (v6 : BitVec 32) (v9 : BitVec 32) (k0_t22 : Fin (k0_t22_loop v6 v9).trips) (arg27 : BitVec 32) (arg29 : BitVec 32) (k0_hw16 : k0_chk16 v6 v9 k0_t22 arg27 arg29) (k0_t27 : Fin (k0_t27_loop arg27 arg29).trips), ∀ a, (k0_off92 v6 v9 k0_t22 arg27 arg29 k0_t27) a + S1x16.size a ≤ S128x128.size a := fun v6 v9 k0_t22 arg27 arg29 k0_hw16 k0_t27 => k0_hw16.2.2.2.2.2.2.2.2.2 k0_t27

def k0_off93 (arg28 : BitVec 32) : Fin 1 → Nat :=
  let v129 : Index := Scalar.indexCast arg28
  ![v129.toNat]

def k0_off94 (arg28 : BitVec 32) : Fin 2 → Nat :=
  let v144 : Index := Scalar.indexCast arg28
  let c0_61 : Index := 0#32
  ![v144.toNat, 0]
def k0_off95 (arg28 : BitVec 32) : Fin 2 → Nat :=
  let v151 : Index := Scalar.indexCast arg28
  let c16_63 : Index := 16#32
  ![v151.toNat, 16]
def k0_off96 (arg28 : BitVec 32) : Fin 2 → Nat :=
  let v158 : Index := Scalar.indexCast arg28
  let c32_65 : Index := 32#32
  ![v158.toNat, 32]
def k0_off97 (arg28 : BitVec 32) : Fin 2 → Nat :=
  let v165 : Index := Scalar.indexCast arg28
  let c48_67 : Index := 48#32
  ![v165.toNat, 48]

def k0_chk17 (arg28 : BitVec 32) : Prop :=
  (∀ a, (k0_off93 arg28) a + S16.size a ≤ S536.size a) ∧
  (∀ a, (k0_off94 arg28) a + S1x16.size a ≤ S512x64.size a) ∧
  (∀ a, (k0_off95 arg28) a + S1x16.size a ≤ S512x64.size a) ∧
  (∀ a, (k0_off96 arg28) a + S1x16.size a ≤ S512x64.size a) ∧
  (∀ a, (k0_off97 arg28) a + S1x16.size a ≤ S512x64.size a)
theorem k0_off93_inb : ∀ (arg28 : BitVec 32) (k0_hw17 : k0_chk17 arg28), ∀ a, (k0_off93 arg28) a + S16.size a ≤ S536.size a := fun arg28 k0_hw17 => k0_hw17.1
theorem k0_off94_inb : ∀ (arg28 : BitVec 32) (k0_hw17 : k0_chk17 arg28), ∀ a, (k0_off94 arg28) a + S1x16.size a ≤ S512x64.size a := fun arg28 k0_hw17 => k0_hw17.2.1
theorem k0_off95_inb : ∀ (arg28 : BitVec 32) (k0_hw17 : k0_chk17 arg28), ∀ a, (k0_off95 arg28) a + S1x16.size a ≤ S512x64.size a := fun arg28 k0_hw17 => k0_hw17.2.2.1
theorem k0_off96_inb : ∀ (arg28 : BitVec 32) (k0_hw17 : k0_chk17 arg28), ∀ a, (k0_off96 arg28) a + S1x16.size a ≤ S512x64.size a := fun arg28 k0_hw17 => k0_hw17.2.2.2.1
theorem k0_off97_inb : ∀ (arg28 : BitVec 32) (k0_hw17 : k0_chk17 arg28), ∀ a, (k0_off97 arg28) a + S1x16.size a ≤ S512x64.size a := fun arg28 k0_hw17 => k0_hw17.2.2.2.2

@[reducible] def k0_t28_loop (arg20 : BitVec 32) (v64 : BitVec 32) : Scf.Loop 32 :=
  let c0_i32_26 : BitVec 32 := 0#32
  let v65 : BitVec 32 := Scalar.subi v64 arg20
  let v66 : BitVec 32 := Scalar.subi v65 c0_i32_26
  let c1_i32_27 : BitVec 32 := 1#32
  let v68 : BitVec 32 := Scalar.divsi v66 c1_i32_27
  let v69 : BitVec 32 := Scalar.muli v68 c1_i32_27
  let v70 : BitVec 32 := Scalar.addi c0_i32_26 v69
  let v67 : BitVec 32 := Scalar.addi c0_i32_26 v66
  let c1_i32_29 : BitVec 32 := 1#32
  ⟨v70, v67, c1_i32_29⟩

def k0_chk15 (arg20 : BitVec 32) (v64 : BitVec 32) : Prop :=
  ((k0_t25_loop arg20 v64).OK) ∧
  ((k0_t28_loop arg20 v64).OK)
theorem k0_t25_ok : ∀ (arg20 : BitVec 32) (v64 : BitVec 32) (k0_hw15 : k0_chk15 arg20 v64), (k0_t25_loop arg20 v64).OK := fun arg20 v64 k0_hw15 => k0_hw15.1
theorem k0_t28_ok : ∀ (arg20 : BitVec 32) (v64 : BitVec 32) (k0_hw15 : k0_chk15 arg20 v64), (k0_t28_loop arg20 v64).OK := fun arg20 v64 k0_hw15 => k0_hw15.2

@[reducible] def k0_t29_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off98 (v6 : BitVec 32) (v9 : BitVec 32) (k0_t22 : Fin (k0_t22_loop v6 v9).trips) (arg27 : BitVec 32) (arg29 : BitVec 32) (k0_t29 : Fin (k0_t29_loop arg27 arg29).trips) : Fin 2 → Nat :=
  let c1_i32_55 : BitVec 32 := 1#32
  let arg34 : BitVec 32 := Scf.iv arg27 c1_i32_55 k0_t29
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off99 (v6 : BitVec 32) (v9 : BitVec 32) (k0_t22 : Fin (k0_t22_loop v6 v9).trips) (arg27 : BitVec 32) (arg29 : BitVec 32) (k0_t29 : Fin (k0_t29_loop arg27 arg29).trips) : Fin 2 → Nat :=
  let c1_i32_55 : BitVec 32 := 1#32
  let arg34 : BitVec 32 := Scf.iv arg27 c1_i32_55 k0_t29
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off100 (v6 : BitVec 32) (v9 : BitVec 32) (k0_t22 : Fin (k0_t22_loop v6 v9).trips) (arg27 : BitVec 32) (arg29 : BitVec 32) (k0_t29 : Fin (k0_t29_loop arg27 arg29).trips) : Fin 2 → Nat :=
  let c1_i32_55 : BitVec 32 := 1#32
  let arg34 : BitVec 32 := Scf.iv arg27 c1_i32_55 k0_t29
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off101 (v6 : BitVec 32) (v9 : BitVec 32) (k0_t22 : Fin (k0_t22_loop v6 v9).trips) (arg27 : BitVec 32) (arg29 : BitVec 32) (k0_t29 : Fin (k0_t29_loop arg27 arg29).trips) : Fin 2 → Nat :=
  let c1_i32_55 : BitVec 32 := 1#32
  let arg34 : BitVec 32 := Scf.iv arg27 c1_i32_55 k0_t29
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]
@[reducible] def k0_t30_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off102 (v6 : BitVec 32) (v9 : BitVec 32) (k0_t22 : Fin (k0_t22_loop v6 v9).trips) (arg27 : BitVec 32) (arg29 : BitVec 32) (k0_t30 : Fin (k0_t30_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t30
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v171 : Index := Scalar.indexCast v170
  let c0_69 : Index := 0#32
  ![v171.toNat, 0]
def k0_off103 (v6 : BitVec 32) (v9 : BitVec 32) (k0_t22 : Fin (k0_t22_loop v6 v9).trips) (arg27 : BitVec 32) (arg29 : BitVec 32) (k0_t30 : Fin (k0_t30_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t30
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v174 : Index := Scalar.indexCast v170
  let c16_70 : Index := 16#32
  ![v174.toNat, 16]
def k0_off104 (v6 : BitVec 32) (v9 : BitVec 32) (k0_t22 : Fin (k0_t22_loop v6 v9).trips) (arg27 : BitVec 32) (arg29 : BitVec 32) (k0_t30 : Fin (k0_t30_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t30
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v177 : Index := Scalar.indexCast v170
  let c32_71 : Index := 32#32
  ![v177.toNat, 32]
def k0_off105 (v6 : BitVec 32) (v9 : BitVec 32) (k0_t22 : Fin (k0_t22_loop v6 v9).trips) (arg27 : BitVec 32) (arg29 : BitVec 32) (k0_t30 : Fin (k0_t30_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t30
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v170 : BitVec 32 := Scalar.subi arg34 v55
  let v180 : Index := Scalar.indexCast v170
  let c48_72 : Index := 48#32
  ![v180.toNat, 48]

def k0_chk18 (v6 : BitVec 32) (v9 : BitVec 32) (k0_t22 : Fin (k0_t22_loop v6 v9).trips) (arg27 : BitVec 32) (arg29 : BitVec 32) : Prop :=
  ((k0_t29_loop arg27 arg29).OK) ∧
  (∀ k0_t29 : Fin (k0_t29_loop arg27 arg29).trips, ∀ a, (k0_off98 v6 v9 k0_t22 arg27 arg29 k0_t29) a + S1x16.size a ≤ S128x128.size a) ∧
  (∀ k0_t29 : Fin (k0_t29_loop arg27 arg29).trips, ∀ a, (k0_off99 v6 v9 k0_t22 arg27 arg29 k0_t29) a + S1x16.size a ≤ S128x128.size a) ∧
  (∀ k0_t29 : Fin (k0_t29_loop arg27 arg29).trips, ∀ a, (k0_off100 v6 v9 k0_t22 arg27 arg29 k0_t29) a + S1x16.size a ≤ S128x128.size a) ∧
  (∀ k0_t29 : Fin (k0_t29_loop arg27 arg29).trips, ∀ a, (k0_off101 v6 v9 k0_t22 arg27 arg29 k0_t29) a + S1x16.size a ≤ S128x128.size a) ∧
  ((k0_t30_loop arg27 arg29).OK) ∧
  (∀ k0_t30 : Fin (k0_t30_loop arg27 arg29).trips, ∀ a, (k0_off102 v6 v9 k0_t22 arg27 arg29 k0_t30) a + S1x16.size a ≤ S128x128.size a) ∧
  (∀ k0_t30 : Fin (k0_t30_loop arg27 arg29).trips, ∀ a, (k0_off103 v6 v9 k0_t22 arg27 arg29 k0_t30) a + S1x16.size a ≤ S128x128.size a) ∧
  (∀ k0_t30 : Fin (k0_t30_loop arg27 arg29).trips, ∀ a, (k0_off104 v6 v9 k0_t22 arg27 arg29 k0_t30) a + S1x16.size a ≤ S128x128.size a) ∧
  (∀ k0_t30 : Fin (k0_t30_loop arg27 arg29).trips, ∀ a, (k0_off105 v6 v9 k0_t22 arg27 arg29 k0_t30) a + S1x16.size a ≤ S128x128.size a)
theorem k0_t29_ok : ∀ (v6 : BitVec 32) (v9 : BitVec 32) (k0_t22 : Fin (k0_t22_loop v6 v9).trips) (arg27 : BitVec 32) (arg29 : BitVec 32) (k0_hw18 : k0_chk18 v6 v9 k0_t22 arg27 arg29), (k0_t29_loop arg27 arg29).OK := fun v6 v9 k0_t22 arg27 arg29 k0_hw18 => k0_hw18.1
theorem k0_off98_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t29 : Fin (k0_t29_loop arg27 arg29).trips), ∀ a, (k0_off98 v6 v9 k0_t22 arg27 arg29 k0_t29) a + S1x16.size a ≤ S128x128.size a := fun v6 v9 k0_t22 arg27 arg29 k0_hw18 k0_t29 => k0_hw18.2.1 k0_t29
theorem k0_off99_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t29 : Fin (k0_t29_loop arg27 arg29).trips), ∀ a, (k0_off99 v6 v9 k0_t22 arg27 arg29 k0_t29) a + S1x16.size a ≤ S128x128.size a := fun v6 v9 k0_t22 arg27 arg29 k0_hw18 k0_t29 => k0_hw18.2.2.1 k0_t29
theorem k0_off100_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t29 : Fin (k0_t29_loop arg27 arg29).trips), ∀ a, (k0_off100 v6 v9 k0_t22 arg27 arg29 k0_t29) a + S1x16.size a ≤ S128x128.size a := fun v6 v9 k0_t22 arg27 arg29 k0_hw18 k0_t29 => k0_hw18.2.2.2.1 k0_t29
theorem k0_off101_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t29 : Fin (k0_t29_loop arg27 arg29).trips), ∀ a, (k0_off101 v6 v9 k0_t22 arg27 arg29 k0_t29) a + S1x16.size a ≤ S128x128.size a := fun v6 v9 k0_t22 arg27 arg29 k0_hw18 k0_t29 => k0_hw18.2.2.2.2.1 k0_t29
theorem k0_t30_ok : ∀ (v6 : BitVec 32) (v9 : BitVec 32) (k0_t22 : Fin (k0_t22_loop v6 v9).trips) (arg27 : BitVec 32) (arg29 : BitVec 32) (k0_hw18 : k0_chk18 v6 v9 k0_t22 arg27 arg29), (k0_t30_loop arg27 arg29).OK := fun v6 v9 k0_t22 arg27 arg29 k0_hw18 => k0_hw18.2.2.2.2.2.1
theorem k0_off102_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t30 : Fin (k0_t30_loop arg27 arg29).trips), ∀ a, (k0_off102 v6 v9 k0_t22 arg27 arg29 k0_t30) a + S1x16.size a ≤ S128x128.size a := fun v6 v9 k0_t22 arg27 arg29 k0_hw18 k0_t30 => k0_hw18.2.2.2.2.2.2.1 k0_t30
theorem k0_off103_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t30 : Fin (k0_t30_loop arg27 arg29).trips), ∀ a, (k0_off103 v6 v9 k0_t22 arg27 arg29 k0_t30) a + S1x16.size a ≤ S128x128.size a := fun v6 v9 k0_t22 arg27 arg29 k0_hw18 k0_t30 => k0_hw18.2.2.2.2.2.2.2.1 k0_t30
theorem k0_off104_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t30 : Fin (k0_t30_loop arg27 arg29).trips), ∀ a, (k0_off104 v6 v9 k0_t22 arg27 arg29 k0_t30) a + S1x16.size a ≤ S128x128.size a := fun v6 v9 k0_t22 arg27 arg29 k0_hw18 k0_t30 => k0_hw18.2.2.2.2.2.2.2.2.1 k0_t30
theorem k0_off105_inb : ∀ (v6 : BitVec 32) (v9 : BitVec 32) (k0_t22 : Fin (k0_t22_loop v6 v9).trips) (arg27 : BitVec 32) (arg29 : BitVec 32) (k0_hw18 : k0_chk18 v6 v9 k0_t22 arg27 arg29) (k0_t30 : Fin (k0_t30_loop arg27 arg29).trips), ∀ a, (k0_off105 v6 v9 k0_t22 arg27 arg29 k0_t30) a + S1x16.size a ≤ S128x128.size a := fun v6 v9 k0_t22 arg27 arg29 k0_hw18 k0_t30 => k0_hw18.2.2.2.2.2.2.2.2.2 k0_t30

def k0_off106 (arg28 : BitVec 32) : Fin 1 → Nat :=
  let v129 : Index := Scalar.indexCast arg28
  ![v129.toNat]

def k0_off107 (arg28 : BitVec 32) : Fin 2 → Nat :=
  let v144 : Index := Scalar.indexCast arg28
  let c0_61 : Index := 0#32
  ![v144.toNat, 0]
def k0_off108 (arg28 : BitVec 32) : Fin 2 → Nat :=
  let v151 : Index := Scalar.indexCast arg28
  let c16_63 : Index := 16#32
  ![v151.toNat, 16]
def k0_off109 (arg28 : BitVec 32) : Fin 2 → Nat :=
  let v158 : Index := Scalar.indexCast arg28
  let c32_65 : Index := 32#32
  ![v158.toNat, 32]
def k0_off110 (arg28 : BitVec 32) : Fin 2 → Nat :=
  let v165 : Index := Scalar.indexCast arg28
  let c48_67 : Index := 48#32
  ![v165.toNat, 48]

def k0_chk19 (arg28 : BitVec 32) : Prop :=
  (∀ a, (k0_off106 arg28) a + S16.size a ≤ S536.size a) ∧
  (∀ a, (k0_off107 arg28) a + S1x16.size a ≤ S512x64.size a) ∧
  (∀ a, (k0_off108 arg28) a + S1x16.size a ≤ S512x64.size a) ∧
  (∀ a, (k0_off109 arg28) a + S1x16.size a ≤ S512x64.size a) ∧
  (∀ a, (k0_off110 arg28) a + S1x16.size a ≤ S512x64.size a)
theorem k0_off106_inb : ∀ (arg28 : BitVec 32) (k0_hw19 : k0_chk19 arg28), ∀ a, (k0_off106 arg28) a + S16.size a ≤ S536.size a := fun arg28 k0_hw19 => k0_hw19.1
theorem k0_off107_inb : ∀ (arg28 : BitVec 32) (k0_hw19 : k0_chk19 arg28), ∀ a, (k0_off107 arg28) a + S1x16.size a ≤ S512x64.size a := fun arg28 k0_hw19 => k0_hw19.2.1
theorem k0_off108_inb : ∀ (arg28 : BitVec 32) (k0_hw19 : k0_chk19 arg28), ∀ a, (k0_off108 arg28) a + S1x16.size a ≤ S512x64.size a := fun arg28 k0_hw19 => k0_hw19.2.2.1
theorem k0_off109_inb : ∀ (arg28 : BitVec 32) (k0_hw19 : k0_chk19 arg28), ∀ a, (k0_off109 arg28) a + S1x16.size a ≤ S512x64.size a := fun arg28 k0_hw19 => k0_hw19.2.2.2.1
theorem k0_off110_inb : ∀ (arg28 : BitVec 32) (k0_hw19 : k0_chk19 arg28), ∀ a, (k0_off110 arg28) a + S1x16.size a ≤ S512x64.size a := fun arg28 k0_hw19 => k0_hw19.2.2.2.2

@[reducible] def k0_t31_loop (v6 : BitVec 32) (v9 : BitVec 32) (k0_t22 : Fin (k0_t22_loop v6 v9).trips) (v72_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_31 : BitVec 32 := 1#32
  ⟨v73, v78, c1_i32_31⟩

def k0_off111 (v6 : BitVec 32) (v9 : BitVec 32) (k0_t22 : Fin (k0_t22_loop v6 v9).trips) (v72_0 : BitVec 32) (k0_t31 : Fin (k0_t31_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t31
  let v122 : BitVec 32 := Scalar.subi arg26 v55
  let v123 : Index := Scalar.indexCast v122
  let c0_54 : Index := 0#32
  ![v123.toNat, 0]
def k0_off112 (v6 : BitVec 32) (v9 : BitVec 32) (k0_t22 : Fin (k0_t22_loop v6 v9).trips) (v72_0 : BitVec 32) (k0_t31 : Fin (k0_t31_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t31
  let v122 : BitVec 32 := Scalar.subi arg26 v55
  let v126 : Index := Scalar.indexCast v122
  let c16 : Index := 16#32
  ![v126.toNat, 16]
def k0_off113 (v6 : BitVec 32) (v9 : BitVec 32) (k0_t22 : Fin (k0_t22_loop v6 v9).trips) (v72_0 : BitVec 32) (k0_t31 : Fin (k0_t31_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t31
  let v122 : BitVec 32 := Scalar.subi arg26 v55
  let v129 : Index := Scalar.indexCast v122
  let c32 : Index := 32#32
  ![v129.toNat, 32]
def k0_off114 (v6 : BitVec 32) (v9 : BitVec 32) (k0_t22 : Fin (k0_t22_loop v6 v9).trips) (v72_0 : BitVec 32) (k0_t31 : Fin (k0_t31_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c1_i32_31 : BitVec 32 := 1#32
  let arg26 : BitVec 32 := Scf.iv v73 c1_i32_31 k0_t31
  let v122 : BitVec 32 := Scalar.subi arg26 v55
  let v132 : Index := Scalar.indexCast v122
  let c48 : Index := 48#32
  ![v132.toNat, 48]
@[reducible] def k0_t32_loop (v6 : BitVec 32) (v9 : BitVec 32) (k0_t22 : Fin (k0_t22_loop v6 v9).trips) (v72_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let v75 : BitVec 32 := Scalar.addi v73 v74
  let c1_i32_32 : BitVec 32 := 1#32
  ⟨v78, v75, c1_i32_32⟩
def k0_off115 (v6 : BitVec 32) (v9 : BitVec 32) (k0_t22 : Fin (k0_t22_loop v6 v9).trips) (v72_0 : BitVec 32) (k0_t32 : Fin (k0_t32_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t32
  let v122 : BitVec 32 := Scalar.subi arg26 v55
  let v123 : Index := Scalar.indexCast v122
  let c0_54 : Index := 0#32
  ![v123.toNat, 0]
def k0_off116 (v6 : BitVec 32) (v9 : BitVec 32) (k0_t22 : Fin (k0_t22_loop v6 v9).trips) (v72_0 : BitVec 32) (k0_t32 : Fin (k0_t32_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t32
  let v122 : BitVec 32 := Scalar.subi arg26 v55
  let v126 : Index := Scalar.indexCast v122
  let c16 : Index := 16#32
  ![v126.toNat, 16]
def k0_off117 (v6 : BitVec 32) (v9 : BitVec 32) (k0_t22 : Fin (k0_t22_loop v6 v9).trips) (v72_0 : BitVec 32) (k0_t32 : Fin (k0_t32_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t32
  let v122 : BitVec 32 := Scalar.subi arg26 v55
  let v129 : Index := Scalar.indexCast v122
  let c32 : Index := 32#32
  ![v129.toNat, 32]
def k0_off118 (v6 : BitVec 32) (v9 : BitVec 32) (k0_t22 : Fin (k0_t22_loop v6 v9).trips) (v72_0 : BitVec 32) (k0_t32 : Fin (k0_t32_loop v6 v9 k0_t22 v72_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c128_i32_19 : BitVec 32 := 128#32
  let v54 : BitVec 32 := Scalar.muli v42 c128_i32_19
  let v55 : BitVec 32 := Scalar.addi v11 v54
  let v73 : BitVec 32 := Scalar.maxsi v72_0 v55
  let c128_i32_20 : BitVec 32 := 128#32
  let v56 : BitVec 32 := Scalar.addi v55 c128_i32_20
  let v57 : BitVec 32 := Scalar.minsi v56 v9
  let v74 : BitVec 32 := Scalar.subi v57 v73
  let c1_i32_30 : BitVec 32 := 1#32
  let v76 : BitVec 32 := Scalar.divsi v74 c1_i32_30
  let v77 : BitVec 32 := Scalar.muli v76 c1_i32_30
  let v78 : BitVec 32 := Scalar.addi v73 v77
  let c1_i32_32 : BitVec 32 := 1#32
  let arg26 : BitVec 32 := Scf.iv v78 c1_i32_32 k0_t32
  let v122 : BitVec 32 := Scalar.subi arg26 v55
  let v132 : Index := Scalar.indexCast v122
  let c48 : Index := 48#32
  ![v132.toNat, 48]

def k0_chk20 (v6 : BitVec 32) (v9 : BitVec 32) (k0_t22 : Fin (k0_t22_loop v6 v9).trips) (v72_0 : BitVec 32) : Prop :=
  ((k0_t31_loop v6 v9 k0_t22 v72_0).OK) ∧
  (∀ k0_t31 : Fin (k0_t31_loop v6 v9 k0_t22 v72_0).trips, ∀ a, (k0_off111 v6 v9 k0_t22 v72_0 k0_t31) a + S1x16.size a ≤ S128x128.size a) ∧
  (∀ k0_t31 : Fin (k0_t31_loop v6 v9 k0_t22 v72_0).trips, ∀ a, (k0_off112 v6 v9 k0_t22 v72_0 k0_t31) a + S1x16.size a ≤ S128x128.size a) ∧
  (∀ k0_t31 : Fin (k0_t31_loop v6 v9 k0_t22 v72_0).trips, ∀ a, (k0_off113 v6 v9 k0_t22 v72_0 k0_t31) a + S1x16.size a ≤ S128x128.size a) ∧
  (∀ k0_t31 : Fin (k0_t31_loop v6 v9 k0_t22 v72_0).trips, ∀ a, (k0_off114 v6 v9 k0_t22 v72_0 k0_t31) a + S1x16.size a ≤ S128x128.size a) ∧
  ((k0_t32_loop v6 v9 k0_t22 v72_0).OK) ∧
  (∀ k0_t32 : Fin (k0_t32_loop v6 v9 k0_t22 v72_0).trips, ∀ a, (k0_off115 v6 v9 k0_t22 v72_0 k0_t32) a + S1x16.size a ≤ S128x128.size a) ∧
  (∀ k0_t32 : Fin (k0_t32_loop v6 v9 k0_t22 v72_0).trips, ∀ a, (k0_off116 v6 v9 k0_t22 v72_0 k0_t32) a + S1x16.size a ≤ S128x128.size a) ∧
  (∀ k0_t32 : Fin (k0_t32_loop v6 v9 k0_t22 v72_0).trips, ∀ a, (k0_off117 v6 v9 k0_t22 v72_0 k0_t32) a + S1x16.size a ≤ S128x128.size a) ∧
  (∀ k0_t32 : Fin (k0_t32_loop v6 v9 k0_t22 v72_0).trips, ∀ a, (k0_off118 v6 v9 k0_t22 v72_0 k0_t32) a + S1x16.size a ≤ S128x128.size a)
theorem k0_t31_ok : ∀ (v6 : BitVec 32) (v9 : BitVec 32) (k0_t22 : Fin (k0_t22_loop v6 v9).trips) (v72_0 : BitVec 32) (k0_hw20 : k0_chk20 v6 v9 k0_t22 v72_0), (k0_t31_loop v6 v9 k0_t22 v72_0).OK := fun v6 v9 k0_t22 v72_0 k0_hw20 => k0_hw20.1
theorem k0_off111_inb : ∀ (v6 : BitVec 32) (v9 : BitVec 32) (k0_t22 : Fin (k0_t22_loop v6 v9).trips) (v72_0 : BitVec 32) (k0_hw20 : k0_chk20 v6 v9 k0_t22 v72_0) (k0_t31 : Fin (k0_t31_loop v6 v9 k0_t22 v72_0).trips), ∀ a, (k0_off111 v6 v9 k0_t22 v72_0 k0_t31) a + S1x16.size a ≤ S128x128.size a := fun v6 v9 k0_t22 v72_0 k0_hw20 k0_t31 => k0_hw20.2.1 k0_t31
theorem k0_off112_inb : ∀ (v6 : BitVec 32) (v9 : BitVec 32) (k0_t22 : Fin (k0_t22_loop v6 v9).trips) (v72_0 : BitVec 32) (k0_hw20 : k0_chk20 v6 v9 k0_t22 v72_0) (k0_t31 : Fin (k0_t31_loop v6 v9 k0_t22 v72_0).trips), ∀ a, (k0_off112 v6 v9 k0_t22 v72_0 k0_t31) a + S1x16.size a ≤ S128x128.size a := fun v6 v9 k0_t22 v72_0 k0_hw20 k0_t31 => k0_hw20.2.2.1 k0_t31
theorem k0_off113_inb : ∀ (v6 : BitVec 32) (v9 : BitVec 32) (k0_t22 : Fin (k0_t22_loop v6 v9).trips) (v72_0 : BitVec 32) (k0_hw20 : k0_chk20 v6 v9 k0_t22 v72_0) (k0_t31 : Fin (k0_t31_loop v6 v9 k0_t22 v72_0).trips), ∀ a, (k0_off113 v6 v9 k0_t22 v72_0 k0_t31) a + S1x16.size a ≤ S128x128.size a := fun v6 v9 k0_t22 v72_0 k0_hw20 k0_t31 => k0_hw20.2.2.2.1 k0_t31
theorem k0_off114_inb : ∀ (v6 : BitVec 32) (v9 : BitVec 32) (k0_t22 : Fin (k0_t22_loop v6 v9).trips) (v72_0 : BitVec 32) (k0_hw20 : k0_chk20 v6 v9 k0_t22 v72_0) (k0_t31 : Fin (k0_t31_loop v6 v9 k0_t22 v72_0).trips), ∀ a, (k0_off114 v6 v9 k0_t22 v72_0 k0_t31) a + S1x16.size a ≤ S128x128.size a := fun v6 v9 k0_t22 v72_0 k0_hw20 k0_t31 => k0_hw20.2.2.2.2.1 k0_t31
theorem k0_t32_ok : ∀ (v6 : BitVec 32) (v9 : BitVec 32) (k0_t22 : Fin (k0_t22_loop v6 v9).trips) (v72_0 : BitVec 32) (k0_hw20 : k0_chk20 v6 v9 k0_t22 v72_0), (k0_t32_loop v6 v9 k0_t22 v72_0).OK := fun v6 v9 k0_t22 v72_0 k0_hw20 => k0_hw20.2.2.2.2.2.1
theorem k0_off115_inb : ∀ (v6 : BitVec 32) (v9 : BitVec 32) (k0_t22 : Fin (k0_t22_loop v6 v9).trips) (v72_0 : BitVec 32) (k0_hw20 : k0_chk20 v6 v9 k0_t22 v72_0) (k0_t32 : Fin (k0_t32_loop v6 v9 k0_t22 v72_0).trips), ∀ a, (k0_off115 v6 v9 k0_t22 v72_0 k0_t32) a + S1x16.size a ≤ S128x128.size a := fun v6 v9 k0_t22 v72_0 k0_hw20 k0_t32 => k0_hw20.2.2.2.2.2.2.1 k0_t32
theorem k0_off116_inb : ∀ (v6 : BitVec 32) (v9 : BitVec 32) (k0_t22 : Fin (k0_t22_loop v6 v9).trips) (v72_0 : BitVec 32) (k0_hw20 : k0_chk20 v6 v9 k0_t22 v72_0) (k0_t32 : Fin (k0_t32_loop v6 v9 k0_t22 v72_0).trips), ∀ a, (k0_off116 v6 v9 k0_t22 v72_0 k0_t32) a + S1x16.size a ≤ S128x128.size a := fun v6 v9 k0_t22 v72_0 k0_hw20 k0_t32 => k0_hw20.2.2.2.2.2.2.2.1 k0_t32
theorem k0_off117_inb : ∀ (v6 : BitVec 32) (v9 : BitVec 32) (k0_t22 : Fin (k0_t22_loop v6 v9).trips) (v72_0 : BitVec 32) (k0_hw20 : k0_chk20 v6 v9 k0_t22 v72_0) (k0_t32 : Fin (k0_t32_loop v6 v9 k0_t22 v72_0).trips), ∀ a, (k0_off117 v6 v9 k0_t22 v72_0 k0_t32) a + S1x16.size a ≤ S128x128.size a := fun v6 v9 k0_t22 v72_0 k0_hw20 k0_t32 => k0_hw20.2.2.2.2.2.2.2.2.1 k0_t32
theorem k0_off118_inb : ∀ (v6 : BitVec 32) (v9 : BitVec 32) (k0_t22 : Fin (k0_t22_loop v6 v9).trips) (v72_0 : BitVec 32) (k0_hw20 : k0_chk20 v6 v9 k0_t22 v72_0) (k0_t32 : Fin (k0_t32_loop v6 v9 k0_t22 v72_0).trips), ∀ a, (k0_off118 v6 v9 k0_t22 v72_0 k0_t32) a + S1x16.size a ≤ S128x128.size a := fun v6 v9 k0_t22 v72_0 k0_hw20 k0_t32 => k0_hw20.2.2.2.2.2.2.2.2.2 k0_t32

def k0_mult12 (v6 : BitVec 32) (v9 : BitVec 32) (k0_t22 : Fin (k0_t22_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c2_i32_54 : BitVec 32 := 2#32
  let v122 : BitVec 32 := Scalar.addi v82 c2_i32_54
  let c128_i32_55 : BitVec 32 := 128#32
  let v123 : BitVec 32 := Scalar.muli v122 c128_i32_55
  let v124 : BitVec 32 := Scalar.addi v11 v123
  v124
def k0_cond12 (v6 : BitVec 32) (v9 : BitVec 32) (k0_t22 : Fin (k0_t22_loop v6 v9).trips) : BitVec 1 :=
  let c0_i32_8 : BitVec 32 := 0#32
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c2_i32_35 : BitVec 32 := 2#32
  let v86 : BitVec 32 := Scalar.addi v82 c2_i32_35
  let v87 : BitVec 1 := Scalar.cmpi .slt v86 v15
  let v88 : BitVec 32 := Scalar.extui v87
  let c0_i32_36 : BitVec 32 := 0#32
  let v89 : BitVec 1 := Scalar.cmpi .ne v88 c0_i32_36
  v89

def k0_off119 (v6 : BitVec 32) (v9 : BitVec 32) (k0_t22 : Fin (k0_t22_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c2_i32_54 : BitVec 32 := 2#32
  let v122 : BitVec 32 := Scalar.addi v82 c2_i32_54
  let c128_i32_55 : BitVec 32 := 128#32
  let v123 : BitVec 32 := Scalar.muli v122 c128_i32_55
  let v124 : BitVec 32 := Scalar.addi v11 v123
  let v125 : BitVec 32 := v124
  ![v125.toNat]
def k0_mult13 (v6 : BitVec 32) (v9 : BitVec 32) (k0_t22 : Fin (k0_t22_loop v6 v9).trips) : BitVec 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c1_i32_54 : BitVec 32 := 1#32
  let v122 : BitVec 32 := Scalar.addi v82 c1_i32_54
  let c128_i32_55 : BitVec 32 := 128#32
  let v123 : BitVec 32 := Scalar.muli v122 c128_i32_55
  let v124 : BitVec 32 := Scalar.addi v11 v123
  v124
def k0_cond13 (v6 : BitVec 32) (v9 : BitVec 32) (k0_t22 : Fin (k0_t22_loop v6 v9).trips) : BitVec 1 :=
  let c0_i32_8 : BitVec 32 := 0#32
  let c_m8_i32 : BitVec 32 := 4294967288#32
  let v10 : BitVec 32 := Scalar.andi v6 c_m8_i32
  let v11 : BitVec 32 := v10
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c1_i32_37 : BitVec 32 := 1#32
  let v90 : BitVec 32 := Scalar.addi v82 c1_i32_37
  let v91 : BitVec 1 := Scalar.cmpi .slt v90 v15
  let v92 : BitVec 32 := Scalar.extui v91
  let c0_i32_38 : BitVec 32 := 0#32
  let v93 : BitVec 1 := Scalar.cmpi .ne v92 c0_i32_38
  v93

def k0_off120 (v6 : BitVec 32) (v9 : BitVec 32) (k0_t22 : Fin (k0_t22_loop v6 v9).trips) : Fin 1 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c1_i32_54 : BitVec 32 := 1#32
  let v122 : BitVec 32 := Scalar.addi v82 c1_i32_54
  let c128_i32_55 : BitVec 32 := 128#32
  let v123 : BitVec 32 := Scalar.muli v122 c128_i32_55
  let v124 : BitVec 32 := Scalar.addi v11 v123
  let v125 : BitVec 32 := v124
  ![v125.toNat]

def k0_chk2 (v6 : BitVec 32) (v9 : BitVec 32) : Prop :=
  (∀ (k0_h1 : k0_cond1 v6 v9 = 1#1), 8 ∣ (k0_mult4 v6).toNat) ∧
  (∀ (k0_h1 : k0_cond1 v6 v9 = 1#1), ∀ a, (k0_off3 v6) a + S128.size a ≤ S327808.size a) ∧
  ((k0_t1_loop v6 v9).OK) ∧
  (∀ k0_t1 : Fin (k0_t1_loop v6 v9).trips, ∀ (k0_h3 : k0_cond3 v6 v9 k0_t1 = 1#1), 8 ∣ (k0_mult6 v6 v9 k0_t1).toNat) ∧
  (∀ k0_t1 : Fin (k0_t1_loop v6 v9).trips, ∀ (k0_h3 : k0_cond3 v6 v9 k0_t1 = 1#1), ∀ a, (k0_off5 v6 v9 k0_t1) a + S128.size a ≤ S327808.size a) ∧
  (∀ k0_t1 : Fin (k0_t1_loop v6 v9).trips, ∀ (k0_h4 : k0_cond4 v6 v9 k0_t1 = 1#1), 8 ∣ (k0_mult7 v6 v9 k0_t1).toNat) ∧
  (∀ k0_t1 : Fin (k0_t1_loop v6 v9).trips, ∀ (k0_h4 : k0_cond4 v6 v9 k0_t1 = 1#1), ∀ a, (k0_off6 v6 v9 k0_t1) a + S128.size a ≤ S327808.size a) ∧
  (∀ k0_t1 : Fin (k0_t1_loop v6 v9).trips, ∀ (k0_h6 : k0_cond6 v6 v9 k0_t1 = 1#1), 8 ∣ (k0_mult8 v6 v9 k0_t1).toNat) ∧
  (∀ k0_t1 : Fin (k0_t1_loop v6 v9).trips, ∀ (k0_h6 : k0_cond6 v6 v9 k0_t1 = 1#1), ∀ a, (k0_off43 v6 v9 k0_t1) a + S128.size a ≤ S327808.size a) ∧
  (∀ k0_t1 : Fin (k0_t1_loop v6 v9).trips, ∀ (k0_h7 : k0_cond7 v6 v9 k0_t1 = 1#1), 8 ∣ (k0_mult9 v6 v9 k0_t1).toNat) ∧
  (∀ k0_t1 : Fin (k0_t1_loop v6 v9).trips, ∀ (k0_h7 : k0_cond7 v6 v9 k0_t1 = 1#1), ∀ a, (k0_off44 v6 v9 k0_t1) a + S128.size a ≤ S327808.size a) ∧
  ((k0_t22_loop v6 v9).OK) ∧
  (∀ k0_t22 : Fin (k0_t22_loop v6 v9).trips, ∀ (k0_h9 : k0_cond9 v6 v9 k0_t22 = 1#1), 8 ∣ (k0_mult10 v6 v9 k0_t22).toNat) ∧
  (∀ k0_t22 : Fin (k0_t22_loop v6 v9).trips, ∀ (k0_h9 : k0_cond9 v6 v9 k0_t22 = 1#1), ∀ a, (k0_off81 v6 v9 k0_t22) a + S128.size a ≤ S327808.size a) ∧
  (∀ k0_t22 : Fin (k0_t22_loop v6 v9).trips, ∀ (k0_h10 : k0_cond10 v6 v9 k0_t22 = 1#1), 8 ∣ (k0_mult11 v6 v9 k0_t22).toNat) ∧
  (∀ k0_t22 : Fin (k0_t22_loop v6 v9).trips, ∀ (k0_h10 : k0_cond10 v6 v9 k0_t22 = 1#1), ∀ a, (k0_off82 v6 v9 k0_t22) a + S128.size a ≤ S327808.size a) ∧
  (∀ k0_t22 : Fin (k0_t22_loop v6 v9).trips, ∀ (k0_h12 : k0_cond12 v6 v9 k0_t22 = 1#1), 8 ∣ (k0_mult12 v6 v9 k0_t22).toNat) ∧
  (∀ k0_t22 : Fin (k0_t22_loop v6 v9).trips, ∀ (k0_h12 : k0_cond12 v6 v9 k0_t22 = 1#1), ∀ a, (k0_off119 v6 v9 k0_t22) a + S128.size a ≤ S327808.size a) ∧
  (∀ k0_t22 : Fin (k0_t22_loop v6 v9).trips, ∀ (k0_h13 : k0_cond13 v6 v9 k0_t22 = 1#1), 8 ∣ (k0_mult13 v6 v9 k0_t22).toNat) ∧
  (∀ k0_t22 : Fin (k0_t22_loop v6 v9).trips, ∀ (k0_h13 : k0_cond13 v6 v9 k0_t22 = 1#1), ∀ a, (k0_off120 v6 v9 k0_t22) a + S128.size a ≤ S327808.size a)
theorem k0_mult4_dvd : ∀ (v6 : BitVec 32) (v9 : BitVec 32) (k0_hw2 : k0_chk2 v6 v9), ∀ (k0_h1 : k0_cond1 v6 v9 = 1#1), 8 ∣ (k0_mult4 v6).toNat := fun v6 v9 k0_hw2 k0_h1 => k0_hw2.1 k0_h1
theorem k0_off3_inb : ∀ (v6 : BitVec 32) (v9 : BitVec 32) (k0_hw2 : k0_chk2 v6 v9), ∀ (k0_h1 : k0_cond1 v6 v9 = 1#1), ∀ a, (k0_off3 v6) a + S128.size a ≤ S327808.size a := fun v6 v9 k0_hw2 k0_h1 => k0_hw2.2.1 k0_h1
theorem k0_t1_ok : ∀ (v6 : BitVec 32) (v9 : BitVec 32) (k0_hw2 : k0_chk2 v6 v9), (k0_t1_loop v6 v9).OK := fun v6 v9 k0_hw2 => k0_hw2.2.2.1
theorem k0_mult6_dvd : ∀ (v6 : BitVec 32) (v9 : BitVec 32) (k0_hw2 : k0_chk2 v6 v9) (k0_t1 : Fin (k0_t1_loop v6 v9).trips), ∀ (k0_h3 : k0_cond3 v6 v9 k0_t1 = 1#1), 8 ∣ (k0_mult6 v6 v9 k0_t1).toNat := fun v6 v9 k0_hw2 k0_t1 k0_h3 => k0_hw2.2.2.2.1 k0_t1 k0_h3
theorem k0_off5_inb : ∀ (v6 : BitVec 32) (v9 : BitVec 32) (k0_hw2 : k0_chk2 v6 v9) (k0_t1 : Fin (k0_t1_loop v6 v9).trips), ∀ (k0_h3 : k0_cond3 v6 v9 k0_t1 = 1#1), ∀ a, (k0_off5 v6 v9 k0_t1) a + S128.size a ≤ S327808.size a := fun v6 v9 k0_hw2 k0_t1 k0_h3 => k0_hw2.2.2.2.2.1 k0_t1 k0_h3
theorem k0_mult7_dvd : ∀ (v6 : BitVec 32) (v9 : BitVec 32) (k0_hw2 : k0_chk2 v6 v9) (k0_t1 : Fin (k0_t1_loop v6 v9).trips), ∀ (k0_h4 : k0_cond4 v6 v9 k0_t1 = 1#1), 8 ∣ (k0_mult7 v6 v9 k0_t1).toNat := fun v6 v9 k0_hw2 k0_t1 k0_h4 => k0_hw2.2.2.2.2.2.1 k0_t1 k0_h4
theorem k0_off6_inb : ∀ (v6 : BitVec 32) (v9 : BitVec 32) (k0_hw2 : k0_chk2 v6 v9) (k0_t1 : Fin (k0_t1_loop v6 v9).trips), ∀ (k0_h4 : k0_cond4 v6 v9 k0_t1 = 1#1), ∀ a, (k0_off6 v6 v9 k0_t1) a + S128.size a ≤ S327808.size a := fun v6 v9 k0_hw2 k0_t1 k0_h4 => k0_hw2.2.2.2.2.2.2.1 k0_t1 k0_h4
theorem k0_mult8_dvd : ∀ (v6 : BitVec 32) (v9 : BitVec 32) (k0_hw2 : k0_chk2 v6 v9) (k0_t1 : Fin (k0_t1_loop v6 v9).trips), ∀ (k0_h6 : k0_cond6 v6 v9 k0_t1 = 1#1), 8 ∣ (k0_mult8 v6 v9 k0_t1).toNat := fun v6 v9 k0_hw2 k0_t1 k0_h6 => k0_hw2.2.2.2.2.2.2.2.1 k0_t1 k0_h6
theorem k0_off43_inb : ∀ (v6 : BitVec 32) (v9 : BitVec 32) (k0_hw2 : k0_chk2 v6 v9) (k0_t1 : Fin (k0_t1_loop v6 v9).trips), ∀ (k0_h6 : k0_cond6 v6 v9 k0_t1 = 1#1), ∀ a, (k0_off43 v6 v9 k0_t1) a + S128.size a ≤ S327808.size a := fun v6 v9 k0_hw2 k0_t1 k0_h6 => k0_hw2.2.2.2.2.2.2.2.2.1 k0_t1 k0_h6
theorem k0_mult9_dvd : ∀ (v6 : BitVec 32) (v9 : BitVec 32) (k0_hw2 : k0_chk2 v6 v9) (k0_t1 : Fin (k0_t1_loop v6 v9).trips), ∀ (k0_h7 : k0_cond7 v6 v9 k0_t1 = 1#1), 8 ∣ (k0_mult9 v6 v9 k0_t1).toNat := fun v6 v9 k0_hw2 k0_t1 k0_h7 => k0_hw2.2.2.2.2.2.2.2.2.2.1 k0_t1 k0_h7
theorem k0_off44_inb : ∀ (v6 : BitVec 32) (v9 : BitVec 32) (k0_hw2 : k0_chk2 v6 v9) (k0_t1 : Fin (k0_t1_loop v6 v9).trips), ∀ (k0_h7 : k0_cond7 v6 v9 k0_t1 = 1#1), ∀ a, (k0_off44 v6 v9 k0_t1) a + S128.size a ≤ S327808.size a := fun v6 v9 k0_hw2 k0_t1 k0_h7 => k0_hw2.2.2.2.2.2.2.2.2.2.2.1 k0_t1 k0_h7
theorem k0_t22_ok : ∀ (v6 : BitVec 32) (v9 : BitVec 32) (k0_hw2 : k0_chk2 v6 v9), (k0_t22_loop v6 v9).OK := fun v6 v9 k0_hw2 => k0_hw2.2.2.2.2.2.2.2.2.2.2.2.1
theorem k0_mult10_dvd : ∀ (v6 : BitVec 32) (v9 : BitVec 32) (k0_hw2 : k0_chk2 v6 v9) (k0_t22 : Fin (k0_t22_loop v6 v9).trips), ∀ (k0_h9 : k0_cond9 v6 v9 k0_t22 = 1#1), 8 ∣ (k0_mult10 v6 v9 k0_t22).toNat := fun v6 v9 k0_hw2 k0_t22 k0_h9 => k0_hw2.2.2.2.2.2.2.2.2.2.2.2.2.1 k0_t22 k0_h9
theorem k0_off81_inb : ∀ (v6 : BitVec 32) (v9 : BitVec 32) (k0_hw2 : k0_chk2 v6 v9) (k0_t22 : Fin (k0_t22_loop v6 v9).trips), ∀ (k0_h9 : k0_cond9 v6 v9 k0_t22 = 1#1), ∀ a, (k0_off81 v6 v9 k0_t22) a + S128.size a ≤ S327808.size a := fun v6 v9 k0_hw2 k0_t22 k0_h9 => k0_hw2.2.2.2.2.2.2.2.2.2.2.2.2.2.1 k0_t22 k0_h9
theorem k0_mult11_dvd : ∀ (v6 : BitVec 32) (v9 : BitVec 32) (k0_hw2 : k0_chk2 v6 v9) (k0_t22 : Fin (k0_t22_loop v6 v9).trips), ∀ (k0_h10 : k0_cond10 v6 v9 k0_t22 = 1#1), 8 ∣ (k0_mult11 v6 v9 k0_t22).toNat := fun v6 v9 k0_hw2 k0_t22 k0_h10 => k0_hw2.2.2.2.2.2.2.2.2.2.2.2.2.2.2.1 k0_t22 k0_h10
theorem k0_off82_inb : ∀ (v6 : BitVec 32) (v9 : BitVec 32) (k0_hw2 : k0_chk2 v6 v9) (k0_t22 : Fin (k0_t22_loop v6 v9).trips), ∀ (k0_h10 : k0_cond10 v6 v9 k0_t22 = 1#1), ∀ a, (k0_off82 v6 v9 k0_t22) a + S128.size a ≤ S327808.size a := fun v6 v9 k0_hw2 k0_t22 k0_h10 => k0_hw2.2.2.2.2.2.2.2.2.2.2.2.2.2.2.2.1 k0_t22 k0_h10
theorem k0_mult12_dvd : ∀ (v6 : BitVec 32) (v9 : BitVec 32) (k0_hw2 : k0_chk2 v6 v9) (k0_t22 : Fin (k0_t22_loop v6 v9).trips), ∀ (k0_h12 : k0_cond12 v6 v9 k0_t22 = 1#1), 8 ∣ (k0_mult12 v6 v9 k0_t22).toNat := fun v6 v9 k0_hw2 k0_t22 k0_h12 => k0_hw2.2.2.2.2.2.2.2.2.2.2.2.2.2.2.2.2.1 k0_t22 k0_h12
theorem k0_off119_inb : ∀ (v6 : BitVec 32) (v9 : BitVec 32) (k0_hw2 : k0_chk2 v6 v9) (k0_t22 : Fin (k0_t22_loop v6 v9).trips), ∀ (k0_h12 : k0_cond12 v6 v9 k0_t22 = 1#1), ∀ a, (k0_off119 v6 v9 k0_t22) a + S128.size a ≤ S327808.size a := fun v6 v9 k0_hw2 k0_t22 k0_h12 => k0_hw2.2.2.2.2.2.2.2.2.2.2.2.2.2.2.2.2.2.1 k0_t22 k0_h12
theorem k0_mult13_dvd : ∀ (v6 : BitVec 32) (v9 : BitVec 32) (k0_hw2 : k0_chk2 v6 v9) (k0_t22 : Fin (k0_t22_loop v6 v9).trips), ∀ (k0_h13 : k0_cond13 v6 v9 k0_t22 = 1#1), 8 ∣ (k0_mult13 v6 v9 k0_t22).toNat := fun v6 v9 k0_hw2 k0_t22 k0_h13 => k0_hw2.2.2.2.2.2.2.2.2.2.2.2.2.2.2.2.2.2.2.1 k0_t22 k0_h13
theorem k0_off120_inb : ∀ (v6 : BitVec 32) (v9 : BitVec 32) (k0_hw2 : k0_chk2 v6 v9) (k0_t22 : Fin (k0_t22_loop v6 v9).trips), ∀ (k0_h13 : k0_cond13 v6 v9 k0_t22 = 1#1), ∀ a, (k0_off120 v6 v9 k0_t22) a + S128.size a ≤ S327808.size a := fun v6 v9 k0_hw2 k0_t22 k0_h13 => k0_hw2.2.2.2.2.2.2.2.2.2.2.2.2.2.2.2.2.2.2.2 k0_t22 k0_h13

@[reducible] def k0_t33_loop : Scf.Loop 32 :=
  let c0_i32_41 : BitVec 32 := 0#32
  let c32_i32_42 : BitVec 32 := 32#32
  let v98 : BitVec 32 := Scalar.subi c32_i32_42 c0_i32_41
  let c1_i32_44 : BitVec 32 := 1#32
  let v100 : BitVec 32 := Scalar.divsi v98 c1_i32_44
  let v101 : BitVec 32 := Scalar.muli v100 c1_i32_44
  let v102 : BitVec 32 := Scalar.addi c0_i32_41 v101
  let c1_i32_45 : BitVec 32 := 1#32
  ⟨c0_i32_41, v102, c1_i32_45⟩
def k0_off121 (k0_t33 : Fin k0_t33_loop.trips) : Fin 1 → Nat :=
  let c0_i32_41 : BitVec 32 := 0#32
  let c1_i32_45 : BitVec 32 := 1#32
  let arg26 : BitVec 32 := Scf.iv c0_i32_41 c1_i32_45 k0_t33
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t34_loop : Scf.Loop 32 :=
  let c0_i32_41 : BitVec 32 := 0#32
  let c32_i32_42 : BitVec 32 := 32#32
  let v98 : BitVec 32 := Scalar.subi c32_i32_42 c0_i32_41
  let c1_i32_44 : BitVec 32 := 1#32
  let v100 : BitVec 32 := Scalar.divsi v98 c1_i32_44
  let v101 : BitVec 32 := Scalar.muli v100 c1_i32_44
  let v102 : BitVec 32 := Scalar.addi c0_i32_41 v101
  let v99 : BitVec 32 := Scalar.addi c0_i32_41 v98
  let c1_i32_46 : BitVec 32 := 1#32
  ⟨v102, v99, c1_i32_46⟩
def k0_off122 (k0_t34 : Fin k0_t34_loop.trips) : Fin 1 → Nat :=
  let c0_i32_41 : BitVec 32 := 0#32
  let c32_i32_42 : BitVec 32 := 32#32
  let v98 : BitVec 32 := Scalar.subi c32_i32_42 c0_i32_41
  let c1_i32_44 : BitVec 32 := 1#32
  let v100 : BitVec 32 := Scalar.divsi v98 c1_i32_44
  let v101 : BitVec 32 := Scalar.muli v100 c1_i32_44
  let v102 : BitVec 32 := Scalar.addi c0_i32_41 v101
  let c1_i32_46 : BitVec 32 := 1#32
  let arg26 : BitVec 32 := Scf.iv v102 c1_i32_46 k0_t34
  let c16_i32_54 : BitVec 32 := 16#32
  let v122 : BitVec 32 := Scalar.muli arg26 c16_i32_54
  let c1_i32_55 : BitVec 32 := 1#32
  let v123 : BitVec 32 := Scalar.addi v122 c1_i32_55
  let v124 : Index := Scalar.indexCast v123
  ![v124.toNat]
@[reducible] def k0_t35_loop (v72_1 : BitVec 32) (v104 : BitVec 32) : Scf.Loop 32 :=
  let c0_i32_47 : BitVec 32 := 0#32
  let v105 : BitVec 32 := Scalar.subi v104 v72_1
  let v106 : BitVec 32 := Scalar.subi v105 c0_i32_47
  let c1_i32_48 : BitVec 32 := 1#32
  let v108 : BitVec 32 := Scalar.divsi v106 c1_i32_48
  let v109 : BitVec 32 := Scalar.muli v108 c1_i32_48
  let v110 : BitVec 32 := Scalar.addi c0_i32_47 v109
  let c1_i32_49 : BitVec 32 := 1#32
  ⟨c0_i32_47, v110, c1_i32_49⟩

@[reducible] def k0_t36_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off123 (v6 : BitVec 32) (v9 : BitVec 32) (k0_t22 : Fin (k0_t22_loop v6 v9).trips) (arg27 : BitVec 32) (arg29 : BitVec 32) (k0_t36 : Fin (k0_t36_loop arg27 arg29).trips) : Fin 2 → Nat :=
  let c1_i32_55 : BitVec 32 := 1#32
  let arg34 : BitVec 32 := Scf.iv arg27 c1_i32_55 k0_t36
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off124 (v6 : BitVec 32) (v9 : BitVec 32) (k0_t22 : Fin (k0_t22_loop v6 v9).trips) (arg27 : BitVec 32) (arg29 : BitVec 32) (k0_t36 : Fin (k0_t36_loop arg27 arg29).trips) : Fin 2 → Nat :=
  let c1_i32_55 : BitVec 32 := 1#32
  let arg34 : BitVec 32 := Scf.iv arg27 c1_i32_55 k0_t36
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off125 (v6 : BitVec 32) (v9 : BitVec 32) (k0_t22 : Fin (k0_t22_loop v6 v9).trips) (arg27 : BitVec 32) (arg29 : BitVec 32) (k0_t36 : Fin (k0_t36_loop arg27 arg29).trips) : Fin 2 → Nat :=
  let c1_i32_55 : BitVec 32 := 1#32
  let arg34 : BitVec 32 := Scf.iv arg27 c1_i32_55 k0_t36
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off126 (v6 : BitVec 32) (v9 : BitVec 32) (k0_t22 : Fin (k0_t22_loop v6 v9).trips) (arg27 : BitVec 32) (arg29 : BitVec 32) (k0_t36 : Fin (k0_t36_loop arg27 arg29).trips) : Fin 2 → Nat :=
  let c1_i32_55 : BitVec 32 := 1#32
  let arg34 : BitVec 32 := Scf.iv arg27 c1_i32_55 k0_t36
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]
@[reducible] def k0_t37_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off127 (v6 : BitVec 32) (v9 : BitVec 32) (k0_t22 : Fin (k0_t22_loop v6 v9).trips) (arg27 : BitVec 32) (arg29 : BitVec 32) (k0_t37 : Fin (k0_t37_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t37
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off128 (v6 : BitVec 32) (v9 : BitVec 32) (k0_t22 : Fin (k0_t22_loop v6 v9).trips) (arg27 : BitVec 32) (arg29 : BitVec 32) (k0_t37 : Fin (k0_t37_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t37
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off129 (v6 : BitVec 32) (v9 : BitVec 32) (k0_t22 : Fin (k0_t22_loop v6 v9).trips) (arg27 : BitVec 32) (arg29 : BitVec 32) (k0_t37 : Fin (k0_t37_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t37
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off130 (v6 : BitVec 32) (v9 : BitVec 32) (k0_t22 : Fin (k0_t22_loop v6 v9).trips) (arg27 : BitVec 32) (arg29 : BitVec 32) (k0_t37 : Fin (k0_t37_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t37
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]

def k0_chk22 (v6 : BitVec 32) (v9 : BitVec 32) (k0_t22 : Fin (k0_t22_loop v6 v9).trips) (arg27 : BitVec 32) (arg29 : BitVec 32) : Prop :=
  ((k0_t36_loop arg27 arg29).OK) ∧
  (∀ k0_t36 : Fin (k0_t36_loop arg27 arg29).trips, ∀ a, (k0_off123 v6 v9 k0_t22 arg27 arg29 k0_t36) a + S1x16.size a ≤ S128x128.size a) ∧
  (∀ k0_t36 : Fin (k0_t36_loop arg27 arg29).trips, ∀ a, (k0_off124 v6 v9 k0_t22 arg27 arg29 k0_t36) a + S1x16.size a ≤ S128x128.size a) ∧
  (∀ k0_t36 : Fin (k0_t36_loop arg27 arg29).trips, ∀ a, (k0_off125 v6 v9 k0_t22 arg27 arg29 k0_t36) a + S1x16.size a ≤ S128x128.size a) ∧
  (∀ k0_t36 : Fin (k0_t36_loop arg27 arg29).trips, ∀ a, (k0_off126 v6 v9 k0_t22 arg27 arg29 k0_t36) a + S1x16.size a ≤ S128x128.size a) ∧
  ((k0_t37_loop arg27 arg29).OK) ∧
  (∀ k0_t37 : Fin (k0_t37_loop arg27 arg29).trips, ∀ a, (k0_off127 v6 v9 k0_t22 arg27 arg29 k0_t37) a + S1x16.size a ≤ S128x128.size a) ∧
  (∀ k0_t37 : Fin (k0_t37_loop arg27 arg29).trips, ∀ a, (k0_off128 v6 v9 k0_t22 arg27 arg29 k0_t37) a + S1x16.size a ≤ S128x128.size a) ∧
  (∀ k0_t37 : Fin (k0_t37_loop arg27 arg29).trips, ∀ a, (k0_off129 v6 v9 k0_t22 arg27 arg29 k0_t37) a + S1x16.size a ≤ S128x128.size a) ∧
  (∀ k0_t37 : Fin (k0_t37_loop arg27 arg29).trips, ∀ a, (k0_off130 v6 v9 k0_t22 arg27 arg29 k0_t37) a + S1x16.size a ≤ S128x128.size a)
theorem k0_t36_ok : ∀ (v6 : BitVec 32) (v9 : BitVec 32) (k0_t22 : Fin (k0_t22_loop v6 v9).trips) (arg27 : BitVec 32) (arg29 : BitVec 32) (k0_hw22 : k0_chk22 v6 v9 k0_t22 arg27 arg29), (k0_t36_loop arg27 arg29).OK := fun v6 v9 k0_t22 arg27 arg29 k0_hw22 => k0_hw22.1
theorem k0_off123_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t36 : Fin (k0_t36_loop arg27 arg29).trips), ∀ a, (k0_off123 v6 v9 k0_t22 arg27 arg29 k0_t36) a + S1x16.size a ≤ S128x128.size a := fun v6 v9 k0_t22 arg27 arg29 k0_hw22 k0_t36 => k0_hw22.2.1 k0_t36
theorem k0_off124_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t36 : Fin (k0_t36_loop arg27 arg29).trips), ∀ a, (k0_off124 v6 v9 k0_t22 arg27 arg29 k0_t36) a + S1x16.size a ≤ S128x128.size a := fun v6 v9 k0_t22 arg27 arg29 k0_hw22 k0_t36 => k0_hw22.2.2.1 k0_t36
theorem k0_off125_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t36 : Fin (k0_t36_loop arg27 arg29).trips), ∀ a, (k0_off125 v6 v9 k0_t22 arg27 arg29 k0_t36) a + S1x16.size a ≤ S128x128.size a := fun v6 v9 k0_t22 arg27 arg29 k0_hw22 k0_t36 => k0_hw22.2.2.2.1 k0_t36
theorem k0_off126_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t36 : Fin (k0_t36_loop arg27 arg29).trips), ∀ a, (k0_off126 v6 v9 k0_t22 arg27 arg29 k0_t36) a + S1x16.size a ≤ S128x128.size a := fun v6 v9 k0_t22 arg27 arg29 k0_hw22 k0_t36 => k0_hw22.2.2.2.2.1 k0_t36
theorem k0_t37_ok : ∀ (v6 : BitVec 32) (v9 : BitVec 32) (k0_t22 : Fin (k0_t22_loop v6 v9).trips) (arg27 : BitVec 32) (arg29 : BitVec 32) (k0_hw22 : k0_chk22 v6 v9 k0_t22 arg27 arg29), (k0_t37_loop arg27 arg29).OK := fun v6 v9 k0_t22 arg27 arg29 k0_hw22 => k0_hw22.2.2.2.2.2.1
theorem k0_off127_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t37 : Fin (k0_t37_loop arg27 arg29).trips), ∀ a, (k0_off127 v6 v9 k0_t22 arg27 arg29 k0_t37) a + S1x16.size a ≤ S128x128.size a := fun v6 v9 k0_t22 arg27 arg29 k0_hw22 k0_t37 => k0_hw22.2.2.2.2.2.2.1 k0_t37
theorem k0_off128_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t37 : Fin (k0_t37_loop arg27 arg29).trips), ∀ a, (k0_off128 v6 v9 k0_t22 arg27 arg29 k0_t37) a + S1x16.size a ≤ S128x128.size a := fun v6 v9 k0_t22 arg27 arg29 k0_hw22 k0_t37 => k0_hw22.2.2.2.2.2.2.2.1 k0_t37
theorem k0_off129_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t37 : Fin (k0_t37_loop arg27 arg29).trips), ∀ a, (k0_off129 v6 v9 k0_t22 arg27 arg29 k0_t37) a + S1x16.size a ≤ S128x128.size a := fun v6 v9 k0_t22 arg27 arg29 k0_hw22 k0_t37 => k0_hw22.2.2.2.2.2.2.2.2.1 k0_t37
theorem k0_off130_inb : ∀ (v6 : BitVec 32) (v9 : BitVec 32) (k0_t22 : Fin (k0_t22_loop v6 v9).trips) (arg27 : BitVec 32) (arg29 : BitVec 32) (k0_hw22 : k0_chk22 v6 v9 k0_t22 arg27 arg29) (k0_t37 : Fin (k0_t37_loop arg27 arg29).trips), ∀ a, (k0_off130 v6 v9 k0_t22 arg27 arg29 k0_t37) a + S1x16.size a ≤ S128x128.size a := fun v6 v9 k0_t22 arg27 arg29 k0_hw22 k0_t37 => k0_hw22.2.2.2.2.2.2.2.2.2 k0_t37

def k0_off131 (arg28 : BitVec 32) : Fin 1 → Nat :=
  let v129 : Index := Scalar.indexCast arg28
  ![v129.toNat]

def k0_off132 (arg28 : BitVec 32) : Fin 2 → Nat :=
  let v144 : Index := Scalar.indexCast arg28
  let c0_61 : Index := 0#32
  ![v144.toNat, 0]
def k0_off133 (arg28 : BitVec 32) : Fin 2 → Nat :=
  let v151 : Index := Scalar.indexCast arg28
  let c16_63 : Index := 16#32
  ![v151.toNat, 16]
def k0_off134 (arg28 : BitVec 32) : Fin 2 → Nat :=
  let v158 : Index := Scalar.indexCast arg28
  let c32_65 : Index := 32#32
  ![v158.toNat, 32]
def k0_off135 (arg28 : BitVec 32) : Fin 2 → Nat :=
  let v165 : Index := Scalar.indexCast arg28
  let c48_67 : Index := 48#32
  ![v165.toNat, 48]

def k0_chk23 (arg28 : BitVec 32) : Prop :=
  (∀ a, (k0_off131 arg28) a + S16.size a ≤ S536.size a) ∧
  (∀ a, (k0_off132 arg28) a + S1x16.size a ≤ S512x64.size a) ∧
  (∀ a, (k0_off133 arg28) a + S1x16.size a ≤ S512x64.size a) ∧
  (∀ a, (k0_off134 arg28) a + S1x16.size a ≤ S512x64.size a) ∧
  (∀ a, (k0_off135 arg28) a + S1x16.size a ≤ S512x64.size a)
theorem k0_off131_inb : ∀ (arg28 : BitVec 32) (k0_hw23 : k0_chk23 arg28), ∀ a, (k0_off131 arg28) a + S16.size a ≤ S536.size a := fun arg28 k0_hw23 => k0_hw23.1
theorem k0_off132_inb : ∀ (arg28 : BitVec 32) (k0_hw23 : k0_chk23 arg28), ∀ a, (k0_off132 arg28) a + S1x16.size a ≤ S512x64.size a := fun arg28 k0_hw23 => k0_hw23.2.1
theorem k0_off133_inb : ∀ (arg28 : BitVec 32) (k0_hw23 : k0_chk23 arg28), ∀ a, (k0_off133 arg28) a + S1x16.size a ≤ S512x64.size a := fun arg28 k0_hw23 => k0_hw23.2.2.1
theorem k0_off134_inb : ∀ (arg28 : BitVec 32) (k0_hw23 : k0_chk23 arg28), ∀ a, (k0_off134 arg28) a + S1x16.size a ≤ S512x64.size a := fun arg28 k0_hw23 => k0_hw23.2.2.2.1
theorem k0_off135_inb : ∀ (arg28 : BitVec 32) (k0_hw23 : k0_chk23 arg28), ∀ a, (k0_off135 arg28) a + S1x16.size a ≤ S512x64.size a := fun arg28 k0_hw23 => k0_hw23.2.2.2.2

@[reducible] def k0_t38_loop (v72_1 : BitVec 32) (v104 : BitVec 32) : Scf.Loop 32 :=
  let c0_i32_47 : BitVec 32 := 0#32
  let v105 : BitVec 32 := Scalar.subi v104 v72_1
  let v106 : BitVec 32 := Scalar.subi v105 c0_i32_47
  let c1_i32_48 : BitVec 32 := 1#32
  let v108 : BitVec 32 := Scalar.divsi v106 c1_i32_48
  let v109 : BitVec 32 := Scalar.muli v108 c1_i32_48
  let v110 : BitVec 32 := Scalar.addi c0_i32_47 v109
  let v107 : BitVec 32 := Scalar.addi c0_i32_47 v106
  let c1_i32_50 : BitVec 32 := 1#32
  ⟨v110, v107, c1_i32_50⟩

def k0_chk21 (v72_1 : BitVec 32) (v104 : BitVec 32) : Prop :=
  ((k0_t35_loop v72_1 v104).OK) ∧
  ((k0_t38_loop v72_1 v104).OK)
theorem k0_t35_ok : ∀ (v72_1 : BitVec 32) (v104 : BitVec 32) (k0_hw21 : k0_chk21 v72_1 v104), (k0_t35_loop v72_1 v104).OK := fun v72_1 v104 k0_hw21 => k0_hw21.1
theorem k0_t38_ok : ∀ (v72_1 : BitVec 32) (v104 : BitVec 32) (k0_hw21 : k0_chk21 v72_1 v104), (k0_t38_loop v72_1 v104).OK := fun v72_1 v104 k0_hw21 => k0_hw21.2

@[reducible] def k0_t39_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_55 : BitVec 32 := 1#32
  ⟨arg27, v126, c1_i32_55⟩

def k0_off136 (v6 : BitVec 32) (v9 : BitVec 32) (k0_t22 : Fin (k0_t22_loop v6 v9).trips) (arg27 : BitVec 32) (arg29 : BitVec 32) (k0_t39 : Fin (k0_t39_loop arg27 arg29).trips) : Fin 2 → Nat :=
  let c1_i32_55 : BitVec 32 := 1#32
  let arg34 : BitVec 32 := Scf.iv arg27 c1_i32_55 k0_t39
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off137 (v6 : BitVec 32) (v9 : BitVec 32) (k0_t22 : Fin (k0_t22_loop v6 v9).trips) (arg27 : BitVec 32) (arg29 : BitVec 32) (k0_t39 : Fin (k0_t39_loop arg27 arg29).trips) : Fin 2 → Nat :=
  let c1_i32_55 : BitVec 32 := 1#32
  let arg34 : BitVec 32 := Scf.iv arg27 c1_i32_55 k0_t39
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off138 (v6 : BitVec 32) (v9 : BitVec 32) (k0_t22 : Fin (k0_t22_loop v6 v9).trips) (arg27 : BitVec 32) (arg29 : BitVec 32) (k0_t39 : Fin (k0_t39_loop arg27 arg29).trips) : Fin 2 → Nat :=
  let c1_i32_55 : BitVec 32 := 1#32
  let arg34 : BitVec 32 := Scf.iv arg27 c1_i32_55 k0_t39
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off139 (v6 : BitVec 32) (v9 : BitVec 32) (k0_t22 : Fin (k0_t22_loop v6 v9).trips) (arg27 : BitVec 32) (arg29 : BitVec 32) (k0_t39 : Fin (k0_t39_loop arg27 arg29).trips) : Fin 2 → Nat :=
  let c1_i32_55 : BitVec 32 := 1#32
  let arg34 : BitVec 32 := Scf.iv arg27 c1_i32_55 k0_t39
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]
@[reducible] def k0_t40_loop (arg27 : BitVec 32) (arg29 : BitVec 32) : Scf.Loop 32 :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let v123 : BitVec 32 := Scalar.addi arg27 v122
  let c1_i32_56 : BitVec 32 := 1#32
  ⟨v126, v123, c1_i32_56⟩
def k0_off140 (v6 : BitVec 32) (v9 : BitVec 32) (k0_t22 : Fin (k0_t22_loop v6 v9).trips) (arg27 : BitVec 32) (arg29 : BitVec 32) (k0_t40 : Fin (k0_t40_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t40
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v171 : Index := Scalar.indexCast v170
  let c0_69 : Index := 0#32
  ![v171.toNat, 0]
def k0_off141 (v6 : BitVec 32) (v9 : BitVec 32) (k0_t22 : Fin (k0_t22_loop v6 v9).trips) (arg27 : BitVec 32) (arg29 : BitVec 32) (k0_t40 : Fin (k0_t40_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t40
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v174 : Index := Scalar.indexCast v170
  let c16_70 : Index := 16#32
  ![v174.toNat, 16]
def k0_off142 (v6 : BitVec 32) (v9 : BitVec 32) (k0_t22 : Fin (k0_t22_loop v6 v9).trips) (arg27 : BitVec 32) (arg29 : BitVec 32) (k0_t40 : Fin (k0_t40_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t40
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v177 : Index := Scalar.indexCast v170
  let c32_71 : Index := 32#32
  ![v177.toNat, 32]
def k0_off143 (v6 : BitVec 32) (v9 : BitVec 32) (k0_t22 : Fin (k0_t22_loop v6 v9).trips) (arg27 : BitVec 32) (arg29 : BitVec 32) (k0_t40 : Fin (k0_t40_loop arg27 arg29).trips) : Fin 2 → Nat :=
  let v122 : BitVec 32 := Scalar.subi arg29 arg27
  let c1_i32_54 : BitVec 32 := 1#32
  let v124 : BitVec 32 := Scalar.divsi v122 c1_i32_54
  let v125 : BitVec 32 := Scalar.muli v124 c1_i32_54
  let v126 : BitVec 32 := Scalar.addi arg27 v125
  let c1_i32_56 : BitVec 32 := 1#32
  let arg34 : BitVec 32 := Scf.iv v126 c1_i32_56 k0_t40
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v170 : BitVec 32 := Scalar.subi arg34 v95
  let v180 : Index := Scalar.indexCast v170
  let c48_72 : Index := 48#32
  ![v180.toNat, 48]

def k0_chk24 (v6 : BitVec 32) (v9 : BitVec 32) (k0_t22 : Fin (k0_t22_loop v6 v9).trips) (arg27 : BitVec 32) (arg29 : BitVec 32) : Prop :=
  ((k0_t39_loop arg27 arg29).OK) ∧
  (∀ k0_t39 : Fin (k0_t39_loop arg27 arg29).trips, ∀ a, (k0_off136 v6 v9 k0_t22 arg27 arg29 k0_t39) a + S1x16.size a ≤ S128x128.size a) ∧
  (∀ k0_t39 : Fin (k0_t39_loop arg27 arg29).trips, ∀ a, (k0_off137 v6 v9 k0_t22 arg27 arg29 k0_t39) a + S1x16.size a ≤ S128x128.size a) ∧
  (∀ k0_t39 : Fin (k0_t39_loop arg27 arg29).trips, ∀ a, (k0_off138 v6 v9 k0_t22 arg27 arg29 k0_t39) a + S1x16.size a ≤ S128x128.size a) ∧
  (∀ k0_t39 : Fin (k0_t39_loop arg27 arg29).trips, ∀ a, (k0_off139 v6 v9 k0_t22 arg27 arg29 k0_t39) a + S1x16.size a ≤ S128x128.size a) ∧
  ((k0_t40_loop arg27 arg29).OK) ∧
  (∀ k0_t40 : Fin (k0_t40_loop arg27 arg29).trips, ∀ a, (k0_off140 v6 v9 k0_t22 arg27 arg29 k0_t40) a + S1x16.size a ≤ S128x128.size a) ∧
  (∀ k0_t40 : Fin (k0_t40_loop arg27 arg29).trips, ∀ a, (k0_off141 v6 v9 k0_t22 arg27 arg29 k0_t40) a + S1x16.size a ≤ S128x128.size a) ∧
  (∀ k0_t40 : Fin (k0_t40_loop arg27 arg29).trips, ∀ a, (k0_off142 v6 v9 k0_t22 arg27 arg29 k0_t40) a + S1x16.size a ≤ S128x128.size a) ∧
  (∀ k0_t40 : Fin (k0_t40_loop arg27 arg29).trips, ∀ a, (k0_off143 v6 v9 k0_t22 arg27 arg29 k0_t40) a + S1x16.size a ≤ S128x128.size a)
theorem k0_t39_ok : ∀ (v6 : BitVec 32) (v9 : BitVec 32) (k0_t22 : Fin (k0_t22_loop v6 v9).trips) (arg27 : BitVec 32) (arg29 : BitVec 32) (k0_hw24 : k0_chk24 v6 v9 k0_t22 arg27 arg29), (k0_t39_loop arg27 arg29).OK := fun v6 v9 k0_t22 arg27 arg29 k0_hw24 => k0_hw24.1
theorem k0_off136_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t39 : Fin (k0_t39_loop arg27 arg29).trips), ∀ a, (k0_off136 v6 v9 k0_t22 arg27 arg29 k0_t39) a + S1x16.size a ≤ S128x128.size a := fun v6 v9 k0_t22 arg27 arg29 k0_hw24 k0_t39 => k0_hw24.2.1 k0_t39
theorem k0_off137_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t39 : Fin (k0_t39_loop arg27 arg29).trips), ∀ a, (k0_off137 v6 v9 k0_t22 arg27 arg29 k0_t39) a + S1x16.size a ≤ S128x128.size a := fun v6 v9 k0_t22 arg27 arg29 k0_hw24 k0_t39 => k0_hw24.2.2.1 k0_t39
theorem k0_off138_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t39 : Fin (k0_t39_loop arg27 arg29).trips), ∀ a, (k0_off138 v6 v9 k0_t22 arg27 arg29 k0_t39) a + S1x16.size a ≤ S128x128.size a := fun v6 v9 k0_t22 arg27 arg29 k0_hw24 k0_t39 => k0_hw24.2.2.2.1 k0_t39
theorem k0_off139_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t39 : Fin (k0_t39_loop arg27 arg29).trips), ∀ a, (k0_off139 v6 v9 k0_t22 arg27 arg29 k0_t39) a + S1x16.size a ≤ S128x128.size a := fun v6 v9 k0_t22 arg27 arg29 k0_hw24 k0_t39 => k0_hw24.2.2.2.2.1 k0_t39
theorem k0_t40_ok : ∀ (v6 : BitVec 32) (v9 : BitVec 32) (k0_t22 : Fin (k0_t22_loop v6 v9).trips) (arg27 : BitVec 32) (arg29 : BitVec 32) (k0_hw24 : k0_chk24 v6 v9 k0_t22 arg27 arg29), (k0_t40_loop arg27 arg29).OK := fun v6 v9 k0_t22 arg27 arg29 k0_hw24 => k0_hw24.2.2.2.2.2.1
theorem k0_off140_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t40 : Fin (k0_t40_loop arg27 arg29).trips), ∀ a, (k0_off140 v6 v9 k0_t22 arg27 arg29 k0_t40) a + S1x16.size a ≤ S128x128.size a := fun v6 v9 k0_t22 arg27 arg29 k0_hw24 k0_t40 => k0_hw24.2.2.2.2.2.2.1 k0_t40
theorem k0_off141_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t40 : Fin (k0_t40_loop arg27 arg29).trips), ∀ a, (k0_off141 v6 v9 k0_t22 arg27 arg29 k0_t40) a + S1x16.size a ≤ S128x128.size a := fun v6 v9 k0_t22 arg27 arg29 k0_hw24 k0_t40 => k0_hw24.2.2.2.2.2.2.2.1 k0_t40
theorem k0_off142_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t40 : Fin (k0_t40_loop arg27 arg29).trips), ∀ a, (k0_off142 v6 v9 k0_t22 arg27 arg29 k0_t40) a + S1x16.size a ≤ S128x128.size a := fun v6 v9 k0_t22 arg27 arg29 k0_hw24 k0_t40 => k0_hw24.2.2.2.2.2.2.2.2.1 k0_t40
theorem k0_off143_inb : ∀ (v6 : BitVec 32) (v9 : BitVec 32) (k0_t22 : Fin (k0_t22_loop v6 v9).trips) (arg27 : BitVec 32) (arg29 : BitVec 32) (k0_hw24 : k0_chk24 v6 v9 k0_t22 arg27 arg29) (k0_t40 : Fin (k0_t40_loop arg27 arg29).trips), ∀ a, (k0_off143 v6 v9 k0_t22 arg27 arg29 k0_t40) a + S1x16.size a ≤ S128x128.size a := fun v6 v9 k0_t22 arg27 arg29 k0_hw24 k0_t40 => k0_hw24.2.2.2.2.2.2.2.2.2 k0_t40

def k0_off144 (arg28 : BitVec 32) : Fin 1 → Nat :=
  let v129 : Index := Scalar.indexCast arg28
  ![v129.toNat]

def k0_off145 (arg28 : BitVec 32) : Fin 2 → Nat :=
  let v144 : Index := Scalar.indexCast arg28
  let c0_61 : Index := 0#32
  ![v144.toNat, 0]
def k0_off146 (arg28 : BitVec 32) : Fin 2 → Nat :=
  let v151 : Index := Scalar.indexCast arg28
  let c16_63 : Index := 16#32
  ![v151.toNat, 16]
def k0_off147 (arg28 : BitVec 32) : Fin 2 → Nat :=
  let v158 : Index := Scalar.indexCast arg28
  let c32_65 : Index := 32#32
  ![v158.toNat, 32]
def k0_off148 (arg28 : BitVec 32) : Fin 2 → Nat :=
  let v165 : Index := Scalar.indexCast arg28
  let c48_67 : Index := 48#32
  ![v165.toNat, 48]

def k0_chk25 (arg28 : BitVec 32) : Prop :=
  (∀ a, (k0_off144 arg28) a + S16.size a ≤ S536.size a) ∧
  (∀ a, (k0_off145 arg28) a + S1x16.size a ≤ S512x64.size a) ∧
  (∀ a, (k0_off146 arg28) a + S1x16.size a ≤ S512x64.size a) ∧
  (∀ a, (k0_off147 arg28) a + S1x16.size a ≤ S512x64.size a) ∧
  (∀ a, (k0_off148 arg28) a + S1x16.size a ≤ S512x64.size a)
theorem k0_off144_inb : ∀ (arg28 : BitVec 32) (k0_hw25 : k0_chk25 arg28), ∀ a, (k0_off144 arg28) a + S16.size a ≤ S536.size a := fun arg28 k0_hw25 => k0_hw25.1
theorem k0_off145_inb : ∀ (arg28 : BitVec 32) (k0_hw25 : k0_chk25 arg28), ∀ a, (k0_off145 arg28) a + S1x16.size a ≤ S512x64.size a := fun arg28 k0_hw25 => k0_hw25.2.1
theorem k0_off146_inb : ∀ (arg28 : BitVec 32) (k0_hw25 : k0_chk25 arg28), ∀ a, (k0_off146 arg28) a + S1x16.size a ≤ S512x64.size a := fun arg28 k0_hw25 => k0_hw25.2.2.1
theorem k0_off147_inb : ∀ (arg28 : BitVec 32) (k0_hw25 : k0_chk25 arg28), ∀ a, (k0_off147 arg28) a + S1x16.size a ≤ S512x64.size a := fun arg28 k0_hw25 => k0_hw25.2.2.2.1
theorem k0_off148_inb : ∀ (arg28 : BitVec 32) (k0_hw25 : k0_chk25 arg28), ∀ a, (k0_off148 arg28) a + S1x16.size a ≤ S512x64.size a := fun arg28 k0_hw25 => k0_hw25.2.2.2.2

@[reducible] def k0_t41_loop (v6 : BitVec 32) (v9 : BitVec 32) (k0_t22 : Fin (k0_t22_loop v6 v9).trips) (v112_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_52 : BitVec 32 := 1#32
  ⟨v113, v118, c1_i32_52⟩

def k0_off149 (v6 : BitVec 32) (v9 : BitVec 32) (k0_t22 : Fin (k0_t22_loop v6 v9).trips) (v112_0 : BitVec 32) (k0_t41 : Fin (k0_t41_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t41
  let v122 : BitVec 32 := Scalar.subi arg26 v95
  let v123 : Index := Scalar.indexCast v122
  let c0_54 : Index := 0#32
  ![v123.toNat, 0]
def k0_off150 (v6 : BitVec 32) (v9 : BitVec 32) (k0_t22 : Fin (k0_t22_loop v6 v9).trips) (v112_0 : BitVec 32) (k0_t41 : Fin (k0_t41_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t41
  let v122 : BitVec 32 := Scalar.subi arg26 v95
  let v126 : Index := Scalar.indexCast v122
  let c16 : Index := 16#32
  ![v126.toNat, 16]
def k0_off151 (v6 : BitVec 32) (v9 : BitVec 32) (k0_t22 : Fin (k0_t22_loop v6 v9).trips) (v112_0 : BitVec 32) (k0_t41 : Fin (k0_t41_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t41
  let v122 : BitVec 32 := Scalar.subi arg26 v95
  let v129 : Index := Scalar.indexCast v122
  let c32 : Index := 32#32
  ![v129.toNat, 32]
def k0_off152 (v6 : BitVec 32) (v9 : BitVec 32) (k0_t22 : Fin (k0_t22_loop v6 v9).trips) (v112_0 : BitVec 32) (k0_t41 : Fin (k0_t41_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c1_i32_52 : BitVec 32 := 1#32
  let arg26 : BitVec 32 := Scf.iv v113 c1_i32_52 k0_t41
  let v122 : BitVec 32 := Scalar.subi arg26 v95
  let v132 : Index := Scalar.indexCast v122
  let c48 : Index := 48#32
  ![v132.toNat, 48]
@[reducible] def k0_t42_loop (v6 : BitVec 32) (v9 : BitVec 32) (k0_t22 : Fin (k0_t22_loop v6 v9).trips) (v112_0 : BitVec 32) : Scf.Loop 32 :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let v115 : BitVec 32 := Scalar.addi v113 v114
  let c1_i32_53 : BitVec 32 := 1#32
  ⟨v118, v115, c1_i32_53⟩
def k0_off153 (v6 : BitVec 32) (v9 : BitVec 32) (k0_t22 : Fin (k0_t22_loop v6 v9).trips) (v112_0 : BitVec 32) (k0_t42 : Fin (k0_t42_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t42
  let v122 : BitVec 32 := Scalar.subi arg26 v95
  let v123 : Index := Scalar.indexCast v122
  let c0_54 : Index := 0#32
  ![v123.toNat, 0]
def k0_off154 (v6 : BitVec 32) (v9 : BitVec 32) (k0_t22 : Fin (k0_t22_loop v6 v9).trips) (v112_0 : BitVec 32) (k0_t42 : Fin (k0_t42_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t42
  let v122 : BitVec 32 := Scalar.subi arg26 v95
  let v126 : Index := Scalar.indexCast v122
  let c16 : Index := 16#32
  ![v126.toNat, 16]
def k0_off155 (v6 : BitVec 32) (v9 : BitVec 32) (k0_t22 : Fin (k0_t22_loop v6 v9).trips) (v112_0 : BitVec 32) (k0_t42 : Fin (k0_t42_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t42
  let v122 : BitVec 32 := Scalar.subi arg26 v95
  let v129 : Index := Scalar.indexCast v122
  let c32 : Index := 32#32
  ![v129.toNat, 32]
def k0_off156 (v6 : BitVec 32) (v9 : BitVec 32) (k0_t22 : Fin (k0_t22_loop v6 v9).trips) (v112_0 : BitVec 32) (k0_t42 : Fin (k0_t42_loop v6 v9 k0_t22 v112_0).trips) : Fin 2 → Nat :=
  let c_m8_i32 : BitVec 32 := 4294967288#32
  let v10 : BitVec 32 := Scalar.andi v6 c_m8_i32
  let v11 : BitVec 32 := v10
  let c0_i32_8 : BitVec 32 := 0#32
  let v12 : BitVec 32 := Scalar.subi v9 v11
  let c127_i32 : BitVec 32 := 127#32
  let v13 : BitVec 32 := Scalar.addi v12 c127_i32
  let c128_i32 : BitVec 32 := 128#32
  let v14 : BitVec 32 := Scalar.divsi v13 c128_i32
  let c1_i32 : BitVec 32 := 1#32
  let v15 : BitVec 32 := Scalar.maxsi v14 c1_i32
  let c1_i32_7 : BitVec 32 := 1#32
  let v31 : BitVec 32 := Scalar.addi v15 c1_i32_7
  let c2_i32 : BitVec 32 := 2#32
  let v32 : BitVec 32 := Scalar.divsi v31 c2_i32
  let v35 : BitVec 32 := Scalar.subi v32 c0_i32_8
  let c1_i32_10 : BitVec 32 := 1#32
  let v37 : BitVec 32 := Scalar.divsi v35 c1_i32_10
  let v38 : BitVec 32 := Scalar.muli v37 c1_i32_10
  let v39 : BitVec 32 := Scalar.addi c0_i32_8 v38
  let c1_i32_12 : BitVec 32 := 1#32
  let arg18 : BitVec 32 := Scf.iv v39 c1_i32_12 k0_t22
  let c2_i32_13 : BitVec 32 := 2#32
  let v42 : BitVec 32 := Scalar.muli arg18 c2_i32_13
  let c1_i32_33 : BitVec 32 := 1#32
  let v82 : BitVec 32 := Scalar.addi v42 c1_i32_33
  let c128_i32_39 : BitVec 32 := 128#32
  let v94 : BitVec 32 := Scalar.muli v82 c128_i32_39
  let v95 : BitVec 32 := Scalar.addi v11 v94
  let v113 : BitVec 32 := Scalar.maxsi v112_0 v95
  let c128_i32_40 : BitVec 32 := 128#32
  let v96 : BitVec 32 := Scalar.addi v95 c128_i32_40
  let v97 : BitVec 32 := Scalar.minsi v96 v9
  let v114 : BitVec 32 := Scalar.subi v97 v113
  let c1_i32_51 : BitVec 32 := 1#32
  let v116 : BitVec 32 := Scalar.divsi v114 c1_i32_51
  let v117 : BitVec 32 := Scalar.muli v116 c1_i32_51
  let v118 : BitVec 32 := Scalar.addi v113 v117
  let c1_i32_53 : BitVec 32 := 1#32
  let arg26 : BitVec 32 := Scf.iv v118 c1_i32_53 k0_t42
  let v122 : BitVec 32 := Scalar.subi arg26 v95
  let v132 : Index := Scalar.indexCast v122
  let c48 : Index := 48#32
  ![v132.toNat, 48]

def k0_chk26 (v6 : BitVec 32) (v9 : BitVec 32) (k0_t22 : Fin (k0_t22_loop v6 v9).trips) (v112_0 : BitVec 32) : Prop :=
  ((k0_t41_loop v6 v9 k0_t22 v112_0).OK) ∧
  (∀ k0_t41 : Fin (k0_t41_loop v6 v9 k0_t22 v112_0).trips, ∀ a, (k0_off149 v6 v9 k0_t22 v112_0 k0_t41) a + S1x16.size a ≤ S128x128.size a) ∧
  (∀ k0_t41 : Fin (k0_t41_loop v6 v9 k0_t22 v112_0).trips, ∀ a, (k0_off150 v6 v9 k0_t22 v112_0 k0_t41) a + S1x16.size a ≤ S128x128.size a) ∧
  (∀ k0_t41 : Fin (k0_t41_loop v6 v9 k0_t22 v112_0).trips, ∀ a, (k0_off151 v6 v9 k0_t22 v112_0 k0_t41) a + S1x16.size a ≤ S128x128.size a) ∧
  (∀ k0_t41 : Fin (k0_t41_loop v6 v9 k0_t22 v112_0).trips, ∀ a, (k0_off152 v6 v9 k0_t22 v112_0 k0_t41) a + S1x16.size a ≤ S128x128.size a) ∧
  ((k0_t42_loop v6 v9 k0_t22 v112_0).OK) ∧
  (∀ k0_t42 : Fin (k0_t42_loop v6 v9 k0_t22 v112_0).trips, ∀ a, (k0_off153 v6 v9 k0_t22 v112_0 k0_t42) a + S1x16.size a ≤ S128x128.size a) ∧
  (∀ k0_t42 : Fin (k0_t42_loop v6 v9 k0_t22 v112_0).trips, ∀ a, (k0_off154 v6 v9 k0_t22 v112_0 k0_t42) a + S1x16.size a ≤ S128x128.size a) ∧
  (∀ k0_t42 : Fin (k0_t42_loop v6 v9 k0_t22 v112_0).trips, ∀ a, (k0_off155 v6 v9 k0_t22 v112_0 k0_t42) a + S1x16.size a ≤ S128x128.size a) ∧
  (∀ k0_t42 : Fin (k0_t42_loop v6 v9 k0_t22 v112_0).trips, ∀ a, (k0_off156 v6 v9 k0_t22 v112_0 k0_t42) a + S1x16.size a ≤ S128x128.size a)
theorem k0_t41_ok : ∀ (v6 : BitVec 32) (v9 : BitVec 32) (k0_t22 : Fin (k0_t22_loop v6 v9).trips) (v112_0 : BitVec 32) (k0_hw26 : k0_chk26 v6 v9 k0_t22 v112_0), (k0_t41_loop v6 v9 k0_t22 v112_0).OK := fun v6 v9 k0_t22 v112_0 k0_hw26 => k0_hw26.1
theorem k0_off149_inb : ∀ (v6 : BitVec 32) (v9 : BitVec 32) (k0_t22 : Fin (k0_t22_loop v6 v9).trips) (v112_0 : BitVec 32) (k0_hw26 : k0_chk26 v6 v9 k0_t22 v112_0) (k0_t41 : Fin (k0_t41_loop v6 v9 k0_t22 v112_0).trips), ∀ a, (k0_off149 v6 v9 k0_t22 v112_0 k0_t41) a + S1x16.size a ≤ S128x128.size a := fun v6 v9 k0_t22 v112_0 k0_hw26 k0_t41 => k0_hw26.2.1 k0_t41
theorem k0_off150_inb : ∀ (v6 : BitVec 32) (v9 : BitVec 32) (k0_t22 : Fin (k0_t22_loop v6 v9).trips) (v112_0 : BitVec 32) (k0_hw26 : k0_chk26 v6 v9 k0_t22 v112_0) (k0_t41 : Fin (k0_t41_loop v6 v9 k0_t22 v112_0).trips), ∀ a, (k0_off150 v6 v9 k0_t22 v112_0 k0_t41) a + S1x16.size a ≤ S128x128.size a := fun v6 v9 k0_t22 v112_0 k0_hw26 k0_t41 => k0_hw26.2.2.1 k0_t41
theorem k0_off151_inb : ∀ (v6 : BitVec 32) (v9 : BitVec 32) (k0_t22 : Fin (k0_t22_loop v6 v9).trips) (v112_0 : BitVec 32) (k0_hw26 : k0_chk26 v6 v9 k0_t22 v112_0) (k0_t41 : Fin (k0_t41_loop v6 v9 k0_t22 v112_0).trips), ∀ a, (k0_off151 v6 v9 k0_t22 v112_0 k0_t41) a + S1x16.size a ≤ S128x128.size a := fun v6 v9 k0_t22 v112_0 k0_hw26 k0_t41 => k0_hw26.2.2.2.1 k0_t41
theorem k0_off152_inb : ∀ (v6 : BitVec 32) (v9 : BitVec 32) (k0_t22 : Fin (k0_t22_loop v6 v9).trips) (v112_0 : BitVec 32) (k0_hw26 : k0_chk26 v6 v9 k0_t22 v112_0) (k0_t41 : Fin (k0_t41_loop v6 v9 k0_t22 v112_0).trips), ∀ a, (k0_off152 v6 v9 k0_t22 v112_0 k0_t41) a + S1x16.size a ≤ S128x128.size a := fun v6 v9 k0_t22 v112_0 k0_hw26 k0_t41 => k0_hw26.2.2.2.2.1 k0_t41
theorem k0_t42_ok : ∀ (v6 : BitVec 32) (v9 : BitVec 32) (k0_t22 : Fin (k0_t22_loop v6 v9).trips) (v112_0 : BitVec 32) (k0_hw26 : k0_chk26 v6 v9 k0_t22 v112_0), (k0_t42_loop v6 v9 k0_t22 v112_0).OK := fun v6 v9 k0_t22 v112_0 k0_hw26 => k0_hw26.2.2.2.2.2.1
theorem k0_off153_inb : ∀ (v6 : BitVec 32) (v9 : BitVec 32) (k0_t22 : Fin (k0_t22_loop v6 v9).trips) (v112_0 : BitVec 32) (k0_hw26 : k0_chk26 v6 v9 k0_t22 v112_0) (k0_t42 : Fin (k0_t42_loop v6 v9 k0_t22 v112_0).trips), ∀ a, (k0_off153 v6 v9 k0_t22 v112_0 k0_t42) a + S1x16.size a ≤ S128x128.size a := fun v6 v9 k0_t22 v112_0 k0_hw26 k0_t42 => k0_hw26.2.2.2.2.2.2.1 k0_t42
theorem k0_off154_inb : ∀ (v6 : BitVec 32) (v9 : BitVec 32) (k0_t22 : Fin (k0_t22_loop v6 v9).trips) (v112_0 : BitVec 32) (k0_hw26 : k0_chk26 v6 v9 k0_t22 v112_0) (k0_t42 : Fin (k0_t42_loop v6 v9 k0_t22 v112_0).trips), ∀ a, (k0_off154 v6 v9 k0_t22 v112_0 k0_t42) a + S1x16.size a ≤ S128x128.size a := fun v6 v9 k0_t22 v112_0 k0_hw26 k0_t42 => k0_hw26.2.2.2.2.2.2.2.1 k0_t42
theorem k0_off155_inb : ∀ (v6 : BitVec 32) (v9 : BitVec 32) (k0_t22 : Fin (k0_t22_loop v6 v9).trips) (v112_0 : BitVec 32) (k0_hw26 : k0_chk26 v6 v9 k0_t22 v112_0) (k0_t42 : Fin (k0_t42_loop v6 v9 k0_t22 v112_0).trips), ∀ a, (k0_off155 v6 v9 k0_t22 v112_0 k0_t42) a + S1x16.size a ≤ S128x128.size a := fun v6 v9 k0_t22 v112_0 k0_hw26 k0_t42 => k0_hw26.2.2.2.2.2.2.2.2.1 k0_t42
theorem k0_off156_inb : ∀ (v6 : BitVec 32) (v9 : BitVec 32) (k0_t22 : Fin (k0_t22_loop v6 v9).trips) (v112_0 : BitVec 32) (k0_hw26 : k0_chk26 v6 v9 k0_t22 v112_0) (k0_t42 : Fin (k0_t42_loop v6 v9 k0_t22 v112_0).trips), ∀ a, (k0_off156 v6 v9 k0_t22 v112_0 k0_t42) a + S1x16.size a ≤ S128x128.size a := fun v6 v9 k0_t22 v112_0 k0_hw26 k0_t42 => k0_hw26.2.2.2.2.2.2.2.2.2 k0_t42

def k0_off157 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v3 : BitVec 32 := v2
  let c0_i32_13_r2 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S327680 : Shape := ⟨1, ![327680]⟩
abbrev S16384 : Shape := ⟨1, ![16384]⟩
abbrev S100000x64 : Shape := ⟨2, ![100000, 64]⟩
abbrev S64 : Shape := ⟨1, ![64]⟩
abbrev S1x16384 : Shape := ⟨2, ![1, 16384]⟩
abbrev S327680x1 : Shape := ⟨2, ![327680, 1]⟩
abbrev S327680x16384 : Shape := ⟨2, ![327680, 16384]⟩
abbrev S_ : Shape := ⟨0, ![]⟩
abbrev S1 : Shape := ⟨1, ![1]⟩
abbrev S1x1 : Shape := ⟨2, ![1, 1]⟩
abbrev S327680x64 : Shape := ⟨2, ![327680, 64]⟩
abbrev S16384x64 : Shape := ⟨2, ![16384, 64]⟩
abbrev S16384x1 : Shape := ⟨2, ![16384, 1]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S327680, .i32⟩
  | .hbm, ⟨1, _⟩ => ⟨S16384, .i32⟩
  | .hbm, ⟨2, _⟩ => ⟨S100000x64, .f32⟩
  | .hbm, ⟨3, _⟩ => ⟨S64, .f32⟩
  | .hbm, ⟨4, _⟩ => ⟨S327680, .i32⟩
  | .hbm, ⟨5, _⟩ => ⟨S1x16384, .i32⟩
  | .hbm, ⟨6, _⟩ => ⟨S327680x1, .i32⟩
  | .hbm, ⟨7, _⟩ => ⟨S327680x16384, .i32⟩
  | .hbm, ⟨8, _⟩ => ⟨S327680x16384, .i32⟩
  | .hbm, ⟨9, _⟩ => ⟨S327680x16384, .i1⟩
  | .hbm, ⟨10, _⟩ => ⟨S327680x16384, .i32⟩
  | .hbm, ⟨11, _⟩ => ⟨S_, .i32⟩
  | .hbm, ⟨12, _⟩ => ⟨S327680, .i32⟩
  | .hbm, ⟨13, _⟩ => ⟨S_, .i32⟩
  | .hbm, ⟨14, _⟩ => ⟨S327680, .i32⟩
  | .hbm, ⟨15, _⟩ => ⟨S327680, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S327680, .i32⟩
  | .hbm, ⟨20, _⟩ => ⟨S327680, .i32⟩
  | .hbm, ⟨21, _⟩ => ⟨S_, .i32⟩
  | .hbm, ⟨22, _⟩ => ⟨S327680, .i32⟩
  | .hbm, ⟨23, _⟩ => ⟨S327680, .i32⟩
  | .hbm, ⟨24, _⟩ => ⟨S_, .i32⟩
  | .hbm, ⟨25, _⟩ => ⟨S327680, .i32⟩
  | .hbm, ⟨26, _⟩ => ⟨S327680, .i1⟩
  | .hbm, ⟨27, _⟩ => ⟨S_, .i32⟩
  | .hbm, ⟨28, _⟩ => ⟨S327680, .i32⟩
  | .hbm, ⟨29, _⟩ => ⟨S327680, .i32⟩
  | .hbm, ⟨30, _⟩ => ⟨S327680, .i32⟩
  | .hbm, ⟨31, _⟩ => ⟨S327680x1, .i32⟩
  | .hbm, ⟨32, _⟩ => ⟨S1, .i32⟩
  | .hbm, ⟨33, _⟩ => ⟨S_, .i32⟩
  | .hbm, ⟨34, _⟩ => ⟨S327680x1, .i32⟩
  | .hbm, ⟨35, _⟩ => ⟨S327680x1, .i1⟩
  | .hbm, ⟨36, _⟩ => ⟨S1x1, .i32⟩
  | .hbm, ⟨37, _⟩ => ⟨S327680x1, .i32⟩
  | .hbm, ⟨38, _⟩ => ⟨S327680x1, .i1⟩
  | .hbm, ⟨39, _⟩ => ⟨S327680x1, .i1⟩
  | .hbm, ⟨40, _⟩ => ⟨S_, .i1⟩
  | .hbm, ⟨41, _⟩ => ⟨S327680, .i1⟩
  | .hbm, ⟨42, _⟩ => ⟨S327680x64, .f32⟩
  | .hbm, ⟨43, _⟩ => ⟨S327680x64, .i1⟩
  | .hbm, ⟨44, _⟩ => ⟨S_, .f32⟩
  | .hbm, ⟨45, _⟩ => ⟨S327680x64, .f32⟩
  | .hbm, ⟨46, _⟩ => ⟨S327680x64, .f32⟩
  | .hbm, ⟨47, _⟩ => ⟨S_, .f32⟩
  | .hbm, ⟨48, _⟩ => ⟨S16384x64, .f32⟩
  | .hbm, ⟨49, _⟩ => ⟨S327680x1, .i32⟩
  | .hbm, ⟨50, _⟩ => ⟨S16384x64, .f32⟩
  | .hbm, ⟨51, _⟩ => ⟨S_, .f32⟩
  | .hbm, ⟨52, _⟩ => ⟨S327680, .f32⟩
  | .hbm, ⟨53, _⟩ => ⟨S_, .f32⟩
  | .hbm, ⟨54, _⟩ => ⟨S16384, .f32⟩
  | .hbm, ⟨55, _⟩ => ⟨S327680x1, .i32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x1, .f32⟩
  | .hbm, ⟨62, _⟩ => ⟨S16384x64, .f32⟩
  | .hbm, ⟨63, _⟩ => ⟨S16384x64, .f32⟩
  | .hbm, ⟨64, _⟩ => ⟨S1x64, .f32⟩
  | .hbm, ⟨65, _⟩ => ⟨S16384x64, .f32⟩
  | .hbm, ⟨66, _⟩ => ⟨S16384x64, .f32⟩
  | .hbm, ⟨67, _⟩ => ⟨S_, .f32⟩
  | .hbm, ⟨68, _⟩ => ⟨S16384x64, .f32⟩
  | .hbm, ⟨69, _⟩ => ⟨S16384x64, .f32⟩
  | _, _ => ⟨S327680, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst_3 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call3_cst : Ref sig .tc := ⟨.hbm, 67, rfl⟩
abbrev main_call3_v0 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Table.lean ====
abbrev S100000x300 : Shape := ⟨2, ![100000, 300]⟩
abbrev S300x64 : Shape := ⟨2, ![300, 64]⟩
abbrev S100000x64 : Shape := ⟨2, ![100000, 64]⟩
abbrev S10000x300 : Shape := ⟨2, ![10000, 300]⟩
abbrev S10000x64 : Shape := ⟨2, ![10000, 64]⟩

abbrev nBuf : Space → Nat
  | .hbm => 3
  | .vmem => 5
  | .smem => 0
  | _ => 0

abbrev bufTy : (tb : Table) → Fin (tcTables nBuf tb) → BufTy
  | .hbm, ⟨0, _⟩ => ⟨S100000x300, .f32⟩
  | .hbm, ⟨1, _⟩ => ⟨S300x64, .f32⟩
  | .hbm, ⟨2, _⟩ => ⟨S100000x64, .f32⟩
  | .local _ .vmem, ⟨0, _⟩ => ⟨S10000x300, .f32⟩
  | .local _ .vmem, ⟨1, _⟩ => ⟨S10000x300, .f32⟩
  | .local _ .vmem, ⟨2, _⟩ => ⟨S300x64, .f32⟩
  | .local _ .vmem, ⟨3, _⟩ => ⟨S10000x64, .f32⟩
  | .local _ .vmem, ⟨4, _⟩ => ⟨S10000x64, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TableReferenceIdeal.lean ====
abbrev S100000x300 : Shape := ⟨2, ![100000, 300]⟩
abbrev S300x64 : Shape := ⟨2, ![300, 64]⟩
abbrev S100000x64 : Shape := ⟨2, ![100000, 64]⟩

abbrev nBuf : Space → Nat
  | .hbm => 3
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S300x64, .f32⟩
  | .hbm, ⟨2, _⟩ => ⟨S100000x64, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Layers.lean ====
abbrev S16384x64 : Shape := ⟨2, ![16384, 64]⟩
abbrev S16384x18 : Shape := ⟨2, ![16384, 18]⟩
abbrev S64x16 : Shape := ⟨2, ![64, 16]⟩
abbrev S16 : Shape := ⟨1, ![16]⟩
abbrev S18x16 : Shape := ⟨2, ![18, 16]⟩
abbrev S16x16 : Shape := ⟨2, ![16, 16]⟩
abbrev S32x8 : Shape := ⟨2, ![32, 8]⟩
abbrev S8 : Shape := ⟨1, ![8]⟩
abbrev S8x1 : Shape := ⟨2, ![8, 1]⟩
abbrev S1 : Shape := ⟨1, ![1]⟩
abbrev S1x16 : Shape := ⟨2, ![1, 16]⟩
abbrev S1x8 : Shape := ⟨2, ![1, 8]⟩
abbrev S1x1 : Shape := ⟨2, ![1, 1]⟩
abbrev S16384x1 : Shape := ⟨2, ![16384, 1]⟩
abbrev S2048x64 : Shape := ⟨2, ![2048, 64]⟩
abbrev S2048x18 : Shape := ⟨2, ![2048, 18]⟩
abbrev S2048x1 : Shape := ⟨2, ![2048, 1]⟩
abbrev S2048x16 : Shape := ⟨2, ![2048, 16]⟩
abbrev S16x8 : Shape := ⟨2, ![16, 8]⟩
abbrev S2048x8 : Shape := ⟨2, ![2048, 8]⟩

abbrev nBuf : Space → Nat
  | .hbm => 18
  | .vmem => 16
  | .smem => 0
  | _ => 0

abbrev bufTy : (tb : Table) → Fin (tcTables nBuf tb) → BufTy
  | .hbm, ⟨0, _⟩ => ⟨S16384x64, .f32⟩
  | .hbm, ⟨1, _⟩ => ⟨S16384x18, .f32⟩
  | .hbm, ⟨2, _⟩ => ⟨S64x16, .f32⟩
  | .hbm, ⟨3, _⟩ => ⟨S16, .f32⟩
  | .hbm, ⟨4, _⟩ => ⟨S18x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S32x8, .f32⟩
  | .hbm, ⟨9, _⟩ => ⟨S8, .f32⟩
  | .hbm, ⟨10, _⟩ => ⟨S8x1, .f32⟩
  | .hbm, ⟨11, _⟩ => ⟨S1, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S1x8, .f32⟩
  | .hbm, ⟨16, _⟩ => ⟨S1x1, .f32⟩
  | .hbm, ⟨17, _⟩ => ⟨S16384x1, .f32⟩
  | .local _ .vmem, ⟨0, _⟩ => ⟨S2048x64, .f32⟩
  | .local _ .vmem, ⟨1, _⟩ => ⟨S2048x64, .f32⟩
  | .local _ .vmem, ⟨2, _⟩ => ⟨S2048x18, .f32⟩
  | .local _ .vmem, ⟨3, _⟩ => ⟨S2048x18, .f32⟩
  | .local _ .vmem, ⟨4, _⟩ => ⟨S64x16, .f32⟩
  | .local _ .vmem, ⟨5, _⟩ => ⟨S1x16, .f32⟩
  | .local _ .vmem, ⟨6, _⟩ => ⟨S18x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S32x8, .f32⟩
  | .local _ .vmem, ⟨11, _⟩ => ⟨S1x8, .f32⟩
  | .local _ .vmem, ⟨12, _⟩ => ⟨S8x1, .f32⟩
  | .local _ .vmem, ⟨13, _⟩ => ⟨S1x1, .f32⟩
  | .local _ .vmem, ⟨14, _⟩ => ⟨S2048x1, .f32⟩
  | .local _ .vmem, ⟨15, _⟩ => ⟨S2048x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LayersReferenceIdeal.lean ====
abbrev S16384x64 : Shape := ⟨2, ![16384, 64]⟩
abbrev S16384x18 : Shape := ⟨2, ![16384, 18]⟩
abbrev S64x16 : Shape := ⟨2, ![64, 16]⟩
abbrev S16 : Shape := ⟨1, ![16]⟩
abbrev S18x16 : Shape := ⟨2, ![18, 16]⟩
abbrev S16x16 : Shape := ⟨2, ![16, 16]⟩
abbrev S32x8 : Shape := ⟨2, ![32, 8]⟩
abbrev S8 : Shape := ⟨1, ![8]⟩
abbrev S8x1 : Shape := ⟨2, ![8, 1]⟩
abbrev S1 : Shape := ⟨1, ![1]⟩
abbrev S16384x16 : Shape := ⟨2, ![16384, 16]⟩
abbrev S1x16 : Shape := ⟨2, ![1, 16]⟩
abbrev S_ : Shape := ⟨0, ![]⟩
abbrev S16384x32 : Shape := ⟨2, ![16384, 32]⟩
abbrev S16384x8 : Shape := ⟨2, ![16384, 8]⟩
abbrev S1x8 : Shape := ⟨2, ![1, 8]⟩
abbrev S16384x1 : Shape := ⟨2, ![16384, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x18, .f32⟩
  | .hbm, ⟨2, _⟩ => ⟨S64x16, .f32⟩
  | .hbm, ⟨3, _⟩ => ⟨S16, .f32⟩
  | .hbm, ⟨4, _⟩ => ⟨S18x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S32x8, .f32⟩
  | .hbm, ⟨9, _⟩ => ⟨S8, .f32⟩
  | .hbm, ⟨10, _⟩ => ⟨S8x1, .f32⟩
  | .hbm, ⟨11, _⟩ => ⟨S1, .f32⟩
  | .hbm, ⟨12, _⟩ => ⟨S16384x16, .f32⟩
  | .hbm, ⟨13, _⟩ => ⟨S1x16, .f32⟩
  | .hbm, ⟨14, _⟩ => ⟨S16384x16, .f32⟩
  | .hbm, ⟨15, _⟩ => ⟨S16384x16, .f32⟩
  | .hbm, ⟨16, _⟩ => ⟨S_, .f32⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S_, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S1x16, .f32⟩
  | .hbm, ⟨28, _⟩ => ⟨S16384x16, .f32⟩
  | .hbm, ⟨29, _⟩ => ⟨S16384x16, .f32⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S16384x32, .f32⟩
  | .hbm, ⟨34, _⟩ => ⟨S16384x8, .f32⟩
  | .hbm, ⟨35, _⟩ => ⟨S1x8, .f32⟩
  | .hbm, ⟨36, _⟩ => ⟨S16384x8, .f32⟩
  | .hbm, ⟨37, _⟩ => ⟨S16384x8, .f32⟩
  | .hbm, ⟨38, _⟩ => ⟨S_, .f32⟩
  | .hbm, ⟨39, _⟩ => ⟨S16384x8, .f32⟩
  | .hbm, ⟨40, _⟩ => ⟨S16384x8, .f32⟩
  | .hbm, ⟨41, _⟩ => ⟨S16384x1, .f32⟩
  | .hbm, ⟨42, _⟩ => ⟨S1x1, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call3_cst : Ref sig .tc := ⟨.hbm, 38, rfl⟩
abbrev main_call3_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_v27 : Ref sig .tc := ⟨.hbm, 48, rfl⟩
abbrev main_v28 : Ref sig .tc := ⟨.hbm, 49, rfl⟩
abbrev main_cst_0 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Proof.Table.lean ====
/-
  The projected table. The kernel multiplies ten blocks of ten thousand rows of the table by the weights, one block at a
  point; the reference multiplies the whole table at once. A row of the product reads that row of the table alone, so
  block by block the two are the same sums of 300 products.
-/
module

public import proofs.«01_k».proof.Proof.Gen.TableIdeal.Value
public import proofs.«01_k».proof.Proof.Gen.TableReferenceIdeal.Run
public import Idealize.ShloMosaic.Lib.Pipeline.Value
public import Idealize.ShloMosaic.Lib.Pointwise

@[expose] public section

noncomputable section

namespace Cert.TableIdeal.Rows

open Cert.TableIdeal Cert.TableIdeal.Gen Idealize.ShloMosaic Idealize.ShloMosaic.TcCoe Idealize.SL.Sem
open Idealize.ShloMosaic.Pipeline (Dat)

/-- The whole table times the weights. -/
def product (A : FVec Ideal S100000x300 .f32) (W : FVec Ideal S300x64 .f32) : FVec Ideal S100000x64 .f32 :=
  Host.dotGeneral Cert.TableReferenceIdeal.dot_S100000x300_S300x64_S100000x64_1_0_0_1_n_n none A W

/-- An entry of the product. -/
theorem product_apply (A : FVec Ideal S100000x300 .f32) (W : FVec Ideal S300x64 .f32) (r : Fin 100000) (l : Fin 64) :
    product A W (ix2 r l) = ∑ k : Fin 300, A (ix2 r k) * W (ix2 k l) := by
  pointwise [product]

/-- An entry of a block's product: rounding to the short format changes nothing here. -/
theorem block_apply (A : FVec Ideal S10000x300 .f32) (W : FVec Ideal S300x64 .f32) (r : Fin 10000) (l : Fin 64) :
    k0_pay1 (F := Ideal) A W (ix2 r l) = ∑ k : Fin 300, A (ix2 r k) * W (ix2 k l) := by
  pointwise [k0_pay1]

/-- Where the windows stand at a point: the table's and the result's at the point's block, the weights' at the start. -/
theorem at_point : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

variable (m : (ℓ : Loc nD τ sig) → Buf (Elt Ideal) ℓ) (ρ : Dev nD → PrngReg)

theorem hz : (![0, 0] : Fin 2 → Nat) = fun _ => 0 := funext fun a => by fin_cases a <;> rfl

theorem row_lt (t : Fin cfg0.N) (r : Fin 10000) : t.val * 10000 + r.val < 100000 := by
  have : t.val < 10 := lt_of_lt_of_eq t.isLt N_0
  omega

/-- The table's block at a point, read at an entry. -/
theorem rows_apply (c : Dev nD) (t : Fin cfg0.N) (r : Fin 10000) (k : Fin 300) :
    iblk m c 0 t (ix2 r k) = m ((c : Thread nD τ).loc main_arg0) (ix2 ⟨t.val * 10000 + r.val, row_lt t r⟩ k) := by
  obtain ⟨h0, h1, -⟩ := at_point t
  unfold iblk
  rw [show V m c (Pipeline.arrRef spec0 0) = m ((c : Thread nD τ).loc main_arg0) from V_main_arg0 m c]
  refine congrArg (m ((c : Thread nD τ).loc main_arg0)) (funext fun a => Fin.ext ?_)
  match a with
  | ⟨0, _⟩ => show win0_0.index t 0 * 10000 + 1 * r.val = _; rw [h0, one_mul]; rfl
  | ⟨1, _⟩ => show win0_0.index t 1 * 300 + 1 * k.val = _; rw [h1, one_mul, zero_mul, zero_add]; rfl

/-- The weights' block is the weights. -/
theorem weights_apply (c : Dev nD) (t : Fin cfg0.N) (k : Fin 300) (l : Fin 64) :
    iblk m c 1 t (ix2 k l) = m ((c : Thread nD τ).loc main_arg1) (ix2 k l) := by
  obtain ⟨-, -, h0, h1, -⟩ := at_point t
  unfold iblk
  rw [show V m c (Pipeline.arrRef spec0 1) = m ((c : Thread nD τ).loc main_arg1) from V_main_arg1 m c]
  refine congrArg (m ((c : Thread nD τ).loc main_arg1)) (funext fun a => Fin.ext ?_)
  match a with
  | ⟨0, _⟩ => show win0_1.index t 0 * 300 + 1 * k.val = _; rw [h0, one_mul, zero_mul, zero_add]; rfl
  | ⟨1, _⟩ => show win0_1.index t 1 * 64 + 1 * l.val = _; rw [h1, one_mul, zero_mul, zero_add]; rfl

/-- The result's block at a point, read at an entry. -/
theorem out_emb (t : Fin cfg0.N) (r : Fin 10000) (l : Fin 64) (X : S100000x64.Idx → Elt Ideal .f32) :
    (win0_2.blk t).view.read (Elt Ideal) X (ix2 r l) = X (ix2 ⟨t.val * 10000 + r.val, row_lt t r⟩ l) := by
  obtain ⟨-, -, -, -, h0, h1⟩ := at_point t
  refine congrArg X (funext fun a => Fin.ext ?_)
  match a with
  | ⟨0, _⟩ => show win0_2.index t 0 * 10000 + 1 * r.val = _; rw [h0, one_mul]; rfl
  | ⟨1, _⟩ => show win0_2.index t 1 * 64 + 1 * l.val = _; rw [h1, one_mul, zero_mul, zero_add]; rfl

/-- What the run leaves. -/
def whole (c : Dev nD) : S100000x64.Idx → Elt Ideal .f32 :=
  product (m ((c : Thread nD τ).loc main_arg0)) (m ((c : Thread nD τ).loc main_arg1))

/-- What a point writes back is its block of the whole product. -/
theorem flushed_eq (c : Dev nD) (t : Fin cfg0.N) :
    (dats m 0 c).flushed 2 t = (win0_2.blk t).view.read (Elt Ideal) (whole m c) := by
  rw [Value.flushed2]
  unfold out0_2
  rw [View.canon_unit_zero hz, View.ld_unit_zero hz, View.ld_unit_zero hz]
  show (k0_pay1 (F := Ideal) (iblk m c 0 t) (iblk m c 1 t) : S10000x64.Idx → Elt Ideal .f32) = _
  funext y
  obtain ⟨r, l, rfl⟩ : ∃ (r : Fin 10000) (l : Fin 64), y = ix2 r l := ⟨y 0, y 1, eq_ix2 y⟩
  refine (block_apply _ _ r l).trans (Eq.trans ?_ (out_emb t r l _).symm)
  refine Eq.trans ?_ (product_apply _ _ _ _).symm
  exact Finset.sum_congr rfl fun k _ => by rw [rows_apply, weights_apply]

/-- An index is in a point's block when its row is. -/
theorem mem_blk (t : Fin cfg0.N) (i : S100000x64.Idx) :
    i ∈ ((cfg0.win 2).blk t).view.set ↔ t.val * 10000 ≤ (i 0 : Nat) ∧ (i 0 : Nat) < t.val * 10000 + 10000 := by
  show i ∈ ((View.whole main_v0).slice (win0_2.rect t)).set ↔ _
  rw [View.set_slice_whole, Rect.mem_set_unit]
  have h1 : (i 1 : Nat) < 64 := (i 1).isLt
  obtain ⟨-, -, -, -, e0, e1⟩ := at_point t
  refine ⟨fun h => ?_, fun h a => ?_⟩
  · have h' : win0_2.index t 0 * 10000 ≤ (i 0 : Nat) ∧ (i 0 : Nat) < win0_2.index t 0 * 10000 + 10000 := h 0
    rw [e0] at h'
    exact h'
  · match a with
    | ⟨0, _⟩ =>
      show win0_2.index t 0 * 10000 ≤ (i 0 : Nat) ∧ (i 0 : Nat) < win0_2.index t 0 * 10000 + 10000
      rw [e0]; exact h
    | ⟨1, _⟩ =>
      show win0_2.index t 1 * 64 ≤ (i 1 : Nat) ∧ (i 1 : Nat) < win0_2.index t 1 * 64 + 64
      rw [e1]; omega

/-- The ten blocks cover the result. -/
theorem cover (i : S100000x64.Idx) : ∃ t : Fin cfg0.N, (cfg0.win 2).flush t = true ∧ i ∈ ((cfg0.win 2).blk t).view.set := by
  have h0 : (i 0 : Nat) < 100000 := (i 0).isLt
  have hN : cfg0.N = 10 := N_0
  refine ⟨⟨(i 0 : Nat) / 10000, by omega⟩, flush0_2 _, ?_⟩
  rw [mem_blk]
  dsimp only
  omega

/-- So the result ends holding the whole product, -/
theorem final (c : Dev nD) : (dats m 0 c).arrAt 2 cfg0.N = whole m c :=
  (dats m 0 c).arrAt_eq_of_cover 2 (whole m c) (fun t _ => flushed_eq m c t) cover

/-- and the run, read. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.TableIdeal.Rows

end

end
-- ==== Proof.Layers.lean ====
/-
  The layers after the bags. The kernel takes eight blocks of 2048 rows, one at a point, and reads the last but one
  weights as their upper and lower half; the reference takes all rows at once and joins the two branches. A row of the
  result reads that row of the two inputs alone.
-/
module

public import proofs.«01_k».proof.Proof.Gen.LayersIdeal.Value
public import proofs.«01_k».proof.Proof.Gen.LayersReferenceIdeal.Run
public import Idealize.ShloMosaic.Lib.Pipeline.Value
public import Idealize.ShloMosaic.Lib.Pointwise

@[expose] public section

noncomputable section

namespace Cert.LayersIdeal.Rows

open Cert.LayersIdeal Cert.LayersIdeal.Gen Idealize.ShloMosaic Idealize.ShloMosaic.TcCoe Idealize.SL.Sem
open Idealize.ShloMosaic.Pipeline (Dat)

/-- One row through one layer: the products summed, the bias added, cut at zero. -/
def layer {K N : ℕ} (x : Fin K → EReal) (W : FVec Ideal ⟨2, ![K, N]⟩ .f32) (b : Fin N → EReal) (l : Fin N) : EReal :=
  max ((∑ k : Fin K, x k * W (ix2 k l)) + b l) 0

/-- The joined layer before its bias: the upper half of the weights on the one branch, the lower half on the other. -/
def joined (x y : Fin 16 → EReal) (W : FVec Ideal S32x8 .f32) (l : Fin 8) : EReal :=
  (∑ k : Fin 16, x k * W (ix2 ⟨k.val, by omega⟩ l)) + ∑ k : Fin 16, y k * W (ix2 ⟨16 + k.val, by omega⟩ l)

/-- One row's score. -/
def score (x : Fin 64 → EReal) (y : Fin 18 → EReal) (W2 : FVec Ideal S64x16 .f32) (b2 : Fin 16 → EReal)
    (Wn1 : FVec Ideal S18x16 .f32) (bn1 : Fin 16 → EReal) (Wn2 : FVec Ideal S16x16 .f32) (bn2 : Fin 16 → EReal)
    (Wc1 : FVec Ideal S32x8 .f32) (bc1 : Fin 8 → EReal) (Wc2 : FVec Ideal S8x1 .f32) (bc2 : EReal) : EReal :=
  Ideal.logistic ((∑ k : Fin 8, max (joined (layer x W2 b2) (layer (layer y Wn1 bn1) Wn2 bn2) Wc1 k + bc1 k) 0 * Wc2 (ix2 k 0)) + bc2)

/-- The kernel's first part, on the halves of the joined weights. -/
theorem part_apply (v0 : FVec Ideal S2048x64 .f32) (v1 : FVec Ideal S64x16 .f32) (v3 : FVec Ideal S1x16 .f32)
    (v9 : FVec Ideal S2048x18 .f32) (v10 : FVec Ideal S18x16 .f32) (v12 : FVec Ideal S1x16 .f32) (v18 : FVec Ideal S16x16 .f32)
    (v20 : FVec Ideal S1x16 .f32) (W : FVec Ideal S32x8 .f32) (r : Fin 2048) (l : Fin 8) :
    k0_pay2 (F := Ideal) v0 v1 v3 v9 v10 v12 v18 v20 (View.ld W r0_6) (View.ld W r0_7) (ix2 r l)
      = joined (layer (fun k => v0 (ix2 r k)) v1 (fun k => v3 (ix2 0 k)))
          (layer (layer (fun k => v9 (ix2 r k)) v10 (fun k => v12 (ix2 0 k))) v18 (fun k => v20 (ix2 0 k))) W l := by
  pointwise [k0_pay2, joined, layer]

/-- And its last, from the joined layer. -/
theorem last_apply (v30 : FVec Ideal S2048x8 .f32) (v31 : FVec Ideal S1x8 .f32) (v37 : FVec Ideal S8x1 .f32)
    (v39 : FVec Ideal S1x1 .f32) (r : Fin 2048) :
    k0_pay1 (F := Ideal) v30 v31 v37 v39 (ix2 r 0)
      = Ideal.logistic ((∑ k : Fin 8, max (v30 (ix2 r k) + v31 (ix2 0 k)) 0 * v37 (ix2 k 0)) + v39 (ix2 0 0)) := by
  pointwise [k0_pay1]

open Cert.LayersReferenceIdeal Cert.LayersReferenceIdeal.Gen in
/-- The reference's layers. -/
def layers (a0 : FVec Ideal S16384x64 .f32) (a1 : FVec Ideal S16384x18 .f32) (a2 : FVec Ideal S64x16 .f32) (a3 : FVec Ideal S16 .f32)
    (a4 : FVec Ideal S18x16 .f32) (a5 : FVec Ideal S16 .f32) (a6 : FVec Ideal S16x16 .f32) (a7 : FVec Ideal S16 .f32)
    (a8 : FVec Ideal S32x8 .f32) (a9 : FVec Ideal S8 .f32) (a10 : FVec Ideal S8x1 .f32) (a11 : FVec Ideal S1 .f32) :
    FVec Ideal S16384x1 .f32 :=
  Host.divf (broadcastInDim S16384x1 ![] bcast_S_S16384x1 (constant S_ .f32 0x3F800000#32)) (addf (broadcastInDim S16384x1 ![] bcast_S_S16384x1 (constant S_ .f32 0x3F800000#32)) (Host.exp (Host.negf (addf (Host.dotGeneral dot_S16384x8_S8x1_S16384x1_1_0_0_1_n_n none (maximumf (addf (Host.dotGeneral dot_S16384x32_S32x8_S16384x8_1_0_0_1_n_n none (concatenate S16384x32 1 [⟨S16384x16, (maximumf (addf (Host.dotGeneral dot_S16384x64_S64x16_S16384x16_1_0_0_1_n_n none a0 a2) (broadcastInDim S16384x16 ![0, 1] bcast_S1x16_S16384x16_0_1 (broadcastInDim S1x16 ![1] bcast_S16_S1x16_1 a3))) (broadcastInDim S16384x16 ![] bcast_S_S16384x16 (constant S_ .f32 0x00000000#32)))⟩, ⟨S16384x16, (maximumf (addf (Host.dotGeneral dot_S16384x16_S16x16_S16384x16_1_0_0_1_n_n none (maximumf (addf (Host.dotGeneral dot_S16384x18_S18x16_S16384x16_1_0_0_1_n_n none a1 a4) (broadcastInDim S16384x16 ![0, 1] bcast_S1x16_S16384x16_0_1 (broadcastInDim S1x16 ![1] bcast_S16_S1x16_1 a5))) (broadcastInDim S16384x16 ![] bcast_S_S16384x16 (constant S_ .f32 0x00000000#32))) a6) (broadcastInDim S16384x16 ![0, 1] bcast_S1x16_S16384x16_0_1 (broadcastInDim S1x16 ![1] bcast_S16_S1x16_1 a7))) (broadcastInDim S16384x16 ![] bcast_S_S16384x16 (constant S_ .f32 0x00000000#32)))⟩] concatenates_S16384x16_S16384x16_S16384x32_d1) a8) (broadcastInDim S16384x8 ![0, 1] bcast_S1x8_S16384x8_0_1 (broadcastInDim S1x8 ![1] bcast_S8_S1x8_1 a9))) (broadcastInDim S16384x8 ![] bcast_S_S16384x8 (constant S_ .f32 0x00000000#32))) a10) (broadcastInDim S16384x1 ![0, 1] bcast_S1x1_S16384x1_0_1 (broadcastInDim S1x1 ![1] bcast_S1_S1x1_1 a11))))))

/-- A row of the reference's result is that row's score: its logistic function is the kernel's, spelled out. -/
theorem layers_apply (a0 : FVec Ideal S16384x64 .f32) (a1 : FVec Ideal S16384x18 .f32) (a2 : FVec Ideal S64x16 .f32) (a3 : FVec Ideal S16 .f32)
    (a4 : FVec Ideal S18x16 .f32) (a5 : FVec Ideal S16 .f32) (a6 : FVec Ideal S16x16 .f32) (a7 : FVec Ideal S16 .f32)
    (a8 : FVec Ideal S32x8 .f32) (a9 : FVec Ideal S8 .f32) (a10 : FVec Ideal S8x1 .f32) (a11 : FVec Ideal S1 .f32) (r : Fin 16384) :
    layers a0 a1 a2 a3 a4 a5 a6 a7 a8 a9 a10 a11 (ix2 r 0)
      = score (fun k => a0 (ix2 r k)) (fun k => a1 (ix2 r k)) a2 (fun k => a3 (ix1 k)) a4 (fun k => a5 (ix1 k)) a6 (fun k => a7 (ix1 k))
          a8 (fun k => a9 (ix1 k)) a10 (a11 (ix1 0)) := by
  pointwise [layers, score, joined, layer]
  rfl

/-- Equal operands give equal scores. -/
theorem score_congr {x x' : Fin 64 → EReal} {y y' : Fin 18 → EReal} {W2 W2' : FVec Ideal S64x16 .f32} {b2 b2' : Fin 16 → EReal}
    {Wn1 Wn1' : FVec Ideal S18x16 .f32} {bn1 bn1' : Fin 16 → EReal} {Wn2 Wn2' : FVec Ideal S16x16 .f32} {bn2 bn2' : Fin 16 → EReal}
    {Wc1 Wc1' : FVec Ideal S32x8 .f32} {bc1 bc1' : Fin 8 → EReal} {Wc2 Wc2' : FVec Ideal S8x1 .f32} {bc2 bc2' : EReal}
    (e0 : x = x') (e1 : y = y') (e2 : W2 = W2') (e3 : b2 = b2') (e4 : Wn1 = Wn1') (e5 : bn1 = bn1') (e6 : Wn2 = Wn2')
    (e7 : bn2 = bn2') (e8 : Wc1 = Wc1') (e9 : bc1 = bc1') (e10 : Wc2 = Wc2') (e11 : bc2 = bc2') :
    score x y W2 b2 Wn1 bn1 Wn2 bn2 Wc1 bc1 Wc2 bc2 = score x' y' W2' b2' Wn1' bn1' Wn2' bn2' Wc1' bc1' Wc2' bc2' := by
  subst e0 e1 e2 e3 e4 e5 e6 e7 e8 e9 e10 e11
  rfl

/-- Where the windows stand at a point: the two inputs' and the result's at the point's block, the others at the start. -/
theorem at_point : ∀ t : Fin cfg0.N, (win0_0.index t 0 = t.val ∧ win0_0.index t 1 = 0) ∧ (win0_1.index t 0 = t.val ∧ win0_1.index t 1 = 0)
    ∧ (win0_12.index t 0 = t.val ∧ win0_12.index t 1 = 0) :=
  (by decide +kernel : ∀ t : Fin grid0.N, _)

variable (m : (ℓ : Loc nD τ sig) → Buf (Elt Ideal) ℓ) (ρ : Dev nD → PrngReg)

theorem hz : (![0, 0] : Fin 2 → Nat) = fun _ => 0 := funext fun a => by fin_cases a <;> rfl

theorem row_lt (t : Fin cfg0.N) (r : Fin 2048) : t.val * 2048 + r.val < 16384 := by
  have : t.val < 8 := lt_of_lt_of_eq t.isLt N_0
  omega

/-- The block of input 0 at a point, read at an entry. -/
theorem rows0_apply (c : Dev nD) (t : Fin cfg0.N) (r : Fin 2048) (k : Fin 64) :
    iblk m c 0 t (ix2 r k) = m ((c : Thread nD τ).loc main_arg0) (ix2 ⟨t.val * 2048 + r.val, row_lt t r⟩ k) := by
  have h := at_point t
  have h0 := h.1.1
  have h1 := h.1.2
  unfold iblk
  rw [show V m c (Pipeline.arrRef spec0 0) = m ((c : Thread nD τ).loc main_arg0) from V_main_arg0 m c]
  refine congrArg (m ((c : Thread nD τ).loc main_arg0)) (funext fun a => Fin.ext ?_)
  match a with
  | ⟨0, _⟩ => show win0_0.index t 0 * 2048 + 1 * r.val = _; rw [h0, one_mul]; rfl
  | ⟨1, _⟩ => show win0_0.index t 1 * 64 + 1 * k.val = _; rw [h1, one_mul, zero_mul, zero_add]; rfl

/-- The block of input 1 at a point, read at an entry. -/
theorem rows1_apply (c : Dev nD) (t : Fin cfg0.N) (r : Fin 2048) (k : Fin 18) :
    iblk m c 1 t (ix2 r k) = m ((c : Thread nD τ).loc main_arg1) (ix2 ⟨t.val * 2048 + r.val, row_lt t r⟩ k) := by
  have h := at_point t
  have h0 := h.2.1.1
  have h1 := h.2.1.2
  unfold iblk
  rw [show V m c (Pipeline.arrRef spec0 1) = m ((c : Thread nD τ).loc main_arg1) from V_main_arg1 m c]
  refine congrArg (m ((c : Thread nD τ).loc main_arg1)) (funext fun a => Fin.ext ?_)
  match a with
  | ⟨0, _⟩ => show win0_1.index t 0 * 2048 + 1 * r.val = _; rw [h0, one_mul]; rfl
  | ⟨1, _⟩ => show win0_1.index t 1 * 18 + 1 * k.val = _; rw [h1, one_mul, zero_mul, zero_add]; rfl

/-- The other windows never move. -/
theorem stays : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) :=
  (by decide +kernel : ∀ t : Fin grid0.N, _)

/-- An entry of a window of the array's own size that stands at its start is the array's entry. -/
theorem at_start {a b i j : ℕ} (h : i = 0 ∧ j = 0) (y z : (⟨2, ![a, b]⟩ : Shape).Idx) (h0 : (z 0).val = i * a + 1 * (y 0).val)
    (h1 : (z 1).val = j * b + 1 * (y 1).val) : z = y := by
  obtain ⟨rfl, rfl⟩ := h
  refine funext fun d => Fin.ext ?_
  match d with
  | ⟨0, _⟩ => exact h0.trans (by rw [one_mul, zero_mul, zero_add]; rfl)
  | ⟨1, _⟩ => exact h1.trans (by rw [one_mul, zero_mul, zero_add]; rfl)

theorem operand2 (c : Dev nD) (t : Fin cfg0.N) : iblk m c 2 t = V m c (Pipeline.arrRef spec0 2) :=
  funext fun y => congrArg (V m c (Pipeline.arrRef spec0 2)) (at_start (stays t).1 y _ rfl rfl)

theorem operand3 (c : Dev nD) (t : Fin cfg0.N) : iblk m c 3 t = V m c (Pipeline.arrRef spec0 3) :=
  funext fun y => congrArg (V m c (Pipeline.arrRef spec0 3)) (at_start (stays t).2.1 y _ rfl rfl)

theorem operand4 (c : Dev nD) (t : Fin cfg0.N) : iblk m c 4 t = V m c (Pipeline.arrRef spec0 4) :=
  funext fun y => congrArg (V m c (Pipeline.arrRef spec0 4)) (at_start (stays t).2.2.1 y _ rfl rfl)

theorem operand5 (c : Dev nD) (t : Fin cfg0.N) : iblk m c 5 t = V m c (Pipeline.arrRef spec0 5) :=
  funext fun y => congrArg (V m c (Pipeline.arrRef spec0 5)) (at_start (stays t).2.2.2.1 y _ rfl rfl)

theorem operand6 (c : Dev nD) (t : Fin cfg0.N) : iblk m c 6 t = V m c (Pipeline.arrRef spec0 6) :=
  funext fun y => congrArg (V m c (Pipeline.arrRef spec0 6)) (at_start (stays t).2.2.2.2.1 y _ rfl rfl)

theorem operand7 (c : Dev nD) (t : Fin cfg0.N) : iblk m c 7 t = V m c (Pipeline.arrRef spec0 7) :=
  funext fun y => congrArg (V m c (Pipeline.arrRef spec0 7)) (at_start (stays t).2.2.2.2.2.1 y _ rfl rfl)

theorem operand8 (c : Dev nD) (t : Fin cfg0.N) : iblk m c 8 t = V m c (Pipeline.arrRef spec0 8) :=
  funext fun y => congrArg (V m c (Pipeline.arrRef spec0 8)) (at_start (stays t).2.2.2.2.2.2.1 y _ rfl rfl)

theorem operand9 (c : Dev nD) (t : Fin cfg0.N) : iblk m c 9 t = V m c (Pipeline.arrRef spec0 9) :=
  funext fun y => congrArg (V m c (Pipeline.arrRef spec0 9)) (at_start (stays t).2.2.2.2.2.2.2.1 y _ rfl rfl)

theorem operand10 (c : Dev nD) (t : Fin cfg0.N) : iblk m c 10 t = V m c (Pipeline.arrRef spec0 10) :=
  funext fun y => congrArg (V m c (Pipeline.arrRef spec0 10)) (at_start (stays t).2.2.2.2.2.2.2.2.1 y _ rfl rfl)

theorem operand11 (c : Dev nD) (t : Fin cfg0.N) : iblk m c 11 t = V m c (Pipeline.arrRef spec0 11) :=
  funext fun y => congrArg (V m c (Pipeline.arrRef spec0 11)) (at_start (stays t).2.2.2.2.2.2.2.2.2 y _ rfl rfl)

/-- A vector laid out as one row, read at an entry. -/
theorem row16 (x : FVec Ideal S16 .f32) (k : Fin 16) : shapeCast S1x16 x shapeCasts_S16_S1x16 (ix2 0 k) = x (ix1 k) := by pointwise

theorem row8 (x : FVec Ideal S8 .f32) (k : Fin 8) : shapeCast S1x8 x shapeCasts_S8_S1x8 (ix2 0 k) = x (ix1 k) := by pointwise

theorem row1 (x : FVec Ideal S1 .f32) : shapeCast S1x1 x shapeCasts_S1_S1x1 (ix2 0 0) = x (ix1 0) := by pointwise

/-- The host lays bias 3 out as one row. -/
theorem bias3 (c : Dev nD) : V m c main_v0 = shapeCast S1x16 (m ((c : Thread nD τ).loc main_arg3)) shapeCasts_S16_S1x16 := by
  show StableHlo.after hostOps0 _ _ = _
  after_results
  rfl

/-- The host lays bias 5 out as one row. -/
theorem bias5 (c : Dev nD) : V m c main_v1 = shapeCast S1x16 (m ((c : Thread nD τ).loc main_arg5)) shapeCasts_S16_S1x16 := by
  show StableHlo.after hostOps0 _ _ = _
  after_results
  rfl

/-- The host lays bias 7 out as one row. -/
theorem bias7 (c : Dev nD) : V m c main_v2 = shapeCast S1x16 (m ((c : Thread nD τ).loc main_arg7)) shapeCasts_S16_S1x16 := by
  show StableHlo.after hostOps0 _ _ = _
  after_results
  rfl

/-- The host lays bias 9 out as one row. -/
theorem bias9 (c : Dev nD) : V m c main_v3 = shapeCast S1x8 (m ((c : Thread nD τ).loc main_arg9)) shapeCasts_S8_S1x8 := by
  show StableHlo.after hostOps0 _ _ = _
  after_results
  rfl

/-- The host lays bias 11 out as one row. -/
theorem bias11 (c : Dev nD) : V m c main_v4 = shapeCast S1x1 (m ((c : Thread nD τ).loc main_arg11)) shapeCasts_S1_S1x1 := by
  show StableHlo.after hostOps0 _ _ = _
  after_results
  rfl

/-- The result's block at a point, read at an entry. -/
theorem out_emb (t : Fin cfg0.N) (r : Fin 2048) (X : S16384x1.Idx → Elt Ideal .f32) :
    (win0_12.blk t).view.read (Elt Ideal) X (ix2 r 0) = X (ix2 ⟨t.val * 2048 + r.val, row_lt t r⟩ 0) := by
  obtain ⟨-, -, h0, h1⟩ := at_point t
  refine congrArg X (funext fun a => Fin.ext ?_)
  match a with
  | ⟨0, _⟩ => show win0_12.index t 0 * 2048 + 1 * r.val = _; rw [h0, one_mul]; rfl
  | ⟨1, _⟩ => show win0_12.index t 1 * 1 + 1 * 0 = _; rw [h1]; rfl

/-- What the run leaves. -/
def whole (c : Dev nD) : S16384x1.Idx → Elt Ideal .f32 :=
  layers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A row of what the body leaves is that row's score. -/
theorem body_apply (x0 : FVec Ideal S2048x64 .f32) (x1 : FVec Ideal S2048x18 .f32) (x2 : FVec Ideal S64x16 .f32)
    (x3 : FVec Ideal S1x16 .f32) (x4 : FVec Ideal S18x16 .f32) (x5 : FVec Ideal S1x16 .f32) (x6 : FVec Ideal S16x16 .f32)
    (x7 : FVec Ideal S1x16 .f32) (x8 : FVec Ideal S32x8 .f32) (x9 : FVec Ideal S1x8 .f32) (x10 : FVec Ideal S8x1 .f32)
    (x11 : FVec Ideal S1x1 .f32) (r : Fin 2048) :
    out0_12 (F := Ideal) x0 x1 x2 x3 x4 x5 x6 x7 x8 x9 x10 x11 (ix2 r 0)
      = score (fun k => x0 (ix2 r k)) (fun k => x1 (ix2 r k)) x2 (fun k => x3 (ix2 0 k)) x4 (fun k => x5 (ix2 0 k)) x6
          (fun k => x7 (ix2 0 k)) x8 (fun k => x9 (ix2 0 k)) x10 (x11 (ix2 0 0)) := by
  unfold out0_12
  rw [View.canon_unit_zero hz]
  rw [View.ld_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz]
  refine (last_apply _ _ _ _ r).trans ?_
  unfold score
  simp only [part_apply]

/-- What a point writes back is its block of the whole result. -/
theorem flushed_eq (c : Dev nD) (t : Fin cfg0.N) :
    (dats m 0 c).flushed 12 t = (win0_12.blk t).view.read (Elt Ideal) (whole m c) := by
  rw [Value.flushed12]
  show (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : S2048x1.Idx → Elt Ideal .f32) = _
  funext y
  obtain ⟨r, l, rfl⟩ : ∃ (r : Fin 2048) (l : Fin 1), y = ix2 r l := ⟨y 0, y 1, eq_ix2 y⟩
  obtain rfl : l = 0 := Subsingleton.elim _ _
  refine (body_apply _ _ _ _ _ _ _ _ _ _ _ _ r).trans (Eq.trans ?_ (out_emb t r _).symm)
  refine Eq.trans ?_ (layers_apply _ _ _ _ _ _ _ _ _ _ _ _ _).symm
  have e0 : (fun k => iblk m c 0 t (ix2 r k)) = fun k => m ((c : Thread nD τ).loc main_arg0) (ix2 ⟨t.val * 2048 + r.val, row_lt t r⟩ k) :=
    funext fun k => rows0_apply m c t r k
  have e1 : (fun k => iblk m c 1 t (ix2 r k)) = fun k => m ((c : Thread nD τ).loc main_arg1) (ix2 ⟨t.val * 2048 + r.val, row_lt t r⟩ k) :=
    funext fun k => rows1_apply m c t r k
  have e3 : (fun k => iblk m c 3 t (ix2 0 k)) = fun k => m ((c : Thread nD τ).loc main_arg3) (ix1 k) :=
    funext fun k => (congrFun ((operand3 m c t).trans (bias3 m c)) (ix2 0 k)).trans (row16 _ k)
  have e5 : (fun k => iblk m c 5 t (ix2 0 k)) = fun k => m ((c : Thread nD τ).loc main_arg5) (ix1 k) :=
    funext fun k => (congrFun ((operand5 m c t).trans (bias5 m c)) (ix2 0 k)).trans (row16 _ k)
  have e7 : (fun k => iblk m c 7 t (ix2 0 k)) = fun k => m ((c : Thread nD τ).loc main_arg7) (ix1 k) :=
    funext fun k => (congrFun ((operand7 m c t).trans (bias7 m c)) (ix2 0 k)).trans (row16 _ k)
  have e9 : (fun k => iblk m c 9 t (ix2 0 k)) = fun k => m ((c : Thread nD τ).loc main_arg9) (ix1 k) :=
    funext fun k => (congrFun ((operand9 m c t).trans (bias9 m c)) (ix2 0 k)).trans (row8 _ k)
  have e2 : iblk m c 2 t = m ((c : Thread nD τ).loc main_arg2) := (operand2 m c t).trans (V_main_arg2 m c)
  have e4 : iblk m c 4 t = m ((c : Thread nD τ).loc main_arg4) := (operand4 m c t).trans (V_main_arg4 m c)
  have e6 : iblk m c 6 t = m ((c : Thread nD τ).loc main_arg6) := (operand6 m c t).trans (V_main_arg6 m c)
  have e8 : iblk m c 8 t = m ((c : Thread nD τ).loc main_arg8) := (operand8 m c t).trans (V_main_arg8 m c)
  have e10 : iblk m c 10 t = m ((c : Thread nD τ).loc main_arg10) := (operand10 m c t).trans (V_main_arg10 m c)
  have e11 := (congrFun ((operand11 m c t).trans (bias11 m c)) (ix2 0 0)).trans (row1 _)
  exact score_congr e0 e1 e2 e3 e4 e5 e6 e7 e8 e9 e10 e11

/-- An index is in a point's block when its row is. -/
theorem mem_blk (t : Fin cfg0.N) (i : S16384x1.Idx) :
    i ∈ ((cfg0.win 12).blk t).view.set ↔ t.val * 2048 ≤ (i 0 : Nat) ∧ (i 0 : Nat) < t.val * 2048 + 2048 := by
  show i ∈ ((View.whole main_v5).slice (win0_12.rect t)).set ↔ _
  rw [View.set_slice_whole, Rect.mem_set_unit]
  have h1 : (i 1 : Nat) < 1 := (i 1).isLt
  obtain ⟨-, -, e0, e1⟩ := at_point t
  refine ⟨fun h => ?_, fun h a => ?_⟩
  · have h' : win0_12.index t 0 * 2048 ≤ (i 0 : Nat) ∧ (i 0 : Nat) < win0_12.index t 0 * 2048 + 2048 := h 0
    rw [e0] at h'
    exact h'
  · match a with
    | ⟨0, _⟩ =>
      show win0_12.index t 0 * 2048 ≤ (i 0 : Nat) ∧ (i 0 : Nat) < win0_12.index t 0 * 2048 + 2048
      rw [e0]; exact h
    | ⟨1, _⟩ =>
      show win0_12.index t 1 * 1 ≤ (i 1 : Nat) ∧ (i 1 : Nat) < win0_12.index t 1 * 1 + 1
      rw [e1]; omega

/-- The eight blocks cover the result. -/
theorem cover (i : S16384x1.Idx) : ∃ t : Fin cfg0.N, (cfg0.win 12).flush t = true ∧ i ∈ ((cfg0.win 12).blk t).view.set := by
  have h0 : (i 0 : Nat) < 16384 := (i 0).isLt
  have hN : cfg0.N = 8 := N_0
  refine ⟨⟨(i 0 : Nat) / 2048, by omega⟩, flush0_12 _, ?_⟩
  rw [mem_blk]
  dsimp only
  omega

/-- So the result ends holding every row's score, -/
theorem final (c : Dev nD) : (dats m 0 c).arrAt 12 cfg0.N = whole m c :=
  (dats m 0 c).arrAt_eq_of_cover 12 (whole m c) (fun t _ => flushed_eq m c t) cover

/-- and the run, read. -/
theorem run : θ_run defs (onTc (τ := τ) (main (F := Ideal))) ⟨m, fun _ => 0, ρ⟩ fun r => ∀ c : Dev nD,
      r.2.mem ((c : Thread nD τ).loc main_v5) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.LayersIdeal.Rows

end

end
-- ==== Proof.Spec.lean ====
/-
  What one bag of tokens comes to, over plain functions of numbers: the running sum of the rows of consecutive tokens
  (`fsum`), the sixteen lanes of it a register holds (`acc`), and the value flushed for a bag (`bagval`).
-/
module

public import Idealize.ShloMosaic.Lib.Tactic

@[expose] public section

noncomputable section

namespace Cert.Proof.Bag

open Idealize.ShloMosaic

variable {F : FTy → Type} [FloatOps F]

/-- The sum of lane `c` of rows `lo, lo+1, …, lo+k-1`, added in that order from zero. -/
def fsum (R : ℕ → ℕ → F .f32) (c lo : ℕ) : ℕ → F .f32
  | 0 => Scalar.ofBits .f32 0x00000000#32
  | k + 1 => FloatOps.addf (fsum R c lo k) (R (lo + k) c)

/-- Lanes `16g … 16g+15` of the sum of rows `lo … hi-1`. -/
def acc (R : ℕ → ℕ → F .f32) (lo hi g : ℕ) : FVec F ⟨1, ![16]⟩ .f32 :=
  fun i => fsum R (16 * g + (i 0).val) lo (hi - lo)

/-- One over the number of tokens (at least one). -/
def inv (lo hi : ℕ) : F .f32 :=
  FloatOps.divf (Scalar.ofBits .f32 0x3F800000#32) (Scalar.sitofp .f32 (BitVec.ofNat 32 (max (hi - lo) 1)))

/-- What is flushed for the bag of tokens `lo … hi-1` at lane `c`. -/
def bagval (R : ℕ → ℕ → F .f32) (b : ℕ → F .f32) (lo hi c : ℕ) : F .f32 :=
  FloatOps.maximumf (FloatOps.addf (FloatOps.mulf (fsum R c lo (hi - lo)) (inv lo hi)) (b c)) (Scalar.ofBits .f32 0x00000000#32)

/-- The four lane groups of a sum. -/
def accs (R : ℕ → ℕ → F .f32) (lo hi : ℕ) :
    FVec F ⟨1, ![16]⟩ .f32 × FVec F ⟨1, ![16]⟩ .f32 × FVec F ⟨1, ![16]⟩ .f32 × FVec F ⟨1, ![16]⟩ .f32 :=
  (acc R lo hi 0, acc R lo hi 1, acc R lo hi 2, acc R lo hi 3)

end Cert.Proof.Bag
-- ==== Proof.Global.lean ====
/-
  The arrays of the whole problem as functions of numbers: where a bag starts, which row a token names, the table's and
  the bias's entries; and the result, bag by bag.
-/
module

public import proofs.«01_k».proof.Proof.Spec

@[expose] public section

noncomputable section

namespace Cert.Proof.Bag

open Idealize.ShloMosaic

/-- Position `k` of a row of `n`. -/
abbrev at1 {n : ℕ} (k : ℕ) (h : k < n) : (⟨1, ![n]⟩ : Shape).Idx := fun a => match a with | 0 => ⟨k, h⟩

/-- Position `(k, l)` of a matrix of `n` by `p`. -/
abbrev at2 {n p : ℕ} (k l : ℕ) (h : k < n) (h' : l < p) : (⟨2, ![n, p]⟩ : Shape).Idx := fun a => match a with | 0 => ⟨k, h⟩ | 1 => ⟨l, h'⟩

/-- Where bag `k` starts; past the last bag, the number of tokens. -/
def xg (xo : (⟨1, ![16384]⟩ : Shape).Idx → BitVec 32) (k : ℕ) : ℕ := if h : k < 16384 then (xo (at1 k h)).toNat else 327680

/-- The row token `t` names; past the last token, row zero. -/
def tg (xt : (⟨1, ![327680]⟩ : Shape).Idx → BitVec 32) (t : ℕ) : ℕ := if h : t < 327680 then (xt (at1 t h)).toNat else 0

/-- Entry `(r, l)` of the table. -/
def gg {α : Type} (tab : (⟨2, ![100000, 64]⟩ : Shape).Idx → α) (r l : ℕ) : α :=
  tab (at2 (min r 99999) (min l 63) (by omega) (by omega))

/-- Entry `l` of the bias. -/
def bg {α : Type} (b1 : (⟨1, ![64]⟩ : Shape).Idx → α) (l : ℕ) : α := b1 (at1 (min l 63) (by omega))

/-- The result: every bag's value. -/
def bags {F : FTy → Type} [FloatOps F] (xt : (⟨1, ![327680]⟩ : Shape).Idx → BitVec 32) (xo : (⟨1, ![16384]⟩ : Shape).Idx → BitVec 32)
    (tab : (⟨2, ![100000, 64]⟩ : Shape).Idx → F .f32) (b1 : (⟨1, ![64]⟩ : Shape).Idx → F .f32) :
    (⟨2, ![16384, 64]⟩ : Shape).Idx → F .f32 :=
  fun y => bagval (fun t l => gg tab (tg xt t) l) (bg b1) (xg xo (y 0).val) (xg xo ((y 0).val + 1)) (y 1).val

/-- The tokens name rows of the table; the offsets name tokens, from the first on and in order. -/
structure InRange (xt : (⟨1, ![327680]⟩ : Shape).Idx → BitVec 32) (xo : (⟨1, ![16384]⟩ : Shape).Idx → BitVec 32) : Prop where
  tok : ∀ j, (xt j).toNat < 100000
  off : ∀ j, (xo j).toNat < 327680
  first : (xo (at1 0 (by omega))).toNat = 0
  sorted : ∀ k (h : k + 1 < 16384), (xo (at1 k (by omega))).toNat ≤ (xo (at1 (k + 1) h)).toNat

variable {xt : (⟨1, ![327680]⟩ : Shape).Idx → BitVec 32} {xo : (⟨1, ![16384]⟩ : Shape).Idx → BitVec 32}

theorem xg_le (h : InRange xt xo) (k : ℕ) : xg xo k ≤ 327680 := by
  unfold xg
  split
  · exact (h.off _).le
  · exact le_refl _

theorem xg_mono (h : InRange xt xo) : Monotone (xg xo) := by
  refine monotone_nat_of_le_succ fun k => ?_
  by_cases hk : k + 1 < 16384
  · unfold xg
    rw [dif_pos hk, dif_pos (show k < 16384 by omega)]
    exact h.sorted k hk
  · rw [show xg xo (k + 1) = 327680 from dif_neg hk]
    exact xg_le h k

theorem xg_zero (h : InRange xt xo) : xg xo 0 = 0 := by
  unfold xg
  rw [dif_pos (show 0 < 16384 by omega)]
  exact h.first

theorem tg_lt (h : InRange xt xo) (t : ℕ) : tg xt t < 100000 := by
  unfold tg
  split
  · exact h.tok _
  · omega

end Cert.Proof.Bag

end

end
-- ==== Proof.Pre.lean ====
/-
  What the precondition says: the tokens name rows of the table; the offsets name tokens, from the first on and in order.
-/
module

public import proofs.«01_k».proof.Proof.Global
public import proofs.«01_k».proof.Proof.Gen.Pre_offsets_ok
public import Idealize.ShloMosaic.Lib.ReduceAll

@[expose] public section

noncomputable section

namespace Cert.Proof.Bag

open Idealize.ShloMosaic

theorem andi_ofBool (p q : Bool) : IntOp.andi (BitVec.ofBool p) (BitVec.ofBool q) = BitVec.ofBool (p && q) := by cases p <;> cases q <;> decide

theorem ofBool_eq_one (p : Bool) : (BitVec.ofBool p = 1#1) ↔ p = true := by cases p <;> decide

theorem and_one {a b : BitVec 1} (h : IntOp.andi a b = 1#1) : a = 1#1 ∧ b = 1#1 := by
  revert a b
  decide

theorem tok_word (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem off_word (v : BitVec 32) (e : IntOp.andi (IntOp.cmpi .sge v 0#32) (IntOp.cmpi .slt v 327680#32) = 1#1) : v.toNat < 327680 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem le_word (v w : BitVec 32) (hv : v.toNat < 327680) (hw : w.toNat < 327680) (e : IntOp.cmpi .sle v w = 1#1) : v.toNat ≤ w.toNat := by
  simp only [IntOp.cmpi, ofBool_eq_one, BitVec.sle_eq_decide, decide_eq_true_eq, BitVec.toInt_eq_toNat_cond, Nat.reducePow] at e
  omega

theorem zero_word (v : BitVec 32) (e : IntOp.cmpi .eq v 0#32 = 1#1) : v.toNat = 0 := by
  simp only [IntOp.cmpi, ofBool_eq_one, beq_iff_eq] at e
  rw [e]
  rfl

theorem inRange_of_fn {F : FTy → Type} [FloatOps F] [Cert.Pre_offsets_ok.Facts] (xt : IVec Cert.Pre_offsets_ok.S327680 32) (xo : IVec Cert.Pre_offsets_ok.S16384 32)
    (tab : FVec F Cert.Pre_offsets_ok.S100000x64 .f32) (b1 : FVec F Cert.Pre_offsets_ok.S64 .f32)
    (h : Cert.Pre_offsets_ok.fn (F := F) xt xo tab b1 = fun _ => 1#1) : InRange xt xo := by
  have e := congrFun h (fun a => a.elim0)
  simp only [Cert.Pre_offsets_ok.fn, Cert.Pre_offsets_ok.fn_part1, andi] at e
  obtain ⟨e, e4⟩ := and_one e
  obtain ⟨e, e3⟩ := and_one e
  obtain ⟨e1, e2⟩ := and_one e
  have hoff : ∀ j, (xo j).toNat < 327680 := fun j => off_word _ (Host.reduce_andi_all _ _ _ _ _ e2 j)
  refine ⟨fun j => tok_word _ (Host.reduce_andi_all _ _ _ _ _ e1 j), hoff, ?_, ?_⟩
  · simp only [cmpi, shapeCast, extractStridedSlice, constantI] at e4
    refine Eq.trans ?_ (zero_word _ e4)
    refine congrArg (fun j => (xo j).toNat) (funext fun a => Fin.ext ?_)
    match a with
    | 0 =>
      have h1 : ∀ q : Fin 1, 0 = (![0] : Fin 1 → ℕ) 0 + q.val := fun q => by have := q.isLt; show 0 = 0 + q.val; omega
      exact h1 _
  · intro k hk
    have e := Host.reduce_andi_all _ _ _ _ _ e3 (at1 k (by omega))
    simp only [cmpi, extractStridedSlice] at e
    have e' := le_word _ _ (hoff _) (hoff _) e
    refine le_trans (le_of_eq ?_) (le_trans e' (le_of_eq ?_))
    · refine congrArg (fun j => (xo j).toNat) (funext fun a => Fin.ext ?_)
      match a with
      | 0 => exact (Nat.zero_add k).symm
    · refine congrArg (fun j => (xo j).toNat) (funext fun a => Fin.ext ?_)
      match a with
      | 0 => exact Nat.add_comm 1 k

end Cert.Proof.Bag

end

end
-- ==== Proof.Words.lean ====
/-
  Word arithmetic over words that hold natural numbers below 2^31, and loops of step one over such words.
-/
module

public import Idealize.ShloMosaic.Lib.Tactic
public import Idealize.ShloMosaic.Lib.Scf

@[expose] public section

namespace Cert.Proof.Bag

open Idealize.ShloMosaic

theorem toNat_ofNat {n : ℕ} (h : n < 2 ^ 31) : (BitVec.ofNat 32 n).toNat = n := by
  rw [BitVec.toNat_ofNat]; exact Nat.mod_eq_of_lt (by omega)

theorem toInt_ofNat {n : ℕ} (h : n < 2 ^ 31) : (BitVec.ofNat 32 n).toInt = n := by
  rw [BitVec.toInt_eq_toNat_of_lt (by rw [toNat_ofNat h]; omega), toNat_ofNat h]

theorem sub_ofNat {a b : ℕ} (h : b ≤ a) (ha : a < 2 ^ 31) : BitVec.ofNat 32 a - BitVec.ofNat 32 b = BitVec.ofNat 32 (a - b) := by
  apply BitVec.eq_of_toNat_eq
  rw [BitVec.toNat_sub, toNat_ofNat ha, toNat_ofNat (show b < 2 ^ 31 by omega), toNat_ofNat (show a - b < 2 ^ 31 by omega)]
  omega

theorem subi_ofNat {a b : ℕ} (h : b ≤ a) (ha : a < 2 ^ 31) :
    Scalar.subi (BitVec.ofNat 32 a) (BitVec.ofNat 32 b) = BitVec.ofNat 32 (a - b) := sub_ofNat h ha

theorem add_ofNat (a b : ℕ) : Scalar.addi (BitVec.ofNat 32 a) (BitVec.ofNat 32 b) = BitVec.ofNat 32 (a + b) :=
  (BitVec.ofNat_add a b).symm

theorem mul_ofNat (a b : ℕ) : Scalar.muli (BitVec.ofNat 32 a) (BitVec.ofNat 32 b) = BitVec.ofNat 32 (a * b) :=
  (BitVec.ofNat_mul a b).symm

theorem maxsi_ofNat {a b : ℕ} (ha : a < 2 ^ 31) (hb : b < 2 ^ 31) :
    Scalar.maxsi (BitVec.ofNat 32 a) (BitVec.ofNat 32 b) = BitVec.ofNat 32 (max a b) := by
  unfold Scalar.maxsi IntOp.maxsi
  rw [BitVec.slt_eq_decide, toInt_ofNat ha, toInt_ofNat hb]
  rcases Nat.lt_or_ge b a with h | h
  · rw [Nat.max_eq_left h.le, if_pos (by simp; omega)]
  · rw [Nat.max_eq_right h, if_neg (by simp; omega)]

theorem minsi_ofNat {a b : ℕ} (ha : a < 2 ^ 31) (hb : b < 2 ^ 31) :
    Scalar.minsi (BitVec.ofNat 32 a) (BitVec.ofNat 32 b) = BitVec.ofNat 32 (min a b) := by
  unfold Scalar.minsi IntOp.minsi
  rw [BitVec.slt_eq_decide, toInt_ofNat ha, toInt_ofNat hb]
  rcases Nat.lt_or_ge a b with h | h
  · rw [Nat.min_eq_left h.le, if_pos (by simp; omega)]
  · rw [Nat.min_eq_right h, if_neg (by simp; omega)]

theorem divsi_ofNat {a b : ℕ} (ha : a < 2 ^ 31) (hb0 : 0 < b) (hb : b < 2 ^ 31) :
    Scalar.divsi (BitVec.ofNat 32 a) (BitVec.ofNat 32 b) = BitVec.ofNat 32 (a / b) := by
  have hc : ¬ IntOp.SDivCorner (BitVec.ofNat 32 a) (BitVec.ofNat 32 b) := by
    rintro (h | ⟨h, -⟩)
    · have := congrArg BitVec.toNat h
      rw [toNat_ofNat hb] at this
      simp at this
      omega
    · have := congrArg BitVec.toInt h
      rw [toInt_ofNat ha] at this
      have h2 : (BitVec.intMin 32).toInt = -2147483648 := by decide
      rw [h2] at this
      omega
  show (if _ then _ else _) = _
  rw [if_neg hc]
  apply BitVec.eq_of_toInt_eq
  have hab : a / b < 2 ^ 31 := lt_of_le_of_lt (Nat.div_le_self a b) ha
  rw [BitVec.toInt_sdiv_of_ne_or_ne _ _ (Or.inl fun h => hc (Or.inr ⟨h, ?_⟩)), toInt_ofNat ha, toInt_ofNat hb, toInt_ofNat hab]
  · exact Int.natCast_div a b |>.symm ▸ rfl
  · exfalso
    have := congrArg BitVec.toInt h
    rw [toInt_ofNat ha] at this
    have h2 : (BitVec.intMin 32).toInt = -2147483648 := by decide
    rw [h2] at this
    omega

theorem divsi_one (x : BitVec 32) : Scalar.divsi x 1#32 = x := by
  have hc : ¬ IntOp.SDivCorner x 1#32 := by
    rintro (h | ⟨-, h⟩) <;> exact absurd h (by decide)
  show (if _ then _ else _) = _
  rw [if_neg hc, BitVec.sdiv_one]

theorem muli_one (x : BitVec 32) : Scalar.muli x 1#32 = x := BitVec.mul_one x

theorem addi_subi (a b : BitVec 32) : Scalar.addi a (Scalar.subi b a) = b := by
  show a + (b - a) = b
  rw [BitVec.add_comm, BitVec.sub_add_cancel]

theorem subi_zero (x : BitVec 32) : Scalar.subi x 0#32 = x := BitVec.sub_zero x

theorem zero_addi (x : BitVec 32) : Scalar.addi 0#32 x = x := BitVec.zero_add x

theorem andi_eight {s : ℕ} (h : s < 2 ^ 31) : Scalar.andi (BitVec.ofNat 32 s) 4294967288#32 = BitVec.ofNat 32 (s / 8 * 8) := by
  show BitVec.ofNat 32 s &&& 4294967288#32 = _
  have : ∀ x : BitVec 32, x &&& 4294967288#32 = (x >>> 3) <<< 3 := by
    intro x
    apply BitVec.eq_of_getLsbD_eq
    intro i hi
    have h8 : (4294967288#32).getLsbD i = decide (3 ≤ i) := by
      revert i; decide
    rw [BitVec.getLsbD_and, h8, BitVec.getLsbD_shiftLeft, BitVec.getLsbD_ushiftRight]
    by_cases h3 : i < 3
    · simp [h3]
    · simp [h3, hi, show 3 + (i - 3) = i by omega, show 3 ≤ i by omega]
  rw [this]
  apply BitVec.eq_of_toNat_eq
  have hb : s / 8 * 8 ≤ s := Nat.div_mul_le_self s 8
  rw [BitVec.toNat_shiftLeft, BitVec.toNat_ushiftRight, toNat_ofNat h, toNat_ofNat (by omega), Nat.shiftRight_eq_div_pow,
    Nat.shiftLeft_eq]
  exact Nat.mod_eq_of_lt (by omega)

theorem ne_extui (x : BitVec 1) : Scalar.cmpi .ne (Scalar.extui x : BitVec 32) 0#32 = x := by
  revert x; decide

theorem slt_ofNat {a b : ℕ} (ha : a < 2 ^ 31) (hb : b < 2 ^ 31) :
    Scalar.cmpi .slt (BitVec.ofNat 32 a) (BitVec.ofNat 32 b) = 1#1 ↔ a < b := by
  show BitVec.ofBool (BitVec.slt _ _) = 1#1 ↔ _
  rw [BitVec.slt_eq_decide, toInt_ofNat ha, toInt_ofNat hb]
  by_cases h : a < b <;> simp [h]

theorem sgt_ofNat {a b : ℕ} (ha : a < 2 ^ 31) (hb : b < 2 ^ 31) :
    Scalar.cmpi .sgt (BitVec.ofNat 32 a) (BitVec.ofNat 32 b) = 1#1 ↔ b < a := slt_ofNat hb ha

theorem iv_ofNat (a k : ℕ) : Scf.iv (BitVec.ofNat 32 a) 1#32 k = BitVec.ofNat 32 (a + k) := by
  show BitVec.ofNat 32 a + BitVec.ofNat 32 k * 1#32 = _
  rw [BitVec.mul_one, BitVec.ofNat_add]

/-- The loop from `a` to `b` by one. -/
abbrev lp (a b : ℕ) : Scf.Loop 32 := ⟨BitVec.ofNat 32 a, BitVec.ofNat 32 b, 1#32⟩

theorem lp_trips {a b : ℕ} (ha : a < 2 ^ 31) (hb : b < 2 ^ 31) : (lp a b).trips = b - a := by
  show (((BitVec.ofNat 32 b).toInt - (BitVec.ofNat 32 a).toInt + 1 - 1) / 1).toNat = _
  rw [toInt_ofNat ha, toInt_ofNat hb]
  omega

theorem lp_ok {a b : ℕ} (ha : a < 2 ^ 31) (hb : b < 2 ^ 31) : (lp a b).OK := by
  refine ⟨show 0 < (1#32).toInt by decide, ?_⟩
  show (BitVec.ofNat 32 a).toInt + ((lp a b).trips : ℤ) * 1 < 2 ^ 31
  rw [lp_trips ha hb, toInt_ofNat ha]
  omega

end Cert.Proof.Bag
-- ==== Proof.Count.lean ====
/-
  How many of the offsets are at most a position: the count the program takes sixteen lanes at a time.
-/
module

public import proofs.«01_k».proof.Proof.Words

@[expose] public section

noncomputable section

namespace Cert.Proof.Bag

open Idealize.ShloMosaic

/-- The number of bags among the first `n` that end at or before `h`. -/
def cntN (X : ℕ → ℕ) (h : ℕ) : ℕ → ℕ
  | 0 => 0
  | n + 1 => cntN X h n + if X (n + 1) ≤ h then 1 else 0

abbrev cnt (X : ℕ → ℕ) (h : ℕ) : ℕ := cntN X h 512

theorem cntN_succ (X : ℕ → ℕ) (h n : ℕ) : cntN X h (n + 1) = cntN X h n + if X (n + 1) ≤ h then 1 else 0 := rfl

theorem cntN_le (X : ℕ → ℕ) (h n : ℕ) : cntN X h n ≤ n := by
  induction n with
  | zero => exact Nat.le_refl 0
  | succ n ih => rw [cntN_succ]; split <;> omega

/-- The bags that end at or before `h` are the first ones. -/
theorem cntN_iff {X : ℕ → ℕ} (hX : Monotone X) (h n : ℕ) {j : ℕ} (hj : j < n) : X (j + 1) ≤ h ↔ j < cntN X h n := by
  induction n generalizing j with
  | zero => omega
  | succ n ih =>
    rw [cntN_succ]
    have hle := cntN_le X h n
    rcases Nat.lt_or_ge j n with hlt | hge
    · refine (ih hlt).trans ⟨fun h' => Nat.lt_add_right _ h', fun h' => ?_⟩
      split at h'
      · rename_i hn
        exact (ih hlt).mp (le_trans (hX (by omega)) hn)
      · exact h'
    · obtain rfl : j = n := by omega
      constructor
      · intro hj'
        rw [if_pos hj']
        rcases Nat.eq_zero_or_pos j with hz | hp
        · subst hz; omega
        · have := (ih (j := j - 1) (by omega)).mp (le_trans (hX (by omega)) hj')
          omega
      · intro hj'
        by_contra hn
        rw [if_neg hn] at hj'
        omega

theorem cnt_mono {X : ℕ → ℕ} {h h' : ℕ} (hh : h ≤ h') (n : ℕ) : cntN X h n ≤ cntN X h' n := by
  induction n with
  | zero => exact Nat.le_refl 0
  | succ n ih => rw [cntN_succ, cntN_succ]; split <;> split <;> omega

theorem X_cnt {X : ℕ → ℕ} (hX : Monotone X) {h : ℕ} (h0 : X 0 ≤ h) : X (cnt X h) ≤ h := by
  rcases Nat.eq_zero_or_pos (cnt X h) with hz | hp
  · rw [hz]; exact h0
  · have := (cntN_iff hX h 512 (j := cntN X h 512 - 1) (by have := cntN_le X h 512; omega)).mpr (Nat.sub_lt hp Nat.one_pos)
    rwa [Nat.sub_add_cancel hp] at this

theorem lt_X_cnt {X : ℕ → ℕ} (hX : Monotone X) {h : ℕ} (hc : cnt X h < 512) : h < X (cnt X h + 1) := by
  by_contra hn
  exact Nat.lt_irrefl _ ((cntN_iff hX h 512 hc).mp (by omega))

theorem cnt_all {X : ℕ → ℕ} (hX : Monotone X) {h : ℕ} (he : X 512 ≤ h) : cnt X h = 512 := by
  have := (cntN_iff hX h 512 (j := 511) (by omega)).mp he
  have := cntN_le X h 512
  unfold cnt at *; omega

theorem sle_ofNat {a b : ℕ} (ha : a < 2 ^ 31) (hb : b < 2 ^ 31) :
    IntOp.cmpi .sle (BitVec.ofNat 32 a) (BitVec.ofNat 32 b) = 1#1 ↔ a ≤ b := by
  show BitVec.ofBool (BitVec.sle _ _) = 1#1 ↔ _
  rw [BitVec.sle_eq_decide, toInt_ofNat ha, toInt_ofNat hb]
  by_cases h : a ≤ b <;> simp [h]

/-- The lanes that are at most `w`, counted: the last lane of the running sum of the flags. -/
def flags {d : Fin 1 → ℕ} (w : BitVec 32) (v : IVec ⟨1, d⟩ 32) : IVec ⟨1, d⟩ 32 :=
  scan .sum (select (cmpi .sle v (broadcast ⟨1, d⟩ w)) (broadcast ⟨1, d⟩ 1#32) (broadcast ⟨1, d⟩ 0#32))

theorem foldl_ofNat {ι : Type} (L : List ι) (v : ι → BitVec 32) (u : ι → ℕ) (hv : ∀ k, v k = BitVec.ofNat 32 (u k)) (a : ℕ) :
    L.foldl (fun r k => ScanKind.step .sum r (v k)) (BitVec.ofNat 32 a) = BitVec.ofNat 32 (L.foldl (fun r k => r + u k) a) := by
  induction L generalizing a with
  | nil => rfl
  | cons k L ih =>
    rw [List.foldl_cons, List.foldl_cons, hv, ← ih]
    congr 1
    exact (BitVec.ofNat_add ..).symm

theorem flags_last (X : ℕ → ℕ) (hX : ∀ j, X j < 2 ^ 31) (h : ℕ) (hh : h < 2 ^ 31) (v : IVec (⟨1, ![16]⟩ : Shape) 32) (c : ℕ)
    (hv : ∀ y, v y = BitVec.ofNat 32 (X (c + (y 0).val + 1))) (i : (⟨1, ![16]⟩ : Shape).Idx) (hi : (i 0).val = 15) :
    flags (BitVec.ofNat 32 h) v i = BitVec.ofNat 32 (cntN X h (c + 16) - cntN X h c) := by
  have hval : ∀ y, (select (cmpi .sle v (broadcast ⟨1, ![16]⟩ (BitVec.ofNat 32 h))) (broadcast ⟨1, ![16]⟩ 1#32) (broadcast ⟨1, ![16]⟩ 0#32)) y
      = BitVec.ofNat 32 (if X (c + (y 0).val + 1) ≤ h then 1 else 0) := by
    intro y
    show (if IntOp.cmpi .sle (v y) (BitVec.ofNat 32 h) = 1#1 then 1#32 else 0#32) = _
    rw [hv]
    by_cases hle : X (c + (y 0).val + 1) ≤ h
    · rw [if_pos ((sle_ofNat (hX _) hh).mpr hle), if_pos hle]
    · rw [if_neg (fun e => hle ((sle_ofNat (hX _) hh).mp e)), if_neg hle]
  unfold flags scan
  show List.foldl _ _ _ = _
  have hf : ((List.finRange 16).filter fun k : Fin 16 => decide (0 < k.val ∧ k.val ≤ (i 0).val))
      = [1, 2, 3, 4, 5, 6, 7, 8, 9, 10, 11, 12, 13, 14, 15] := by rw [hi]; decide
  refine Eq.trans ?_ ((foldl_ofNat ((List.finRange 16).filter fun k : Fin 16 => decide (0 < k.val ∧ k.val ≤ (i 0).val)) (fun k => _)
    (fun k => if X (c + k.val + 1) ≤ h then 1 else 0) (fun k => hval (Shape.ofLane (d := ![16]) k)) (if X (c + 0 + 1) ≤ h then 1 else 0)).trans ?_)
  · congr 1
    exact hval _
  · rw [hf]
    congr 1
    simp only [List.foldl_cons, List.foldl_nil, cntN_succ X h]
    have hu : ∀ u : ℕ → ℕ, u 0 + u 1 + u 2 + u 3 + u 4 + u 5 + u 6 + u 7 + u 8 + u 9 + u 10 + u 11 + u 12 + u 13 + u 14 + u 15 = cntN X h c + u 0 + u 1 + u 2 + u 3 + u 4 + u 5 + u 6 + u 7 + u 8 + u 9 + u 10 + u 11 + u 12 + u 13 + u 14 + u 15 - cntN X h c := fun u => by omega
    exact hu fun k => if X (c + k + 1) ≤ h then 1 else 0

end Cert.Proof.Bag
-- ==== Proof.KernelIdeal.Tok.lean ====
/-
  The loop over the tokens of a chunk: each trip adds one gathered row to the four accumulators.
-/
module

public import proofs.«01_k».proof.Proof.Spec
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.VecWindow
public import Idealize.ShloMosaic.Lib.WritesUnit
public import Idealize.ShloMosaic.Lib.Tactic

@[expose] public section

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none
abbrev cV (L : grid0.Coords) : Fin τ.nSC := (L 0).castLE hcore0
abbrev jV (L : grid0.Coords) : Fin τ.nSub := (L 1).castLE hsub0

/-- The weakest precondition of a piece of the task's program, on tile `L` of device `d`. -/
abbrev twp (d : Dev nD) (L : grid0.Coords) {α : Type}
    (p : Prog (TpuEff nD τ sig (Elt F) Λ₀ (.scVector (cV L) (jV L))) α) (Q : α → sProp 𝕄) : sProp 𝕄 :=
  wp frame (wpE (defs₀ (F := F)) 𝒱₀ (V d (cV L) (jV L)) none) Set.univ p Q

abbrev V16 (F : FTy → Type) : Type := FVec F S16 .f32
abbrev Acc4 (F : FTy → Type) : Type := V16 F × V16 F × V16 F × V16 F

/-- One token: its row's 64 lanes added to the accumulators. -/
def tokBody (L : grid0.Coords) (m : Memref sig .scVector .vmem S128x128 .f32) {n : ℕ} (o0 o1 o2 o3 : Fin n → Fin 2 → ℕ)
    (h0 : ∀ k a, o0 k a + S1x16.size a ≤ S128x128.size a) (h1 : ∀ k a, o1 k a + S1x16.size a ≤ S128x128.size a)
    (h2 : ∀ k a, o2 k a + S1x16.size a ≤ S128x128.size a) (h3 : ∀ k a, o3 k a + S1x16.size a ≤ S128x128.size a) :
    Fin n → Acc4 F → Prog (TpuEff nD τ sig (Elt F) Λ₀ (.scVector (cV L) (jV L))) (Acc4 F) :=
  fun k (a0, a1, a2, a3) => do
    let l0 : Vec F S1x16 .f32 ← Prog.lift (.load m (Rect.unit (s := S128x128) (o0 k) S1x16.size (h0 k)).toLoadRect (View.loadsAt_vmem h_S1x16))
    let l1 : Vec F S1x16 .f32 ← Prog.lift (.load m (Rect.unit (s := S128x128) (o1 k) S1x16.size (h1 k)).toLoadRect (View.loadsAt_vmem h_S1x16))
    let l2 : Vec F S1x16 .f32 ← Prog.lift (.load m (Rect.unit (s := S128x128) (o2 k) S1x16.size (h2 k)).toLoadRect (View.loadsAt_vmem h_S1x16))
    let l3 : Vec F S1x16 .f32 ← Prog.lift (.load m (Rect.unit (s := S128x128) (o3 k) S1x16.size (h3 k)).toLoadRect (View.loadsAt_vmem h_S1x16))
    pure (k0_pay19 a0 l0, k0_pay19 a1 l1, k0_pay19 a2 l2, k0_pay19 a3 l3)

/-- The row buffer holds the rows of the tokens from `c0` on. -/
def Rows (R : ℕ → ℕ → F .f32) (m : Memref sig .scVector .vmem S128x128 .f32) (c0 : ℕ) (f : m.view.ty.Contents (Elt F)) : Prop :=
  ∀ y : S128x128.Idx, (y 1).val < 64 → m.view.read (Elt F) f y = R (c0 + (y 0).val) (y 1).val

theorem cast_row {α : Type} (v : S1x16.Idx → α) (i : S16.Idx) (k : S1x16.Idx) (hk : (k 1).val = (i 0).val) :
    shapeCast S16 v shapeCasts_S1x16_S16 i = v k := by
  have h := shapeCast_dropUnit_apply (n := 1) ![16] v shapeCasts_S1x16_S16 i
  refine h.trans (congrArg v ?_)
  funext a
  match a with
  | 0 => exact Subsingleton.elim (α := Fin 1) _ _
  | 1 => exact Fin.ext hk.symm

theorem acc_step {R : ℕ → ℕ → F .f32} {m : Memref sig .scVector .vmem S128x128 .f32} {c0 : ℕ} {f : m.view.ty.Contents (Elt F)}
    (hf : Rows R m c0 f) {o : Fin 2 → ℕ} (ho : ∀ a, o a + S1x16.size a ≤ S128x128.size a) (g r lo : ℕ) (hg : g < 4)
    (e0 : o 0 = r) (e1 : o 1 = 16 * g) (hlo : lo ≤ c0 + r) :
    k0_pay19 (acc R lo (c0 + r) g) (m.view.readAt (Elt F) (Rect.unit (s := S128x128) o S1x16.size ho).toLoadRect f)
      = acc R lo (c0 + r + 1) g := by
  funext i
  show FloatOps.addf (acc R lo (c0 + r) g i) _ = _
  have hk : ∀ a, ((![0, (i 0).val] : Fin 2 → ℕ) a) < S1x16.size a := by
    intro a; match a with
    | 0 => exact Nat.zero_lt_one
    | 1 => exact (i 0).isLt
  rw [cast_row _ i (fun a => ⟨_, hk a⟩) rfl, View.readAt_apply, hf _ ?_]
  · unfold acc
    rw [show c0 + r + 1 - lo = (c0 + r - lo) + 1 by omega]
    show _ = FloatOps.addf _ _
    congr 1
    congr 1
    · show c0 + (o 0 + 1 * 0) = _; omega
    · show o 1 + 1 * (i 0).val = _; omega
  · have := (i 0).isLt
    show o 1 + 1 * (i 0).val < 64
    have : (i 0).val < 16 := (i 0).isLt
    omega

/-- The loop over tokens `c0+r0 … c0+r0+n-1`. -/
theorem wp_tok (d : Dev nD) (L : grid0.Coords) {β : Type} {Q : β → sProp 𝕄} (m : Memref sig .scVector .vmem S128x128 .f32)
    (R : ℕ → ℕ → F .f32) (c0 r0 lo t : ℕ) (f : m.view.ty.Contents (Elt F)) (hf : Rows R m c0 f)
    (l : Scf.Loop 32) (hok : l.OK) (o0 o1 o2 o3 : Fin l.trips → Fin 2 → ℕ) (h0 h1 h2 h3)
    (e0 : ∀ k, o0 k = ![r0 + k, 0]) (e1 : ∀ k, o1 k = ![r0 + k, 16]) (e2 : ∀ k, o2 k = ![r0 + k, 32]) (e3 : ∀ k, o3 k = ![r0 + k, 48])
    (ht : t = c0 + r0) (hlo : lo ≤ t) (q : PosShare TreeShare)
    (kk : Acc4 F → Prog (TpuEff nD τ sig (Elt F) Λ₀ (.scVector (cV L) (jV L))) β) :
    (m.view.loc (V d (cV L) (jV L)) ↦{q} f : sProp 𝕄)
      ⊢ iprop(((m.view.loc (V d (cV L) (jV L)) ↦{q} f) -∗ twp d L (kk (accs R lo (t + l.trips))) Q)
        -∗ twp d L (Scf.Loop.for l hok (accs R lo t) (tokBody L m o0 o1 o2 o3 h0 h1 h2 h3) >>= kk) Q) := by
  subst ht
  iintro H HK
  iapply (Scf.wp_for_bind frame (wpE (defs₀ (F := F)) 𝒱₀ (V d (cV L) (jV L)) none) Set.univ l.lb l.ub l.st hok (accs R lo (c0 + r0))
    (tokBody L m o0 o1 o2 o3 h0 h1 h2 h3)
    (fun k a => iprop(⌜a = accs R lo (c0 + r0 + k)⌝ ∗ m.view.loc (V d (cV L) (jV L)) ↦{q} f)) ?_) $$ [H]
  · rintro k ⟨a0, a1, a2, a3⟩
    iintro ⟨%ha, H⟩
    obtain ⟨rfl, rfl, rfl, rfl⟩ : a0 = _ ∧ a1 = _ ∧ a2 = _ ∧ a3 = _ := by
      simpa only [accs, Prod.mk.injEq] using ha
    dsimp only [tokBody]
    sl_exec
    sl_step
    isplitr
    · ipureintro
      have hh := fun g o ho e0 e1 => acc_step hf (o := o) ho g (r0 + k) lo (e0 := e0) (e1 := e1) (hlo := by omega)
      simp only [accs, Prod.mk.injEq]
      rw [show c0 + r0 + (k.val + 1) = c0 + (r0 + k) + 1 by omega, show c0 + r0 + k.val = c0 + (r0 + k) by omega]
      exact ⟨hh 0 _ _ (by rw [e0]; rfl) (by rw [e0]; rfl) (by omega), hh 1 _ _ (by rw [e1]; rfl) (by rw [e1]; rfl) (by omega),
        hh 2 _ _ (by rw [e2]; rfl) (by rw [e2]; rfl) (by omega), hh 3 _ _ (by rw [e3]; rfl) (by rw [e3]; rfl) (by omega)⟩
    · iexact H
  · isplitr
    · ipureintro; rfl
    · iexact H
  · iintro %a ⟨%ha, H⟩
    subst ha
    iapply HK
    iexact H

end Cert.KernelIdeal.Bag
-- ==== Proof.KernelIdeal.Flush.lean ====
/-
  One bag flushed: the rest of its tokens added, the mean, the bias and the maximum with zero stored as its row of the
  result, the next bag's bounds read.
-/
module

public import proofs.«01_k».proof.Proof.KernelIdeal.Tok
public import proofs.«01_k».proof.Proof.Words

@[expose] public section

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A task's program on tile `L`. -/
abbrev TProg (F : FTy → Type) (L : grid0.Coords) (α : Type) : Type 1 :=
  Prog (TpuEff nD τ sig (Elt F) Λ₀ (.scVector (cV L) (jV L))) α

/-- A loop of no trips is its initial value. -/
theorem wp_none (d : Dev nD) (L : grid0.Coords) {σ β : Type} {Q : β → sProp 𝕄} (l : Scf.Loop 32) (hok : l.OK) (h : l.trips = 0)
    (init : σ) (body : Fin l.trips → σ → TProg F L σ) (kk : σ → TProg F L β) :
    twp d L (kk init) Q ⊢ twp d L (Scf.Loop.for l hok init body >>= kk) Q := by
  iintro HK
  iapply (Scf.wp_for_bind frame (wpE (defs₀ (F := F)) 𝒱₀ (V d (cV L) (jV L)) none) Set.univ l.lb l.ub l.st hok init
    body (fun k a => iprop(⌜a = init⌝)) ?_) $$ []
  · intro k; exact absurd k.isLt (by have := h; unfold Scf.Loop.trips at this; omega)
  · ipureintro; rfl
  · iintro %a %ha
    subst ha
    iexact HK

/-- What the loops carry: the position, the bag, its end, the sums of its tokens so far. -/
abbrev St (F : FTy → Type) : Type := BitVec 32 × BitVec 32 × BitVec 32 × V16 F × V16 F × V16 F × V16 F

/-- The carried values at position `t` within bag `cur`. -/
def st (X : ℕ → ℕ) (R : ℕ → ℕ → F .f32) (t cur : ℕ) : St F :=
  (BitVec.ofNat 32 t, BitVec.ofNat 32 cur, BitVec.ofNat 32 (X (cur + 1)), acc R (X cur) t 0, acc R (X cur) t 1, acc R (X cur) t 2,
    acc R (X cur) t 3)

section Progs

variable (L : grid0.Coords) (a7 : Memref sig .scVector .vmem S536 .i32) (a12 : Memref sig .scVector .vmem S64 .f32)
  (a13 : Memref sig .scVector .vmem S512x64 .f32) (m : Memref sig .scVector .vmem S128x128 .f32)

/-- The first part of a flush: the rest of the bag's tokens, three of the four lane groups. -/
def flushPart (cur next : BitVec 32) (a : Acc4 F) (C5 : Prop) (d5 : Decidable C5) (h5 : C5 → k0_chk5 cur) (C4 : Prop) (d4 : Decidable C4)
    (l l' : Scf.Loop 32) (hl : C4 → l.OK) (hl' : C4 → l'.OK) (o0 o1 o2 o3 : Fin l.trips → Fin 2 → ℕ)
    (e0 : C4 → ∀ k a, o0 k a + S1x16.size a ≤ S128x128.size a) (e1 : C4 → ∀ k a, o1 k a + S1x16.size a ≤ S128x128.size a)
    (e2 : C4 → ∀ k a, o2 k a + S1x16.size a ≤ S128x128.size a) (e3 : C4 → ∀ k a, o3 k a + S1x16.size a ≤ S128x128.size a)
    (rest : C4 → Fin l'.trips → Acc4 F → TProg F L (Acc4 F)) :
    TProg F L (Σ' (_ : C5) (_ : V16 F) (_ : Vec F S16 .i32) (_ : V16 F), V16 F) := do
  have h5' : C5 := (← Prog.lift (TpuEff.assume C5 d5)).down
  have h4 : C4 := (← Prog.lift (TpuEff.assume C4 d4)).down
  let (v127_0, v127_1, v127_2, v127_3) ← Scf.Loop.for l (hl h4) a (tokBody L m o0 o1 o2 o3 (e0 h4) (e1 h4) (e2 h4) (e3 h4))
  let (v128_0, v128_1, v128_2, v128_3) ← Scf.Loop.for l' (hl' h4) (v127_0, v127_1, v127_2, v127_3) (rest h4)
  let v130 : Vec F S16 .i32 ← Prog.lift (.load a7 (Rect.unit (s := S536) (k0_off17 cur) S16.size (k0_off17_inb cur (h5 h5'))).toLoadRect (View.loadsAt_vmem h_S16))
  let v140 : Vec F S16 .f32 ← Prog.lift (.load a12 (Rect.unit (s := S64) ![0] S16.size inb_S64_S16_0).toLoadRect (View.loadsAt_vmem h_S16))
  let _ : Vec F S1x16 .f32 ← Prog.lift (.load a13 (Rect.unit (s := S512x64) (k0_off18 cur) S1x16.size (k0_off18_inb cur (h5 h5'))).toLoadRect (View.loadsAt_vmem h_S1x16))
  Prog.lift (.store a13 (Rect.unit (s := S512x64) (k0_off18 cur) S1x16.size (k0_off18_inb cur (h5 h5'))) (shapeCast S1x16 (k0_pay28 next v128_0 v130 v140) shapeCasts_S16_S1x16) Finset.univ (View.stores_vmem_bits_univ h_S1x16 rfl) (.inl rfl))
  let v147 : Vec F S16 .f32 ← Prog.lift (.load a12 (Rect.unit (s := S64) ![16] S16.size inb_S64_S16_16).toLoadRect (View.loadsAt_vmem h_S16))
  let _ : Vec F S1x16 .f32 ← Prog.lift (.load a13 (Rect.unit (s := S512x64) (k0_off19 cur) S1x16.size (k0_off19_inb cur (h5 h5'))).toLoadRect (View.loadsAt_vmem h_S1x16))
  Prog.lift (.store a13 (Rect.unit (s := S512x64) (k0_off19 cur) S1x16.size (k0_off19_inb cur (h5 h5'))) (shapeCast S1x16 (k0_pay28 next v128_1 v130 v147) shapeCasts_S16_S1x16) Finset.univ (View.stores_vmem_bits_univ h_S1x16 rfl) (.inl rfl))
  let v154 : Vec F S16 .f32 ← Prog.lift (.load a12 (Rect.unit (s := S64) ![32] S16.size inb_S64_S16_32).toLoadRect (View.loadsAt_vmem h_S16))
  let _ : Vec F S1x16 .f32 ← Prog.lift (.load a13 (Rect.unit (s := S512x64) (k0_off20 cur) S1x16.size (k0_off20_inb cur (h5 h5'))).toLoadRect (View.loadsAt_vmem h_S1x16))
  pure ⟨h5', v128_3, v130, k0_pay27 next v130, k0_pay28 next v128_2 v130 v154⟩

/-- One bag, given its first part. -/
def flushBody (cur next : BitVec 32) (C5 : Prop) (h5 : C5 → k0_chk5 cur)
    (part : TProg F L (Σ' (_ : C5) (_ : V16 F) (_ : Vec F S16 .i32) (_ : V16 F), V16 F)) : TProg F L (St F) := do
  let ⟨h5', v128_3, v130, v138, v157⟩ : Σ' (_ : C5) (_ : V16 F) (_ : Vec F S16 .i32) (_ : V16 F), V16 F ← part
  Prog.lift (.store a13 (Rect.unit (s := S512x64) (k0_off20 cur) S1x16.size (k0_off20_inb cur (h5 h5'))) (shapeCast S1x16 v157 shapeCasts_S16_S1x16) Finset.univ (View.stores_vmem_bits_univ h_S1x16 rfl) (.inl rfl))
  let v161 : Vec F S16 .f32 ← Prog.lift (.load a12 (Rect.unit (s := S64) ![48] S16.size inb_S64_S16_48).toLoadRect (View.loadsAt_vmem h_S16))
  let _ : Vec F S1x16 .f32 ← Prog.lift (.load a13 (Rect.unit (s := S512x64) (k0_off21 cur) S1x16.size (k0_off21_inb cur (h5 h5'))).toLoadRect (View.loadsAt_vmem h_S1x16))
  Prog.lift (.store a13 (Rect.unit (s := S512x64) (k0_off21 cur) S1x16.size (k0_off21_inb cur (h5 h5'))) (shapeCast S1x16 (k0_pay69 v128_3 v138 v161) shapeCasts_S16_S1x16) Finset.univ (View.stores_vmem_bits_univ h_S1x16 rfl) (.inl rfl))
  let v167 : BitVec 32 := Scalar.addi cur 1#32
  let v169 : BitVec 32 := extractAt ![0] (k0_pay70 v130) inpos_S1_p0
  pure (next, v167, v169, k0_pay1, k0_pay1, k0_pay1, k0_pay1)

end Progs

/-- The offsets' buffer holds the numbers `X`. -/
def Offs (X : ℕ → ℕ) (a7 : Memref sig .scVector .vmem S536 .i32) (f : a7.view.ty.Contents (Elt F)) : Prop :=
  ∀ y : S536.Idx, a7.view.read (Elt F) f y = BitVec.ofNat 32 (X (y 0).val)

/-- The bias's buffer holds `b`. -/
def Bias (b : ℕ → F .f32) (a12 : Memref sig .scVector .vmem S64 .f32) (f : a12.view.ty.Contents (Elt F)) : Prop :=
  ∀ y : S64.Idx, a12.view.read (Elt F) f y = b (y 0).val

/-- The rows of the bags below `cur` are done. -/
def Done (X : ℕ → ℕ) (R : ℕ → ℕ → F .f32) (b : ℕ → F .f32) (a13 : Memref sig .scVector .vmem S512x64 .f32) (cur : ℕ)
    (f : a13.view.ty.Contents (Elt F)) : Prop :=
  ∀ y : S512x64.Idx, (y 0).val < cur → a13.view.read (Elt F) f y = bagval R b (X (y 0).val) (X ((y 0).val + 1)) (y 1).val

/-- An element of a lane vector read from the offsets' buffer. -/
theorem offs_lane {X : ℕ → ℕ} {a7 : Memref sig .scVector .vmem S536 .i32} {f : a7.view.ty.Contents (Elt F)} (h7 : Offs X a7 f)
    {o : Fin 1 → ℕ} (ho : ∀ a, o a + S16.size a ≤ S536.size a) (c : ℕ) (hc : o 0 = c) (y : S16.Idx) :
    a7.view.readAt (Elt F) (Rect.unit (s := S536) o S16.size ho).toLoadRect f y = BitVec.ofNat 32 (X (c + (y 0).val)) := by
  rw [View.readAt_apply, h7]
  congr 2
  show o 0 + 1 * (y 0).val = _
  omega

/-- An element of a lane vector read from the bias's buffer. -/
theorem bias_lane {b : ℕ → F .f32} {a12 : Memref sig .scVector .vmem S64 .f32} {f : a12.view.ty.Contents (Elt F)} (h : Bias b a12 f)
    (c : ℕ) (hb : ∀ a, (![c] : Fin 1 → ℕ) a + S16.size a ≤ S64.size a) (y : S16.Idx) :
    a12.view.readAt (Elt F) (Rect.unit (s := S64) ![c] S16.size hb).toLoadRect f y = b (c + (y 0).val) := by
  rw [View.readAt_apply, h]
  congr 1
  show c + 1 * (y 0).val = _
  omega

/-- Lane `n`. -/
def lane (n : ℕ) (hn : n < 16) : S16.Idx := fun a => ⟨n, by match a with | 0 => exact hn⟩

/-- Element `n` of a lane vector, taken out as a word. -/
theorem lane_val {α : Type} (v : S16.Idx → α) (n : ℕ) (hn : n < 16) (hs : S16.Slices ![n] S1) :
    extractAt ![0] (extractStridedSlice S1 ![n] v hs) inpos_S1_p0 = v (lane n hn) := by
  refine extractStridedSlice_apply (s := S16) (t := S1) ![n] v hs _ (lane n hn) ?_
  intro a; match a with | 0 => rfl

theorem pay27_val {X : ℕ → ℕ} (hX : ∀ j, X j < 2 ^ 31) {cur : ℕ} (hle : X cur ≤ X (cur + 1)) (v : Vec F S16 .i32)
    (hv : ∀ y : S16.Idx, v y = BitVec.ofNat 32 (X (cur + (y 0).val))) (i : S16.Idx) :
    k0_pay27 (F := F) (BitVec.ofNat 32 (X (cur + 1))) v i = inv (X cur) (X (cur + 1)) := by
  have e := (lane_val v 0 (by decide) slices_S16_o0_S1).trans (hv _)
  show FloatOps.divf (Scalar.ofBits .f32 0x3F800000#32) (Scalar.sitofp .f32 (Scalar.maxsi (_ - extractAt _ _ _) 1#32)) = _
  rw [e]
  show FloatOps.divf _ (Scalar.sitofp .f32 (Scalar.maxsi (_ - BitVec.ofNat 32 (X cur)) 1#32)) = _
  rw [sub_ofNat hle (hX _), show (1#32) = BitVec.ofNat 32 1 from rfl, maxsi_ofNat (by have := hX (cur + 1); omega) (by omega)]
  rfl

theorem flush_pt {X : ℕ → ℕ} (hX : ∀ j, X j < 2 ^ 31) {R : ℕ → ℕ → F .f32} {b : ℕ → F .f32}
    {cur : ℕ} (hle : X cur ≤ X (cur + 1)) (v : Vec F S16 .i32) (hv : ∀ y : S16.Idx, v y = BitVec.ofNat 32 (X (cur + (y 0).val)))
    (g : ℕ) (w : Vec F S16 .f32) (hw : ∀ y : S16.Idx, w y = b (16 * g + (y 0).val)) (i : S16.Idx) :
    k0_pay28 (F := F) (BitVec.ofNat 32 (X (cur + 1))) (acc R (X cur) (X (cur + 1)) g) v w i
      = bagval R b (X cur) (X (cur + 1)) (16 * g + (i 0).val) := by
  show FloatOps.maximumf (FloatOps.addf (FloatOps.mulf (acc R _ _ g i) (k0_pay27 _ _ i)) (w i)) _ = _
  rw [pay27_val hX hle v hv, hw]
  rfl

/-- What is stored for lane group `g` of a bag. -/
theorem flush_val {X : ℕ → ℕ} (hX : ∀ j, X j < 2 ^ 31) {R : ℕ → ℕ → F .f32} {b : ℕ → F .f32}
    {cur : ℕ} (hle : X cur ≤ X (cur + 1)) (v : Vec F S16 .i32) (hv : ∀ y : S16.Idx, v y = BitVec.ofNat 32 (X (cur + (y 0).val)))
    (g c : ℕ) (hg : 16 * g = c) (w : Vec F S16 .f32) (hw : ∀ y : S16.Idx, w y = b (c + (y 0).val)) (y : S1x16.Idx) :
    shapeCast S1x16 (k0_pay28 (F := F) (BitVec.ofNat 32 (X (cur + 1))) (acc R (X cur) (X (cur + 1)) g) v w) shapeCasts_S16_S1x16 y
      = bagval R b (X cur) (X (cur + 1)) (c + (y 1).val) := by
  subst hg
  exact (shapeCast_addUnit_apply (n := 1) ![16] _ shapeCasts_S16_S1x16 y).trans (flush_pt hX hle v hv g w hw _)

/-- The four stores of a bag's row. -/
theorem flush_done {X : ℕ → ℕ} {R : ℕ → ℕ → F .f32} {b : ℕ → F .f32} {a13 : Memref sig .scVector .vmem S512x64 .f32}
    {cur : ℕ} {f : a13.view.ty.Contents (Elt F)} (h : Done X R b a13 cur f) (o0 o1 o2 o3 : Fin 2 → ℕ) (i0 i1 i2 i3)
    (e0 : o0 = ![cur, 0]) (e1 : o1 = ![cur, 16]) (e2 : o2 = ![cur, 32]) (e3 : o3 = ![cur, 48])
    (w0 w1 w2 w3 : S1x16.Idx → F .f32)
    (h0 : ∀ y : S1x16.Idx, w0 y = bagval R b (X cur) (X (cur + 1)) (0 + (y 1).val))
    (h1 : ∀ y : S1x16.Idx, w1 y = bagval R b (X cur) (X (cur + 1)) (16 + (y 1).val))
    (h2 : ∀ y : S1x16.Idx, w2 y = bagval R b (X cur) (X (cur + 1)) (32 + (y 1).val))
    (h3 : ∀ y : S1x16.Idx, w3 y = bagval R b (X cur) (X (cur + 1)) (48 + (y 1).val)) :
    Done X R b a13 (cur + 1) (a13.view.writes (Elt F) f
      [⟨Rect.unit (s := S512x64) o3 S1x16.size i3, w3⟩, ⟨Rect.unit (s := S512x64) o2 S1x16.size i2, w2⟩,
       ⟨Rect.unit (s := S512x64) o1 S1x16.size i1, w1⟩, ⟨Rect.unit (s := S512x64) o0 S1x16.size i0, w0⟩]) := by
  intro y hy
  have hy1 : (y 1).val < 64 := (y 1).isLt
  rcases Nat.lt_or_ge (y 0).val cur with hlt | hge
  · rw [View.read_writes_cons_unit_of_not_mem a13.view f i3 w3 _ y e3 0 (Or.inl hlt),
      View.read_writes_cons_unit_of_not_mem a13.view f i2 w2 _ y e2 0 (Or.inl hlt),
      View.read_writes_cons_unit_of_not_mem a13.view f i1 w1 _ y e1 0 (Or.inl hlt),
      View.read_writes_cons_unit_of_not_mem a13.view f i0 w0 _ y e0 0 (Or.inl hlt)]
    exact h y hlt
  · have hc : (y 0).val = cur := by omega
    rw [hc]
    have hin : ∀ {o : Fin 2 → ℕ} {c : ℕ} (i) (w : S1x16.Idx → F .f32) (Ls), o = ![cur, c] →
        (∀ y : S1x16.Idx, w y = bagval R b (X cur) (X (cur + 1)) (c + (y 1).val)) → c ≤ (y 1).val → (y 1).val < c + 16 →
        a13.view.read (Elt F) (a13.view.writes (Elt F) f (⟨Rect.unit (s := S512x64) o S1x16.size i, w⟩ :: Ls)) y
          = bagval R b (X cur) (X (cur + 1)) (y 1).val := by
      intro o c i w Ls e hw hl hu
      have hk : ∀ a, ((![0, (y 1).val - c] : Fin 2 → ℕ) a) < S1x16.size a := by
        intro a; match a with
        | 0 => exact Nat.zero_lt_one
        | 1 => show (y 1).val - c < 16; omega
      rw [View.read_writes_cons_unit_of_mem a13.view f i w Ls y (fun a => ⟨_, hk a⟩) e
        (by intro a; match a with
          | 0 => show (y 0).val = cur + 0; omega
          | 1 => show (y 1).val = c + ((y 1).val - c); omega), hw]
      congr 1
      show c + ((y 1).val - c) = _
      omega
    rcases Nat.lt_or_ge (y 1).val 48 with h48 | h48
    · rw [View.read_writes_cons_unit_of_not_mem a13.view f i3 w3 _ y e3 1 (Or.inl h48)]
      rcases Nat.lt_or_ge (y 1).val 32 with h32 | h32
      · rw [View.read_writes_cons_unit_of_not_mem a13.view f i2 w2 _ y e2 1 (Or.inl h32)]
        rcases Nat.lt_or_ge (y 1).val 16 with h16 | h16
        · rw [View.read_writes_cons_unit_of_not_mem a13.view f i1 w1 _ y e1 1 (Or.inl h16)]
          exact hin i0 w0 _ e0 h0 (by omega) (by omega)
        · exact hin i1 w1 _ e1 h1 h16 (by omega)
      · exact hin i2 w2 _ e2 h2 h32 (by omega)
    · exact hin i3 w3 _ e3 h3 h48 (by omega)

theorem wp_flush (d : Dev nD) (L : grid0.Coords) {Q : St F → sProp 𝕄}
    (a7 : Memref sig .scVector .vmem S536 .i32) (a12 : Memref sig .scVector .vmem S64 .f32)
    (a13 : Memref sig .scVector .vmem S512x64 .f32) (m : Memref sig .scVector .vmem S128x128 .f32)
    (X : ℕ → ℕ) (R : ℕ → ℕ → F .f32) (b : ℕ → F .f32) (hX : ∀ j, X j < 2 ^ 31)
    (f7 : a7.view.ty.Contents (Elt F)) (h7 : Offs X a7 f7) (f12 : a12.view.ty.Contents (Elt F)) (h12 : Bias b a12 f12)
    (c0 : ℕ) (fm : m.view.ty.Contents (Elt F)) (hm : Rows R m c0 fm)
    (f13 : a13.view.ty.Contents (Elt F)) (t cur : ℕ) (hcur : cur < 512) (h13 : Done X R b a13 cur f13)
    (hc0 : c0 ≤ t) (ht : X cur ≤ t) (ht' : t ≤ X (cur + 1))
    (C5 : Prop) (d5 : Decidable C5) (h5 : C5 → k0_chk5 (BitVec.ofNat 32 cur)) (c5 : C5) (C4 : Prop) (d4 : Decidable C4) (c4 : C4)
    (l l' : Scf.Loop 32) (hl : C4 → l.OK) (hl' : C4 → l'.OK) (htr : l.trips = X (cur + 1) - t) (htr' : l'.trips = 0)
    (o0 o1 o2 o3 : Fin l.trips → Fin 2 → ℕ) (h0 h1 h2 h3)
    (e0 : ∀ k, o0 k = ![t - c0 + k, 0]) (e1 : ∀ k, o1 k = ![t - c0 + k, 16]) (e2 : ∀ k, o2 k = ![t - c0 + k, 32])
    (e3 : ∀ k, o3 k = ![t - c0 + k, 48]) (rest : C4 → Fin l'.trips → Acc4 F → TProg F L (Acc4 F)) (q : PosShare TreeShare) :
    iprop((a7.view.loc (V d (cV L) (jV L)) ↦{fullShare} f7) ∗ (a12.view.loc (V d (cV L) (jV L)) ↦{fullShare} f12)
        ∗ (a13.view.loc (V d (cV L) (jV L)) ↦{fullShare} f13) ∗ (m.view.loc (V d (cV L) (jV L)) ↦{q} fm)
        ∗ (∀ f', ⌜Done X R b a13 (cur + 1) f'⌝ -∗ (a7.view.loc (V d (cV L) (jV L)) ↦{fullShare} f7) -∗
            (a12.view.loc (V d (cV L) (jV L)) ↦{fullShare} f12) -∗
            (a13.view.loc (V d (cV L) (jV L)) ↦{fullShare} f') -∗ (m.view.loc (V d (cV L) (jV L)) ↦{q} fm) -∗ Q (st X R (X (cur + 1)) (cur + 1))) : sProp 𝕄)
      ⊢ twp d L (flushBody L a12 a13 (BitVec.ofNat 32 cur) (BitVec.ofNat 32 (X (cur + 1))) C5 h5
          (flushPart L a7 a12 a13 m (BitVec.ofNat 32 cur) (BitVec.ofNat 32 (X (cur + 1))) (accs R (X cur) t) C5 d5 h5 C4 d4 l l' hl hl' o0 o1 o2 o3 h0 h1 h2 h3 rest)) Q := by
  iintro ⟨H7, H12, H13, Hm, HQ⟩
  dsimp only [flushBody, flushPart, twp]
  sl_exec (disch := assumption)
  simp only [bind_assoc, pure_bind]
  iapply (wp_tok d L m R c0 (t - c0) (X cur) t fm hm l (hl c4) o0 o1 o2 o3 (h0 c4) (h1 c4) (h2 c4) (h3 c4) e0 e1 e2 e3 (by omega) ht q) $$ Hm
  iintro Hm
  rw [htr, show t + (X (cur + 1) - t) = X (cur + 1) by omega]
  iapply (wp_none d L l' (hl' c4) htr' _ (rest c4) _)
  dsimp only [accs, twp]
  sl_exec
  sl_step
  have hle : X cur ≤ X (cur + 1) := by omega
  have hcn : (BitVec.ofNat 32 cur).toNat = cur := toNat_ofNat (by omega)
  have hc : k0_off17 (BitVec.ofNat 32 cur) 0 = cur := hcn
  have hst : ((BitVec.ofNat 32 (X (cur + 1)), Scalar.addi (BitVec.ofNat 32 cur) 1#32,
      extractAt ![0] (k0_pay70 (a7.view.readAt (Elt F) (Rect.unit (s := S536) (k0_off17 (BitVec.ofNat 32 cur)) S16.size
        (k0_off17_inb (BitVec.ofNat 32 cur) (h5 c5))).toLoadRect f7))
        inpos_S1_p0, k0_pay1, k0_pay1, k0_pay1, k0_pay1) : St F) = st X R (X (cur + 1)) (cur + 1) := by
    have hz : ∀ g, acc R (X (cur + 1)) (X (cur + 1)) g = k0_pay1 := by
      intro g; unfold acc; rw [Nat.sub_self]; rfl
    unfold st
    rw [hz, hz, hz, hz, show (1#32) = BitVec.ofNat 32 1 from rfl, add_ofNat]
    simp only [Prod.mk.injEq, and_true, true_and]
    exact (lane_val _ 2 (by decide) slices_S16_o2_S1).trans (offs_lane h7 _ cur hc _)
  rw [hst]
  iapply HQ $$ [] H7 H12 H13 Hm
  ipureintro
  refine flush_done h13 _ _ _ _ _ _ _ _ ?_ ?_ ?_ ?_ _ _ _ _ ?_ ?_ ?_ ?_
  · show ![(BitVec.ofNat 32 cur).toNat, 0] = _; rw [hcn]
  · show ![(BitVec.ofNat 32 cur).toNat, 16] = _; rw [hcn]
  · show ![(BitVec.ofNat 32 cur).toNat, 32] = _; rw [hcn]
  · show ![(BitVec.ofNat 32 cur).toNat, 48] = _; rw [hcn]
  · exact flush_val hX hle _ (offs_lane h7 _ cur hc) 0 0 rfl _ (bias_lane h12 0 _)
  · exact flush_val hX hle _ (offs_lane h7 _ cur hc) 1 16 rfl _ (bias_lane h12 16 _)
  · exact flush_val hX hle _ (offs_lane h7 _ cur hc) 2 32 rfl _ (bias_lane h12 32 _)
  · exact flush_val hX hle _ (offs_lane h7 _ cur hc) 3 48 rfl _ (bias_lane h12 48 _)

end Cert.KernelIdeal.Bag
-- ==== Proof.KernelIdeal.Bags.lean ====
/-
  The three kinds of loop a chunk is gone through by: the count of the bags that end in it, the loop that flushes them,
  and the loop over the tokens left.
-/
module

public import proofs.«01_k».proof.Proof.KernelIdeal.Flush
public import proofs.«01_k».proof.Proof.Count

@[expose] public section

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Sixteen offsets: how many are at most the chunk's end, added to the count so far. -/
def cntBody (L : grid0.Coords) (a7 : Memref sig .scVector .vmem S536 .i32) {n : ℕ} (o : Fin n → Fin 1 → ℕ)
    (ho : ∀ k a, o k a + S16.size a ≤ S536.size a) (w : BitVec 32) : Fin n → BitVec 32 → TProg F L (BitVec 32) :=
  fun k r => do
    let v : Vec F S16 .i32 ← Prog.lift (.load a7 (Rect.unit (s := S536) (o k) S16.size (ho k)).toLoadRect (View.loadsAt_vmem h_S16))
    pure (Scalar.addi r (extractAt ![15] (flags (d := ![16]) w v) inpos_S16_p15))

theorem cntN_add_le (X : ℕ → ℕ) (h a b : ℕ) : cntN X h a ≤ cntN X h (a + b) := by
  induction b with
  | zero => exact Nat.le_refl _
  | succ b ih => exact le_trans ih (Nat.le_add_right _ _)

/-- The count of the bags that end at or before `h`. -/
theorem wp_cnt (d : Dev nD) (L : grid0.Coords) {β : Type} {Q : β → sProp 𝕄} (a7 : Memref sig .scVector .vmem S536 .i32)
    (X : ℕ → ℕ) (hX : ∀ j, X j < 2 ^ 31) (f7 : a7.view.ty.Contents (Elt F)) (h7 : Offs X a7 f7) (h : ℕ) (hh : h < 2 ^ 31)
    (l : Scf.Loop 32) (hok : l.OK) (htr : l.trips = 32) (o : Fin l.trips → Fin 1 → ℕ) (ho) (e : ∀ k, o k = ![16 * k.val + 1])
    (kk : BitVec 32 → TProg F L β) :
    (a7.view.loc (V d (cV L) (jV L)) ↦{fullShare} f7 : sProp 𝕄)
      ⊢ iprop(((a7.view.loc (V d (cV L) (jV L)) ↦{fullShare} f7) -∗ twp d L (kk (BitVec.ofNat 32 (cnt X h))) Q)
        -∗ twp d L (Scf.Loop.for l hok 0#32 (cntBody L a7 o ho (BitVec.ofNat 32 h)) >>= kk) Q) := by
  iintro H HK
  iapply (Scf.wp_for_bind frame (wpE (defs₀ (F := F)) 𝒱₀ (V d (cV L) (jV L)) none) Set.univ l.lb l.ub l.st hok 0#32
    (cntBody L a7 o ho (BitVec.ofNat 32 h))
    (fun k r => iprop(⌜r = BitVec.ofNat 32 (cntN X h (16 * k))⌝ ∗ a7.view.loc (V d (cV L) (jV L)) ↦{fullShare} f7)) ?_) $$ [H]
  · intro k r
    iintro ⟨%hr, H⟩
    subst hr
    dsimp only [cntBody]
    sl_exec
    sl_step
    isplitr
    · ipureintro
      have hv := fun y : S16.Idx => (offs_lane h7 (ho k) (16 * k.val + 1) (by rw [e]; rfl) y).trans
        (show _ = BitVec.ofNat 32 (X (16 * k.val + (y 0).val + 1)) by congr 2; omega)
      have hl := flags_last X hX h hh _ (16 * k.val) hv (fun a => ⟨(![15] : Fin 1 → ℕ) a, inpos_S16_p15 a⟩) rfl
      refine (congrArg (Scalar.addi (BitVec.ofNat 32 (cntN X h (16 * k.val)))) hl).trans ?_
      rw [add_ofNat]
      congr 1
      have := cntN_add_le X h (16 * k.val) 16
      rw [show 16 * (k.val + 1) = 16 * k.val + 16 by omega]
      omega
    · iexact H
  · isplitr
    · ipureintro; rfl
    · iexact H
  · iintro %a ⟨%ha, H⟩
    have ht : Scf.trips l.lb l.ub l.st = 32 := htr
    rw [ht] at ha
    subst ha
    iapply HK
    iexact H

/-- The buffers a chunk's loops work on. -/
abbrev Bufs (d : Dev nD) (L : grid0.Coords) (a7 : Memref sig .scVector .vmem S536 .i32) (a12 : Memref sig .scVector .vmem S64 .f32)
    (a13 : Memref sig .scVector .vmem S512x64 .f32) (m : Memref sig .scVector .vmem S128x128 .f32) (q : PosShare TreeShare)
    (f7 : a7.view.ty.Contents (Elt F)) (f12 : a12.view.ty.Contents (Elt F)) (fm : m.view.ty.Contents (Elt F))
    (f13 : a13.view.ty.Contents (Elt F)) : sProp 𝕄 :=
  iprop((a7.view.loc (V d (cV L) (jV L)) ↦{fullShare} f7) ∗ (a12.view.loc (V d (cV L) (jV L)) ↦{fullShare} f12)
    ∗ (a13.view.loc (V d (cV L) (jV L)) ↦{fullShare} f13) ∗ (m.view.loc (V d (cV L) (jV L)) ↦{q} fm))

/-- Bag `cur + k`'s position when its turn comes: the loop's first position, or the bag's start. -/
def pos (X : ℕ → ℕ) (t cur k : ℕ) : ℕ := if k = 0 then t else X (cur + k)

/-- The loop that flushes bags `cur, …, cur+n-1`. -/
theorem wp_bags (d : Dev nD) (L : grid0.Coords) {β : Type} {Q : β → sProp 𝕄}
    (a7 : Memref sig .scVector .vmem S536 .i32) (a12 : Memref sig .scVector .vmem S64 .f32)
    (a13 : Memref sig .scVector .vmem S512x64 .f32) (m : Memref sig .scVector .vmem S128x128 .f32) (q : PosShare TreeShare)
    (X : ℕ → ℕ) (R : ℕ → ℕ → F .f32) (b : ℕ → F .f32)
    (f7 : a7.view.ty.Contents (Elt F)) (f12 : a12.view.ty.Contents (Elt F)) (fm : m.view.ty.Contents (Elt F))
    (t cur n : ℕ) (l : Scf.Loop 32) (hok : l.OK) (htr : l.trips = n) (body : Fin l.trips → St F → TProg F L (St F))
    (hbody : ∀ (k : Fin l.trips) f13 (Q' : St F → sProp 𝕄), Done X R b a13 (cur + k.val) f13 →
      iprop(Bufs d L a7 a12 a13 m q f7 f12 fm f13 ∗ (∀ f', ⌜Done X R b a13 (cur + k.val + 1) f'⌝ -∗ Bufs d L a7 a12 a13 m q f7 f12 fm f'
          -∗ Q' (st X R (X (cur + k.val + 1)) (cur + k.val + 1))))
        ⊢ twp d L (body k (st X R (pos X t cur k) (cur + k.val))) Q')
    (f13 : a13.view.ty.Contents (Elt F)) (h13 : Done X R b a13 cur f13) (kk : St F → TProg F L β) :
    Bufs d L a7 a12 a13 m q f7 f12 fm f13
      ⊢ iprop((∀ f', ⌜Done X R b a13 (cur + n) f'⌝ -∗ Bufs d L a7 a12 a13 m q f7 f12 fm f'
          -∗ twp d L (kk (st X R (pos X t cur n) (cur + n))) Q)
        -∗ twp d L (Scf.Loop.for l hok (st X R t cur) body >>= kk) Q) := by
  subst htr
  iintro H HK
  iapply (Scf.wp_for_bind frame (wpE (defs₀ (F := F)) 𝒱₀ (V d (cV L) (jV L)) none) Set.univ l.lb l.ub l.st hok (st X R t cur) body
    (fun k a => iprop(⌜a = st X R (pos X t cur k) (cur + k)⌝ ∗ ∃ f', ⌜Done X R b a13 (cur + k) f'⌝ ∗ Bufs d L a7 a12 a13 m q f7 f12 fm f')) ?_) $$ [H]
  · intro k a
    iintro ⟨%ha, %f', %hf, H⟩
    subst ha
    iapply (hbody k f' _ hf) $$ [H]
    isplitl [H]
    · iexact H
    · iintro %f'' %hf'' H
      isplitr
      · ipureintro
        show st X R (X (cur + k.val + 1)) _ = st X R (if k.val + 1 = 0 then _ else _) _
        rw [if_neg (Nat.succ_ne_zero _)]; rfl
      · iexists f''
        isplitr
        · ipureintro; exact hf''
        · iexact H
  · isplitr
    · ipureintro; rfl
    · iexists f13
      isplitr
      · ipureintro; exact h13
      · iexact H
  · iintro %a ⟨%ha, %f', %hf, H⟩
    subst ha
    iapply HK $$ [] H
    ipureintro; exact hf

end Cert.KernelIdeal.Bag
-- ==== Proof.KernelIdeal.Facts.lean ====
/-
  The words of the tile's program in closed form: its loops, conditions and offsets, for a tile whose tokens run from `s`
  to `e`, and the side conditions they make true.
-/
module

public import proofs.«01_k».proof.Proof.Words
public import proofs.«01_k».proof.Proof.Gen.KernelIdeal

@[expose] public section

namespace Cert.KernelIdeal.Bag

open Cert.KernelIdeal Cert.KernelIdeal.Gen Cert.Proof.Bag
open Idealize.ShloMosaic

/-- The number of chunks of 128 tokens. -/
def nch (s e : ℕ) : ℕ := max ((e - s / 8 * 8 + 127) / 128) 1

/-- The first token of chunk `c`. -/
def ck (s c : ℕ) : ℕ := s / 8 * 8 + c * 128

variable {s e : ℕ} (hs : s ≤ e) (he : e ≤ 327680)
include hs he

theorem nch_lt : nch s e < 2 ^ 31 := by unfold nch; omega

theorem chunk_le {c : ℕ} (hc : c < nch s e) : ck s c ≤ 327680 ∧ 8 ∣ ck s c := by
  unfold nch at hc; unfold ck
  refine ⟨by omega, ?_⟩
  exact ⟨s / 8 + c * 16, by omega⟩

theorem w11 : Scalar.andi (BitVec.ofNat 32 s) 4294967288#32 = BitVec.ofNat 32 (ck s 0) := by
  rw [andi_eight (by omega)]; unfold ck; simp

theorem w15 : Scalar.maxsi (Scalar.divsi (Scalar.addi (Scalar.subi (BitVec.ofNat 32 e)
      (Scalar.andi (BitVec.ofNat 32 s) 4294967288#32)) 127#32) 128#32) 1#32 = BitVec.ofNat 32 (nch s e) := by
  have h8 : s / 8 * 8 ≤ s := Nat.div_mul_le_self s 8
  rw [andi_eight (by omega), subi_ofNat (by omega) (by omega), show (127#32) = BitVec.ofNat 32 127 from rfl, add_ofNat,
    divsi_ofNat (by omega) (by omega) (by omega), show (1#32) = BitVec.ofNat 32 1 from rfl, maxsi_ofNat (by omega) (by omega)]
  rfl

theorem t1_eq : k0_t1_loop (BitVec.ofNat 32 s) (BitVec.ofNat 32 e) = lp 0 ((nch s e + 1) / 2) := by
  have hn := nch_lt hs he
  have hn' : nch s e ≤ 3000 := by unfold nch; omega
  show (⟨0#32, Scalar.addi 0#32 (Scalar.muli (Scalar.divsi (Scalar.subi (Scalar.divsi (Scalar.addi (Scalar.maxsi _ 1#32) 1#32) 2#32) 0#32) 1#32) 1#32), 1#32⟩ : Scf.Loop 32) = _
  rw [w15 hs he, zero_addi, muli_one, divsi_one, subi_zero, add_ofNat, divsi_ofNat (by omega) (by omega) (by omega)]

theorem t22_eq : k0_t22_loop (BitVec.ofNat 32 s) (BitVec.ofNat 32 e) = lp ((nch s e + 1) / 2) ((nch s e + 1) / 2) := by
  have hn' : nch s e ≤ 3000 := by unfold nch; omega
  show (⟨Scalar.addi 0#32 (Scalar.muli (Scalar.divsi (Scalar.subi (Scalar.divsi (Scalar.addi (Scalar.maxsi _ 1#32) 1#32) 2#32) 0#32) 1#32) 1#32),
    Scalar.addi 0#32 (Scalar.subi (Scalar.divsi (Scalar.addi (Scalar.maxsi _ 1#32) 1#32) 2#32) 0#32), 1#32⟩ : Scf.Loop 32) = _
  rw [w15 hs he, zero_addi, zero_addi, muli_one, divsi_one, subi_zero, add_ofNat, divsi_ofNat (by omega) (by omega) (by omega)]

theorem t1_trips : (k0_t1_loop (BitVec.ofNat 32 s) (BitVec.ofNat 32 e)).trips = (nch s e + 1) / 2 := by
  have hn' : nch s e ≤ 3000 := by unfold nch; omega
  rw [t1_eq hs he, lp_trips (by omega) (by omega)]; omega

theorem t22_trips : (k0_t22_loop (BitVec.ofNat 32 s) (BitVec.ofNat 32 e)).trips = 0 := by
  have hn' : nch s e ≤ 3000 := by unfold nch; omega
  rw [t22_eq hs he, lp_trips (by omega) (by omega)]; omega

/-- The trip's first chunk, as a word. -/
theorem w42 (t : ℕ) : Scalar.muli (Scf.iv 0#32 1#32 t) 2#32 = BitVec.ofNat 32 (2 * t) := by
  rw [iv_ofNat, mul_ofNat]; congr 1; omega

theorem w55 (c : ℕ) : Scalar.addi (BitVec.ofNat 32 (ck s 0)) (Scalar.muli (BitVec.ofNat 32 c) 128#32) = BitVec.ofNat 32 (ck s c) := by
  rw [mul_ofNat, add_ofNat]; congr 1

section Trip

variable (t : Fin (k0_t1_loop (BitVec.ofNat 32 s) (BitVec.ofNat 32 e)).trips)

theorem trip_lt : 2 * t.val < nch s e := by
  have h := t.isLt
  have := t1_trips hs he
  omega

theorem cond1_iff : k0_cond1 (BitVec.ofNat 32 s) (BitVec.ofNat 32 e) = 1#1 ↔ 1 < nch s e := by
  show Scalar.cmpi .ne (Scalar.extui (Scalar.cmpi .sgt (Scalar.maxsi _ 1#32) 1#32) : BitVec 32) 0#32 = _ ↔ _
  rw [ne_extui, w15 hs he]
  exact sgt_ofNat (nch_lt hs he) (by omega)

theorem cond0_iff : Scalar.cmpi .ne (Scalar.extui (Scalar.cmpi .slt (Scalar.muli (Scf.iv 0#32 1#32 t) 2#32) (BitVec.ofNat 32 (nch s e))) : BitVec 32) 0#32 = 1#1
    ↔ 2 * t.val < nch s e := by
  have := trip_lt hs he t
  have hn' : nch s e ≤ 3000 := by unfold nch; omega
  rw [ne_extui, w42 hs he]
  exact slt_ofNat (by omega) (by omega)

theorem cond3_iff : k0_cond3 _ _ t = 1#1 ↔ 2 * t.val + 2 < nch s e := by
  have := trip_lt hs he t
  have hn' : nch s e ≤ 3000 := by unfold nch; omega
  show Scalar.cmpi .ne (Scalar.extui (Scalar.cmpi .slt (Scalar.addi (Scalar.muli (Scf.iv 0#32 1#32 t) 2#32) 2#32) (Scalar.maxsi _ 1#32)) : BitVec 32) 0#32 = _ ↔ _
  rw [ne_extui, w15 hs he, w42 hs he, add_ofNat]
  exact slt_ofNat (by omega) (by omega)

theorem cond4_iff : k0_cond4 _ _ t = 1#1 ↔ 2 * t.val + 1 < nch s e := by
  have := trip_lt hs he t
  have hn' : nch s e ≤ 3000 := by unfold nch; omega
  show Scalar.cmpi .ne (Scalar.extui (Scalar.cmpi .slt (Scalar.addi (Scalar.muli (Scf.iv 0#32 1#32 t) 2#32) 1#32) (Scalar.maxsi _ 1#32)) : BitVec 32) 0#32 = _ ↔ _
  rw [ne_extui, w15 hs he, w42 hs he, add_ofNat]
  exact slt_ofNat (by omega) (by omega)

theorem cond6_iff : k0_cond6 _ _ t = 1#1 ↔ 2 * t.val + 3 < nch s e := by
  have := trip_lt hs he t
  have hn' : nch s e ≤ 3000 := by unfold nch; omega
  show Scalar.cmpi .ne (Scalar.extui (Scalar.cmpi .slt (Scalar.addi (Scalar.addi (Scalar.muli (Scf.iv 0#32 1#32 t) 2#32) 1#32) 2#32) (Scalar.maxsi _ 1#32)) : BitVec 32) 0#32 = _ ↔ _
  rw [ne_extui, w15 hs he, w42 hs he, add_ofNat, add_ofNat]
  exact slt_ofNat (by omega) (by omega)

theorem cond7_iff : k0_cond7 _ _ t = 1#1 ↔ 2 * t.val + 2 < nch s e := by
  have := trip_lt hs he t
  have hn' : nch s e ≤ 3000 := by unfold nch; omega
  show Scalar.cmpi .ne (Scalar.extui (Scalar.cmpi .slt (Scalar.addi (Scalar.addi (Scalar.muli (Scf.iv 0#32 1#32 t) 2#32) 1#32) 1#32) (Scalar.maxsi _ 1#32)) : BitVec 32) 0#32 = _ ↔ _
  rw [ne_extui, w15 hs he, w42 hs he, add_ofNat, add_ofNat]
  exact slt_ofNat (by omega) (by omega)

theorem condB_iff : Scalar.cmpi .ne (Scalar.extui (Scalar.cmpi .slt (Scalar.addi (Scalar.muli (Scf.iv 0#32 1#32 t) 2#32) 1#32) (BitVec.ofNat 32 (nch s e))) : BitVec 32) 0#32 = 1#1
    ↔ 2 * t.val + 1 < nch s e := by
  have := trip_lt hs he t
  have hn' : nch s e ≤ 3000 := by unfold nch; omega
  rw [ne_extui, w42 hs he, add_ofNat]
  exact slt_ofNat (by omega) (by omega)

/-- A chunk's first token as the program computes it, from the chunk's number. -/
theorem wck {x : BitVec 32} {c : ℕ} (hx : x = BitVec.ofNat 32 c) (hc : c < nch s e + 3) :
    Scalar.addi (Scalar.andi (BitVec.ofNat 32 s) 4294967288#32) (Scalar.muli x 128#32) = BitVec.ofNat 32 (ck s c)
      ∧ (Scalar.addi (Scalar.andi (BitVec.ofNat 32 s) 4294967288#32) (Scalar.muli x 128#32)).toNat = ck s c := by
  have hn' : nch s e ≤ 3000 := by unfold nch; omega
  have h := w55 hs he c
  rw [hx, w11 hs he, h]
  exact ⟨rfl, toNat_ofNat (by unfold ck; omega)⟩

theorem cA : Scalar.muli (Scf.iv 0#32 1#32 t) 2#32 = BitVec.ofNat 32 (2 * t.val) := w42 hs he t
theorem cB : Scalar.addi (Scalar.muli (Scf.iv 0#32 1#32 t) 2#32) 1#32 = BitVec.ofNat 32 (2 * t.val + 1) := by
  rw [w42 hs he, add_ofNat]
theorem cC : Scalar.addi (Scalar.muli (Scf.iv 0#32 1#32 t) 2#32) 2#32 = BitVec.ofNat 32 (2 * t.val + 2) := by
  rw [w42 hs he, add_ofNat]
theorem cD : Scalar.addi (Scalar.addi (Scalar.muli (Scf.iv 0#32 1#32 t) 2#32) 1#32) 2#32 = BitVec.ofNat 32 (2 * t.val + 3) := by
  rw [w42 hs he, add_ofNat, add_ofNat]
theorem cE : Scalar.addi (Scalar.addi (Scalar.muli (Scf.iv 0#32 1#32 t) 2#32) 1#32) 1#32 = BitVec.ofNat 32 (2 * t.val + 2) := by
  rw [w42 hs he, add_ofNat, add_ofNat]

theorem off2_eq : k0_off2 (BitVec.ofNat 32 s) = ![ck s 0] :=
  congrArg (fun x => ![x]) (wck hs he (c := 0) (x := Scalar.muli 0#32 1#32) (by decide) (by omega)).2
theorem off4_eq : k0_off4 (BitVec.ofNat 32 s) = ![ck s 0] :=
  congrArg (fun x => ![x]) (wck hs he (c := 0) (x := 0#32) rfl (by omega)).2
theorem off3_eq : k0_off3 (BitVec.ofNat 32 s) = ![ck s 1] :=
  congrArg (fun x => ![x]) (wck hs he (c := 1) (x := 1#32) rfl (by omega)).2
theorem off5_eq : k0_off5 _ _ t = ![ck s (2 * t.val + 2)] :=
  congrArg (fun x => ![x]) (wck hs he (cC hs he t) (by have := trip_lt hs he t; omega)).2
theorem off6_eq : k0_off6 _ _ t = ![ck s (2 * t.val + 1)] :=
  congrArg (fun x => ![x]) (wck hs he (cB hs he t) (by have := trip_lt hs he t; omega)).2
theorem off43_eq : k0_off43 _ _ t = ![ck s (2 * t.val + 3)] :=
  congrArg (fun x => ![x]) (wck hs he (cD hs he t) (by have := trip_lt hs he t; omega)).2
theorem off44_eq : k0_off44 _ _ t = ![ck s (2 * t.val + 2)] :=
  congrArg (fun x => ![x]) (wck hs he (cE hs he t) (by have := trip_lt hs he t; omega)).2

end Trip

/-- A chunk's indices lie within the padded list. -/
theorem inb_ck {c : ℕ} (hc : c < nch s e) {o : Fin 1 → ℕ} (ho : o = ![ck s c]) (a : Fin 1) :
    o a + S128.size a ≤ S327808.size a := by
  have := (chunk_le hs he hc).1
  subst ho
  match a with
  | 0 => show ck s c + 128 ≤ 327808; omega

theorem chk1 : k0_chk1 (BitVec.ofNat 32 s) := by
  have h0 : (0 : ℕ) < nch s e := by unfold nch; omega
  have h8 := (chunk_le hs he h0).2
  have hm : (Scalar.andi (BitVec.ofNat 32 s) 4294967288#32).toNat = ck s 0 := by
    rw [w11 hs he]; exact toNat_ofNat (by have := (chunk_le hs he h0).1; omega)
  have hz := (wck hs he (c := 0) (x := 0#32) rfl (by omega)).2
  exact ⟨hm ▸ h8, (show _ = _ from hz) ▸ h8, inb_ck hs he h0 (off2_eq hs he), (show _ = _ from hz) ▸ h8, inb_ck hs he h0 (off4_eq hs he)⟩

theorem chk2 : k0_chk2 (BitVec.ofNat 32 s) (BitVec.ofNat 32 e) := by
  have hn' : nch s e ≤ 3000 := by unfold nch; omega
  have dv : ∀ {x : BitVec 32} {c : ℕ}, x = BitVec.ofNat 32 c → c < nch s e →
      8 ∣ (Scalar.addi (Scalar.andi (BitVec.ofNat 32 s) 4294967288#32) (Scalar.muli x 128#32)).toNat := by
    intro x c hx hc
    rw [(wck hs he hx (by omega)).2]; exact (chunk_le hs he hc).2
  have no : ∀ k : Fin (k0_t22_loop (BitVec.ofNat 32 s) (BitVec.ofNat 32 e)).trips, False := fun k => by
    have := k.isLt; have := t22_trips hs he; omega
  refine ⟨fun h => dv (x := 1#32) rfl ((cond1_iff hs he).1 h), fun h => inb_ck hs he ((cond1_iff hs he).1 h) (off3_eq hs he), ?_,
    fun t h => dv (cC hs he t) ((cond3_iff hs he t).1 h), fun t h => inb_ck hs he ((cond3_iff hs he t).1 h) (off5_eq hs he t),
    fun t h => dv (cB hs he t) ((cond4_iff hs he t).1 h), fun t h => inb_ck hs he ((cond4_iff hs he t).1 h) (off6_eq hs he t),
    fun t h => dv (cD hs he t) ((cond6_iff hs he t).1 h), fun t h => inb_ck hs he ((cond6_iff hs he t).1 h) (off43_eq hs he t),
    fun t h => dv (cE hs he t) ((cond7_iff hs he t).1 h), fun t h => inb_ck hs he ((cond7_iff hs he t).1 h) (off44_eq hs he t), ?_,
    fun k => (no k).elim, fun k => (no k).elim, fun k => (no k).elim, fun k => (no k).elim, fun k => (no k).elim, fun k => (no k).elim,
    fun k => (no k).elim, fun k => (no k).elim⟩
  · rw [t1_eq hs he]; exact lp_ok (by omega) (by omega)
  · rw [t22_eq hs he]; exact lp_ok (by omega) (by omega)

/-! ### The loops over tokens -/

omit hs he in
theorem tok_eq (a b : BitVec 32) : k0_t5_loop a b = ⟨a, b, 1#32⟩ := by
  show (⟨a, Scalar.addi a (Scalar.muli (Scalar.divsi (Scalar.subi b a) 1#32) 1#32), 1#32⟩ : Scf.Loop 32) = _
  rw [muli_one, divsi_one, addi_subi]

omit hs he in
theorem tok'_eq (a b : BitVec 32) : k0_t6_loop a b = ⟨b, b, 1#32⟩ := by
  show (⟨Scalar.addi a (Scalar.muli (Scalar.divsi (Scalar.subi b a) 1#32) 1#32), Scalar.addi a (Scalar.subi b a), 1#32⟩ : Scf.Loop 32) = _
  rw [muli_one, divsi_one, addi_subi]

omit hs he in
theorem bag_eq (a b : BitVec 32) : k0_t4_loop a b = ⟨0#32, Scalar.subi b a, 1#32⟩ := by
  show (⟨0#32, Scalar.addi 0#32 (Scalar.muli (Scalar.divsi (Scalar.subi (Scalar.subi b a) 0#32) 1#32) 1#32), 1#32⟩ : Scf.Loop 32) = _
  rw [muli_one, divsi_one, zero_addi, subi_zero]

section Trip

variable (t : Fin (k0_t1_loop (BitVec.ofNat 32 s) (BitVec.ofNat 32 e)).trips)

/-- Chunk `c`'s first token, as the program computes it from the chunk's number `x`. -/
def wbase (s : ℕ) (x : BitVec 32) : BitVec 32 :=
  Scalar.addi (Scalar.andi (BitVec.ofNat 32 s) 4294967288#32) (Scalar.muli x 128#32)

/-- The tail's loop over chunk `x`, from position `y`. -/
theorem tail_eq {x y : BitVec 32} {c : ℕ} (hx : x = BitVec.ofNat 32 c) (hc : c < nch s e + 3) {a : ℕ} (hy : y = BitVec.ofNat 32 a)
    (ha : a < 2 ^ 31) :
    (⟨Scalar.maxsi y (wbase s x), Scalar.addi (Scalar.maxsi y (wbase s x)) (Scalar.muli (Scalar.divsi (Scalar.subi
        (Scalar.minsi (Scalar.addi (wbase s x) 128#32) (BitVec.ofNat 32 e)) (Scalar.maxsi y (wbase s x))) 1#32) 1#32), 1#32⟩ : Scf.Loop 32)
      = lp (max a (ck s c)) (min (ck s c + 128) e) := by
  have hn' : nch s e ≤ 3000 := by unfold nch; omega
  have hck : ck s c ≤ 1000000 := by unfold ck; omega
  unfold wbase
  rw [muli_one, divsi_one, addi_subi, (wck hs he hx hc).1, hy, maxsi_ofNat ha (by omega), add_ofNat, minsi_ofNat (by omega) (by omega)]

theorem tailA_eq {a : ℕ} (ha : a < 2 ^ 31) : k0_t10_loop _ _ t (BitVec.ofNat 32 a)
    = lp (max a (ck s (2 * t.val))) (min (ck s (2 * t.val) + 128) e) :=
  tail_eq hs he (cA hs he t) (by have := trip_lt hs he t; omega) rfl ha

theorem tailB_eq {a : ℕ} (ha : a < 2 ^ 31) : k0_t20_loop _ _ t (BitVec.ofNat 32 a)
    = lp (max a (ck s (2 * t.val + 1))) (min (ck s (2 * t.val + 1) + 128) e) :=
  tail_eq hs he (cB hs he t) (by have := trip_lt hs he t; omega) rfl ha

/-- The loop left after the tail's loop has no trips. -/
theorem tail'_eq {x y : BitVec 32} {c : ℕ} (hx : x = BitVec.ofNat 32 c) (hc : c < nch s e + 3) :
    (⟨Scalar.addi (Scalar.maxsi y (wbase s x)) (Scalar.muli (Scalar.divsi (Scalar.subi
        (Scalar.minsi (Scalar.addi (wbase s x) 128#32) (BitVec.ofNat 32 e)) (Scalar.maxsi y (wbase s x))) 1#32) 1#32),
       Scalar.addi (Scalar.maxsi y (wbase s x)) (Scalar.subi
        (Scalar.minsi (Scalar.addi (wbase s x) 128#32) (BitVec.ofNat 32 e)) (Scalar.maxsi y (wbase s x))), 1#32⟩ : Scf.Loop 32)
      = lp (min (ck s c + 128) e) (min (ck s c + 128) e) := by
  have hn' : nch s e ≤ 3000 := by unfold nch; omega
  have hck : ck s c ≤ 1000000 := by unfold ck; omega
  unfold wbase
  rw [muli_one, divsi_one, addi_subi, (wck hs he hx hc).1, add_ofNat, minsi_ofNat (by omega) (by omega)]

theorem tailA'_eq (y : BitVec 32) : k0_t11_loop _ _ t y = lp (min (ck s (2 * t.val) + 128) e) (min (ck s (2 * t.val) + 128) e) :=
  tail'_eq hs he (cA hs he t) (by have := trip_lt hs he t; omega)

theorem tailB'_eq (y : BitVec 32) : k0_t21_loop _ _ t y = lp (min (ck s (2 * t.val + 1) + 128) e) (min (ck s (2 * t.val + 1) + 128) e) :=
  tail'_eq hs he (cB hs he t) (by have := trip_lt hs he t; omega)

/-- A token's row in its chunk, as the program computes it. -/
theorem row_eq {x y : BitVec 32} {c a k g : ℕ} (hx : x = BitVec.ofNat 32 c) (hc : c < nch s e + 3) (hy : y = BitVec.ofNat 32 a)
    (hak : a + k < 2 ^ 31) (hca : ck s c ≤ a) :
    (![(Scalar.subi (Scf.iv y 1#32 k) (wbase s x)).toNat, g] : Fin 2 → ℕ) = ![a - ck s c + k, g] := by
  unfold wbase
  rw [(wck hs he hx hc).1, hy, iv_ofNat, subi_ofNat (by omega) hak, toNat_ofNat (by omega)]
  congr 1
  omega

omit hs he in
theorem row_inb {o : Fin 2 → ℕ} {r g : ℕ} (ho : o = ![r, 16 * g]) (hr : r < 128) (hg : g < 4) (a : Fin 2) :
    o a + S1x16.size a ≤ S128x128.size a := by
  subst ho
  match a with
  | 0 => show r + 1 ≤ 128; omega
  | 1 => show 16 * g + 16 ≤ 128; omega

/-- A token loop's rows lie in the buffer. -/
theorem rows_inb {x y : BitVec 32} {c a b g : ℕ} (hx : x = BitVec.ofNat 32 c) (hc : c < nch s e + 3) (hy : y = BitVec.ofNat 32 a)
    (hb : b ≤ ck s c + 128) (hca : ck s c ≤ a) (hg : g < 4) (k : ℕ) (hk : k < b - a) (i : Fin 2) :
    (![(Scalar.subi (Scf.iv y 1#32 k) (wbase s x)).toNat, 16 * g] : Fin 2 → ℕ) i + S1x16.size i ≤ S128x128.size i := by
  have hn' : nch s e ≤ 3000 := by unfold nch; omega
  have hck : ck s c ≤ 1000000 := by unfold ck; omega
  exact row_inb (row_eq hs he hx hc hy (by omega) hca) (by omega) hg i

omit hs he in
theorem tok_trips {a b : ℕ} (ha : a < 2 ^ 31) (hb : b < 2 ^ 31) : (k0_t5_loop (BitVec.ofNat 32 a) (BitVec.ofNat 32 b)).trips = b - a := by
  rw [tok_eq]; exact lp_trips ha hb

omit hs he in
theorem tok'_trips {a b : ℕ} (hb : b < 2 ^ 31) : (k0_t6_loop (BitVec.ofNat 32 a) (BitVec.ofNat 32 b)).trips = 0 := by
  rw [tok'_eq]; exact (lp_trips hb hb).trans (Nat.sub_self b)

theorem chk4 {a b : ℕ} (h0 : ck s (2 * t.val) ≤ a) (hb : b ≤ ck s (2 * t.val) + 128) (ha : a < 2 ^ 31) :
    k0_chk4 _ _ t (BitVec.ofNat 32 a) (BitVec.ofNat 32 b) := by
  have ht := trip_lt hs he t
  have hck := (chunk_le hs he ht).1
  have hb' : b < 2 ^ 31 := by omega
  have f : ∀ g, g < 4 → ∀ k : Fin (k0_t5_loop (BitVec.ofNat 32 a) (BitVec.ofNat 32 b)).trips, ∀ i,
      (![(Scalar.subi (Scf.iv (BitVec.ofNat 32 a) 1#32 k) (wbase s (Scalar.muli (Scf.iv 0#32 1#32 t) 2#32))).toNat, 16 * g] : Fin 2 → ℕ) i
        + S1x16.size i ≤ S128x128.size i := fun g hg k i =>
    rows_inb hs he (cA hs he t) (by omega) rfl hb h0 hg k (by have := k.isLt; have := tok_trips ha hb'; omega) i
  have no : ∀ k : Fin (k0_t6_loop (BitVec.ofNat 32 a) (BitVec.ofNat 32 b)).trips, False := fun k => by
    have := k.isLt; have := tok'_trips (a := a) hb'; omega
  exact ⟨by rw [tok_eq]; exact lp_ok ha hb', f 0 (by omega), f 1 (by omega), f 2 (by omega), f 3 (by omega),
    by rw [tok'_eq]; exact lp_ok hb' hb', fun k => (no k).elim, fun k => (no k).elim, fun k => (no k).elim, fun k => (no k).elim⟩

theorem chk10 {a b : ℕ} (h0 : ck s (2 * t.val + 1) ≤ a) (hb : b ≤ ck s (2 * t.val + 1) + 128) (ha : a < 2 ^ 31) :
    k0_chk10 _ _ t (BitVec.ofNat 32 a) (BitVec.ofNat 32 b) := by
  have ht := trip_lt hs he t
  have hck := (chunk_le hs he ht).1
  have hb' : b < 2 ^ 31 := by unfold ck at *; omega
  have f : ∀ g, g < 4 → ∀ k : Fin (k0_t5_loop (BitVec.ofNat 32 a) (BitVec.ofNat 32 b)).trips, ∀ i,
      (![(Scalar.subi (Scf.iv (BitVec.ofNat 32 a) 1#32 k) (wbase s (Scalar.addi (Scalar.muli (Scf.iv 0#32 1#32 t) 2#32) 1#32))).toNat, 16 * g] : Fin 2 → ℕ) i
        + S1x16.size i ≤ S128x128.size i := fun g hg k i =>
    rows_inb hs he (cB hs he t) (by omega) rfl hb h0 hg k (by have := k.isLt; have := tok_trips ha hb'; omega) i
  have no : ∀ k : Fin (k0_t6_loop (BitVec.ofNat 32 a) (BitVec.ofNat 32 b)).trips, False := fun k => by
    have := k.isLt; have := tok'_trips (a := a) hb'; omega
  exact ⟨by show (k0_t5_loop _ _).OK; rw [tok_eq]; exact lp_ok ha hb', f 0 (by omega), f 1 (by omega), f 2 (by omega), f 3 (by omega),
    by show (k0_t6_loop _ _).OK; rw [tok'_eq]; exact lp_ok hb' hb', fun k => (no k).elim, fun k => (no k).elim, fun k => (no k).elim, fun k => (no k).elim⟩

theorem chk8 {a : ℕ} (ha : a < 2 ^ 31) : k0_chk8 _ _ t (BitVec.ofNat 32 a) := by
  have ht := trip_lt hs he t
  have hck := (chunk_le hs he ht).1
  have htr : (k0_t10_loop _ _ t (BitVec.ofNat 32 a)).trips = _ := (congrArg Scf.Loop.trips (tailA_eq hs he t ha)).trans
    (lp_trips (by omega) (by omega))
  have hy : Scalar.maxsi (BitVec.ofNat 32 a) (wbase s (Scalar.muli (Scf.iv 0#32 1#32 t) 2#32)) = BitVec.ofNat 32 (max a (ck s (2 * t.val))) := by
    unfold wbase; rw [(wck hs he (cA hs he t) (by omega)).1, maxsi_ofNat ha (by omega)]
  have f : ∀ g, g < 4 → ∀ k : Fin (k0_t10_loop _ _ t (BitVec.ofNat 32 a)).trips, ∀ i,
      (![(Scalar.subi (Scf.iv (Scalar.maxsi (BitVec.ofNat 32 a) (wbase s (Scalar.muli (Scf.iv 0#32 1#32 t) 2#32))) 1#32 k) (wbase s (Scalar.muli (Scf.iv 0#32 1#32 t) 2#32))).toNat, 16 * g] : Fin 2 → ℕ) i
        + S1x16.size i ≤ S128x128.size i := fun g hg k i =>
    rows_inb hs he (cA hs he t) (by omega) hy (b := min (ck s (2 * t.val) + 128) e) (by omega) (by omega) hg k (by have := k.isLt; omega) i
  have no : ∀ k : Fin (k0_t11_loop _ _ t (BitVec.ofNat 32 a)).trips, False := fun k => by
    have := k.isLt
    have h : (k0_t11_loop _ _ t (BitVec.ofNat 32 a)).trips = _ := (congrArg Scf.Loop.trips (tailA'_eq hs he t _)).trans
      (lp_trips (by omega) (by omega))
    omega
  exact ⟨(tailA_eq hs he t ha).symm ▸ lp_ok (by omega) (by omega), f 0 (by omega), f 1 (by omega), f 2 (by omega), f 3 (by omega),
    (tailA'_eq hs he t _).symm ▸ lp_ok (by omega) (by omega), fun k => (no k).elim, fun k => (no k).elim, fun k => (no k).elim, fun k => (no k).elim⟩

theorem chk14 {a : ℕ} (ha : a < 2 ^ 31) : k0_chk14 _ _ t (BitVec.ofNat 32 a) := by
  have ht := trip_lt hs he t
  have hck : ck s (2 * t.val + 1) ≤ 1000000 := by
    have := (chunk_le hs he ht).1; unfold ck at *; omega
  have htr : (k0_t20_loop _ _ t (BitVec.ofNat 32 a)).trips = _ := (congrArg Scf.Loop.trips (tailB_eq hs he t ha)).trans
    (lp_trips (by omega) (by omega))
  have hy : Scalar.maxsi (BitVec.ofNat 32 a) (wbase s (Scalar.addi (Scalar.muli (Scf.iv 0#32 1#32 t) 2#32) 1#32)) = BitVec.ofNat 32 (max a (ck s (2 * t.val + 1))) := by
    unfold wbase; rw [(wck hs he (cB hs he t) (by omega)).1, maxsi_ofNat ha (by omega)]
  have f : ∀ g, g < 4 → ∀ k : Fin (k0_t20_loop _ _ t (BitVec.ofNat 32 a)).trips, ∀ i,
      (![(Scalar.subi (Scf.iv (Scalar.maxsi (BitVec.ofNat 32 a) (wbase s (Scalar.addi (Scalar.muli (Scf.iv 0#32 1#32 t) 2#32) 1#32))) 1#32 k) (wbase s (Scalar.addi (Scalar.muli (Scf.iv 0#32 1#32 t) 2#32) 1#32))).toNat, 16 * g] : Fin 2 → ℕ) i
        + S1x16.size i ≤ S128x128.size i := fun g hg k i =>
    rows_inb hs he (cB hs he t) (by omega) hy (b := min (ck s (2 * t.val + 1) + 128) e) (by omega) (by omega) hg k (by have := k.isLt; omega) i
  have no : ∀ k : Fin (k0_t21_loop _ _ t (BitVec.ofNat 32 a)).trips, False := fun k => by
    have := k.isLt
    have h : (k0_t21_loop _ _ t (BitVec.ofNat 32 a)).trips = _ := (congrArg Scf.Loop.trips (tailB'_eq hs he t _)).trans
      (lp_trips (by omega) (by omega))
    omega
  exact ⟨(tailB_eq hs he t ha).symm ▸ lp_ok (by omega) (by omega), f 0 (by omega), f 1 (by omega), f 2 (by omega), f 3 (by omega),
    (tailB'_eq hs he t _).symm ▸ lp_ok (by omega) (by omega), fun k => (no k).elim, fun k => (no k).elim, fun k => (no k).elim, fun k => (no k).elim⟩

end Trip

omit hs he in
/-- A bag's offsets, row and bounds lie in their buffers. -/
theorem chk5 {cur : ℕ} (hc : cur < 512) : k0_chk5 (BitVec.ofNat 32 cur) := by
  have hn : (BitVec.ofNat 32 cur).toNat = cur := toNat_ofNat (by omega)
  have f : ∀ g, g < 4 → ∀ a : Fin 2, (![(BitVec.ofNat 32 cur).toNat, 16 * g] : Fin 2 → ℕ) a + S1x16.size a ≤ S512x64.size a := by
    intro g hg a
    match a with
    | 0 => show (BitVec.ofNat 32 cur).toNat + 1 ≤ 512; omega
    | 1 => show 16 * g + 16 ≤ 64; omega
  refine ⟨?_, f 0 (by omega), f 1 (by omega), f 2 (by omega), f 3 (by omega)⟩
  intro a
  match a with
  | 0 => show (BitVec.ofNat 32 cur).toNat + 16 ≤ 536; omega

end Cert.KernelIdeal.Bag
-- ==== Proof.KernelIdeal.Bagloop.lean ====
/-
  The loop over the bags that end in a chunk, as the program spells it: for the even chunk of a trip and for the odd one.
-/
module

public import proofs.«01_k».proof.Proof.KernelIdeal.Bags
public import proofs.«01_k».proof.Proof.KernelIdeal.Facts

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

variable {s e : ℕ} (hs : s ≤ e) (he : e ≤ 327680) (t : Fin (k0_t1_loop (BitVec.ofNat 32 s) (BitVec.ofNat 32 e)).trips)
  (X : ℕ → ℕ) (R : ℕ → ℕ → F .f32) (b : ℕ → F .f32) (hX : ∀ j, X j < 2 ^ 31)
  (f7 : a7.view.ty.Contents (Elt F)) (h7 : Offs X a7 f7) (f12 : a12.view.ty.Contents (Elt F)) (h12 : Bias b a12 f12)

/-- Where the bags `cur, …, cn-1` lie, from position `p` on, in the chunk at `c0`. -/
def Spans (X : ℕ → ℕ) (c0 p cur cn : ℕ) : Prop :=
  cur ≤ cn ∧ cn ≤ 512 ∧ p < 2 ^ 31
    ∧ ∀ k, k < cn - cur → c0 ≤ pos X p cur k ∧ X (cur + k) ≤ pos X p cur k ∧ pos X p cur k ≤ X (cur + k + 1) ∧ X (cur + k + 1) ≤ c0 + 128

theorem pos_lt (X : ℕ → ℕ) (hX : ∀ j, X j < 2 ^ 31) {p cur k : ℕ} (hp : p < 2 ^ 31) : pos X p cur k < 2 ^ 31 := by
  unfold pos
  split
  · exact hp
  · exact hX _

include hs he hX h7 h12 in
theorem wp_bagsA (c0' c1' x11 x15 x19 x20 x21 x55 : BitVec 32) (z1 z2 z3 z4 : V16 F) {β : Type} {Q : β → sProp 𝕄}
    (fm : a10.view.ty.Contents (Elt F)) (p cur cn : ℕ)
    (hsp : Spans X (ck s (2 * t.val)) p cur cn) (hm : cur < cn → Rows R a10 (ck s (2 * t.val)) fm) (q : PosShare TreeShare) (hw2) (hw3)
    (f13 : a13.view.ty.Contents (Elt F)) (h13 : Done X R b a13 cur f13) (kk : St F → TProg F L β) :
    Bufs d L a7 a12 a13 a10 q f7 f12 fm f13
      ⊢ iprop((∀ f', ⌜Done X R b a13 cn f'⌝ -∗ Bufs d L a7 a12 a13 a10 q f7 f12 fm f'
            -∗ twp d L (kk (st X R (pos X p cur (cn - cur)) cn)) Q)
          -∗ twp d L (Scf.Loop.for (k0_t4_loop (BitVec.ofNat 32 cur) (BitVec.ofNat 32 cn)) (k0_t4_ok (BitVec.ofNat 32 cur) (BitVec.ofNat 32 cn) hw3) (st X R p cur)
              (k0_t4_body L a2 w2 a3 w3 a4 w4 a5 w5 a6 w6 a7 w7 a8 w8 a9 w9 a10 w10 a11 w11 a12 w12 a13 w13 s14 s15 s16 s17 r0 r1 r2 _ _ hw2 x11 x15 k0_pay1 c0' c1' t x19 (BitVec.ofNat 32 cur) x21 z1 z2 z3 z4 x55 (BitVec.ofNat 32 cn) hw3) >>= kk) Q) := by
  obtain ⟨h1, h2, hp, hk⟩ := hsp
  have htr : (k0_t4_loop (BitVec.ofNat 32 cur) (BitVec.ofNat 32 cn)).trips = cn - cur := by
    rw [bag_eq, subi_ofNat h1 (by omega)]
    exact lp_trips (by omega) (by omega)
  have hmain := wp_bags d L a7 a12 a13 a10 q X R b f7 f12 fm p cur (cn - cur)
    (k0_t4_loop (BitVec.ofNat 32 cur) (BitVec.ofNat 32 cn)) (k0_t4_ok (BitVec.ofNat 32 cur) (BitVec.ofNat 32 cn) hw3) htr
    (k0_t4_body L a2 w2 a3 w3 a4 w4 a5 w5 a6 w6 a7 w7 a8 w8 a9 w9 a10 w10 a11 w11 a12 w12 a13 w13 s14 s15 s16 s17 r0 r1 r2 _ _ hw2 x11 x15 k0_pay1 c0' c1' t x19 (BitVec.ofNat 32 cur) x21 z1 z2 z3 z4 x55 (BitVec.ofNat 32 cn) hw3)
    ?_ f13 h13 kk (Q := Q)
  · rw [show cur + (cn - cur) = cn by omega] at hmain
    exact hmain
  intro k g13 Q' hD
  have hkn : k.val < cn - cur := by have := k.isLt; omega
  obtain ⟨k1, k2, k3, k4⟩ := hk k.val hkn
  have hpl := pos_lt X hX (p := p) (cur := cur) (k := k.val) hp
  have hr : ∀ g, ∀ j : Fin (k0_t5_loop (BitVec.ofNat 32 (pos X p cur k.val)) (BitVec.ofNat 32 (X (cur + k.val + 1)))).trips,
      (![(Scalar.subi (Scf.iv (BitVec.ofNat 32 (pos X p cur k.val)) 1#32 j) (wbase s (Scalar.muli (Scf.iv 0#32 1#32 t) 2#32))).toNat, g] : Fin 2 → ℕ)
        = ![pos X p cur k.val - ck s (2 * t.val) + j.val, g] := by
    intro g j
    have hj : j.val < X (cur + k.val + 1) - pos X p cur k.val := lt_of_lt_of_eq j.isLt (tok_trips hpl (hX _))
    exact row_eq hs he (cA hs he t) (by have := trip_lt hs he t; omega) rfl (by have := hX (cur + k.val + 1); omega) k1
  generalize hv : st X R (X (cur + k.val + 1)) (cur + k.val + 1) = v
  iintro ⟨⟨H7, H12, H13, Hm⟩, HQ⟩
  dsimp only [k0_t4_body, st]
  simp only [k0_part1_eq_skeleton]
  iapply (wp_flush d L a7 a12 a13 a10 X R b hX f7 h7 f12 h12 (ck s (2 * t.val)) fm (hm (by omega)) g13 (pos X p cur k.val) (cur + k.val) (by omega) hD k1 k2 k3
    _ _ id (chk5 (by omega)) _ _ (chk4 hs he t k1 k4 hpl)
    (k0_t5_loop (BitVec.ofNat 32 (pos X p cur k.val)) (BitVec.ofNat 32 (X (cur + k.val + 1))))
    (k0_t6_loop (BitVec.ofNat 32 (pos X p cur k.val)) (BitVec.ofNat 32 (X (cur + k.val + 1))))
    (fun h => k0_t5_ok _ _ t _ _ h) (fun h => k0_t6_ok _ _ t _ _ h) (tok_trips hpl (hX _)) (tok'_trips (hX _))
    (k0_off9 _ _ t _ _) (k0_off10 _ _ t _ _) (k0_off11 _ _ t _ _) (k0_off12 _ _ t _ _)
    (fun h => k0_off9_inb _ _ t _ _ h) (fun h => k0_off10_inb _ _ t _ _ h) (fun h => k0_off11_inb _ _ t _ _ h) (fun h => k0_off12_inb _ _ t _ _ h)
    (hr 0) (hr 16) (hr 32) (hr 48) _ q) $$ [H7 H12 H13 Hm HQ]
  · iframe H7 H12 H13 Hm
    iintro %f' %hf H7 H12 H13 Hm
    rw [hv]
    iapply HQ $$ [] [H7 H12 H13 Hm]
    · ipureintro
      exact hf
    · iframe H7 H12 H13 Hm

include hs he hX h7 h12 in
theorem wp_bagsB (x11 x15 x42 x55 x57 y0 y2 x73 c1' x76 x95 : BitVec 32) (z1 z2 z3 z4 : V16 F) {β : Type} {Q : β → sProp 𝕄}
    (fm : a11.view.ty.Contents (Elt F)) (p cur cn : ℕ)
    (hsp : Spans X (ck s (2 * t.val + 1)) p cur cn) (hm : cur < cn → Rows R a11 (ck s (2 * t.val + 1)) fm) (q : PosShare TreeShare) (hw2) (hw8) (hw3)
    (f13 : a13.view.ty.Contents (Elt F)) (h13 : Done X R b a13 cur f13) (kk : St F → TProg F L β) :
    Bufs d L a7 a12 a13 a11 q f7 f12 fm f13
      ⊢ iprop((∀ f', ⌜Done X R b a13 cn f'⌝ -∗ Bufs d L a7 a12 a13 a11 q f7 f12 fm f'
            -∗ twp d L (kk (st X R (pos X p cur (cn - cur)) cn)) Q)
          -∗ twp d L (Scf.Loop.for (k0_t14_loop (BitVec.ofNat 32 cur) (BitVec.ofNat 32 cn)) (k0_t14_ok (BitVec.ofNat 32 cur) (BitVec.ofNat 32 cn) hw3) (st X R p cur)
              (k0_t14_body L a2 w2 a3 w3 a4 w4 a5 w5 a6 w6 a7 w7 a8 w8 a9 w9 a10 w10 a11 w11 a12 w12 a13 w13 s14 s15 s16 s17 r0 r1 r2 _ _ hw2 x11 x15 k0_pay1 t x42 x55 x57 y0 (BitVec.ofNat 32 cur) y2 z1 z2 z3 z4 hw8 x73 c1' x76 x95 (BitVec.ofNat 32 cn) hw3) >>= kk) Q) := by
  obtain ⟨h1, h2, hp, hk⟩ := hsp
  have htr : (k0_t14_loop (BitVec.ofNat 32 cur) (BitVec.ofNat 32 cn)).trips = cn - cur := by
    rw [show k0_t14_loop (BitVec.ofNat 32 cur) (BitVec.ofNat 32 cn) = k0_t4_loop (BitVec.ofNat 32 cur) (BitVec.ofNat 32 cn) from rfl, bag_eq, subi_ofNat h1 (by omega)]
    exact lp_trips (by omega) (by omega)
  have hmain := wp_bags d L a7 a12 a13 a11 q X R b f7 f12 fm p cur (cn - cur)
    (k0_t14_loop (BitVec.ofNat 32 cur) (BitVec.ofNat 32 cn)) (k0_t14_ok (BitVec.ofNat 32 cur) (BitVec.ofNat 32 cn) hw3) htr
    (k0_t14_body L a2 w2 a3 w3 a4 w4 a5 w5 a6 w6 a7 w7 a8 w8 a9 w9 a10 w10 a11 w11 a12 w12 a13 w13 s14 s15 s16 s17 r0 r1 r2 _ _ hw2 x11 x15 k0_pay1 t x42 x55 x57 y0 (BitVec.ofNat 32 cur) y2 z1 z2 z3 z4 hw8 x73 c1' x76 x95 (BitVec.ofNat 32 cn) hw3)
    ?_ f13 h13 kk (Q := Q)
  · rw [show cur + (cn - cur) = cn by omega] at hmain
    exact hmain
  intro k g13 Q' hD
  have hkn : k.val < cn - cur := by have := k.isLt; omega
  obtain ⟨k1, k2, k3, k4⟩ := hk k.val hkn
  have hpl := pos_lt X hX (p := p) (cur := cur) (k := k.val) hp
  have hr : ∀ g, ∀ j : Fin (k0_t15_loop (BitVec.ofNat 32 (pos X p cur k.val)) (BitVec.ofNat 32 (X (cur + k.val + 1)))).trips,
      (![(Scalar.subi (Scf.iv (BitVec.ofNat 32 (pos X p cur k.val)) 1#32 j) (wbase s (Scalar.addi (Scalar.muli (Scf.iv 0#32 1#32 t) 2#32) 1#32))).toNat, g] : Fin 2 → ℕ)
        = ![pos X p cur k.val - ck s (2 * t.val + 1) + j.val, g] := by
    intro g j
    have hj : j.val < X (cur + k.val + 1) - pos X p cur k.val := lt_of_lt_of_eq j.isLt (tok_trips hpl (hX _))
    exact row_eq hs he (cB hs he t) (by have := trip_lt hs he t; omega) rfl (by have := hX (cur + k.val + 1); omega) k1
  generalize hv : st X R (X (cur + k.val + 1)) (cur + k.val + 1) = v
  iintro ⟨⟨H7, H12, H13, Hm⟩, HQ⟩
  dsimp only [k0_t14_body, st]
  simp only [k0_part3_eq_skeleton]
  iapply (wp_flush d L a7 a12 a13 a11 X R b hX f7 h7 f12 h12 (ck s (2 * t.val + 1)) fm (hm (by omega)) g13 (pos X p cur k.val) (cur + k.val) (by omega) hD k1 k2 k3
    _ _ id (chk5 (by omega)) _ _ (chk10 hs he t k1 k4 hpl)
    (k0_t15_loop (BitVec.ofNat 32 (pos X p cur k.val)) (BitVec.ofNat 32 (X (cur + k.val + 1))))
    (k0_t16_loop (BitVec.ofNat 32 (pos X p cur k.val)) (BitVec.ofNat 32 (X (cur + k.val + 1))))
    (fun h => k0_t15_ok _ _ t _ _ h) (fun h => k0_t16_ok _ _ t _ _ h) (tok_trips hpl (hX _)) (tok'_trips (hX _))
    (k0_off47 _ _ t _ _) (k0_off48 _ _ t _ _) (k0_off49 _ _ t _ _) (k0_off50 _ _ t _ _)
    (fun h => k0_off47_inb _ _ t _ _ h) (fun h => k0_off48_inb _ _ t _ _ h) (fun h => k0_off49_inb _ _ t _ _ h) (fun h => k0_off50_inb _ _ t _ _ h)
    (hr 0) (hr 16) (hr 32) (hr 48) _ q) $$ [H7 H12 H13 Hm HQ]
  · iframe H7 H12 H13 Hm
    iintro %f' %hf H7 H12 H13 Hm
    rw [hv]
    iapply HQ $$ [] [H7 H12 H13 Hm]
    · ipureintro
      exact hf
    · iframe H7 H12 H13 Hm

end Cert.KernelIdeal.Bag

end

end
-- ==== Proof.KernelIdeal.Chunk.lean ====
/-
  Where a tile stands at the start of each of its chunks, as numbers: the position, the bag being summed, and that the bags
  which end in the chunk lie within it.
-/
module

public import proofs.«01_k».proof.Proof.KernelIdeal.Bagloop
public import proofs.«01_k».proof.Proof.Count

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The position at the start of chunk `c`. -/
def Tc (X : ℕ → ℕ) (c : ℕ) : ℕ := min (max (X 0) (ck (X 0) c)) (X 512)

/-- The bag being summed at the start of chunk `c`. -/
def Cc (X : ℕ → ℕ) : ℕ → ℕ
  | 0 => 0
  | c + 1 => cnt X (Tc X (c + 1))

variable {X : ℕ → ℕ} (hX : Monotone X)

theorem ck_succ (s c : ℕ) : ck s (c + 1) = ck s c + 128 := by unfold ck; omega

theorem ck_ge (s c : ℕ) : s ≤ ck s c + 128 := by unfold ck; omega

theorem ck_zero_le (s : ℕ) : ck s 0 ≤ s := by unfold ck; omega

theorem Tc_succ (c : ℕ) : Tc X (c + 1) = min (ck (X 0) c + 128) (X 512) := by
  have := ck_ge (X 0) c
  unfold Tc; rw [ck_succ, max_eq_right this]

include hX in
theorem X0_le_Tc (c : ℕ) : X 0 ≤ Tc X c := by
  have := hX (Nat.zero_le 512)
  unfold Tc; omega

theorem Tc_le (c : ℕ) : Tc X c ≤ X 512 := min_le_right _ _

include hX in
theorem Tc_mono (c : ℕ) : Tc X c ≤ Tc X (c + 1) := by
  have := ck_succ (X 0) c
  unfold Tc; omega

include hX in
theorem Cc_le (c : ℕ) : Cc X c ≤ 512 := by
  cases c with
  | zero => exact Nat.zero_le _
  | succ c => exact cntN_le _ _ _

include hX in
theorem X_Cc_le (c : ℕ) : X (Cc X c) ≤ Tc X c := by
  cases c with
  | zero => exact X0_le_Tc hX 0
  | succ c => exact X_cnt hX (X0_le_Tc hX _)

include hX in
theorem lt_X_Cc (c : ℕ) (h : Cc X c < 512) : Tc X c ≤ X (Cc X c + 1) := by
  cases c with
  | zero =>
    have h1 := hX (Nat.zero_le 1)
    have := ck_zero_le (X 0)
    show Tc X 0 ≤ X 1
    unfold Tc; omega
  | succ c => exact (lt_X_cnt hX h).le

include hX in
theorem Cc_mono (c : ℕ) : Cc X c ≤ Cc X (c + 1) := by
  cases c with
  | zero => exact Nat.zero_le _
  | succ c => exact cnt_mono (Tc_mono hX _) _

include hX in
/-- The bags that end in chunk `c` lie in it. -/
theorem chunk_spans (hb : ∀ j, X j < 2 ^ 31) (c : ℕ) : Spans X (ck (X 0) c) (Tc X c) (Cc X c) (Cc X (c + 1)) := by
  have hT := Tc_le (X := X) c
  refine ⟨Cc_mono hX c, Cc_le hX _, by have := hb 512; omega, fun k hk => ?_⟩
  have hc := Cc_le hX (c + 1)
  have hT1 := Tc_succ (X := X) c
  have hle : X (Cc X c + k + 1) ≤ Tc X (c + 1) := (cntN_iff hX (Tc X (c + 1)) 512 (by omega)).2 (by show Cc X c + k < Cc X (c + 1); omega)
  have hlt := lt_X_Cc hX c (by omega)
  have hm : X (Cc X c + 1) ≤ X (Cc X c + k + 1) := hX (by omega)
  have hx := X_Cc_le hX c
  -- the chunk begins before the last token, so the position is not before it
  have hck : ck (X 0) c ≤ Tc X c := by
    rcases Classical.em (ck (X 0) c ≤ X 512) with h | h
    · unfold Tc; omega
    · exfalso
      have h0 : c ≠ 0 := by
        rintro rfl
        have := ck_zero_le (X 0)
        have := hX (Nat.zero_le 512)
        omega
      obtain ⟨c', rfl⟩ := Nat.exists_eq_succ_of_ne_zero h0
      have e1 : Tc X (c' + 1) = X 512 := by unfold Tc; have := h; simp only [Nat.succ_eq_add_one] at this; omega
      have e2 : Tc X (c' + 1 + 1) = X 512 := by
        have := Tc_mono hX (c' + 1)
        have := Tc_le (X := X) (c' + 1 + 1)
        omega
      have e3 : Cc X (c' + 1) = Cc X (c' + 1 + 1) := by show cnt X _ = cnt X _; rw [e1, e2]
      simp only [Nat.succ_eq_add_one] at hk
      omega
  unfold pos
  rcases Classical.em (k = 0) with h | h
  · subst h
    rw [if_pos rfl]
    refine ⟨hck, hx, hlt, ?_⟩
    rw [hT1] at hle; omega
  · rw [if_neg h]
    have hm' : X (Cc X c + 1) ≤ X (Cc X c + k) := hX (by omega)
    refine ⟨by omega, le_refl _, hX (by omega), ?_⟩
    rw [hT1] at hle; omega

include hX in
/-- The position after those bags. -/
theorem pos_end (c : ℕ) : X (Cc X (c + 1)) ≤ pos X (Tc X c) (Cc X c) (Cc X (c + 1) - Cc X c)
    ∧ pos X (Tc X c) (Cc X c) (Cc X (c + 1) - Cc X c) ≤ Tc X (c + 1)
    ∧ (ck (X 0) c ≤ pos X (Tc X c) (Cc X c) (Cc X (c + 1) - Cc X c)
      ∨ (Tc X (c + 1) ≤ ck (X 0) c ∧ pos X (Tc X c) (Cc X c) (Cc X (c + 1) - Cc X c) = Tc X (c + 1))) := by
  have hm := Cc_mono hX c
  have hT := Tc_mono hX c
  have hx := X_Cc_le hX (c + 1)
  have hx0 := X_Cc_le hX c
  have hle := Tc_le (X := X) (c + 1)
  unfold pos
  rcases Classical.em (Cc X (c + 1) - Cc X c = 0) with h | h
  · rw [if_pos h]
    have : Cc X (c + 1) = Cc X c := by omega
    rw [this]
    refine ⟨hx0, hT, ?_⟩
    rcases Classical.em (ck (X 0) c ≤ X 512) with h | h
    · left; unfold Tc; omega
    · right
      have e1 : Tc X c = X 512 := by unfold Tc; omega
      omega
  · rw [if_neg h, show Cc X c + (Cc X (c + 1) - Cc X c) = Cc X (c + 1) by omega]
    refine ⟨le_refl _, hx, ?_⟩
    left
    have h1 := hX (show Cc X c + 1 ≤ Cc X (c + 1) by omega)
    have h2 := lt_X_Cc hX c (by have := Cc_le hX (c + 1); omega)
    rcases Classical.em (ck (X 0) c ≤ X 512) with h | h
    · have : ck (X 0) c ≤ Tc X c := by unfold Tc; omega
      omega
    · exfalso
      have e1 : Tc X c = X 512 := by unfold Tc; omega
      cases c with
      | zero => have := ck_zero_le (X 0); have := hX (Nat.zero_le 512); omega
      | succ c =>
        have e2 : Tc X (c + 1) = Tc X (c + 1 + 1) := by omega
        have e3 : Cc X (c + 1) = Cc X (c + 1 + 1) := by show cnt X _ = cnt X _; rw [e2]
        omega

include hX in
/-- Past the last chunk every bag is done. -/
theorem chunk_end {c : ℕ} (h : nch (X 0) (X 512) ≤ c) : Tc X c = X 512 ∧ Cc X c = 512 := by
  have hn : 1 ≤ nch (X 0) (X 512) := le_max_right _ _
  have hs := hX (Nat.zero_le 512)
  have hck : X 512 ≤ ck (X 0) c := by
    unfold nch at h hn; unfold ck; omega
  obtain ⟨c', rfl⟩ := Nat.exists_eq_succ_of_ne_zero (show c ≠ 0 by omega)
  have e : Tc X (c' + 1) = X 512 := by unfold Tc; simp only [Nat.succ_eq_add_one] at hck; omega
  refine ⟨e, ?_⟩
  show cnt X (Tc X (c' + 1)) = 512
  rw [e]
  exact cnt_all hX le_rfl

end Cert.KernelIdeal.Bag

end

end
-- ==== Proof.KernelIdeal.Copies.lean ====
/-
  The copies of a tile: what each transfer in flight delivers at its wait, and the rules for starting one, waiting for one
  and for a step that runs under a condition only.
-/
module

public import proofs.«01_k».proof.Proof.KernelIdeal.Bags
public import proofs.«01_k».proof.Proof.KernelIdeal.Facts
public import Idealize.ShloMosaic.Lib.SparseCore.FromWhole

@[expose] public section

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The token array holds the tokens `tk`. -/
def Toks (tk : ℕ → ℕ) (a3 : Memref sig .scVector .hbm S327808 .i32) (f : a3.view.ty.Contents (Elt F)) : Prop :=
  ∀ y : S327808.Idx, a3.view.read (Elt F) f y = BitVec.ofNat 32 (tk (y 0).val)

/-- An index buffer holds the tokens from `c0` on. -/
def Idxs (tk : ℕ → ℕ) (m : Memref sig .scVector .vmem S128 .i32) (c0 : ℕ) (f : m.view.ty.Contents (Elt F)) : Prop :=
  ∀ y : S128.Idx, m.view.read (Elt F) f y = BitVec.ofNat 32 (tk (c0 + (y 0).val))

/-- The table's first 64 lanes are `G`. -/
def Tab (G : ℕ → ℕ → F .f32) (a2 : Memref sig .scVector .hbm S100000x128 .f32) (f : a2.view.ty.Contents (Elt F)) : Prop :=
  ∀ y : S100000x128.Idx, (y 1).val < 64 → a2.view.read (Elt F) f y = G (y 0).val (y 1).val

/-- An index copy delivers the tokens of its chunk, and the share of the token array back. -/
def DI (d : Dev nD) (L : grid0.Coords) (tk : ℕ → ℕ) (P : Prop) (c0 : ℕ) (m : Memref sig .scVector .vmem S128 .i32)
    (a3 : Memref sig .scVector .hbm S327808 .i32) (q : PosShare TreeShare) (fx : a3.view.ty.Contents (Elt F)) : sProp 𝕄 :=
  iprop(∃ f, ⌜P → Idxs tk m c0 f⌝ ∗ (m.view.loc (V d (cV L) (jV L)) ↦{fullShare} f) ∗ (a3.view.loc (V d (cV L) (jV L)) ↦{q} fx))

/-- A gather delivers the rows of its chunk's tokens, the index buffer and the share of the table back. -/
def DG (d : Dev nD) (L : grid0.Coords) (R : ℕ → ℕ → F .f32) (P : Prop) (c0 : ℕ) (b : Memref sig .scVector .vmem S128x128 .f32)
    (m : Memref sig .scVector .vmem S128 .i32) (a2 : Memref sig .scVector .hbm S100000x128 .f32) (q : PosShare TreeShare)
    (ft : a2.view.ty.Contents (Elt F)) : sProp 𝕄 :=
  iprop(∃ f, ⌜P → Rows R b c0 f⌝ ∗ (b.view.loc (V d (cV L) (jV L)) ↦{fullShare} f)
    ∗ (∃ g, (m.view.loc (V d (cV L) (jV L)) ↦{fullShare} g)) ∗ (a2.view.loc (V d (cV L) (jV L)) ↦{q} ft))

/-- A transfer on `sem` in flight where `P` holds; otherwise what it would deliver is at hand. -/
def Fly (d : Dev nD) (L : grid0.Coords) (P : Prop) [Decidable P] (sem : DmaSem sig) (N : ℕ) (D : sProp 𝕄) : sProp 𝕄 :=
  if P then Transfers.Flight (countersEmb (U := UU)) (V d (cV L) (jV L)) (.dma sem) (default : HIx 1) N D
  else iprop(D ∗ semVal (V d (cV L) (jV L), SemLoc.dma sem) 0)

/-- What the tile owes, with only waits of its own added. -/
def Ow (d : Dev nD) (L : grid0.Coords) (O : CellTallies nD τ sig (HIx 1)) (W : Waits sig (HIx 1)) : sProp 𝕄 :=
  iprop(∃ W', ⌜∀ p ∈ W', p ∈ W ∨ p.2 = none⌝ ∗ owes (V d (cV L) (jV L)) O W')

/-- A step under a condition, with what follows it. -/
theorem wp_dite (d : Dev nD) (L : grid0.Coords) {α : Type} (C : Prop) [Decidable C] (A B : sProp 𝕄) {Q : α → sProp 𝕄}
    (p : C → Prog (TpuEff nD τ sig (Elt F) Λ₀ (.scVector (cV L) (jV L))) α)
    (k : Prog (TpuEff nD τ sig (Elt F) Λ₀ (.scVector (cV L) (jV L))) α)
    (h1 : ∀ h : C, A ⊢ iprop((B -∗ twp d L k Q) -∗ twp d L (p h) Q)) (h2 : ¬C → A ⊢ B) :
    A ⊢ iprop((B -∗ twp d L k Q) -∗ twp d L (if h : C then p h else k) Q) := by
  rcases Classical.em C with h | h
  · rw [dif_pos h]
    exact h1 h
  · rw [dif_neg h]
    iintro H Hk
    iapply Hk
    iapply (h2 h) $$ H

theorem wp_ite (d : Dev nD) (L : grid0.Coords) {α : Type} (C : Prop) [Decidable C] (A B : sProp 𝕄) {Q : α → sProp 𝕄}
    (p k : Prog (TpuEff nD τ sig (Elt F) Λ₀ (.scVector (cV L) (jV L))) α)
    (h1 : C → A ⊢ iprop((B -∗ twp d L k Q) -∗ twp d L p Q)) (h2 : ¬C → A ⊢ B) :
    A ⊢ iprop((B -∗ twp d L k Q) -∗ twp d L (if C then p else k) Q) :=
  wp_dite d L C A B (fun _ => p) k h1 h2

/-- Starting an index copy. -/
theorem wp_idx (d : Dev nD) (L : grid0.Coords) {α : Type} (a3 : Memref sig .scVector .hbm S327808 .i32)
    (m : Memref sig .scVector .vmem S128 .i32) (hm : m.IsWhole) (sm : DmaSem sig) {N : ℕ} (hN : m.view.amount (.dma sm) = N) (hN0 : 0 < N)
    (tk : ℕ → ℕ) (P : Prop) (c0 : ℕ) (o : Fin 1 → ℕ) (h : ∀ a, o a + S128.size a ≤ S327808.size a) (ho : o = ![c0])
    (fx : a3.view.ty.Contents (Elt F)) (hx : Toks tk a3 fx) (fd : m.view.ty.Contents (Elt F)) (q : PosShare TreeShare) {hs hd ht}
    (kk : PUnit → Prog (TpuEff nD τ sig (Elt F) Λ₀ (.scVector (cV L) (jV L))) α) {Q : α → sProp 𝕄} :
    iprop((a3.view.loc (V d (cV L) (jV L)) ↦{q} fx) ∗ (m.view.loc (V d (cV L) (jV L)) ↦{fullShare} fd)
        ∗ semVal (V d (cV L) (jV L), SemLoc.dma sm) 0)
      ⊢ iprop((Transfers.Flight (countersEmb (U := UU)) (V d (cV L) (jV L)) (.dma sm) (default : HIx 1) N (DI d L tk P c0 m a3 q fx)
            -∗ twp d L (kk ⟨⟩) Q)
          -∗ twp d L (Prog.lift (.enqueueDma (a3.slice (Rect.unit (s := S327808) o S128.size h) (fun _ => rfl)) (.here m) (.dma sm) hs hd ht) >>= kk) Q) := by
  iintro H Hk
  iapply (Transfers.wp_dmaFromWhole (countersEmb (U := UU)) 𝒱₀ (V d (cV L) (jV L)) none
    (src := a3.slice (Rect.unit (s := S327808) o S128.size h) (fun _ => rfl)) (dst := m) (q := q) (fs := fx) (fd := fd) (Sd := Finset.univ)
    (default : HIx 1) N hN hN0 (Finset.subset_univ _)) $$ H
  iintro Hf
  iapply Hk
  iapply (Transfers.Flight_mono (countersEmb (U := UU)) (V d (cV L) (jV L)) ?_) $$ Hf
  unfold DI
  iintro ⟨H1, H2⟩
  iexists _
  iframe H1 H2
  ipureintro
  intro _ y
  rw [View.read_write_univ]
  refine (hx ((Rect.unit (s := S327808) o S128.size h).emb y)).trans ?_
  subst ho
  have e : (((Rect.unit (s := S327808) ![c0] S128.size h).emb y) 0).val = c0 + (y 0).val := by
    show c0 + 1 * (y 0).val = _
    omega
  rw [e]

/-- Starting a gather. -/
theorem wp_gather (d : Dev nD) (L : grid0.Coords) {α : Type} (a2 : Memref sig .scVector .hbm S100000x128 .f32)
    (b : Memref sig .scVector .vmem S128x128 .f32) (m : Memref sig .scVector .vmem S128 .i32) (sm : DmaSem sig) {N : ℕ}
    (hN : ∀ h : S100000x128.Gathers 0 S128x128, ∑ j, (b.slice (S128x128.rowRect h.axis' j) (S128x128.stride_rowRect h.axis' j)).view.dmaCredit = N)
    (tk : ℕ → ℕ) (htk : ∀ t, tk t < 100000) (G : ℕ → ℕ → F .f32) (P : Prop) (c0 : ℕ)
    (o : Fin 2 → ℕ) (h : ∀ a, o a + S100000x128.size a ≤ S100000x128.size a) (ho : o = ![0, 0])
    (ft : a2.view.ty.Contents (Elt F)) (hT : Tab G a2 ft) (fi : m.view.ty.Contents (Elt F)) (hi : Idxs tk m c0 fi)
    (fb : b.view.ty.Contents (Elt F)) (q : PosShare TreeShare) {hp hn hs he hsp hr}
    (kk : PUnit → Prog (TpuEff nD τ sig (Elt F) Λ₀ (.scVector (cV L) (jV L))) α) {Q : α → sProp 𝕄} :
    iprop((a2.view.loc (V d (cV L) (jV L)) ↦{q} ft) ∗ (b.view.loc (V d (cV L) (jV L)) ↦{fullShare} fb)
        ∗ (m.view.loc (V d (cV L) (jV L)) ↦{fullShare} fi) ∗ semVal (V d (cV L) (jV L), SemLoc.dma sm) 0)
      ⊢ iprop((Transfers.Flight (countersEmb (U := UU)) (V d (cV L) (jV L)) (.dma sm) (default : HIx 1) N
            (DG d L (fun t l => G (tk t) l) P c0 b m a2 q ft)
            -∗ twp d L (kk ⟨⟩) Q)
          -∗ twp d L (SparseCore.enqueueIndirectGather (F := F) (Λ := Λ₀) (s₀ := S100000x128) (p := .scVector (cV L) (jV L)) hp
              (a2.slice (Rect.unit (s := S100000x128) o S100000x128.size h) (fun _ => rfl)) b
              gathers_S100000x128_S128x128 m hn sm hs he hsp hr >>= kk) Q) := by
  have hin : ∀ x, (m.view.read (Elt F) fi x).toNat < S100000x128.size (gathers_S100000x128_S128x128).axis := by
    intro x
    rw [hi x, toNat_ofNat (by have := htk (c0 + (x 0).val); omega)]
    exact htk _
  iintro H Hk
  iapply (SparseCore.wp_gatherFromWhole (countersEmb (U := UU)) 𝒱₀ (V d (cV L) (jV L)) none
    (src := a2.slice (Rect.unit (s := S100000x128) o S100000x128.size h) (fun _ => rfl)) (dst := b) (hg := gathers_S100000x128_S128x128)
    (offs := m) (q := q) (qo := fullShare) (fs := ft) (fd := fb) (fo := fi)
    (default : HIx 1) N (hN _) (by decide) hin) $$ H
  iintro Hf
  iapply Hk
  iapply (Transfers.Flight_mono (countersEmb (U := UU)) (V d (cV L) (jV L)) ?_) $$ Hf
  unfold DG
  iintro ⟨H1, H2, H3⟩
  iexists _
  iframe H1 H2
  isplitr
  · ipureintro
    intro _ y hy
    rw [View.read_write_univ]
    unfold SparseCore.gatherPayload
    subst ho
    generalize hz : (gathers_S100000x128_S128x128).idx (SparseCore.rows (m.view.read (Elt F) fi) hn hin) y = z
    have e0 : (((Rect.unit (s := S100000x128) ![0, 0] S100000x128.size h).emb z) 0).val = (z 0).val := by
      show 0 + 1 * (z 0).val = _
      omega
    have e1 : (((Rect.unit (s := S100000x128) ![0, 0] S100000x128.size h).emb z) 1).val = (z 1).val := by
      show 0 + 1 * (z 1).val = _
      omega
    have z0 : (z 0).val = tk (c0 + (y 0).val) := by
      have hz0 := congrArg Fin.val ((gathers_S100000x128_S128x128).idx_axis (SparseCore.rows (m.view.read (Elt F) fi) hn hin) y)
      rw [hz] at hz0
      refine hz0.trans ?_
      show (m.view.read (Elt F) fi (S128.rowMajor.symm ((y 0).cast _))).toNat = _
      rw [hi, toNat_ofNat (by have := htk (c0 + ((S128.rowMajor.symm ((y 0).cast hn.symm)) 0).val); omega)]
      congr 2
      have hv := Shape.rowMajor_val_one (S128.rowMajor.symm ((y 0).cast hn.symm))
      rw [Equiv.apply_symm_apply] at hv
      exact hv.symm
    have z1 : (z 1).val = (y 1).val := by
      rw [← hz]
      exact (gathers_S100000x128_S128x128).idx_of_ne _ y 1 (by decide)
    refine (hT ((Rect.unit (s := S100000x128) ![0, 0] S100000x128.size h).emb z) (by rw [e1, z1]; exact hy)).trans ?_
    rw [e0, e1, z0, z1]
  · iexists _
    iexact H3

/-- Waiting for a transfer. -/
theorem wp_wait (d : Dev nD) (L : grid0.Coords) {α : Type} {sp sp' : Space} {s s' : Shape} {e e' : EltTy} (sm : DmaSem sig)
    (srcw : Memref sig .scVector sp' s' e') (dstw : Memref sig .scVector sp s e) {N : ℕ} (hN : dstw.view.dmaCredit = N)
    (D : sProp 𝕄) (O : CellTallies nD τ sig (HIx 1)) (W : Waits sig (HIx 1)) {hs hd}
    (kk : PUnit → Prog (TpuEff nD τ sig (Elt F) Λ₀ (.scVector (cV L) (jV L))) α) {Q : α → sProp 𝕄} :
    iprop(Transfers.MayWaits (V d (cV L) (jV L)) (default : HIx 1) O
        ∗ Transfers.Flight (countersEmb (U := UU)) (V d (cV L) (jV L)) (.dma sm) (default : HIx 1) N D ∗ Ow d L O W)
      ⊢ iprop((D -∗ semVal (V d (cV L) (jV L), SemLoc.dma sm) 0 -∗ Ow d L O W -∗ twp d L (kk ⟨⟩) Q)
          -∗ twp d L (Prog.lift (.waitDma2 sm srcw dstw hs hd) >>= kk) Q) := by
  unfold Ow
  iintro ⟨Hmw, Hf, ⟨%W', %hW, HO⟩⟩ Hk
  iapply (Transfers.wp_waitLocalO (countersEmb (U := UU)) 𝒱₀ (V d (cV L) (jV L)) none (default : HIx 1) hN) $$ [Hmw Hf HO]
  · iframe Hf HO
    iapply (Transfers.MayWaits.elim (SemLoc.dma sm)) $$ Hmw
  iintro ⟨HD, Hs, HO⟩
  iapply Hk $$ HD Hs
  iexists _
  iframe HO
  ipureintro
  intro p hp
  rcases Finset.mem_insert.mp hp with hp | hp
  · exact .inr (hp ▸ rfl)
  · exact hW p hp

end Cert.KernelIdeal.Bag

end

end
-- ==== Proof.KernelIdeal.Steps.lean ====
/-
  The steps of a trip that run under a condition: a wait, the start of an index copy, and an index copy's wait followed by
  the start of its gather.
-/
module

public import proofs.«01_k».proof.Proof.KernelIdeal.Copies

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

theorem fly_pos {P : Prop} [Decidable P] (h : P) (sm : DmaSem sig) (N : ℕ) (D : sProp 𝕄) :
    Fly d L P sm N D = Transfers.Flight (countersEmb (U := UU)) (V d (cV L) (jV L)) (.dma sm) (default : HIx 1) N D := by
  unfold Fly; rw [if_pos h]

theorem fly_neg {P : Prop} [Decidable P] (h : ¬P) (sm : DmaSem sig) (N : ℕ) (D : sProp 𝕄) :
    Fly d L P sm N D = iprop(D ∗ semVal ((V d (cV L) (jV L)), SemLoc.dma sm) 0) := by
  unfold Fly; rw [if_neg h]

theorem twp_pure {α : Type} (v : α) {Q : α → sProp 𝕄} : Q v ⊢ twp d L (pure v) Q := by
  iintro H
  dsimp only [twp]
  sl_step
  iexact H

/-- A wait under a condition. -/
theorem wp_waitIf {α : Type} {sp sp' : Space} {s s' : Shape} {e e' : EltTy} (sm : DmaSem sig)
    (srcw : Memref sig .scVector sp' s' e') (dstw : Memref sig .scVector sp s e) {N : ℕ} (hN : dstw.view.dmaCredit = N)
    (C P : Prop) [Decidable C] [Decidable P] (hC : C ↔ P)
    (D : sProp 𝕄) (O : CellTallies nD τ sig (HIx 1)) (W : Waits sig (HIx 1)) {hs hd}
    (kk : TProg F L α) {Q : α → sProp 𝕄} :
    iprop(Transfers.MayWaits (V d (cV L) (jV L)) (default : HIx 1) O ∗ Fly d L P sm N D ∗ Ow d L O W)
      ⊢ iprop((iprop(D ∗ semVal ((V d (cV L) (jV L)), SemLoc.dma sm) 0 ∗ Ow d L O W) -∗ twp d L kk Q)
          -∗ twp d L (if C then Prog.lift (.waitDma2 sm srcw dstw hs hd) >>= fun _ => kk else kk) Q) := by
  refine wp_ite d L C _ _ _ kk (fun h => ?_) (fun h => ?_)
  · rw [fly_pos d L (hC.1 h)]
    iintro H Hk
    iapply (wp_wait d L sm srcw dstw hN D O W (fun _ => kk)) $$ H
    iintro HD Hs HO
    iapply Hk
    iframe HD Hs HO
  · rw [fly_neg d L (fun hp => h (hC.2 hp))]
    iintro ⟨_, ⟨HD, Hs⟩, HO⟩
    iframe HD Hs HO

variable (a3 : Memref sig .scVector .hbm S327808 .i32) (a2 : Memref sig .scVector .hbm S100000x128 .f32)

/-- The start of an index copy under a condition. -/
theorem wp_idxIf {α : Type} (m : Memref sig .scVector .vmem S128 .i32) (hm : m.IsWhole) (sm : DmaSem sig) {N : ℕ}
    (hN : m.view.dmaCredit = N) (hN0 : 0 < N) (tk : ℕ → ℕ) (C P : Prop) [Decidable C] [Decidable P] (hC : C ↔ P) (c0 : ℕ) (o : Fin 1 → ℕ)
    (h : C → ∀ a, o a + S128.size a ≤ S327808.size a) (ho : o = ![c0])
    (fx : a3.view.ty.Contents (Elt F)) (hx : Toks tk a3 fx) (q : PosShare TreeShare)
    (kk : TProg F L α) {Q : α → sProp 𝕄} :
    iprop((a3.view.loc (V d (cV L) (jV L)) ↦{q} fx) ∗ (∃ fd, (m.view.loc (V d (cV L) (jV L)) ↦{fullShare} fd)) ∗ semVal ((V d (cV L) (jV L)), SemLoc.dma sm) 0)
      ⊢ iprop((Fly d L P sm N (DI d L tk P c0 m a3 q fx) -∗ twp d L kk Q)
          -∗ twp d L (if hh : C then (do Prog.lift (.enqueueDma (a3.slice (Rect.unit (s := S327808) o S128.size (h hh)) (fun _ => rfl)) (.here m)
              (.dma sm) (View.wordExact_bits rfl) hm.wordExact ⟨Or.inl rfl, trivial⟩); kk) else kk) Q) := by
  refine wp_dite d L C _ _ _ kk (fun hh => ?_) (fun hh => ?_)
  · rw [fly_pos d L (hC.1 hh)]
    iintro ⟨H1, ⟨%fd, H2⟩, H3⟩ Hk
    iapply (wp_idx d L a3 m hm sm hN hN0 tk P c0 o (h hh) ho fx hx fd q (fun _ => kk)) $$ [H1 H2 H3]
    · iframe H1 H2 H3
    iintro H
    iapply Hk
    iexact H
  · rw [fly_neg d L (fun hp => hh (hC.2 hp))]
    unfold DI
    iintro ⟨H1, ⟨%fd, H2⟩, H3⟩
    iframe H3
    iexists fd
    iframe H1 H2
    ipureintro
    intro hp
    exact absurd (hC.2 hp) hh

/-- An index copy's wait and the start of its gather, under a condition. -/
theorem wp_gatIf {α : Type} (b : Memref sig .scVector .vmem S128x128 .f32) (m : Memref sig .scVector .vmem S128 .i32) (hm : m.IsWhole) (si sg : DmaSem sig)
    {NI NG : ℕ} (hNI : m.view.dmaCredit = NI)
    (hNG : ∀ h : S100000x128.Gathers 0 S128x128, ∑ j, (b.slice (S128x128.rowRect h.axis' j) (S128x128.stride_rowRect h.axis' j)).view.dmaCredit = NG)
    (tk : ℕ → ℕ) (htk : ∀ t, tk t < 100000) (G : ℕ → ℕ → F .f32) (C P : Prop) [Decidable C] [Decidable P] (hC : C ↔ P) (c0 : ℕ)
    (o : Fin 2 → ℕ) (h : ∀ a, o a + S100000x128.size a ≤ S100000x128.size a) (ho : o = ![0, 0])
    (ft : a2.view.ty.Contents (Elt F)) (hT : Tab G a2 ft) (fx : a3.view.ty.Contents (Elt F)) (qx qt : PosShare TreeShare)
    (O : CellTallies nD τ sig (HIx 1)) (W : Waits sig (HIx 1)) (srcw : C → Memref sig .scVector .hbm S128 .i32)
    (kk : TProg F L α) {Q : α → sProp 𝕄} :
    iprop(Transfers.MayWaits (V d (cV L) (jV L)) (default : HIx 1) O ∗ Fly d L P si NI (DI d L tk P c0 m a3 qx fx)
        ∗ (a2.view.loc (V d (cV L) (jV L)) ↦{qt} ft) ∗ (∃ fb, (b.view.loc (V d (cV L) (jV L)) ↦{fullShare} fb)) ∗ semVal ((V d (cV L) (jV L)), SemLoc.dma sg) 0 ∗ Ow d L O W)
      ⊢ iprop((iprop(Fly d L P sg NG (DG d L (fun t l => G (tk t) l) P c0 b m a2 qt ft) ∗ semVal ((V d (cV L) (jV L)), SemLoc.dma si) 0
              ∗ (a3.view.loc (V d (cV L) (jV L)) ↦{qx} fx) ∗ Ow d L O W) -∗ twp d L kk Q)
          -∗ twp d L (if hh : C then (do
              Prog.lift (.waitDma2 si (srcw hh) m (View.wordExact_bits rfl) hm.wordExact)
              SparseCore.enqueueIndirectGather (F := F) (Λ := Λ₀) (s₀ := S100000x128) (p := .scVector (cV L) (jV L)) rfl
                (a2.slice (Rect.unit (s := S100000x128) o S100000x128.size h) (fun _ => rfl)) b
                gathers_S100000x128_S128x128 m rfl sg (View.wordExact_bits rfl) rfl (Or.inl rfl)
              kk) else kk) Q) := by
  refine wp_dite d L C _ _ _ kk (fun hh => ?_) (fun hh => ?_)
  · rw [fly_pos d L (hC.1 hh), fly_pos d L (hC.1 hh)]
    iintro ⟨Hmw, Hf, Ht, ⟨%fb, Hb⟩, Hsg, HO⟩ Hk
    iapply (wp_wait d L si (srcw hh) m hNI _ O W) $$ [Hmw Hf HO]
    · iframe Hmw Hf HO
    unfold DI
    iintro ⟨%fi, %hi, Hm, Hx⟩ Hsi HO
    iapply (wp_gather d L a2 b m sg hNG tk htk G P c0 o h ho ft hT fi (hi (hC.1 hh)) fb qt
      (hp := rfl) (hn := rfl) (hs := View.wordExact_bits rfl) (he := rfl) (hsp := Or.inl rfl) (fun _ => kk)) $$ [Ht Hb Hm Hsg]
    · iframe Ht Hb Hm Hsg
    iintro H
    iapply Hk
    iframe H Hsi Hx HO
  · rw [fly_neg d L (fun hp => hh (hC.2 hp)), fly_neg d L (fun hp => hh (hC.2 hp))]
    unfold DI DG
    iintro ⟨_, ⟨⟨%fi, %_, Hm, Hx⟩, Hsi⟩, Ht, ⟨%fb, Hb⟩, Hsg, HO⟩
    iframe Hsi Hx HO Hsg
    iexists fb
    iframe Hb Ht
    isplitr
    · ipureintro
      intro hp
      exact absurd (hC.2 hp) hh
    · iexists fi
      iexact Hm

end Cert.KernelIdeal.Bag

end

end
-- ==== Proof.KernelIdeal.Tail.lean ====
/-
  The count of the bags that end by the end of a chunk, and the loop over the tokens of the bag that does not: as the program
  spells them, for the even chunk of a trip and for the odd one.
-/
module

public import proofs.«01_k».proof.Proof.KernelIdeal.Bags
public import proofs.«01_k».proof.Proof.KernelIdeal.Facts

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

variable {s e : ℕ} (hs : s ≤ e) (he : e ≤ 327680) (t : Fin (k0_t1_loop (BitVec.ofNat 32 s) (BitVec.ofNat 32 e)).trips)
  (X : ℕ → ℕ) (R : ℕ → ℕ → F .f32) (hX : ∀ j, X j < 2 ^ 31) (f7 : a7.view.ty.Contents (Elt F)) (h7 : Offs X a7 f7)

include hs he in
theorem w57 {x : BitVec 32} {c : ℕ} (hx : x = BitVec.ofNat 32 c) (hc : c < nch s e + 3) :
    Scalar.minsi (Scalar.addi (wbase s x) 128#32) (BitVec.ofNat 32 e) = BitVec.ofNat 32 (min (ck s c + 128) e) := by
  have hn' : nch s e ≤ 3000 := by unfold nch; omega
  have hck : ck s c ≤ 1000000 := by unfold ck; omega
  unfold wbase
  rw [(wck hs he hx hc).1, add_ofNat, minsi_ofNat (by omega) (by omega)]

include hs he hX h7 in
theorem wp_cntA (x15 x19 x20 x21 : BitVec 32) (x30 z1 z2 z3 z4 : V16 F) {β : Type} {Q : β → sProp 𝕄} (hw2) (kk : BitVec 32 → TProg F L β) :
    (a7.view.loc (V d (cV L) (jV L)) ↦{fullShare} f7 : sProp 𝕄)
      ⊢ iprop(((a7.view.loc (V d (cV L) (jV L)) ↦{fullShare} f7) -∗ twp d L (kk (BitVec.ofNat 32 (cnt X (min (ck s (2 * t.val) + 128) e)))) Q)
          -∗ twp d L (Scf.Loop.for k0_t2_loop k0_t2_ok 0#32
              (k0_t2_body L a2 w2 a3 w3 a4 w4 a5 w5 a6 w6 a7 w7 a8 w8 a9 w9 a10 w10 a11 w11 a12 w12 a13 w13 s14 s15 s16 s17 r0 r1 r2 _ _ hw2 (Scalar.andi (BitVec.ofNat 32 s) 4294967288#32) x15 x30 0#32 1#32 t x19 x20 x21 z1 z2 z3 z4) >>= kk) Q) := by
  have hw := w57 hs he (cA hs he t) (by have := trip_lt hs he t; omega)
  have hb : (k0_t2_body L a2 w2 a3 w3 a4 w4 a5 w5 a6 w6 a7 w7 a8 w8 a9 w9 a10 w10 a11 w11 a12 w12 a13 w13 s14 s15 s16 s17 r0 r1 r2 (BitVec.ofNat 32 s) (BitVec.ofNat 32 e) hw2 (Scalar.andi (BitVec.ofNat 32 s) 4294967288#32) x15 x30 0#32 1#32 t x19 x20 x21 z1 z2 z3 z4)
      = cntBody L a7 k0_off7 k0_off7_inb
          (Scalar.minsi (Scalar.addi (wbase s (Scalar.muli (Scf.iv 0#32 1#32 t) 2#32)) 128#32) (BitVec.ofNat 32 e)) := rfl
  rw [hb, hw]
  exact wp_cnt d L a7 X hX f7 h7 _ (by omega) k0_t2_loop k0_t2_ok (by decide) k0_off7 k0_off7_inb k0_off7_eq kk

include hs he hX in
theorem wp_tailA (x11 x15 x42 x55 x57 y1 y2 x73 c1' x76 : BitVec 32) (x30 z1 z2 z3 z4 : V16 F) {β : Type} {Q : β → sProp 𝕄}
    (fm : a10.view.ty.Contents (Elt F)) (q : PosShare TreeShare) (lo p hi : ℕ) (hp : p < 2 ^ 31) (hhi : hi = min (ck s (2 * t.val) + 128) e)
    (hlo : lo ≤ p) (hle : p ≤ hi) (hor : ck s (2 * t.val) ≤ p ∨ (hi ≤ ck s (2 * t.val) ∧ p = hi))
    (hm : p < hi → Rows R a10 (ck s (2 * t.val)) fm) (hw2) (hw8) (kk : Acc4 F → TProg F L β) :
    (a10.view.loc (V d (cV L) (jV L)) ↦{q} fm : sProp 𝕄)
      ⊢ iprop(((a10.view.loc (V d (cV L) (jV L)) ↦{q} fm) -∗ twp d L (kk (accs R lo hi)) Q)
          -∗ twp d L (Scf.Loop.for (k0_t10_loop _ _ t (BitVec.ofNat 32 p)) (k0_t10_ok _ _ t (BitVec.ofNat 32 p) hw8) (accs R lo p)
              (k0_t10_body L a2 w2 a3 w3 a4 w4 a5 w5 a6 w6 a7 w7 a8 w8 a9 w9 a10 w10 a11 w11 a12 w12 a13 w13 s14 s15 s16 s17 r0 r1 r2 _ _ hw2 x11 x15 x30 t x42 x55 x57 (BitVec.ofNat 32 p) y1 y2 z1 z2 z3 z4 hw8 x73 c1' x76) >>= kk) Q) := by
  have hc := trip_lt hs he t
  have hn' : nch s e ≤ 3000 := by unfold nch; omega
  have hck : ck s (2 * t.val) ≤ 1000000 := by unfold ck; omega
  have htr : (k0_t10_loop _ _ t (BitVec.ofNat 32 p)).trips = hi - max p (ck s (2 * t.val)) :=
    ((congrArg Scf.Loop.trips (tailA_eq hs he t hp)).trans (lp_trips (by omega) (by omega))).trans (by rw [hhi])
  rcases Classical.em (p < hi) with h | h
  · have hcp : ck s (2 * t.val) ≤ p := by omega
    have hy : Scalar.maxsi (BitVec.ofNat 32 p) (wbase s (Scalar.muli (Scf.iv 0#32 1#32 t) 2#32)) = BitVec.ofNat 32 p := by
      unfold wbase; rw [(wck hs he (cA hs he t) (by omega)).1, maxsi_ofNat hp (by omega), max_eq_left hcp]
    have hr : ∀ g, ∀ j : Fin (k0_t10_loop _ _ t (BitVec.ofNat 32 p)).trips,
        (![(Scalar.subi (Scf.iv (Scalar.maxsi (BitVec.ofNat 32 p) (wbase s (Scalar.muli (Scf.iv 0#32 1#32 t) 2#32))) 1#32 j)
          (wbase s (Scalar.muli (Scf.iv 0#32 1#32 t) 2#32))).toNat, g] : Fin 2 → ℕ) = ![p - ck s (2 * t.val) + j.val, g] := by
      intro g j
      have hj : j.val < hi - max p (ck s (2 * t.val)) := lt_of_lt_of_eq j.isLt htr
      exact row_eq hs he (cA hs he t) (by omega) hy (by omega) hcp
    have hmain := wp_tok d L a10 R (ck s (2 * t.val)) (p - ck s (2 * t.val)) lo p fm (hm h) (k0_t10_loop _ _ t (BitVec.ofNat 32 p))
      (k0_t10_ok _ _ t (BitVec.ofNat 32 p) hw8) (k0_off35 _ _ t _) (k0_off36 _ _ t _) (k0_off37 _ _ t _) (k0_off38 _ _ t _)
      (k0_off35_inb _ _ t _ hw8) (k0_off36_inb _ _ t _ hw8) (k0_off37_inb _ _ t _ hw8) (k0_off38_inb _ _ t _ hw8)
      (hr 0) (hr 16) (hr 32) (hr 48) (by omega) hlo q kk (Q := Q)
    have e2 : p + (k0_t10_loop (BitVec.ofNat 32 s) (BitVec.ofNat 32 e) t (BitVec.ofNat 32 p)).trips = hi := by rw [htr]; omega
    rw [e2] at hmain
    exact hmain
  · obtain rfl : p = hi := by omega
    iintro H HQ
    iapply (wp_none d L (k0_t10_loop _ _ t (BitVec.ofNat 32 p)) (k0_t10_ok _ _ t (BitVec.ofNat 32 p) hw8) (by rw [htr]; omega) _ _ kk)
    iapply HQ $$ H

include hs he hX h7 in
theorem wp_cntB (x15 x55 x57 y0 y1 y2 x73 c1' x76 : BitVec 32) (x30 z1 z2 z3 z4 : V16 F) {β : Type} {Q : β → sProp 𝕄} (hw2) (hw8) (kk : BitVec 32 → TProg F L β) :
    (a7.view.loc (V d (cV L) (jV L)) ↦{fullShare} f7 : sProp 𝕄)
      ⊢ iprop(((a7.view.loc (V d (cV L) (jV L)) ↦{fullShare} f7) -∗ twp d L (kk (BitVec.ofNat 32 (cnt X (min (ck s (2 * t.val + 1) + 128) e)))) Q)
          -∗ twp d L (Scf.Loop.for k0_t12_loop k0_t12_ok 0#32
              (k0_t12_body L a2 w2 a3 w3 a4 w4 a5 w5 a6 w6 a7 w7 a8 w8 a9 w9 a10 w10 a11 w11 a12 w12 a13 w13 s14 s15 s16 s17 r0 r1 r2 _ _ hw2 (Scalar.andi (BitVec.ofNat 32 s) 4294967288#32) x15 x30 t (Scalar.muli (Scf.iv 0#32 1#32 t) 2#32) x55 x57 y0 y1 y2 z1 z2 z3 z4 hw8 x73 c1' x76) >>= kk) Q) := by
  have hw := w57 hs he (cB hs he t) (by have := trip_lt hs he t; omega)
  have hb : (k0_t12_body L a2 w2 a3 w3 a4 w4 a5 w5 a6 w6 a7 w7 a8 w8 a9 w9 a10 w10 a11 w11 a12 w12 a13 w13 s14 s15 s16 s17 r0 r1 r2 (BitVec.ofNat 32 s) (BitVec.ofNat 32 e) hw2 (Scalar.andi (BitVec.ofNat 32 s) 4294967288#32) x15 x30 t (Scalar.muli (Scf.iv 0#32 1#32 t) 2#32) x55 x57 y0 y1 y2 z1 z2 z3 z4 hw8 x73 c1' x76)
      = cntBody L a7 k0_off45 k0_off45_inb
          (Scalar.minsi (Scalar.addi (wbase s (Scalar.addi (Scalar.muli (Scf.iv 0#32 1#32 t) 2#32) 1#32)) 128#32) (BitVec.ofNat 32 e)) := rfl
  rw [hb, hw]
  exact wp_cnt d L a7 X hX f7 h7 _ (by omega) k0_t12_loop k0_t12_ok (by decide) k0_off45 k0_off45_inb k0_off45_eq kk

include hs he hX in
theorem wp_tailB {β : Type} {Q : β → sProp 𝕄}
    (fm : a11.view.ty.Contents (Elt F)) (q : PosShare TreeShare) (lo p hi : ℕ) (hp : p < 2 ^ 31) (hhi : hi = min (ck s (2 * t.val + 1) + 128) e)
    (hlo : lo ≤ p) (hle : p ≤ hi) (hor : ck s (2 * t.val + 1) ≤ p ∨ (hi ≤ ck s (2 * t.val + 1) ∧ p = hi))
    (hm : p < hi → Rows R a11 (ck s (2 * t.val + 1)) fm) (hw8) (kk : Acc4 F → TProg F L β) :
    (a11.view.loc (V d (cV L) (jV L)) ↦{q} fm : sProp 𝕄)
      ⊢ iprop(((a11.view.loc (V d (cV L) (jV L)) ↦{q} fm) -∗ twp d L (kk (accs R lo hi)) Q)
          -∗ twp d L (Scf.Loop.for (k0_t20_loop _ _ t (BitVec.ofNat 32 p)) (k0_t20_ok _ _ t (BitVec.ofNat 32 p) hw8) (accs R lo p)
              (k0_t20_body L a2 w2 a3 w3 a4 w4 a5 w5 a6 w6 a7 w7 a8 w8 a9 w9 a10 w10 a11 w11 a12 w12 a13 w13 s14 s15 s16 s17 r0 r1 r2 _ _ t (BitVec.ofNat 32 p) hw8) >>= kk) Q) := by
  have hc := trip_lt hs he t
  have hn' : nch s e ≤ 3000 := by unfold nch; omega
  have hck : ck s (2 * t.val + 1) ≤ 1000000 := by unfold ck; omega
  have htr : (k0_t20_loop _ _ t (BitVec.ofNat 32 p)).trips = hi - max p (ck s (2 * t.val + 1)) :=
    ((congrArg Scf.Loop.trips (tailB_eq hs he t hp)).trans (lp_trips (by omega) (by omega))).trans (by rw [hhi])
  rcases Classical.em (p < hi) with h | h
  · have hcp : ck s (2 * t.val + 1) ≤ p := by omega
    have hy : Scalar.maxsi (BitVec.ofNat 32 p) (wbase s (Scalar.addi (Scalar.muli (Scf.iv 0#32 1#32 t) 2#32) 1#32)) = BitVec.ofNat 32 p := by
      unfold wbase; rw [(wck hs he (cB hs he t) (by omega)).1, maxsi_ofNat hp (by omega), max_eq_left hcp]
    have hr : ∀ g, ∀ j : Fin (k0_t20_loop _ _ t (BitVec.ofNat 32 p)).trips,
        (![(Scalar.subi (Scf.iv (Scalar.maxsi (BitVec.ofNat 32 p) (wbase s (Scalar.addi (Scalar.muli (Scf.iv 0#32 1#32 t) 2#32) 1#32))) 1#32 j)
          (wbase s (Scalar.addi (Scalar.muli (Scf.iv 0#32 1#32 t) 2#32) 1#32))).toNat, g] : Fin 2 → ℕ) = ![p - ck s (2 * t.val + 1) + j.val, g] := by
      intro g j
      have hj : j.val < hi - max p (ck s (2 * t.val + 1)) := lt_of_lt_of_eq j.isLt htr
      exact row_eq hs he (cB hs he t) (by omega) hy (by omega) hcp
    have hmain := wp_tok d L a11 R (ck s (2 * t.val + 1)) (p - ck s (2 * t.val + 1)) lo p fm (hm h) (k0_t20_loop _ _ t (BitVec.ofNat 32 p))
      (k0_t20_ok _ _ t (BitVec.ofNat 32 p) hw8) (k0_off73 _ _ t _) (k0_off74 _ _ t _) (k0_off75 _ _ t _) (k0_off76 _ _ t _)
      (k0_off73_inb _ _ t _ hw8) (k0_off74_inb _ _ t _ hw8) (k0_off75_inb _ _ t _ hw8) (k0_off76_inb _ _ t _ hw8)
      (hr 0) (hr 16) (hr 32) (hr 48) (by omega) hlo q kk (Q := Q)
    have e2 : p + (k0_t20_loop (BitVec.ofNat 32 s) (BitVec.ofNat 32 e) t (BitVec.ofNat 32 p)).trips = hi := by rw [htr]; omega
    rw [e2] at hmain
    exact hmain
  · obtain rfl : p = hi := by omega
    iintro H HQ
    iapply (wp_none d L (k0_t20_loop _ _ t (BitVec.ofNat 32 p)) (k0_t20_ok _ _ t (BitVec.ofNat 32 p) hw8) (by rw [htr]; omega) _ _ kk)
    iapply HQ $$ H

end Cert.KernelIdeal.Bag

end

end
-- ==== Proof.KernelIdeal.Half.lean ====
/-
  One trip of the loop over the pairs of chunks: what the tile holds before it, between its two halves, and that each part
  of the trip takes the one to the other.
-/
module

public import proofs.«01_k».proof.Proof.KernelIdeal.Chunk
public import proofs.«01_k».proof.Proof.KernelIdeal.Steps
public import proofs.«01_k».proof.Proof.KernelIdeal.Tail

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local irreducible] k0_cond1 k0_cond3 k0_cond4 k0_cond6 k0_cond7 nch
variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

/-- What does not change over the trips: the offsets `X`, the tokens `tk`, the table `G` and the bias `b`, where the tile holds
    them, and the words its copies move. -/
structure Fixed (X : ℕ → ℕ) (tk : ℕ → ℕ) (G : ℕ → ℕ → F .f32) (b : ℕ → F .f32) (fx : a3.view.ty.Contents (Elt F))
    (ft : a2.view.ty.Contents (Elt F)) (f7 : a7.view.ty.Contents (Elt F)) (f12 : a12.view.ty.Contents (Elt F)) (NI NG : ℕ) : Prop where
  mono : Monotone X
  le : X 512 ≤ 327680
  lt : ∀ j, X j < 2 ^ 31
  tok : ∀ t, tk t < 100000
  hx : Toks tk a3 fx
  hT : Tab G a2 ft
  h7 : Offs X a7 f7
  h12 : Bias b a12 f12
  hNI0 : 0 < NI
  hN8 : a8.view.dmaCredit = NI
  hN9 : a9.view.dmaCredit = NI
  hD10 : a10.view.dmaCredit = NG
  hD11 : a11.view.dmaCredit = NG
  hG10 : ∀ h : S100000x128.Gathers 0 S128x128, ∑ j, (a10.slice (S128x128.rowRect h.axis' j) (S128x128.stride_rowRect h.axis' j)).view.dmaCredit = NG
  hG11 : ∀ h : S100000x128.Gathers 0 S128x128, ∑ j, (a11.slice (S128x128.rowRect h.axis' j) (S128x128.stride_rowRect h.axis' j)).view.dmaCredit = NG

variable {X : ℕ → ℕ} {tk : ℕ → ℕ} {G : ℕ → ℕ → F .f32} {b : ℕ → F .f32} {fx : a3.view.ty.Contents (Elt F)}
  {ft : a2.view.ty.Contents (Elt F)} {f7 : a7.view.ty.Contents (Elt F)} {f12 : a12.view.ty.Contents (Elt F)} {NI NG : ℕ}

variable (X tk G b fx ft f7 f12 NI NG) in
/-- Before chunk `c`, an even one: its gather and the next chunk's index copy in flight, the bags that ended earlier done. -/
def Start (qxA qxB qtA qtB : PosShare TreeShare) (O : CellTallies nD τ sig (HIx 1)) (W : Waits sig (HIx 1)) (c : ℕ) : sProp 𝕄 :=
  iprop(Fly d L (c < nch (X 0) (X 512)) s16.sem NG (DG d L (fun t l => G (tk t) l) (c < nch (X 0) (X 512)) (ck (X 0) c) a10 a8 a2 qtA ft)
    ∗ Fly d L (c + 1 < nch (X 0) (X 512)) s15.sem NI (DI d L tk (c + 1 < nch (X 0) (X 512)) (ck (X 0) (c + 1)) a9 a3 qxB fx)
    ∗ (∃ f, (a11.view.loc (V d (cV L) (jV L)) ↦{fullShare} f)) ∗ semVal ((V d (cV L) (jV L)), SemLoc.dma s17.sem) 0 ∗ (a2.view.loc (V d (cV L) (jV L)) ↦{qtB} ft)
    ∗ semVal ((V d (cV L) (jV L)), SemLoc.dma s14.sem) 0 ∗ (a3.view.loc (V d (cV L) (jV L)) ↦{qxA} fx)
    ∗ (a7.view.loc (V d (cV L) (jV L)) ↦{fullShare} f7) ∗ (a12.view.loc (V d (cV L) (jV L)) ↦{fullShare} f12)
    ∗ (∃ f, ⌜Done X (fun t l => G (tk t) l) b a13 (Cc X c) f⌝ ∗ (a13.view.loc (V d (cV L) (jV L)) ↦{fullShare} f)) ∗ Ow d L O W)

variable (X tk G b fx ft f7 f12 NI NG) in
/-- Within chunk `c`, the bags that end in it done: its rows at hand, the next chunk's gather and the index copy of the one after in
    flight. -/
def Mid (qxA qxB qtA qtB : PosShare TreeShare) (O : CellTallies nD τ sig (HIx 1)) (W : Waits sig (HIx 1)) (c : ℕ) : sProp 𝕄 :=
  iprop((∃ f, ⌜c < nch (X 0) (X 512) → Rows (fun t l => G (tk t) l) a10 (ck (X 0) c) f⌝ ∗ (a10.view.loc (V d (cV L) (jV L)) ↦{fullShare} f))
    ∗ semVal ((V d (cV L) (jV L)), SemLoc.dma s16.sem) 0 ∗ (a2.view.loc (V d (cV L) (jV L)) ↦{qtA} ft)
    ∗ Fly d L (c + 2 < nch (X 0) (X 512)) s14.sem NI (DI d L tk (c + 2 < nch (X 0) (X 512)) (ck (X 0) (c + 2)) a8 a3 qxA fx)
    ∗ Fly d L (c + 1 < nch (X 0) (X 512)) s17.sem NG (DG d L (fun t l => G (tk t) l) (c + 1 < nch (X 0) (X 512)) (ck (X 0) (c + 1)) a11 a9 a2 qtB ft)
    ∗ semVal ((V d (cV L) (jV L)), SemLoc.dma s15.sem) 0 ∗ (a3.view.loc (V d (cV L) (jV L)) ↦{qxB} fx)
    ∗ (a7.view.loc (V d (cV L) (jV L)) ↦{fullShare} f7) ∗ (a12.view.loc (V d (cV L) (jV L)) ↦{fullShare} f12)
    ∗ (∃ f, ⌜Done X (fun t l => G (tk t) l) b a13 (Cc X (c + 1)) f⌝ ∗ (a13.view.loc (V d (cV L) (jV L)) ↦{fullShare} f)) ∗ Ow d L O W)

/-- The number of a pair's first chunk, as the program computes it. -/
abbrev W42 (t : ℕ) : BitVec 32 := Scalar.muli (Scf.iv 0#32 1#32 t) 2#32

/-- Where a pair's first chunk starts, as the program computes it. -/
abbrev W55 (s t : ℕ) : BitVec 32 := Scalar.addi (Scalar.andi (BitVec.ofNat 32 s) 4294967288#32) (Scalar.muli (W42 t) 128#32)

/-- Where a pair's first chunk ends, as the program computes it. -/
abbrev W57 (s e t : ℕ) : BitVec 32 := Scalar.minsi (Scalar.addi (W55 s t) 128#32) (BitVec.ofNat 32 e)

/-- The position after the bags that end in chunk `c`. -/
abbrev Pc (X : ℕ → ℕ) (c : ℕ) : ℕ := pos X (Tc X c) (Cc X c) (Cc X (c + 1) - Cc X c)

variable (fix : Fixed a2 a3 a7 a8 a9 a10 a11 a12 X tk G b fx ft f7 f12 NI NG)
  (t : Fin (k0_t1_loop (BitVec.ofNat 32 (X 0)) (BitVec.ofNat 32 (X 512))).trips)
  (qxA qxB qtA qtB : PosShare TreeShare) (O : CellTallies nD τ sig (HIx 1)) (W : Waits sig (HIx 1))

include fix in
theorem fix_le : X 0 ≤ X 512 := fix.mono (Nat.zero_le 512)

/-- A side condition that holds. -/
theorem wp_chk {α : Type} {P : Prop} {dP : Decidable P} (h : P) (kk : PLift P → TProg F L α) {Q : α → sProp 𝕄} :
    twp d L (kk ⟨h⟩) Q ⊢ twp d L (Prog.lift (.assume P dP) >>= kk) Q :=
  wp_assume 𝒱₀ (V d (cV L) (jV L)) none Set.univ (k := kk) h

include fix in
theorem Pc_lt (c : ℕ) : Pc X c < 2 ^ 31 := pos_lt X fix.lt (by have := Tc_le (X := X) c; have := fix.lt 512; omega)

include fix in
theorem wp_part5 (hw2) (hw8)
    {Q : (Σ' (v42 : BitVec 32) (v55 : BitVec 32) (v57 : BitVec 32) (v72_0 : BitVec 32) (v72_1 : BitVec 32) (v72_2 : BitVec 32) (v72_3 : FVec F S16 .f32) (v72_4 : FVec F S16 .f32) (v72_5 : FVec F S16 .f32) (v72_6 : FVec F S16 .f32) (k0_hw8 : k0_chk8 (BitVec.ofNat 32 (X 0)) (BitVec.ofNat 32 (X 512)) t v72_0) (v73 : BitVec 32) (c1_i32_30 : BitVec 32), BitVec 32) → sProp 𝕄} :
    iprop(Transfers.MayWaits (V d (cV L) (jV L)) (default : HIx 1) O
        ∗ Start d L a2 a3 a7 a8 a9 a10 a11 a12 a13 s14 s15 s16 s17 X tk G b fx ft f7 f12 NI NG qxA qxB qtA qtB O W (2 * t.val)
        ∗ (Mid d L a2 a3 a7 a8 a9 a10 a11 a12 a13 s14 s15 s16 s17 X tk G b fx ft f7 f12 NI NG qxA qxB qtA qtB O W (2 * t.val)
          -∗ Q ⟨Scalar.muli (Scf.iv 0#32 1#32 t) 2#32,
              W55 (X 0) t,
              W57 (X 0) (X 512) t,
              BitVec.ofNat 32 (Pc X (2 * t.val)), BitVec.ofNat 32 (Cc X (2 * t.val + 1)), BitVec.ofNat 32 (X (Cc X (2 * t.val + 1) + 1)),
              acc (fun t l => G (tk t) l) (X (Cc X (2 * t.val + 1))) (Pc X (2 * t.val)) 0,
              acc (fun t l => G (tk t) l) (X (Cc X (2 * t.val + 1))) (Pc X (2 * t.val)) 1,
              acc (fun t l => G (tk t) l) (X (Cc X (2 * t.val + 1))) (Pc X (2 * t.val)) 2,
              acc (fun t l => G (tk t) l) (X (Cc X (2 * t.val + 1))) (Pc X (2 * t.val)) 3, hw8,
              Scalar.maxsi (BitVec.ofNat 32 (Pc X (2 * t.val))) (W55 (X 0) t), 1#32,
              Scalar.divsi (Scalar.subi (W57 (X 0) (X 512) t)
                (Scalar.maxsi (BitVec.ofNat 32 (Pc X (2 * t.val))) (W55 (X 0) t))) 1#32⟩))
      ⊢ twp d L (k0_part5 L a2 w2 a3 w3 a4 w4 a5 w5 a6 w6 a7 w7 a8 w8 a9 w9 a10 w10 a11 w11 a12 w12 a13 w13 s14 s15 s16 s17 r0 r1 r2 (BitVec.ofNat 32 (X 0)) (BitVec.ofNat 32 (X 512)) hw2
          (Scalar.andi (BitVec.ofNat 32 (X 0)) 4294967288#32) (BitVec.ofNat 32 (nch (X 0) (X 512))) k0_pay1 0#32 1#32 t
          (BitVec.ofNat 32 (Tc X (2 * t.val))) (BitVec.ofNat 32 (Cc X (2 * t.val))) (BitVec.ofNat 32 (X (Cc X (2 * t.val) + 1)))
          (acc (fun t l => G (tk t) l) (X (Cc X (2 * t.val))) (Tc X (2 * t.val)) 0) (acc (fun t l => G (tk t) l) (X (Cc X (2 * t.val))) (Tc X (2 * t.val)) 1)
          (acc (fun t l => G (tk t) l) (X (Cc X (2 * t.val))) (Tc X (2 * t.val)) 2) (acc (fun t l => G (tk t) l) (X (Cc X (2 * t.val))) (Tc X (2 * t.val)) 3)) Q := by
  have hs := fix_le a2 a3 a7 a8 a9 a10 a11 a12 fix
  have he := fix.le
  simp only [k0_part5_eq_skeleton]
  unfold k0_part5_skel Start Mid
  iintro ⟨#Hmw, ⟨HFA, HFB, H11, Hs17, HtB, Hs14, HxA, H7, H12, ⟨%f13, %hD, H13⟩, HO⟩, HQ⟩
  iapply (wp_waitIf d L s16.sem (a2.slice (Rect.unit (s := S100000x128) ![0, 0] S100000x128.size inb_S100000x128_S100000x128_0_0) (fun _ => rfl)) a10 fix.hD10
    _ _ (cond0_iff hs he t) _ O W) $$ [HFA HO]
  · iframe Hmw HFA HO
  unfold DG
  iintro ⟨⟨%fA, %hA, H10, H8, HtA⟩, Hs16, HO⟩
  dsimp only
  iapply (wp_idxIf d L a3 a8 w8 s14.sem fix.hN8 fix.hNI0 tk (k0_cond3 (BitVec.ofNat 32 (X 0)) (BitVec.ofNat 32 (X 512)) t = 1#1) (2 * t.val + 2 < nch (X 0) (X 512)) (cond3_iff hs he t) (ck (X 0) (2 * t.val + 2)) (k0_off5 (BitVec.ofNat 32 (X 0)) (BitVec.ofNat 32 (X 512)) t) (fun h => k0_off5_inb (BitVec.ofNat 32 (X 0)) (BitVec.ofNat 32 (X 512)) hw2 t h) (off5_eq hs he t) fx fix.hx qxA) $$ [HxA H8 Hs14]
  · iframe HxA H8 Hs14
  iintro HF14
  iapply (wp_gatIf d L a3 a2 a11 a9 w9 s15.sem s17.sem fix.hN9 fix.hG11 tk fix.tok G (k0_cond4 (BitVec.ofNat 32 (X 0)) (BitVec.ofNat 32 (X 512)) t = 1#1) (2 * t.val + 1 < nch (X 0) (X 512)) (cond4_iff hs he t) (ck (X 0) (2 * t.val + 1)) _ inb_S100000x128_S100000x128_0_0 rfl
    ft fix.hT fx qxB qtB O W (fun h => a3.slice (Rect.unit (s := S327808) (k0_off6 (BitVec.ofNat 32 (X 0)) (BitVec.ofNat 32 (X 512)) t) S128.size (k0_off6_inb (BitVec.ofNat 32 (X 0)) (BitVec.ofNat 32 (X 512)) hw2 t h)) (fun _ => rfl))) $$ [HFB HtB H11 Hs17 HO]
  · iframe Hmw HFB HtB H11 Hs17 HO
  iintro ⟨HF17, Hs15, HxB, HO⟩
  have hR : 2 * t.val < nch (X 0) (X 512) := by have := trip_lt hs he t; omega
  iapply (wp_cntA d L a2 w2 a3 w3 a4 w4 a5 w5 a6 w6 a7 w7 a8 w8 a9 w9 a10 w10 a11 w11 a12 w12 a13 w13 s14 s15 s16 s17 r0 r1 r2 hs he t X fix.lt f7 fix.h7) $$ [H7]
  · iexact H7
  iintro H7
  iapply (wp_none d L k0_t3_loop k0_t3_ok (Nat.le_zero.1 k0_t3_abs.2.1))
  rw [← Tc_succ (X := X) (2 * t.val)]
  iapply (wp_chk d L (k0_chk3_all _ _))
  iapply (wp_bagsA d L a2 w2 a3 w3 a4 w4 a5 w5 a6 w6 a7 w7 a8 w8 a9 w9 a10 w10 a11 w11 a12 w12 a13 w13 s14 s15 s16 s17 r0 r1 r2 hs he t X (fun t l => G (tk t) l) b fix.lt f7 fix.h7 f12 fix.h12 _ _ _ _ _ 0#32 _ _ _ _ _ _ fA (Tc X (2 * t.val)) (Cc X (2 * t.val)) (Cc X (2 * t.val + 1)) (chunk_spans fix.mono fix.lt (2 * t.val)) (fun _ => hA hR) fullShare hw2 (k0_chk3_all _ _) f13 hD) $$ [H7 H12 H13 H10]
  · unfold Bufs
    iframe H7 H12 H13 H10
  unfold Bufs
  iintro %f13' %hD' ⟨H7, H12, H13, H10⟩
  iapply (wp_none d L _ _ (Nat.le_zero.1 (k0_t7_abs _ _).2.1))
  iapply (wp_chk d L (chk8 hs he t (Pc_lt a2 a3 a7 a8 a9 a10 a11 a12 fix (2 * t.val))))
  iapply (twp_pure d L)
  dsimp only [st]
  iapply HQ
  iframe HF14 HF17 Hs15 HxB H7 H12 Hs16 HtA HO
  isplitl [H10]
  · iexists fA
    iframe H10
    ipureintro
    exact hA
  iexists f13'
  iframe H13
  ipureintro
  exact hD'

end Cert.KernelIdeal.Bag

end

end
-- ==== Proof.KernelIdeal.Second.lean ====
/-
The second half of a pair of chunks, and the pair.
-/
module

public import proofs.«01_k».proof.Proof.KernelIdeal.Chunk
public import proofs.«01_k».proof.Proof.KernelIdeal.Steps
public import proofs.«01_k».proof.Proof.KernelIdeal.Tail
public import proofs.«01_k».proof.Proof.KernelIdeal.Half

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local irreducible] k0_cond1 k0_cond3 k0_cond4 k0_cond6 k0_cond7 nch

variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

variable {X : ℕ → ℕ} {tk : ℕ → ℕ} {G : ℕ → ℕ → F .f32} {b : ℕ → F .f32} {fx : a3.view.ty.Contents (Elt F)}
  {ft : a2.view.ty.Contents (Elt F)} {f7 : a7.view.ty.Contents (Elt F)} {f12 : a12.view.ty.Contents (Elt F)} {NI NG : ℕ}

variable (fix : Fixed a2 a3 a7 a8 a9 a10 a11 a12 X tk G b fx ft f7 f12 NI NG)
  (t : Fin (k0_t1_loop (BitVec.ofNat 32 (X 0)) (BitVec.ofNat 32 (X 512))).trips)
  (qxA qxB qtA qtB : PosShare TreeShare) (O : CellTallies nD τ sig (HIx 1)) (W : Waits sig (HIx 1))

variable (X tk G b fx ft f7 f12 NI NG) in
/-- Within a pair's second chunk `c + 1`, its bags done: its rows at hand, the next chunk's gather and the index copy of the one after
    in flight. -/
def Mid' (qxA qxB qtA qtB : PosShare TreeShare) (O : CellTallies nD τ sig (HIx 1)) (W : Waits sig (HIx 1)) (c : ℕ) : sProp 𝕄 :=
  iprop((∃ f, ⌜c + 1 < nch (X 0) (X 512) → Rows (fun t l => G (tk t) l) a11 (ck (X 0) (c + 1)) f⌝ ∗ (a11.view.loc (V d (cV L) (jV L)) ↦{fullShare} f))
    ∗ Fly d L (c + 2 < nch (X 0) (X 512)) s16.sem NG (DG d L (fun t l => G (tk t) l) (c + 2 < nch (X 0) (X 512)) (ck (X 0) (c + 2)) a10 a8 a2 qtA ft)
    ∗ Fly d L (c + 3 < nch (X 0) (X 512)) s15.sem NI (DI d L tk (c + 3 < nch (X 0) (X 512)) (ck (X 0) (c + 3)) a9 a3 qxB fx)
    ∗ semVal ((V d (cV L) (jV L)), SemLoc.dma s17.sem) 0 ∗ (a2.view.loc (V d (cV L) (jV L)) ↦{qtB} ft)
    ∗ semVal ((V d (cV L) (jV L)), SemLoc.dma s14.sem) 0 ∗ (a3.view.loc (V d (cV L) (jV L)) ↦{qxA} fx)
    ∗ (a7.view.loc (V d (cV L) (jV L)) ↦{fullShare} f7) ∗ (a12.view.loc (V d (cV L) (jV L)) ↦{fullShare} f12)
    ∗ (∃ f, ⌜Done X (fun t l => G (tk t) l) b a13 (Cc X (c + 2)) f⌝ ∗ (a13.view.loc (V d (cV L) (jV L)) ↦{fullShare} f)) ∗ Ow d L O W)

/-- Where a pair's second chunk starts and ends, as the program computes it. -/
abbrev W95 (s t : ℕ) : BitVec 32 :=
  Scalar.addi (Scalar.andi (BitVec.ofNat 32 s) 4294967288#32) (Scalar.muli (Scalar.addi (W42 t) 1#32) 128#32)

@[inherit_doc W95]
abbrev W97 (s e t : ℕ) : BitVec 32 := Scalar.minsi (Scalar.addi (W95 s t) 128#32) (BitVec.ofNat 32 e)

include fix in
/-- The first chunk's tail, the second chunk's copies and bags. -/
theorem wp_part6 (x55 x73 c1' x76 : BitVec 32) (hw2) (hw8)
    {Q : (Σ' (v95 : BitVec 32) (v97 : BitVec 32) (v112_0 : BitVec 32) (v112_1 : BitVec 32) (v112_2 : BitVec 32) (v112_3 : FVec F S16 .f32) (v112_4 : FVec F S16 .f32) (v112_5 : FVec F S16 .f32), FVec F S16 .f32) → sProp 𝕄} :
    iprop(Transfers.MayWaits (V d (cV L) (jV L)) (default : HIx 1) O
        ∗ Mid d L a2 a3 a7 a8 a9 a10 a11 a12 a13 s14 s15 s16 s17 X tk G b fx ft f7 f12 NI NG qxA qxB qtA qtB O W (2 * t.val)
        ∗ (Mid' d L a2 a3 a7 a8 a9 a10 a11 a12 a13 s14 s15 s16 s17 X tk G b fx ft f7 f12 NI NG qxA qxB qtA qtB O W (2 * t.val)
          -∗ Q ⟨W95 (X 0) t, W97 (X 0) (X 512) t, BitVec.ofNat 32 (Pc X (2 * t.val + 1)), BitVec.ofNat 32 (Cc X (2 * t.val + 2)),
              BitVec.ofNat 32 (X (Cc X (2 * t.val + 2) + 1)),
              acc (fun t l => G (tk t) l) (X (Cc X (2 * t.val + 2))) (Pc X (2 * t.val + 1)) 0, acc (fun t l => G (tk t) l) (X (Cc X (2 * t.val + 2))) (Pc X (2 * t.val + 1)) 1,
              acc (fun t l => G (tk t) l) (X (Cc X (2 * t.val + 2))) (Pc X (2 * t.val + 1)) 2, acc (fun t l => G (tk t) l) (X (Cc X (2 * t.val + 2))) (Pc X (2 * t.val + 1)) 3⟩))
      ⊢ twp d L (k0_part6 L a2 w2 a3 w3 a4 w4 a5 w5 a6 w6 a7 w7 a8 w8 a9 w9 a10 w10 a11 w11 a12 w12 a13 w13 s14 s15 s16 s17 r0 r1 r2 (BitVec.ofNat 32 (X 0)) (BitVec.ofNat 32 (X 512)) hw2
          (Scalar.andi (BitVec.ofNat 32 (X 0)) 4294967288#32) (BitVec.ofNat 32 (nch (X 0) (X 512))) k0_pay1 t
          (W42 t) x55 (W57 (X 0) (X 512) t) (BitVec.ofNat 32 (Pc X (2 * t.val))) (BitVec.ofNat 32 (Cc X (2 * t.val + 1))) (BitVec.ofNat 32 (X (Cc X (2 * t.val + 1) + 1)))
          (acc (fun t l => G (tk t) l) (X (Cc X (2 * t.val + 1))) (Pc X (2 * t.val)) 0) (acc (fun t l => G (tk t) l) (X (Cc X (2 * t.val + 1))) (Pc X (2 * t.val)) 1)
          (acc (fun t l => G (tk t) l) (X (Cc X (2 * t.val + 1))) (Pc X (2 * t.val)) 2) (acc (fun t l => G (tk t) l) (X (Cc X (2 * t.val + 1))) (Pc X (2 * t.val)) 3) hw8 x73 c1' x76) Q := by
  have hs := fix_le a2 a3 a7 a8 a9 a10 a11 a12 fix
  have he := fix.le
  have ht := trip_lt hs he t
  have hn' : nch (X 0) (X 512) ≤ 3000 := by unfold nch; omega
  have hck : ck (X 0) (2 * t.val) ≤ 1000000 := by unfold ck; omega
  have hT := Tc_succ (X := X) (2 * t.val)
  obtain ⟨e1, e2, e3⟩ := pos_end fix.mono (2 * t.val)
  have hp := Pc_lt a2 a3 a7 a8 a9 a10 a11 a12 fix (2 * t.val)
  have hv81 : Scalar.maxsi (BitVec.ofNat 32 (Pc X (2 * t.val))) (W57 (X 0) (X 512) t) = BitVec.ofNat 32 (Tc X (2 * t.val + 1)) := by
    rw [show W57 (X 0) (X 512) t = _ from w57 hs he (cA hs he t) (by omega), ← hT, maxsi_ofNat hp (by rw [hT]; omega), max_eq_right e2]
  simp only [k0_part6_eq_skeleton]
  unfold k0_part6_skel Mid Mid'
  iintro ⟨#Hmw, ⟨⟨%fA, %hA, H10⟩, Hs16, HtA, HF14, HF17, Hs15, HxB, H7, H12, ⟨%f13, %hD, H13⟩, HO⟩, HQ⟩
  iapply (wp_tailA d L a2 w2 a3 w3 a4 w4 a5 w5 a6 w6 a7 w7 a8 w8 a9 w9 a10 w10 a11 w11 a12 w12 a13 w13 s14 s15 s16 s17 r0 r1 r2 hs he t X (fun t l => G (tk t) l) fix.lt _ _ _ _ _ _ _ _ _ _ _ _ _ _ _ fA fullShare (X (Cc X (2 * t.val + 1))) (Pc X (2 * t.val)) (Tc X (2 * t.val + 1)) hp hT e1 e2 e3 (fun _ => hA ht) hw2 hw8) $$ [H10]
  · iexact H10
  iintro H10
  iapply (wp_none d L _ _ ((congrArg Scf.Loop.trips (tailA'_eq hs he t _)).trans ((lp_trips (by omega) (by omega)).trans (Nat.sub_self _))))
  dsimp only [accs]
  rw [hv81]
  iapply (wp_waitIf d L s17.sem (a2.slice (Rect.unit (s := S100000x128) ![0, 0] S100000x128.size inb_S100000x128_S100000x128_0_0) (fun _ => rfl)) a11 fix.hD11
    _ _ (condB_iff hs he t) _ O W) $$ [HF17 HO]
  · iframe Hmw HF17 HO
  unfold DG
  iintro ⟨⟨%fB, %hB, H11, H9, HtB⟩, Hs17, HO⟩
  iapply (wp_idxIf d L a3 a9 w9 s15.sem fix.hN9 fix.hNI0 tk (k0_cond6 (BitVec.ofNat 32 (X 0)) (BitVec.ofNat 32 (X 512)) t = 1#1) (2 * t.val + 3 < nch (X 0) (X 512)) (cond6_iff hs he t) (ck (X 0) (2 * t.val + 3)) (k0_off43 (BitVec.ofNat 32 (X 0)) (BitVec.ofNat 32 (X 512)) t) (fun h => k0_off43_inb (BitVec.ofNat 32 (X 0)) (BitVec.ofNat 32 (X 512)) hw2 t h) (off43_eq hs he t) fx fix.hx qxB) $$ [HxB H9 Hs15]
  · iframe HxB H9 Hs15
  iintro HF15
  iapply (wp_gatIf d L a3 a2 a10 a8 w8 s14.sem s16.sem fix.hN8 fix.hG10 tk fix.tok G (k0_cond7 (BitVec.ofNat 32 (X 0)) (BitVec.ofNat 32 (X 512)) t = 1#1) (2 * t.val + 2 < nch (X 0) (X 512)) (cond7_iff hs he t) (ck (X 0) (2 * t.val + 2)) _ inb_S100000x128_S100000x128_0_0 rfl
    ft fix.hT fx qxA qtA O W (fun h => a3.slice (Rect.unit (s := S327808) (k0_off44 (BitVec.ofNat 32 (X 0)) (BitVec.ofNat 32 (X 512)) t) S128.size (k0_off44_inb (BitVec.ofNat 32 (X 0)) (BitVec.ofNat 32 (X 512)) hw2 t h)) (fun _ => rfl))) $$ [HF14 HtA H10 Hs16 HO]
  · iframe Hmw HF14 HtA Hs16 HO
    iexists fA
    iexact H10
  iintro ⟨HF16, Hs14, HxA, HO⟩
  iapply (wp_cntB d L a2 w2 a3 w3 a4 w4 a5 w5 a6 w6 a7 w7 a8 w8 a9 w9 a10 w10 a11 w11 a12 w12 a13 w13 s14 s15 s16 s17 r0 r1 r2 hs he t X fix.lt f7 fix.h7) $$ [H7]
  · iexact H7
  iintro H7
  iapply (wp_none d L k0_t13_loop k0_t13_ok (Nat.le_zero.1 k0_t13_abs.2.1))
  rw [← Tc_succ (X := X) (2 * t.val + 1)]
  iapply (wp_chk d L (k0_chk9_all _ _))
  have hm : Cc X (2 * t.val + 1) < Cc X (2 * t.val + 2) → Rows (fun t l => G (tk t) l) a11 (ck (X 0) (2 * t.val + 1)) fB := fun h => by
    refine hB ?_
    by_contra hn
    have h1 := (chunk_end fix.mono (c := 2 * t.val + 1) (by omega)).2
    have h2 := (chunk_end fix.mono (c := 2 * t.val + 2) (by omega)).2
    omega
  iapply (wp_bagsB d L a2 w2 a3 w3 a4 w4 a5 w5 a6 w6 a7 w7 a8 w8 a9 w9 a10 w10 a11 w11 a12 w12 a13 w13 s14 s15 s16 s17 r0 r1 r2 hs he t X (fun t l => G (tk t) l) b fix.lt f7 fix.h7 f12 fix.h12 _ _ _ _ _ _ _ _ _ _ _ _ _ _ _ fB (Tc X (2 * t.val + 1)) (Cc X (2 * t.val + 1)) (Cc X (2 * t.val + 2)) (chunk_spans fix.mono fix.lt (2 * t.val + 1)) hm fullShare hw2 hw8 (k0_chk9_all _ _) f13 hD) $$ [H7 H12 H13 H11]
  · unfold Bufs
    iframe H7 H12 H13 H11
  unfold Bufs
  iintro %f13' %hD' ⟨H7, H12, H13, H11⟩
  iapply (wp_none d L _ _ (Nat.le_zero.1 (k0_t17_abs _ _).2.1))
  iapply (twp_pure d L)
  dsimp only [st]
  iapply HQ
  iframe HF16 HF15 Hs17 HtB Hs14 HxA H7 H12 HO
  isplitl [H11]
  · iexists fB
    iframe H11
    ipureintro
    exact hB
  iexists f13'
  iframe H13
  ipureintro
  exact hD'

/-- A program and what follows it. -/
theorem twp_bind {α β : Type} (p : TProg F L α) (k : α → TProg F L β) {Q : β → sProp 𝕄} :
    twp d L p (fun a => twp d L (k a) Q) ⊢ twp d L (p >>= k) Q :=
  .of_eq (wp_bind frame (wpE (defs₀ (F := F)) 𝒱₀ (V d (cV L) (jV L)) none) Set.univ p k Q).symm

include fix in
/-- One pair of chunks. -/
theorem wp_pair (hw2) {Q : St F → sProp 𝕄} :
    iprop(Transfers.MayWaits (V d (cV L) (jV L)) (default : HIx 1) O ∗ Start d L a2 a3 a7 a8 a9 a10 a11 a12 a13 s14 s15 s16 s17 X tk G b fx ft f7 f12 NI NG qxA qxB qtA qtB O W (2 * t.val)
        ∗ (Start d L a2 a3 a7 a8 a9 a10 a11 a12 a13 s14 s15 s16 s17 X tk G b fx ft f7 f12 NI NG qxA qxB qtA qtB O W (2 * t.val + 2) -∗ Q (st X (fun t l => G (tk t) l) (Tc X (2 * t.val + 2)) (Cc X (2 * t.val + 2)))))
      ⊢ twp d L (k0_t1_body L a2 w2 a3 w3 a4 w4 a5 w5 a6 w6 a7 w7 a8 w8 a9 w9 a10 w10 a11 w11 a12 w12 a13 w13 s14 s15 s16 s17 r0 r1 r2 (BitVec.ofNat 32 (X 0)) (BitVec.ofNat 32 (X 512)) hw2 (Scalar.andi (BitVec.ofNat 32 (X 0)) 4294967288#32) (BitVec.ofNat 32 (nch (X 0) (X 512))) t
          (st X (fun t l => G (tk t) l) (Tc X (2 * t.val)) (Cc X (2 * t.val)))) Q := by
  have hs := fix_le a2 a3 a7 a8 a9 a10 a11 a12 fix
  have he := fix.le
  have ht := trip_lt hs he t
  have hn' : nch (X 0) (X 512) ≤ 3000 := by unfold nch; omega
  have hck : ck (X 0) (2 * t.val + 1) ≤ 1000000 := by unfold ck; omega
  have hT := Tc_succ (X := X) (2 * t.val + 1)
  obtain ⟨e1, e2, e3⟩ := pos_end fix.mono (2 * t.val + 1)
  have hp := Pc_lt a2 a3 a7 a8 a9 a10 a11 a12 fix (2 * t.val + 1)
  have hv : Scalar.maxsi (BitVec.ofNat 32 (Pc X (2 * t.val + 1))) (W97 (X 0) (X 512) t) = BitVec.ofNat 32 (Tc X (2 * t.val + 2)) := by
    rw [show W97 (X 0) (X 512) t = _ from w57 hs he (cB hs he t) (by omega), ← hT, maxsi_ofNat hp (by rw [hT]; omega), max_eq_right e2]
  have hP8 := chk8 hs he t (Pc_lt a2 a3 a7 a8 a9 a10 a11 a12 fix (2 * t.val))
  have hP14 := chk14 hs he t hp
  dsimp only [k0_t1_body, st]
  iintro ⟨#Hmw, HS, HQ⟩
  iapply (twp_bind d L)
  iapply (wp_part5 d L a2 w2 a3 w3 a4 w4 a5 w5 a6 w6 a7 w7 a8 w8 a9 w9 a10 w10 a11 w11 a12 w12 a13 w13 s14 s15 s16 s17 r0 r1 r2 fix t qxA qxB qtA qtB O W hw2 hP8)
  iframe Hmw HS
  iintro HM
  iapply (twp_bind d L)
  iapply (wp_part6 d L a2 w2 a3 w3 a4 w4 a5 w5 a6 w6 a7 w7 a8 w8 a9 w9 a10 w10 a11 w11 a12 w12 a13 w13 s14 s15 s16 s17 r0 r1 r2 fix t qxA qxB qtA qtB O W _ _ _ _ hw2 hP8)
  iframe Hmw HM
  unfold Mid' Start
  iintro ⟨⟨%fB, %hB, H11⟩, HF16, HF15, Hs17, HtB, Hs14, HxA, H7, H12, HD, HO⟩
  iapply (wp_chk d L hP14)
  have hm : Pc X (2 * t.val + 1) < Tc X (2 * t.val + 2) → Rows (fun t l => G (tk t) l) a11 (ck (X 0) (2 * t.val + 1)) fB := fun h => by
    refine hB ?_
    by_contra hn
    obtain ⟨h1, h1'⟩ := chunk_end fix.mono (c := 2 * t.val + 1) (by omega)
    obtain ⟨h2, h2'⟩ := chunk_end fix.mono (c := 2 * t.val + 1 + 1) (by omega)
    have : Pc X (2 * t.val + 1) = X 512 := by unfold Pc; rw [h1, h1', h2']; rfl
    rw [show Tc X (2 * t.val + 2) = X 512 from h2] at h
    omega
  iapply (wp_tailB d L a2 w2 a3 w3 a4 w4 a5 w5 a6 w6 a7 w7 a8 w8 a9 w9 a10 w10 a11 w11 a12 w12 a13 w13 s14 s15 s16 s17 r0 r1 r2 hs he t X (fun t l => G (tk t) l) fix.lt fB fullShare (X (Cc X (2 * t.val + 2))) (Pc X (2 * t.val + 1)) (Tc X (2 * t.val + 2)) hp hT e1 e2 e3 hm hP14) $$ [H11]
  · iexact H11
  iintro H11
  iapply (wp_none d L _ _ ((congrArg Scf.Loop.trips (tailB'_eq hs he t _)).trans ((lp_trips (by omega) (by omega)).trans (Nat.sub_self _))))
  iapply (twp_pure d L)
  dsimp only [accs]
  rw [hv]
  iapply HQ
  iframe HF16 HF15 Hs17 HtB Hs14 HxA H7 H12 HD HO
  iexists fB
  iexact H11

end Cert.KernelIdeal.Bag

end

end
-- ==== Proof.KernelIdeal.Start.lean ====
/-
The tile's first copies: the offsets, the bias and the first tokens.
-/
module

public import proofs.«01_k».proof.Proof.KernelIdeal.Second

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local irreducible] k0_cond1 k0_cond3 k0_cond4 k0_cond6 k0_cond7 nch

section Ops

variable (d : Dev nD) (L : grid0.Coords)

/-- Starting a copy. -/
theorem wp_dma {α : Type} {sp sp' : Space} {s : Shape} {e : EltTy} (src : Memref sig .scVector sp s e) (dst : Memref sig .scVector sp' s e)
    (sm : DmaSem sig) {N : ℕ} (hN : dst.view.amount (.dma sm) = N) (hN0 : 0 < N) (q : PosShare TreeShare) (fs : src.view.ty.Contents (Elt F))
    (fd : dst.view.ty.Contents (Elt F)) (Sd : Finset (Idx (dst.view.loc (V d (cV L) (jV L))))) (hSd : dst.view.set ⊆ Sd) {hs hd ht}
    (kk : PUnit → TProg F L α) {Q : α → sProp 𝕄} :
    iprop((src.view.loc (V d (cV L) (jV L)) ↦{q} fs) ∗ (dst.view.loc (V d (cV L) (jV L)) ↦[Sd]{fullShare} fd) ∗ semVal ((V d (cV L) (jV L)), SemLoc.dma sm) 0)
      ⊢ iprop((Transfers.Flight (countersEmb (U := UU)) (V d (cV L) (jV L)) (.dma sm) (default : HIx 1) N
            iprop((dst.view.loc (V d (cV L) (jV L)) ↦[Sd]{fullShare} (dst.view.write (Elt F) fd (src.view.read (Elt F) fs) Finset.univ)) ∗ (src.view.loc (V d (cV L) (jV L)) ↦{q} fs))
            -∗ twp d L (kk ⟨⟩) Q)
          -∗ twp d L (Prog.lift (.enqueueDma src (.here dst) (.dma sm) hs hd ht) >>= kk) Q) := by
  iintro H Hk
  iapply (Transfers.wp_dmaFromWhole (countersEmb (U := UU)) 𝒱₀ (V d (cV L) (jV L)) none (src := src) (dst := dst) (q := q) (fs := fs) (fd := fd) (Sd := Sd)
    (default : HIx 1) N hN hN0 hSd) $$ H
  iintro Hf
  iapply Hk
  iexact Hf

/-- A load. -/
theorem wp_ld {α : Type} {s : Shape} {e : EltTy} (m : Memref sig .scVector .vmem s e) (r : LoadRect s) (f : m.view.ty.Contents (Elt F))
    {h} (kk : Vec F r.shape e → TProg F L α) {Q : α → sProp 𝕄} :
    (m.view.loc (V d (cV L) (jV L)) ↦{fullShare} f : sProp 𝕄)
      ⊢ iprop((∀ v, ⌜v = m.view.readAt (Elt F) r f⌝ -∗ (m.view.loc (V d (cV L) (jV L)) ↦{fullShare} f) -∗ twp d L (kk v) Q)
          -∗ twp d L (Prog.lift (.load m r h) >>= kk) Q) := by
  iintro H Hk
  iapply (wp_load 𝒱₀ (V d (cV L) (jV L)) none Set.univ (k := kk) (Finset.subset_univ _)) $$ H
  iintro H
  iapply Hk $$ [] H
  ipureintro
  rfl

end Ops

/-- What a part hands on: the first offsets, the first and the last, and the words of the chunks. -/
abbrev Words (F : FTy → Type) : Type :=
  Σ' (_ : Vec F S16 .i32) (v6 : BitVec 32) (v9 : BitVec 32) (_ : k0_chk2 v6 v9) (_ : BitVec 32), BitVec 32

/-- The copies of the first tokens, when the tile's bounds are known. -/
noncomputable def firstCopies (L : grid0.Coords) (a3 : Memref sig .scVector .hbm S327808 .i32) (a7 : Memref sig .scVector .vmem S536 .i32) (a8 : Memref sig .scVector .vmem S128 .i32) (w8 : a8.IsWhole) (a9 : Memref sig .scVector .vmem S128 .i32) (w9 : a9.IsWhole) (s14 s15 : DmaSems sig S_) (v4 : Vec F S16 .i32) (v6 v9 : BitVec 32) (hw1 : k0_chk1 v6) (hw2 : k0_chk2 v6 v9) :
    TProg F L (Words F) := do
  Prog.lift (.enqueueDma (a3.slice (Rect.unit (s := S327808) (k0_off2 v6) S128.size (k0_off2_inb v6 hw1)) (fun _ => rfl)) (.here a8) (.dma s14.sem)
    (View.wordExact_bits rfl) w8.wordExact ⟨Or.inl rfl, trivial⟩)
  if h1 : k0_cond1 v6 v9 = 1#1 then do
    Prog.lift (.enqueueDma (a3.slice (Rect.unit (s := S327808) (k0_off3 v6) S128.size (k0_off3_inb v6 v9 hw2 h1)) (fun _ => rfl)) (.here a9) (.dma s15.sem)
      (View.wordExact_bits rfl) w9.wordExact ⟨Or.inl rfl, trivial⟩)
    pure ⟨⟩
  else do
    pure ⟨⟩
  Prog.lift (.waitDma2 s14.sem (a3.slice (Rect.unit (s := S327808) (k0_off4 v6) S128.size (k0_off4_inb v6 hw1)) (fun _ => rfl)) a8
    (View.wordExact_bits rfl) w8.wordExact)
  pure ⟨v4, v6, v9, hw2, Scalar.andi v6 4294967288#32,
    Scalar.maxsi (Scalar.divsi (Scalar.addi (Scalar.subi v9 (Scalar.andi v6 4294967288#32)) 127#32) 128#32) 1#32⟩

section Copies

variable (d : Dev nD) (L : grid0.Coords) (a3 : Memref sig .scVector .hbm S327808 .i32) (a7 : Memref sig .scVector .vmem S536 .i32) (a8 : Memref sig .scVector .vmem S128 .i32) (w8 : a8.IsWhole) (a9 : Memref sig .scVector .vmem S128 .i32) (w9 : a9.IsWhole) (s14 s15 : DmaSems sig S_)

/-- The first chunk's tokens arrive, the second's are on their way. -/
theorem wp_firstCopies (v4 : Vec F S16 .i32) {s e : ℕ} (hw1 : k0_chk1 (BitVec.ofNat 32 s)) (hw2 : k0_chk2 (BitVec.ofNat 32 s) (BitVec.ofNat 32 e))
    (hs : s ≤ e) (he : e ≤ 327680) {NI : ℕ} (c8 : a8.view.dmaCredit = NI) (c9 : a9.view.dmaCredit = NI) (hI : 0 < NI)
    {tk : ℕ → ℕ} {fx : a3.view.ty.Contents (Elt F)} (hx : Toks tk a3 fx) (qxA qxB : PosShare TreeShare)
    (O : CellTallies nD τ sig (HIx 1)) (W : Waits sig (HIx 1)) {Q : Words F → sProp 𝕄} :
    iprop(Transfers.MayWaits (V d (cV L) (jV L)) (default : HIx 1) O
        ∗ (a3.view.loc (V d (cV L) (jV L)) ↦{qxA} fx) ∗ (a3.view.loc (V d (cV L) (jV L)) ↦{qxB} fx)
        ∗ (∃ f, (a8.view.loc (V d (cV L) (jV L)) ↦{fullShare} f)) ∗ (∃ f, (a9.view.loc (V d (cV L) (jV L)) ↦{fullShare} f))
        ∗ semVal ((V d (cV L) (jV L)), SemLoc.dma s14.sem) 0 ∗ semVal ((V d (cV L) (jV L)), SemLoc.dma s15.sem) 0 ∗ Ow d L O W)
      ⊢ iprop((∀ f8, ⌜Idxs tk a8 (ck s 0) f8⌝
          -∗ ((a3.view.loc (V d (cV L) (jV L)) ↦{qxA} fx) ∗ (a8.view.loc (V d (cV L) (jV L)) ↦{fullShare} f8)
            ∗ Fly d L (0 + 1 < nch s e) s15.sem NI (DI d L tk (0 + 1 < nch s e) (ck s (0 + 1)) a9 a3 qxB fx)
            ∗ semVal ((V d (cV L) (jV L)), SemLoc.dma s14.sem) 0 ∗ Ow d L O W)
          -∗ Q ⟨v4, BitVec.ofNat 32 s, BitVec.ofNat 32 e, hw2, Scalar.andi (BitVec.ofNat 32 s) 4294967288#32, BitVec.ofNat 32 (nch s e)⟩)
        -∗ twp d L (firstCopies L a3 a7 a8 w8 a9 w9 s14 s15 v4 (BitVec.ofNat 32 s) (BitVec.ofNat 32 e) hw1 hw2) Q) := by
  unfold firstCopies
  rw [w15 hs he]
  iintro ⟨#Hmw, HxA, HxB, ⟨%g8, H8⟩, H9, Hs14, Hs15, HO⟩ HQ
  iapply (wp_idx d L a3 a8 w8 s14.sem c8 hI tk True (ck s 0) _ (k0_off2_inb _ hw1) (off2_eq hs he) fx hx g8 qxA) $$ [HxA H8 Hs14]
  · iframe HxA H8 Hs14
  iintro HF
  iapply (wp_idxIf d L a3 a9 w9 s15.sem c9 hI tk (k0_cond1 (BitVec.ofNat 32 s) (BitVec.ofNat 32 e) = 1#1) (0 + 1 < nch s e)
    (by rw [cond1_iff hs he, Nat.zero_add]) (ck s 1) (k0_off3 (BitVec.ofNat 32 s)) (fun h => k0_off3_inb _ _ hw2 h) (off3_eq hs he) fx hx qxB) $$ [HxB H9 Hs15]
  · iframe HxB H9 Hs15
  iintro HG
  iapply (wp_wait d L s14.sem (a3.slice (Rect.unit (s := S327808) (k0_off4 (BitVec.ofNat 32 s)) S128.size (k0_off4_inb _ hw1)) (fun _ => rfl)) a8 c8 _ O W) $$ [HF HO]
  · iframe Hmw HF HO
  iintro HD Hs14 HO
  unfold DI
  icases HD with ⟨%f8, %h8, H8, HxA⟩
  iapply (twp_pure d L)
  iapply HQ $$ []
  · ipureintro
    exact h8 trivial
  · iframe HxA H8 HG Hs14 HO

/-- The tile's upper bound is checked. -/
noncomputable def lastBound (L : grid0.Coords) (a3 : Memref sig .scVector .hbm S327808 .i32) (a7 : Memref sig .scVector .vmem S536 .i32) (a8 : Memref sig .scVector .vmem S128 .i32) (w8 : a8.IsWhole) (a9 : Memref sig .scVector .vmem S128 .i32) (w9 : a9.IsWhole) (s14 s15 : DmaSems sig S_) (v4 : Vec F S16 .i32) (v6 v9 : BitVec 32) (hw1 : k0_chk1 v6) : TProg F L (Words F) := do
  let h ← Prog.lift (TpuEff.assume (k0_chk2 v6 v9) (k0_chk2.dec v6 v9))
  firstCopies L a3 a7 a8 w8 a9 w9 s14 s15 v4 v6 v9 hw1 h.down

/-- The last offset is read, then the first tokens are copied. -/
noncomputable def lastOffset (L : grid0.Coords) (a3 : Memref sig .scVector .hbm S327808 .i32) (a7 : Memref sig .scVector .vmem S536 .i32) (a8 : Memref sig .scVector .vmem S128 .i32) (w8 : a8.IsWhole) (a9 : Memref sig .scVector .vmem S128 .i32) (w9 : a9.IsWhole) (s14 s15 : DmaSems sig S_) (v4 : Vec F S16 .i32) (v6 : BitVec 32) (hw1 : k0_chk1 v6) : TProg F L (Words F) := do
  let v7 ← Prog.lift (.load a7 (Rect.unit (s := S536) ![512] S16.size inb_S536_S16_512).toLoadRect (View.loadsAt_vmem h_S16))
  lastBound L a3 a7 a8 w8 a9 w9 s14 s15 v4 v6 (extractAt ![0] (k0_pay156 v7) inpos_S1_p0) hw1

/-- The tile's lower bound is checked first. -/
noncomputable def firstBound (L : grid0.Coords) (a3 : Memref sig .scVector .hbm S327808 .i32) (a7 : Memref sig .scVector .vmem S536 .i32) (a8 : Memref sig .scVector .vmem S128 .i32) (w8 : a8.IsWhole) (a9 : Memref sig .scVector .vmem S128 .i32) (w9 : a9.IsWhole) (s14 s15 : DmaSems sig S_) (v4 : Vec F S16 .i32) (v6 : BitVec 32) : TProg F L (Words F) := do
  let h ← Prog.lift (TpuEff.assume (k0_chk1 v6) (k0_chk1.dec v6))
  lastOffset L a3 a7 a8 w8 a9 w9 s14 s15 v4 v6 h.down

/-- The check of the upper bound passes. -/
theorem wp_lastBound (v4 : Vec F S16 .i32) {v6 v9 : BitVec 32} (hw1 : k0_chk1 v6) (hw2 : k0_chk2 v6 v9) {Q : Words F → sProp 𝕄} :
    twp d L (firstCopies L a3 a7 a8 w8 a9 w9 s14 s15 v4 v6 v9 hw1 hw2) Q ⊢ twp d L (lastBound L a3 a7 a8 w8 a9 w9 s14 s15 v4 v6 v9 hw1) Q :=
  wp_chk d L hw2 (fun h => firstCopies L a3 a7 a8 w8 a9 w9 s14 s15 v4 v6 v9 hw1 h.down)

/-- The last offset is read. -/
theorem wp_lastOffset (v4 : Vec F S16 .i32) {v6 : BitVec 32} (hw1 : k0_chk1 v6) (f7 : a7.view.ty.Contents (Elt F)) {Q : Words F → sProp 𝕄} :
    (a7.view.loc (V d (cV L) (jV L)) ↦{fullShare} f7 : sProp 𝕄)
      ⊢ iprop((∀ v7, ⌜v7 = a7.view.readAt (Elt F) (Rect.unit (s := S536) ![512] S16.size inb_S536_S16_512).toLoadRect f7⌝
          -∗ (a7.view.loc (V d (cV L) (jV L)) ↦{fullShare} f7) -∗ twp d L (lastBound L a3 a7 a8 w8 a9 w9 s14 s15 v4 v6 (extractAt ![0] (k0_pay156 v7) inpos_S1_p0) hw1) Q)
        -∗ twp d L (lastOffset L a3 a7 a8 w8 a9 w9 s14 s15 v4 v6 hw1) Q) := by
  unfold lastOffset
  iintro H Hk
  iapply (wp_ld d L a7) $$ H
  iintro %v7 %e7 H
  iapply Hk $$ [] H
  ipureintro
  exact e7

/-- The check of the lower bound passes. -/
theorem wp_lowerBound (v4 : Vec F S16 .i32) {v6 : BitVec 32} (hw1 : k0_chk1 v6) {Q : Words F → sProp 𝕄} :
    twp d L (lastOffset L a3 a7 a8 w8 a9 w9 s14 s15 v4 v6 hw1) Q ⊢ twp d L (firstBound L a3 a7 a8 w8 a9 w9 s14 s15 v4 v6) Q :=
  wp_chk d L hw1 (fun h => lastOffset L a3 a7 a8 w8 a9 w9 s14 s15 v4 v6 h.down)

/-- From the first bound on: the last offset, then the first tokens. -/
theorem wp_firstBound (v4 : Vec F S16 .i32) {X : ℕ → ℕ} (hs : X 0 ≤ X 512) (he : X 512 ≤ 327680) {f7 : a7.view.ty.Contents (Elt F)} (h7 : Offs X a7 f7)
    {NI : ℕ} (c8 : a8.view.dmaCredit = NI) (c9 : a9.view.dmaCredit = NI) (hI : 0 < NI)
    {tk : ℕ → ℕ} {fx : a3.view.ty.Contents (Elt F)} (hx : Toks tk a3 fx) (qxA qxB : PosShare TreeShare)
    (O : CellTallies nD τ sig (HIx 1)) (W : Waits sig (HIx 1)) {Q : Words F → sProp 𝕄} :
    iprop(Transfers.MayWaits (V d (cV L) (jV L)) (default : HIx 1) O
        ∗ (a3.view.loc (V d (cV L) (jV L)) ↦{qxA} fx) ∗ (a3.view.loc (V d (cV L) (jV L)) ↦{qxB} fx) ∗ (a7.view.loc (V d (cV L) (jV L)) ↦{fullShare} f7)
        ∗ (∃ f, (a8.view.loc (V d (cV L) (jV L)) ↦{fullShare} f)) ∗ (∃ f, (a9.view.loc (V d (cV L) (jV L)) ↦{fullShare} f))
        ∗ semVal ((V d (cV L) (jV L)), SemLoc.dma s14.sem) 0 ∗ semVal ((V d (cV L) (jV L)), SemLoc.dma s15.sem) 0 ∗ Ow d L O W)
      ⊢ iprop((∀ f8, ∀ hw2, ⌜Idxs tk a8 (ck (X 0) 0) f8⌝
          -∗ ((a3.view.loc (V d (cV L) (jV L)) ↦{qxA} fx) ∗ (a7.view.loc (V d (cV L) (jV L)) ↦{fullShare} f7) ∗ (a8.view.loc (V d (cV L) (jV L)) ↦{fullShare} f8)
            ∗ Fly d L (0 + 1 < nch (X 0) (X 512)) s15.sem NI (DI d L tk (0 + 1 < nch (X 0) (X 512)) (ck (X 0) (0 + 1)) a9 a3 qxB fx)
            ∗ semVal ((V d (cV L) (jV L)), SemLoc.dma s14.sem) 0 ∗ Ow d L O W)
          -∗ Q ⟨v4, BitVec.ofNat 32 (X 0), BitVec.ofNat 32 (X 512), hw2, Scalar.andi (BitVec.ofNat 32 (X 0)) 4294967288#32, BitVec.ofNat 32 (nch (X 0) (X 512))⟩)
        -∗ twp d L (firstBound L a3 a7 a8 w8 a9 w9 s14 s15 v4 (BitVec.ofNat 32 (X 0))) Q) := by
  iintro ⟨#Hmw, HxA, HxB, H7, H8, H9, Hs14, Hs15, HO⟩ HQ
  iapply (wp_lowerBound d L a3 a7 a8 w8 a9 w9 s14 s15 v4 (chk1 hs he))
  iapply (wp_lastOffset d L a3 a7 a8 w8 a9 w9 s14 s15 v4 (chk1 hs he) f7) $$ H7
  iintro %v7 %e7 H7
  have hv9 : extractAt ![0] (k0_pay156 v7) inpos_S1_p0 = BitVec.ofNat 32 (X 512) :=
    (lane_val v7 0 (by decide) slices_S16_o0_S1).trans ((congrFun e7 _).trans (offs_lane h7 inb_S536_S16_512 512 rfl _))
  rw [hv9]
  iapply (wp_lastBound d L a3 a7 a8 w8 a9 w9 s14 s15 v4 (chk1 hs he) (chk2 hs he))
  iapply (wp_firstCopies d L a3 a7 a8 w8 a9 w9 s14 s15 v4 (chk1 hs he) (chk2 hs he) hs he c8 c9 hI hx qxA qxB O W) $$ [HxA H8 HxB H9 Hs14 Hs15 HO]
  · iframe Hmw HxA HxB H8 H9 Hs14 Hs15 HO
  iintro %f8 %h8 ⟨HxA, H8, HG, Hs14, HO⟩
  iapply HQ $$ []
  · ipureintro
    exact h8
  · iframe HxA H7 H8 HG Hs14 HO

end Copies

variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

/-- What the tile reads: its offsets `X`, the tokens `tk`, the table `G` and the bias `b`, where the arrays hold them. -/
structure Given (X : ℕ → ℕ) (tk : ℕ → ℕ) (G : ℕ → ℕ → F .f32) (b : ℕ → F .f32) (fx : a3.view.ty.Contents (Elt F))
    (ft : a2.view.ty.Contents (Elt F)) (f4 : a4.view.ty.Contents (Elt F)) (f5 : a5.view.ty.Contents (Elt F)) : Prop where
  mono : Monotone X
  le : X 512 ≤ 327680
  lt : ∀ j, X j < 2 ^ 31
  tok : ∀ t, tk t < 100000
  hx : Toks tk a3 fx
  hT : Tab G a2 ft
  h4 : ∀ y : S536.Idx, (a4.slice (Rect.unit (s := S16408) (k0_off1 L) S536.size (k0_off1_inb L)) (fun _ => rfl)).view.read (Elt F) f4 y
    = BitVec.ofNat 32 (X (y 0).val)
  h5 : ∀ y : S64.Idx, a5.view.read (Elt F) f5 y = b (y 0).val

/-- The sizes of the copies. -/
structure Sizes (N7 N12 NI NG NO : ℕ) : Prop where
  h7 : 0 < N7
  h12 : 0 < N12
  hI : 0 < NI
  hO : 0 < NO
  c7 : a7.view.dmaCredit = N7
  c12 : a12.view.dmaCredit = N12
  c8 : a8.view.dmaCredit = NI
  c9 : a9.view.dmaCredit = NI
  c10 : a10.view.dmaCredit = NG
  c11 : a11.view.dmaCredit = NG
  g10 : ∀ h : S100000x128.Gathers 0 S128x128, ∑ j, (a10.slice (S128x128.rowRect h.axis' j) (S128x128.stride_rowRect h.axis' j)).view.dmaCredit = NG
  g11 : ∀ h : S100000x128.Gathers 0 S128x128, ∑ j, (a11.slice (S128x128.rowRect h.axis' j) (S128x128.stride_rowRect h.axis' j)).view.dmaCredit = NG
  cO : (a6.slice (Rect.unit (s := S16384x64) (k0_off157 L) S512x64.size (k0_off157_inb L)) (fun _ => rfl)).view.dmaCredit = NO

variable {X : ℕ → ℕ} {tk : ℕ → ℕ} {G : ℕ → ℕ → F .f32} {b : ℕ → F .f32} {fx : a3.view.ty.Contents (Elt F)}
  {ft : a2.view.ty.Contents (Elt F)} {f4 : a4.view.ty.Contents (Elt F)} {f5 : a5.view.ty.Contents (Elt F)} {N7 N12 NI NG NO : ℕ}
  (gv : Given L a2 a3 a4 a5 X tk G b fx ft f4 f5) (sz : Sizes L a6 a7 a8 a9 a10 a11 a12 N7 N12 NI NG NO)
  (qxA qxB q4 q5 : PosShare TreeShare) (O : CellTallies nD τ sig (HIx 1)) (W : Waits sig (HIx 1))

/-- The first part: two copies with their waits, and the steps above. -/
theorem part13_eq : k0_part13_skel (F := F) L a2 w2 a3 w3 a4 w4 a5 w5 a6 w6 a7 w7 a8 w8 a9 w9 a10 w10 a11 w11 a12 w12 a13 w13 s14 s15 s16 s17 r0 r1 r2 = (do
    Prog.lift (.enqueueDma (a4.slice (Rect.unit (s := S16408) (k0_off1 L) S536.size (k0_off1_inb L)) (fun _ => rfl)) (.here a7) (.dma r0.sem) (View.wordExact_bits rfl) w7.wordExact ⟨Or.inl rfl, trivial⟩)
    Prog.lift (.waitDma2 r0.sem (a4.slice (Rect.unit (s := S16408) (k0_off1 L) S536.size (k0_off1_inb L)) (fun _ => rfl)) a7 (View.wordExact_bits rfl) w7.wordExact)
    Prog.lift (.enqueueDma a5 (.here a12) (.dma r1.sem) w5.wordExact w12.wordExact ⟨Or.inl rfl, trivial⟩)
    Prog.lift (.waitDma2 r1.sem a5 a12 w5.wordExact w12.wordExact)
    let v4 ← Prog.lift (.load a7 (Rect.unit (s := S536) ![0] S16.size inb_S536_S16_0).toLoadRect (View.loadsAt_vmem h_S16))
    firstBound L a3 a7 a8 w8 a9 w9 s14 s15 v4 (extractAt ![0] (k0_pay155 v4) inpos_S1_p0)) := rfl

include gv sz in
/-- The offsets and the bias in, the first chunk's tokens in, the second's on their way. -/
theorem wp_part13 {Q : (Σ' (v4 : Vec F S16 .i32) (v6 : BitVec 32) (v9 : BitVec 32) (k0_hw2 : k0_chk2 v6 v9) (v11 : BitVec 32), BitVec 32) → sProp 𝕄} :
    iprop(Transfers.MayWaits (V d (cV L) (jV L)) (default : HIx 1) O
        ∗ ((a4.view.loc (V d (cV L) (jV L)) ↦{q4} f4) ∗ (a5.view.loc (V d (cV L) (jV L)) ↦{q5} f5) ∗ (a3.view.loc (V d (cV L) (jV L)) ↦{qxA} fx) ∗ (a3.view.loc (V d (cV L) (jV L)) ↦{qxB} fx)
          ∗ (∃ f, (a7.view.loc (V d (cV L) (jV L)) ↦{fullShare} f)) ∗ (∃ f, (a8.view.loc (V d (cV L) (jV L)) ↦{fullShare} f))
          ∗ (∃ f, (a9.view.loc (V d (cV L) (jV L)) ↦{fullShare} f)) ∗ (∃ f, (a12.view.loc (V d (cV L) (jV L)) ↦{fullShare} f))
          ∗ semVal ((V d (cV L) (jV L)), SemLoc.dma r0.sem) 0 ∗ semVal ((V d (cV L) (jV L)), SemLoc.dma r1.sem) 0
          ∗ semVal ((V d (cV L) (jV L)), SemLoc.dma s14.sem) 0 ∗ semVal ((V d (cV L) (jV L)), SemLoc.dma s15.sem) 0 ∗ Ow d L O W)
        ∗ (∀ v4 f7 f8 f12, ∀ hw2 : k0_chk2 (BitVec.ofNat 32 (X 0)) (BitVec.ofNat 32 (X 512)),
            ⌜(∀ y, v4 y = BitVec.ofNat 32 (X (0 + (y 0).val))) ∧ Offs X a7 f7 ∧ Idxs tk a8 (ck (X 0) 0) f8 ∧ Bias b a12 f12⌝
            -∗ ((a4.view.loc (V d (cV L) (jV L)) ↦{q4} f4) ∗ (a5.view.loc (V d (cV L) (jV L)) ↦{q5} f5) ∗ (a3.view.loc (V d (cV L) (jV L)) ↦{qxA} fx)
              ∗ (a7.view.loc (V d (cV L) (jV L)) ↦{fullShare} f7) ∗ (a8.view.loc (V d (cV L) (jV L)) ↦{fullShare} f8) ∗ (a12.view.loc (V d (cV L) (jV L)) ↦{fullShare} f12)
              ∗ Fly d L (0 + 1 < nch (X 0) (X 512)) s15.sem NI (DI d L tk (0 + 1 < nch (X 0) (X 512)) (ck (X 0) (0 + 1)) a9 a3 qxB fx)
              ∗ semVal ((V d (cV L) (jV L)), SemLoc.dma r0.sem) 0 ∗ semVal ((V d (cV L) (jV L)), SemLoc.dma r1.sem) 0
              ∗ semVal ((V d (cV L) (jV L)), SemLoc.dma s14.sem) 0 ∗ Ow d L O W)
            -∗ Q ⟨v4, BitVec.ofNat 32 (X 0), BitVec.ofNat 32 (X 512), hw2, Scalar.andi (BitVec.ofNat 32 (X 0)) 4294967288#32,
                BitVec.ofNat 32 (nch (X 0) (X 512))⟩))
      ⊢ twp d L (k0_part13 L a2 w2 a3 w3 a4 w4 a5 w5 a6 w6 a7 w7 a8 w8 a9 w9 a10 w10 a11 w11 a12 w12 a13 w13 s14 s15 s16 s17 r0 r1 r2) Q := by
  have hs : X 0 ≤ X 512 := gv.mono (Nat.zero_le 512)
  have he := gv.le
  simp only [k0_part13_eq_skeleton]
  rw [part13_eq]
  iintro ⟨#Hmw, ⟨H4, H5, HxA, HxB, ⟨%g7, H7⟩, ⟨%g8, H8⟩, H9, ⟨%g12, H12⟩, Hr0, Hr1, Hs14, Hs15, HO⟩, HQ⟩
  iapply (wp_dma d L (a4.slice (Rect.unit (s := S16408) (k0_off1 L) S536.size (k0_off1_inb L)) (fun _ => rfl)) a7 r0.sem sz.c7 sz.h7 q4 f4 g7 Finset.univ (Finset.subset_univ _)) $$ [H4 H7 Hr0]
  · iframe H4 H7 Hr0
  iintro HF
  iapply (wp_wait d L r0.sem (a4.slice (Rect.unit (s := S16408) (k0_off1 L) S536.size (k0_off1_inb L)) (fun _ => rfl)) a7 sz.c7 _ O W) $$ [HF HO]
  · iframe Hmw HF HO
  iintro ⟨H7, H4⟩ Hr0 HO
  iapply (wp_dma d L a5 a12 r1.sem sz.c12 sz.h12 q5 f5 g12 Finset.univ (Finset.subset_univ _)) $$ [H5 H12 Hr1]
  · iframe H5 H12 Hr1
  iintro HF
  iapply (wp_wait d L r1.sem a5 a12 sz.c12 _ O W) $$ [HF HO]
  · iframe Hmw HF HO
  iintro ⟨H12, H5⟩ Hr1 HO
  have h7 : Offs X a7 (a7.view.write (Elt F) g7 ((a4.slice (Rect.unit (s := S16408) (k0_off1 L) S536.size (k0_off1_inb L)) (fun _ => rfl)).view.read (Elt F) f4) Finset.univ) := fun y => by
    rw [View.read_write_univ]; exact gv.h4 y
  have h12 : Bias b a12 (a12.view.write (Elt F) g12 (a5.view.read (Elt F) f5) Finset.univ) := fun y => by
    rw [View.read_write_univ]; exact gv.h5 y
  iapply (wp_ld d L a7) $$ H7
  iintro %v4 %e4 H7
  have hv4 : ∀ y, v4 y = BitVec.ofNat 32 (X (0 + (y 0).val)) := fun y => (congrFun e4 y).trans (offs_lane h7 inb_S536_S16_0 0 rfl y)
  have hv6 : extractAt ![0] (k0_pay155 v4) inpos_S1_p0 = BitVec.ofNat 32 (X 0) :=
    (lane_val v4 0 (by decide) slices_S16_o0_S1).trans (hv4 _)
  clear e4
  rw [hv6]
  iapply (wp_firstBound d L a3 a7 a8 w8 a9 w9 s14 s15 v4 hs he h7 sz.c8 sz.c9 sz.hI gv.hx qxA qxB O W) $$ [HxA H7 H8 HxB H9 Hs14 Hs15 HO]
  · iframe Hmw HxA HxB H7 H9 Hs14 Hs15 HO
    iexists g8
    iexact H8
  iintro %f8 %hw2 %h8 ⟨HxA, H7, H8, HG, Hs14, HO⟩
  iapply HQ $$ []
  · ipureintro
    exact ⟨hv4, h7, h8, h12⟩
  · iframe H4 H5 HxA H7 H8 H12 HG Hr0 Hr1 Hs14 HO

end Cert.KernelIdeal.Bag

end

end
-- ==== Proof.KernelIdeal.Tile.lean ====
/-
One tile's whole run.
-/
module

public import proofs.«01_k».proof.Proof.KernelIdeal.Start

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

attribute [local irreducible] k0_cond1 k0_cond3 k0_cond4 k0_cond6 k0_cond7 nch

section

variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

/-- The tile's rows of the result. -/
abbrev outRows : Memref sig .scVector .hbm S512x64 .f32 :=
  a6.slice (Rect.unit (s := S16384x64) (k0_off157 L) S512x64.size (k0_off157_inb L)) (fun _ => rfl)

/-- The last copy: the tile's rows out. -/
noncomputable def finish : TProg F L PUnit := do
  Prog.lift (.enqueueDma a13 (.here (outRows L a6)) (.dma r2.sem) w13.wordExact (View.wordExact_bits rfl) ⟨Or.inl rfl, trivial⟩)
  Prog.lift (.waitDma2 r2.sem a13 (outRows L a6) w13.wordExact (View.wordExact_bits rfl))
  pure ⟨⟩

/-- The chunks' loops and the last copy. -/
noncomputable def chunks (v6 v9 : BitVec 32) (hw2 : k0_chk2 v6 v9) (v11 v15 v34 : BitVec 32) : TProg F L PUnit := do
  let a ← Scf.Loop.for (k0_t1_loop v6 v9) (k0_t1_ok v6 v9 hw2) (v6, 0#32, v34, k0_pay1 (F := F), k0_pay1 (F := F), k0_pay1 (F := F), k0_pay1 (F := F))
    (k0_t1_body L a2 w2 a3 w3 a4 w4 a5 w5 a6 w6 a7 w7 a8 w8 a9 w9 a10 w10 a11 w11 a12 w12 a13 w13 s14 s15 s16 s17 r0 r1 r2 v6 v9 hw2 v11 v15)
  let _ ← Scf.Loop.for (k0_t22_loop v6 v9) (k0_t22_ok v6 v9 hw2) a
    (k0_t22_body L a2 w2 a3 w3 a4 w4 a5 w5 a6 w6 a7 w7 a8 w8 a9 w9 a10 w10 a11 w11 a12 w12 a13 w13 s14 s15 s16 s17 r0 r1 r2 v6 v9 hw2 v11 v15 (Scalar.addi 0#32 (Scalar.muli (Scalar.divsi (Scalar.subi (Scalar.divsi (Scalar.addi v15 1#32) 2#32) 0#32) 1#32) 1#32)))
  finish L a6 a13 w13 r2

/-- The first gather, then the chunks. -/
noncomputable def gathered (w : Words F) : TProg F L PUnit := do
  SparseCore.enqueueIndirectGather rfl
    (a2.slice (Rect.unit (s := S100000x128) ![0, 0] S100000x128.size inb_S100000x128_S100000x128_0_0) (fun _ => rfl)) a10
    gathers_S100000x128_S128x128 a8 rfl s16.sem (View.wordExact_bits rfl) rfl (Or.inl rfl)
  chunks L a2 w2 a3 w3 a4 w4 a5 w5 a6 w6 a7 w7 a8 w8 a9 w9 a10 w10 a11 w11 a12 w12 a13 w13 s14 s15 s16 s17 r0 r1 r2 w.2.1 w.2.2.1 w.2.2.2.1 w.2.2.2.2.1 w.2.2.2.2.2 (extractAt ![0] (k0_pay2 w.1) inpos_S1_p0)

set_option maxRecDepth 65536 in
/-- A tile's program in these steps. -/
theorem body_eq : cc0__bag_body (F := F) L a2 w2 a3 w3 a4 w4 a5 w5 a6 w6 a7 w7 a8 w8 a9 w9 a10 w10 a11 w11 a12 w12 a13 w13 s14 s15 s16 s17 r0 r1 r2 = (k0_part13 L a2 w2 a3 w3 a4 w4 a5 w5 a6 w6 a7 w7 a8 w8 a9 w9 a10 w10 a11 w11 a12 w12 a13 w13 s14 s15 s16 s17 r0 r1 r2 >>= gathered L a2 w2 a3 w3 a4 w4 a5 w5 a6 w6 a7 w7 a8 w8 a9 w9 a10 w10 a11 w11 a12 w12 a13 w13 s14 s15 s16 s17 r0 r1 r2) := by
  rw [cc0__bag_body_eq_skeleton]
  rfl

end

section

variable (d : Dev nD) (L : grid0.Coords)
  (a2 : Memref sig .scVector .hbm S100000x128 .f32) (w2 : a2.IsWhole) (a3 : Memref sig .scVector .hbm S327808 .i32) (w3 : a3.IsWhole)
  (a4 : Memref sig .scVector .hbm S16408 .i32) (w4 : a4.IsWhole) (a5 : Memref sig .scVector .hbm S64 .f32) (w5 : a5.IsWhole)
  (a6 : Memref sig .scVector .hbm S16384x64 .f32) (w6 : a6.IsWhole) (a7 : Memref sig .scVector .vmem S536 .i32) (w7 : a7.IsWhole)
  (a8 : Memref sig .scVector .vmem S128 .i32) (w8 : a8.IsWhole) (a9 : Memref sig .scVector .vmem S128 .i32) (w9 : a9.IsWhole)
  (a10 : Memref sig .scVector .vmem S128x128 .f32) (w10 : a10.IsWhole) (a11 : Memref sig .scVector .vmem S128x128 .f32) (w11 : a11.IsWhole)
  (a12 : Memref sig .scVector .vmem S64 .f32) (w12 : a12.IsWhole) (a13 : Memref sig .scVector .vmem S512x64 .f32) (w13 : a13.IsWhole)
  (s14 s15 s16 s17 r0 r1 r2 : DmaSems sig S_)

variable {X : ℕ → ℕ} {tk : ℕ → ℕ} {G : ℕ → ℕ → F .f32} {b : ℕ → F .f32} {fx : a3.view.ty.Contents (Elt F)}
  {ft : a2.view.ty.Contents (Elt F)} {f7 : a7.view.ty.Contents (Elt F)} {f12 : a12.view.ty.Contents (Elt F)} {NI NG NO : ℕ}
  (qxA qxB qtA qtB : PosShare TreeShare) (O : CellTallies nD τ sig (HIx 1)) (W : Waits sig (HIx 1))

/-- The rows out. -/
theorem wp_finish (hO : 0 < NO) (cO : (outRows L a6).view.dmaCredit = NO) (f13 : a13.view.ty.Contents (Elt F)) (f6 : (outRows L a6).view.ty.Contents (Elt F))
    {Q : PUnit → sProp 𝕄} :
    iprop(Transfers.MayWaits (V d (cV L) (jV L)) (default : HIx 1) O ∗ (a13.view.loc (V d (cV L) (jV L)) ↦{fullShare} f13)
        ∗ ((outRows L a6).view.loc (V d (cV L) (jV L)) ↦[(outRows L a6).view.set]{fullShare} f6) ∗ semVal ((V d (cV L) (jV L)), SemLoc.dma r2.sem) 0 ∗ Ow d L O W)
      ⊢ iprop(((a13.view.loc (V d (cV L) (jV L)) ↦{fullShare} f13)
          ∗ ((outRows L a6).view.loc (V d (cV L) (jV L)) ↦[(outRows L a6).view.set]{fullShare} ((outRows L a6).view.write (Elt F) f6 (a13.view.read (Elt F) f13) Finset.univ))
          ∗ semVal ((V d (cV L) (jV L)), SemLoc.dma r2.sem) 0 ∗ Ow d L O W -∗ Q ⟨⟩) -∗ twp d L (finish (F := F) L a6 a13 w13 r2) Q) := by
  unfold finish
  iintro ⟨#Hmw, H13, H6, Hr2, HO⟩ HQ
  iapply (wp_dma d L a13 (outRows L a6) r2.sem cO hO fullShare f13 f6 (outRows L a6).view.set (Finset.Subset.refl _)) $$ [H13 H6 Hr2]
  · iframe H13 H6 Hr2
  iintro HF
  iapply (wp_wait d L r2.sem a13 (outRows L a6) cO _ O W) $$ [HF HO]
  · iframe Hmw HF HO
  iintro ⟨H6, H13⟩ Hr2 HO
  iapply (twp_pure d L)
  iapply HQ
  iframe H13 H6 Hr2 HO

/-- Before the first chunk nothing is summed. -/
theorem st_zero (hs : X 0 ≤ X 512) : ((BitVec.ofNat 32 (X 0), 0#32, BitVec.ofNat 32 (X 1), k0_pay1, k0_pay1, k0_pay1, k0_pay1) : St F)
    = st X (fun t l => G (tk t) l) (Tc X (2 * 0)) (Cc X (2 * 0)) := by
  have h8 : X 0 / 8 * 8 ≤ X 0 := Nat.div_mul_le_self _ 8
  have hT : Tc X (2 * 0) = X 0 := by unfold Tc ck; omega
  have hC : Cc X (2 * 0) = 0 := rfl
  have hz : ∀ R : ℕ → ℕ → F .f32, ∀ g, acc R (X 0) (X 0) g = k0_pay1 := by
    intro R g; unfold acc; rw [Nat.sub_self]; rfl
  unfold st
  rw [hT, hC, hz, hz, hz, hz]

variable (fix : Fixed a2 a3 a7 a8 a9 a10 a11 a12 X tk G b fx ft f7 f12 NI NG)

include fix in
/-- The chunks' loops and the rows out. -/
theorem wp_chunks (hO : 0 < NO) (cO : (outRows L a6).view.dmaCredit = NO) (hw2) (f6 : (outRows L a6).view.ty.Contents (Elt F)) {Q : PUnit → sProp 𝕄} :
    iprop(Transfers.MayWaits (V d (cV L) (jV L)) (default : HIx 1) O
        ∗ Start d L a2 a3 a7 a8 a9 a10 a11 a12 a13 s14 s15 s16 s17 X tk G b fx ft f7 f12 NI NG qxA qxB qtA qtB O W (2 * 0)
        ∗ ((outRows L a6).view.loc (V d (cV L) (jV L)) ↦[(outRows L a6).view.set]{fullShare} f6) ∗ semVal ((V d (cV L) (jV L)), SemLoc.dma r2.sem) 0)
      ⊢ iprop((∀ c, ∀ f13, ⌜nch (X 0) (X 512) ≤ c ∧ Done X (fun t l => G (tk t) l) b a13 512 f13⌝
          -∗ (Start d L a2 a3 a7 a8 a9 a10 a11 a12 a13 s14 s15 s16 s17 X tk G b fx ft f7 f12 NI NG qxA qxB qtA qtB O W c
            ∗ ((outRows L a6).view.loc (V d (cV L) (jV L)) ↦[(outRows L a6).view.set]{fullShare} ((outRows L a6).view.write (Elt F) f6 (a13.view.read (Elt F) f13) Finset.univ))
            ∗ semVal ((V d (cV L) (jV L)), SemLoc.dma r2.sem) 0) -∗ Q ⟨⟩)
        -∗ twp d L (chunks L a2 w2 a3 w3 a4 w4 a5 w5 a6 w6 a7 w7 a8 w8 a9 w9 a10 w10 a11 w11 a12 w12 a13 w13 s14 s15 s16 s17 r0 r1 r2 (BitVec.ofNat 32 (X 0)) (BitVec.ofNat 32 (X 512)) hw2 (Scalar.andi (BitVec.ofNat 32 (X 0)) 4294967288#32)
            (BitVec.ofNat 32 (nch (X 0) (X 512))) (BitVec.ofNat 32 (X 1))) Q) := by
  have hs := fix_le a2 a3 a7 a8 a9 a10 a11 a12 fix
  have he := fix.le
  have htr := t1_trips hs he
  unfold chunks
  rw [st_zero (X := X) (tk := tk) (G := G) hs]
  iintro ⟨#Hmw, HS, H6, Hr2⟩ HQ
  iapply (Scf.wp_for_bind frame (wpE (defs₀ (F := F)) 𝒱₀ (V d (cV L) (jV L)) none) Set.univ (k0_t1_loop (BitVec.ofNat 32 (X 0)) (BitVec.ofNat 32 (X 512))).lb
    (k0_t1_loop (BitVec.ofNat 32 (X 0)) (BitVec.ofNat 32 (X 512))).ub (k0_t1_loop (BitVec.ofNat 32 (X 0)) (BitVec.ofNat 32 (X 512))).st
    (k0_t1_ok _ _ hw2) _ _
    (fun k a => iprop(⌜a = st X (fun t l => G (tk t) l) (Tc X (2 * k)) (Cc X (2 * k))⌝ ∗ Transfers.MayWaits (V d (cV L) (jV L)) (default : HIx 1) O
      ∗ Start d L a2 a3 a7 a8 a9 a10 a11 a12 a13 s14 s15 s16 s17 X tk G b fx ft f7 f12 NI NG qxA qxB qtA qtB O W (2 * k))) ?_) $$ [HS]
  · intro k a
    iintro ⟨%ha, #Hmw, HS⟩
    subst ha
    iapply (wp_pair d L a2 w2 a3 w3 a4 w4 a5 w5 a6 w6 a7 w7 a8 w8 a9 w9 a10 w10 a11 w11 a12 w12 a13 w13 s14 s15 s16 s17 r0 r1 r2 fix k qxA qxB qtA qtB O W hw2)
    iframe Hmw HS
    rw [show 2 * (k.val + 1) = 2 * k.val + 2 from by omega]
    iintro HS
    isplitr
    · ipureintro; rfl
    · iexact HS
  · isplitr
    · ipureintro; rfl
    · iframe Hmw HS
  iintro %a ⟨%ha, -, HS⟩
  iapply (wp_none d L _ (k0_t22_ok _ _ hw2) (t22_trips hs he))
  generalize hc : 2 * Scf.trips (k0_t1_loop (BitVec.ofNat 32 (X 0)) (BitVec.ofNat 32 (X 512))).lb
    (k0_t1_loop (BitVec.ofNat 32 (X 0)) (BitVec.ofNat 32 (X 512))).ub (k0_t1_loop (BitVec.ofNat 32 (X 0)) (BitVec.ofNat 32 (X 512))).st = c
  have hn : nch (X 0) (X 512) ≤ c := by
    have : 2 * (k0_t1_loop (BitVec.ofNat 32 (X 0)) (BitVec.ofNat 32 (X 512))).trips = c := hc
    omega
  clear hc ha
  unfold Start
  icases HS with ⟨S1, S2, S3, S4, S5, S6, S7, S8, S9, ⟨%f13, %hd, H13⟩, HO⟩
  have hd' : Done X (fun t l => G (tk t) l) b a13 512 f13 := by
    have := (chunk_end fix.mono hn).2
    rwa [this] at hd
  iapply (wp_finish d L a6 a13 w13 r2 O W hO cO f13 f6) $$ [H13 H6 Hr2 HO]
  · iframe Hmw H13 H6 Hr2 HO
  iintro ⟨H13, H6, Hr2, HO⟩
  iapply HQ $$ []
  · ipureintro
    exact ⟨hn, hd'⟩
  · iframe S1 S2 S3 S4 S5 S6 S7 S8 S9 HO H6 Hr2
    iexists f13
    iframe H13
    ipureintro
    exact hd

/-- The tile's scratch: its buffers with any contents, its semaphores at zero. -/
def Scratch : sProp 𝕄 :=
  iprop((∃ f, (a7.view.loc (V d (cV L) (jV L)) ↦{fullShare} f)) ∗ (∃ f, (a8.view.loc (V d (cV L) (jV L)) ↦{fullShare} f)) ∗ (∃ f, (a9.view.loc (V d (cV L) (jV L)) ↦{fullShare} f))
    ∗ (∃ f, (a10.view.loc (V d (cV L) (jV L)) ↦{fullShare} f)) ∗ (∃ f, (a11.view.loc (V d (cV L) (jV L)) ↦{fullShare} f)) ∗ (∃ f, (a12.view.loc (V d (cV L) (jV L)) ↦{fullShare} f))
    ∗ (∃ f, (a13.view.loc (V d (cV L) (jV L)) ↦{fullShare} f))
    ∗ semVal ((V d (cV L) (jV L)), SemLoc.dma s14.sem) 0 ∗ semVal ((V d (cV L) (jV L)), SemLoc.dma s15.sem) 0 ∗ semVal ((V d (cV L) (jV L)), SemLoc.dma s16.sem) 0
    ∗ semVal ((V d (cV L) (jV L)), SemLoc.dma s17.sem) 0 ∗ semVal ((V d (cV L) (jV L)), SemLoc.dma r0.sem) 0 ∗ semVal ((V d (cV L) (jV L)), SemLoc.dma r1.sem) 0
    ∗ semVal ((V d (cV L) (jV L)), SemLoc.dma r2.sem) 0)

variable {f4 : a4.view.ty.Contents (Elt F)} {f5 : a5.view.ty.Contents (Elt F)} {N7 N12 : ℕ} (q4 q5 : PosShare TreeShare)
  (gv : Given L a2 a3 a4 a5 X tk G b fx ft f4 f5) (sz : Sizes L a6 a7 a8 a9 a10 a11 a12 N7 N12 NI NG NO)

/-- What the tile reads: the offsets, the bias, and two shares each of the tokens and the table. -/
def Reads (fx : a3.view.ty.Contents (Elt F)) (ft : a2.view.ty.Contents (Elt F)) (f4 : a4.view.ty.Contents (Elt F)) (f5 : a5.view.ty.Contents (Elt F)) : sProp 𝕄 :=
  iprop((a4.view.loc (V d (cV L) (jV L)) ↦{q4} f4) ∗ (a5.view.loc (V d (cV L) (jV L)) ↦{q5} f5) ∗ (a3.view.loc (V d (cV L) (jV L)) ↦{qxA} fx) ∗ (a3.view.loc (V d (cV L) (jV L)) ↦{qxB} fx)
    ∗ (a2.view.loc (V d (cV L) (jV L)) ↦{qtA} ft) ∗ (a2.view.loc (V d (cV L) (jV L)) ↦{qtB} ft))

include gv sz in
/-- A tile's run: its rows are its bags' values. -/
theorem wp_body (f6 : (outRows L a6).view.ty.Contents (Elt F)) :
    iprop(Transfers.MayWaits (V d (cV L) (jV L)) (default : HIx 1) O ∗ Reads d L a2 a3 a4 a5 qxA qxB qtA qtB q4 q5 fx ft f4 f5
        ∗ ((outRows L a6).view.loc (V d (cV L) (jV L)) ↦[(outRows L a6).view.set]{fullShare} f6) ∗ Scratch (F := F) d L a7 a8 a9 a10 a11 a12 a13 s14 s15 s16 s17 r0 r1 r2 ∗ Ow d L O W)
      ⊢ twp d L (cc0__bag_body (F := F) L a2 w2 a3 w3 a4 w4 a5 w5 a6 w6 a7 w7 a8 w8 a9 w9 a10 w10 a11 w11 a12 w12 a13 w13 s14 s15 s16 s17 r0 r1 r2) (fun _ => iprop(Reads d L a2 a3 a4 a5 qxA qxB qtA qtB q4 q5 fx ft f4 f5
        ∗ (∃ f, ⌜∀ y, (outRows L a6).view.read (Elt F) f y = bagval (fun t l => G (tk t) l) b (X (y 0).val) (X ((y 0).val + 1)) (y 1).val⌝
            ∗ ((outRows L a6).view.loc (V d (cV L) (jV L)) ↦[(outRows L a6).view.set]{fullShare} f))
        ∗ Scratch (F := F) d L a7 a8 a9 a10 a11 a12 a13 s14 s15 s16 s17 r0 r1 r2 ∗ Ow d L O W)) := by
  have hn : 1 ≤ nch (X 0) (X 512) := by unfold nch; exact le_max_right _ _
  rw [body_eq]
  unfold Reads Scratch
  iintro ⟨#Hmw, ⟨H4, H5, HxA, HxB, HtA, HtB⟩, H6, ⟨H7, H8, H9, ⟨%g10, H10⟩, H11, H12, ⟨%g13, H13⟩, Hs14, Hs15, Hs16, Hs17, Hr0, Hr1, Hr2⟩, HO⟩
  iapply (twp_bind d L (k0_part13 L a2 w2 a3 w3 a4 w4 a5 w5 a6 w6 a7 w7 a8 w8 a9 w9 a10 w10 a11 w11 a12 w12 a13 w13 s14 s15 s16 s17 r0 r1 r2) (gathered L a2 w2 a3 w3 a4 w4 a5 w5 a6 w6 a7 w7 a8 w8 a9 w9 a10 w10 a11 w11 a12 w12 a13 w13 s14 s15 s16 s17 r0 r1 r2))
  iapply (wp_part13 d L a2 w2 a3 w3 a4 w4 a5 w5 a6 w6 a7 w7 a8 w8 a9 w9 a10 w10 a11 w11 a12 w12 a13 w13 s14 s15 s16 s17 r0 r1 r2 gv sz qxA qxB q4 q5 O W)
  iframe Hmw H4 H5 HxA HxB H7 H8 H9 H12 Hr0 Hr1 Hs14 Hs15 HO
  iintro %v4 %f7 %f8 %f12 %hw2 %h ⟨H4, H5, HxA, H7, H8, H12, HF, Hr0, Hr1, Hs14, HO⟩
  obtain ⟨hv4, h7, h8, h12⟩ := h
  have fix : Fixed a2 a3 a7 a8 a9 a10 a11 a12 X tk G b fx ft f7 f12 NI NG :=
    ⟨gv.mono, gv.le, gv.lt, gv.tok, gv.hx, gv.hT, h7, h12, sz.hI, sz.c8, sz.c9, sz.c10, sz.c11, sz.g10, sz.g11⟩
  have hv34 : extractAt ![0] (k0_pay2 v4) inpos_S1_p0 = BitVec.ofNat 32 (X 1) :=
    (lane_val v4 1 (by decide) slices_S16_o1_S1).trans (hv4 _)
  unfold gathered
  rw [hv34]
  iapply (wp_gather d L a2 a10 a8 s16.sem sz.g10 tk gv.tok G (0 < nch (X 0) (X 512)) (ck (X 0) 0) ![0, 0] inb_S100000x128_S100000x128_0_0 rfl ft gv.hT f8 h8 g10 qtA
    (hp := rfl) (hn := rfl) (hs := View.wordExact_bits rfl) (he := rfl) (hsp := Or.inl rfl)) $$ [HtA H10 H8 Hs16]
  · iframe HtA H10 H8 Hs16
  iintro HG
  iapply (wp_chunks d L a2 w2 a3 w3 a4 w4 a5 w5 a6 w6 a7 w7 a8 w8 a9 w9 a10 w10 a11 w11 a12 w12 a13 w13 s14 s15 s16 s17 r0 r1 r2 qxA qxB qtA qtB O W fix sz.hO sz.cO hw2 f6) $$ [HG HF H11 Hs17 HtB Hs14 HxA H7 H12 H13 HO H6 Hr2]
  · iframe Hmw H6 Hr2
    unfold Start
    rw [show 2 * 0 = 0 from rfl, fly_pos d L (show 0 < nch (X 0) (X 512) by omega)]
    iframe HG HF H11 Hs17 HtB Hs14 HxA H7 H12 HO
    iexists g13
    iframe H13
    ipureintro
    intro y hy
    exact absurd hy (Nat.not_lt_zero _)
  iintro %c %f13 %hc ⟨HS, H6, Hr2⟩
  unfold Start
  rw [fly_neg d L (show ¬ c < nch (X 0) (X 512) by omega), fly_neg d L (show ¬ c + 1 < nch (X 0) (X 512) by omega)]
  unfold DG DI
  icases HS with ⟨⟨⟨%x10, -, H10, H8, HtA⟩, Hs16⟩, ⟨⟨%x9, -, H9, HxB⟩, Hs15⟩, H11, Hs17, HtB, Hs14, HxA, H7, H12, ⟨%x13, -, H13⟩, HO⟩
  iframe H4 H5 HxA HxB HtA HtB Hs14 Hs15 Hs16 Hs17 Hr0 Hr1 Hr2 HO H8 H11
  isplitl [H6]
  · iexists _
    iframe H6
    ipureintro
    intro y
    rw [View.read_write_univ]
    exact hc.2 y (y 0).isLt
  isplitl [H7]
  · iexists f7; iexact H7
  isplitl [H9]
  · iexists x9; iexact H9
  isplitl [H10]
  · iexists x10; iexact H10
  isplitl [H12]
  · iexists f12; iexact H12
  · iexists x13; iexact H13

end

end Cert.KernelIdeal.Bag

end

end
-- ==== Proof.KernelIdeal.Place.lean ====
/-
The call's operands, and what a tile finds in them.
-/
module

public import proofs.«01_k».proof.Proof.KernelIdeal.Tile
public import proofs.«01_k».proof.Proof.Global
public import Idealize.ShloMosaic.Lib.KernelVsHost

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tokens as the call takes them: 128 zeros behind them. -/
def padTok (xt : S327680.Idx → BitVec 32) : S327808.Idx → BitVec 32 :=
  concatenate S327808 0 [⟨S327680, xt⟩, ⟨S128, broadcastInDim S128 ![] bcast_S_S128 (constantI S_ 32 0#32)⟩] concatenates_S327680_S128_S327808_d0

/-- The offsets as the call takes them: the number of tokens 24 times behind them. -/
def padOff (xo : S16384.Idx → BitVec 32) : S16408.Idx → BitVec 32 :=
  concatenate S16408 0 [⟨S16384, xo⟩, ⟨S24, broadcastInDim S24 ![] bcast_S_S24 (constantI S_ 32 327680#32)⟩] concatenates_S16384_S24_S16408_d0

/-- The table as the call takes it: 64 lanes beside its own. -/
def padTab (tab : S100000x64.Idx → F .f32) : S100000x128.Idx → F .f32 :=
  pad S100000x128 ![0, 0] ![0, 64] ![0, 0] tab (sitofp .f32 (constantI S_ 32 0#32)) pads_S100000x64_S100000x128_000_0640 h_S_

theorem padTok_apply (xt : S327680.Idx → BitVec 32) (y : S327808.Idx) : padTok xt y = BitVec.ofNat 32 (tg xt (y 0).val) := by
  unfold padTok tg
  by_cases h : (y 0).val < 327680
  · rw [dif_pos h]
    refine (concatenate_pair_apply_left (s₁ := S327680) (s₂ := S128) 0 xt _ _ y rfl (at1 (y 0).val h) fun b => ?_).trans ?_
    · match b with | 0 => rfl
    · simp
  · rw [dif_neg h]
    have hy : (y 0).val < 327808 := (y 0).isLt
    exact (concatenate_pair_apply_right (s₁ := S327680) (s₂ := S128) 0 xt _ _ y rfl rfl (at1 ((y 0).val - 327680) (by omega))
      (fun b hb => by match b with | 0 => exact absurd rfl hb) (by show (y 0).val - 327680 + 327680 = (y 0).val; omega))

theorem padOff_apply (xo : S16384.Idx → BitVec 32) (y : S16408.Idx) : padOff xo y = BitVec.ofNat 32 (xg xo (y 0).val) := by
  unfold padOff xg
  by_cases h : (y 0).val < 16384
  · rw [dif_pos h]
    refine (concatenate_pair_apply_left (s₁ := S16384) (s₂ := S24) 0 xo _ _ y rfl (at1 (y 0).val h) fun b => ?_).trans ?_
    · match b with | 0 => rfl
    · simp
  · rw [dif_neg h]
    have hy : (y 0).val < 16408 := (y 0).isLt
    exact (concatenate_pair_apply_right (s₁ := S16384) (s₂ := S24) 0 xo _ _ y rfl rfl (at1 ((y 0).val - 16384) (by omega))
      (fun b hb => by match b with | 0 => exact absurd rfl hb) (by show (y 0).val - 16384 + 16384 = (y 0).val; omega))

theorem padTab_apply (tab : S100000x64.Idx → F .f32) (y : S100000x128.Idx) (h : (y 1).val < 64) : padTab tab y = gg tab (y 0).val (y 1).val := by
  have h0 : (y 0).val < 100000 := (y 0).isLt
  unfold padTab gg
  exact pad_apply_of_inside _ _ _ _ _ _ _ y _ fun a => by
    match a with
    | 0 => show (y 0).val = 0 + min (y 0).val 99999 * (0 + 1); omega
    | 1 => show (y 1).val = 0 + min (y 1).val 63 * (0 + 1); omega

variable {xt : S327680.Idx → BitVec 32} {xo : S16384.Idx → BitVec 32} {tab : S100000x64.Idx → F .f32} {b1 : S64.Idx → F .f32}

/-- The first bag of tile `L`. -/
abbrev base (L : grid0.Coords) : ℕ := 8192 * (L 0).val + 512 * (L 1).val

/-- What tile `L` finds in the call's operands. -/
theorem given (L : grid0.Coords) (h : InRange xt xo) :
    Given (F := F) L (Memref.whole main_v0_scv) (Memref.whole main_v2_scv) (Memref.whole main_v4_scv) (Memref.whole main_arg3_scv)
      (fun j => xg xo (base L + j)) (tg xt) (gg tab) (bg b1) (padTok xt) (padTab tab) (padOff xo) b1 where
  mono i j hij := xg_mono h (Nat.add_le_add_left hij _)
  le := xg_le h _
  lt j := lt_of_le_of_lt (xg_le h _) (by decide)
  tok := tg_lt h
  hx y := by
    simp only [Memref.view_whole, View.read_whole]
    exact padTok_apply xt y
  hT y hy := by
    simp only [Memref.view_whole, View.read_whole]
    exact padTab_apply tab y hy
  h4 y := by
    refine (padOff_apply xo _).trans (congrArg (fun k => BitVec.ofNat 32 (xg xo k)) ?_)
    show k0_off1 L 0 + 1 * (y 0).val = base L + (y 0).val
    rw [k0_off1_eq, Nat.one_mul]
    rfl
  h5 y := by
    simp only [Memref.view_whole, View.read_whole]
    have : (y 0).val < 64 := (y 0).isLt
    unfold bg
    refine congrArg b1 (funext fun a => ?_)
    match a with
    | 0 => exact Fin.ext (show (y 0).val = min (y 0).val 63 by omega)

/-- The sizes of tile `L`'s copies. -/
theorem sizes (L : grid0.Coords) :
    Sizes L (Memref.whole main_v5_scv) (Memref.whole cc0_scratch0) (Memref.whole cc0_scratch1) (Memref.whole cc0_scratch2)
      (Memref.whole cc0_scratch3) (Memref.whole cc0_scratch4) (Memref.whole cc0_scratch5)
      (Memref.whole cc0_scratch0).view.dmaCredit (Memref.whole cc0_scratch5).view.dmaCredit (Memref.whole cc0_scratch1).view.dmaCredit
      (Memref.whole cc0_scratch3).view.dmaCredit (Memref.whole cc0_scratch6).view.dmaCredit where
  h7 := by decide
  h12 := by decide
  hI := by decide
  hO := by decide
  c7 := rfl
  c12 := rfl
  c8 := rfl
  c9 := rfl
  c10 := rfl
  c11 := rfl
  g10 := by decide
  g11 := by decide
  cO := rfl

/-- The result's rows of the tile number `n`. -/
def rowSet (n : ℕ) : Finset S16384x64.Idx := Finset.univ.filter fun y => (y 0).val / 512 = n

/-- The number of tile `L`. -/
abbrev num (L : grid0.Coords) : ℕ := 16 * (L 0).val + (L 1).val

theorem rows_disjoint : ∀ i ∈ (Finset.univ : Finset (Fin 32)), ∀ j ∈ (Finset.univ : Finset (Fin 32)), i ≠ j → Disjoint (rowSet i.val) (rowSet j.val) := by
  intro i _ j _ hij
  rw [Finset.disjoint_left]
  intro y hi hj
  simp only [rowSet, Finset.mem_filter] at hi hj
  exact hij (Fin.ext (hi.2.symm.trans hj.2))

theorem rows_cover : ((Finset.univ : Finset (Fin 32)).biUnion fun i => rowSet i.val) = Finset.univ := by
  ext y
  have h : (y 0).val < 16384 := (y 0).isLt
  simp only [Finset.mem_biUnion, Finset.mem_univ, true_and, iff_true, rowSet, Finset.mem_filter]
  exact ⟨⟨(y 0).val / 512, by omega⟩, rfl⟩

theorem outRows_set (L : grid0.Coords) : (outRows L (Memref.whole main_v5_scv)).view.set = rowSet (num L) := by
  show ((View.whole (main_v5_scv : Ref sig .scVector)).slice (Rect.unit (s := S16384x64) (k0_off157 L) S512x64.size (k0_off157_inb L))).set = _
  rw [View.set_slice]
  refine Finset.map_refl.trans ?_
  ext y
  rw [Rect.mem_set_unit, k0_off157_eq]
  have h0 : (L 0).val < 2 := (L 0).isLt
  have h1 : (L 1).val < 16 := (L 1).isLt
  have hl : (y 1).val < 64 := (y 1).isLt
  simp only [rowSet, Finset.mem_filter, Finset.mem_univ, true_and]
  constructor
  · intro h
    have h := h 0
    change 8192 * (L 0).val + 512 * (L 1).val ≤ (y 0).val ∧ (y 0).val < 8192 * (L 0).val + 512 * (L 1).val + 512 at h
    show (y 0).val / 512 = 16 * (L 0).val + (L 1).val
    omega
  · intro h a
    have h : (y 0).val / 512 = 16 * (L 0).val + (L 1).val := h
    match a with
    | 0 => show 8192 * (L 0).val + 512 * (L 1).val ≤ (y 0).val ∧ (y 0).val < 8192 * (L 0).val + 512 * (L 1).val + 512; omega
    | 1 => show 0 ≤ (y 1).val ∧ (y 1).val < 0 + 64; omega

/-- What the tile's rows hold when every one of them is its bag's value. -/
theorem outRows_eq (L : grid0.Coords) (f : (Memref.whole main_v5_scv : Memref sig .scVector .hbm S16384x64 .f32).view.ty.Contents (Elt F))
    (h : ∀ y, (outRows L (Memref.whole main_v5_scv)).view.read (Elt F) f y
      = bagval (fun t l => gg tab (tg xt t) l) (bg b1) (xg xo (base L + (y 0).val)) (xg xo (base L + ((y 0).val + 1))) (y 1).val) :
    ∀ i ∈ rowSet (num L), f i = bags xt xo tab b1 i := by
  intro i hi
  have h0 : (L 0).val < 2 := (L 0).isLt
  have h1 : (L 1).val < 16 := (L 1).isLt
  simp only [rowSet, Finset.mem_filter, Finset.mem_univ, true_and] at hi
  have hi : (i 0).val / 512 = 16 * (L 0).val + (L 1).val := hi
  have hl : (i 1).val < 64 := (i 1).isLt
  have hb : base L = 8192 * (L 0).val + 512 * (L 1).val := rfl
  have hy := h (at2 ((i 0).val - base L) (i 1).val (by omega) hl)
  have he : (outRows L (Memref.whole main_v5_scv)).view.emb (at2 ((i 0).val - base L) (i 1).val (by omega) hl) = i := by
    funext a
    match a with
    | 0 =>
      refine Fin.ext ?_
      show k0_off157 L 0 + 1 * ((i 0).val - base L) = (i 0).val
      rw [k0_off157_eq]
      show base L + 1 * ((i 0).val - base L) = (i 0).val
      omega
    | 1 =>
      refine Fin.ext ?_
      show k0_off157 L 1 + 1 * (i 1).val = (i 1).val
      rw [k0_off157_eq]
      show 0 + 1 * (i 1).val = (i 1).val
      omega
  rw [View.read_apply, he] at hy
  have e1 : base L + ((i 0).val - base L) = (i 0).val := by omega
  have hy : f i = bagval (fun t l => gg tab (tg xt t) l) (bg b1) (xg xo (base L + ((i 0).val - base L)))
      (xg xo (base L + ((i 0).val - base L + 1))) (i 1).val := hy
  rw [hy, ← Nat.add_assoc, e1]
  rfl

end Cert.KernelIdeal.Bag

end

end
-- ==== Proof.KernelIdeal.Split.lean ====
/-
A tile's scratch among what its thread owns, and the arrays dealt over the tiles.
-/
module

public import proofs.«01_k».proof.Proof.KernelIdeal.Place

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A family over a set, split at the image of another. -/
theorem own_split {I J : Type} [DecidableEq I] [DecidableEq J] (e : J → I) (he : Function.Injective e) (t : Finset J) (s : Finset I)
    (h : ∀ j ∈ t, e j ∈ s) (Φ : I → sProp 𝕄) :
    bigSep s Φ = iprop((bigSep t fun j => Φ (e j)) ∗ bigSep (s \ t.image e) Φ) := by
  have hs : t.image e ⊆ s := by
    intro i hi
    obtain ⟨j, hj, rfl⟩ := Finset.mem_image.mp hi
    exact h j hj
  rw [SparseCore.bigSep_sdiff_split' hs, SparseCore.bigSep_image_of_injOn he.injOn]

section Own

variable (d : Dev nD) (L : grid0.Coords)

/-- The tile's semaphores. -/
def semSet : Finset (SemLoc sig) :=
  {.dma cc0_scratch7.sem, .dma cc0_scratch8.sem, .dma cc0_scratch9.sem, .dma cc0_scratch10.sem, .dma cc0_scoped0.sem, .dma cc0_scoped1.sem, .dma cc0_scoped2.sem}

/-- The tile's buffers. -/
def refSet : Finset (Ref sig .scVector) :=
  {cc0_scratch0, cc0_scratch1, cc0_scratch2, cc0_scratch3, cc0_scratch4, cc0_scratch5, cc0_scratch6}

/-- The thread's other semaphores. -/
def semRest : sProp 𝕄 := bigSep (ownCells (V d (cV L) (jV L)) \ semSet.image fun s => ((V d (cV L) (jV L)), s)) fun g => semVal g 0

/-- The thread's other buffers. -/
def refRest : sProp 𝕄 :=
  bigSep (ownRefs (τ := τ) (.scVector (cV L) (jV L)) \ refSet.image (Proc.scVector (cV L) (jV L)).devRef) fun b => iprop(∃ f, ((d, b) : Loc nD τ sig) ↦{fullShare} f)

theorem sems_split : (ownSems0 (V d (cV L) (jV L)) : sProp 𝕄) = iprop((bigSep semSet fun s => semVal ((V d (cV L) (jV L)), s) 0) ∗ semRest (F := F) d L) := by
  unfold SparseCore.Cfg.ownSems0 semRest
  refine own_split (fun s => ((V d (cV L) (jV L)), s)) (fun s s' h => (Prod.mk.inj h).2) semSet _ (fun s hs => mem_ownCells.mpr ⟨rfl, ?_⟩) _
  show s.isScoped .scVector = true
  revert s
  decide

theorem bufs_split : (ownBufs (V d (cV L) (jV L)) : sProp 𝕄)
    = iprop((bigSep refSet fun b => iprop(∃ f, ((V d (cV L) (jV L)).loc b) ↦{fullShare} f)) ∗ refRest (F := F) d L) := by
  unfold SparseCore.Cfg.ownBufs refRest
  refine own_split (Proc.scVector (cV L) (jV L)).devRef (Proc.devRef_injective _) refSet _ (fun b hb => SparseCore.Cfg.mem_ownRefs_of_owner ?_) _
  simp only [refSet, Finset.mem_insert, Finset.mem_singleton] at hb
  rcases hb with rfl | rfl | rfl | rfl | rfl | rfl | rfl <;> rfl

/-- The tile's scratch, in the words of its run. -/
abbrev Scr : sProp 𝕄 :=
  Scratch (F := F) d L (Memref.whole cc0_scratch0) (Memref.whole cc0_scratch1) (Memref.whole cc0_scratch2) (Memref.whole cc0_scratch3)
    (Memref.whole cc0_scratch4) (Memref.whole cc0_scratch5) (Memref.whole cc0_scratch6) cc0_scratch7 cc0_scratch8 cc0_scratch9 cc0_scratch10
    cc0_scoped0 cc0_scoped1 cc0_scoped2

theorem scr_eq : (Scr (F := F) d L : sProp 𝕄)
    = iprop((bigSep refSet fun b => iprop(∃ f, ((V d (cV L) (jV L)).loc b) ↦{fullShare} f)) ∗ bigSep semSet fun s => semVal ((V d (cV L) (jV L)), s) 0) := by
  unfold Scr Scratch refSet semSet
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  refine BI.Entails.antisymm (show (_ : sProp 𝕄) ⊢ _ from ?_) (show (_ : sProp 𝕄) ⊢ _ from ?_)
  · iintro ⟨H1, H2, H3, H4, H5, H6, H7, H8⟩
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    · iexact H8
  · iintro ⟨⟨H1, H2, H3, H4, H5, H6, H7⟩, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Own

/-! ## The arrays over the tiles -/

/-- The share of tile number `n`. -/
def sh (n : ℕ) : PosShare TreeShare := if h : n < 32 then pieceOf fullShare 32 (by decide) ⟨n, h⟩ else fullShare

theorem pts_shares {ℓ : Loc nD τ sig} (f : Buf (Elt F) ℓ) :
    (ℓ ↦{fullShare} f : sProp 𝕄) = bigSep Finset.univ fun k : Fin 32 => ℓ ↦{sh k.val} f := by
  rw [pointsTo_piecesOf Finset.univ f (show 0 < 32 by decide) fullShare]
  refine bigSep_congr fun k _ => ?_
  rw [show sh k.val = pieceOf fullShare 32 (by decide) k from dif_pos k.isLt]

theorem pts_halves {ℓ : Loc nD τ sig} (f : Buf (Elt F) ℓ) (q : PosShare TreeShare) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

theorem bigSep_tiles (Φ : ℕ → sProp 𝕄) :
    (bigSep Finset.univ fun k : Fin 32 => Φ k.val)
      = bigSep Finset.univ fun c : Fin 2 => bigSep Finset.univ fun i : Fin 16 => Φ (16 * c.val + i.val) := by
  rw [bigSep_univ_equiv (finProdFinEquiv (m := 2) (n := 16)), bigSep_univ_prod]
  refine bigSep_congr fun c _ => bigSep_congr fun i _ => congrArg Φ ?_
  rw [finProdFinEquiv_apply_val]
  exact Nat.add_comm _ _

section Deal

variable (m : (ℓ : Loc nD τ sig) → Buf (Elt F) ℓ) (d : Dev nD)

/-- The TensorCore's name of a buffer. -/
abbrev tloc (b : Ref sig .tc) : Loc nD τ sig := (SparseCore.T d).loc b

abbrev mTok : S327680.Idx → BitVec 32 := m (tloc d main_arg0)
abbrev mOff : S16384.Idx → BitVec 32 := m (tloc d main_arg1)
abbrev mTab : S100000x64.Idx → F .f32 := m (tloc d main_arg2)
abbrev mBias : S64.Idx → F .f32 := m (tloc d main_arg3)

theorem pts_rows (f : Buf (Elt F) (tloc d main_v5)) :
    (tloc d main_v5 ↦{fullShare} f : sProp 𝕄) = bigSep Finset.univ fun k : Fin 32 => tloc d main_v5 ↦[rowSet k.val]{fullShare} f := by
  rw [← pointsTo_biUnion Finset.univ (ℓ := tloc d main_v5) (fun k : Fin 32 => rowSet k.val) rows_disjoint, rows_cover]
  try rfl

/-- What tile number `n` holds of the arrays, its rows of the result at `o`. -/
def Hold (n : ℕ) (o : Buf (Elt F) (tloc d main_v5)) : sProp 𝕄 :=
  iprop((tloc d main_v4 ↦{sh n} padOff (mOff m d)) ∗ (tloc d main_arg3 ↦{sh n} m (tloc d main_arg3)) ∗ (tloc d main_v2 ↦{sh n} padTok (mTok m d))
    ∗ (tloc d main_v0 ↦{sh n} padTab (mTab m d)) ∗ tloc d main_v5 ↦[rowSet n]{fullShare} o)

/-- The arrays whole, the result at `o`. -/
def Whole (o : Buf (Elt F) (tloc d main_v5)) : sProp 𝕄 :=
  iprop((tloc d main_v4 ↦{fullShare} padOff (mOff m d)) ∗ (tloc d main_arg3 ↦{fullShare} m (tloc d main_arg3)) ∗ (tloc d main_v2 ↦{fullShare} padTok (mTok m d))
    ∗ (tloc d main_v0 ↦{fullShare} padTab (mTab m d)) ∗ tloc d main_v5 ↦{fullShare} o)

theorem whole_eq (o : Buf (Elt F) (tloc d main_v5)) :
    (Whole m d o : sProp 𝕄) = bigSep Finset.univ fun c : Fin 2 => bigSep Finset.univ fun i : Fin 16 => Hold m d (16 * c.val + i.val) o := by
  rw [← bigSep_tiles (fun n => Hold m d n o)]
  unfold Whole Hold
  rw [bigSep_sep', bigSep_sep', bigSep_sep', bigSep_sep', ← pts_shares, ← pts_shares, ← pts_shares, ← pts_shares, ← pts_rows]

end Deal

end Cert.KernelIdeal.Bag

end

end
-- ==== Proof.KernelIdeal.Launch.lean ====
/-
The call of the bags' kernel, and the program around it: the launch.
-/
module

public import proofs.«01_k».proof.Proof.KernelIdeal.Split

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch takes it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

variable (m : (ℓ : Loc nD τ sig) → Buf (Elt F) ℓ) (ρ : Dev nD → PrngReg)

/-- The result. -/
def res (d : Dev nD) : Buf (Elt F) (tloc d main_v5) := bags (F := F) (mTok m d) (mOff m d) (mTab m d) (mBias m d)

/-- A core is handed what its tiles hold. -/
def P : (K (F := F)).Pay (nD := nD) (Val := Elt F) (Name := ℕ) (U := UU) where
  st := fun q d c => bigSep Finset.univ fun i : Fin ((K (F := F)).nSub q) => Hold m d (16 * c.val + i.val) (m (tloc d main_v5))
  dn := fun q d c => bigSep Finset.univ fun i : Fin ((K (F := F)).nSub q) => Hold m d (16 * c.val + i.val) (res m d)
  go := fun _ d c i => Hold m d (16 * c.val + i.val) (m (tloc d main_v5))
  td := fun _ d c i => Hold m d (16 * c.val + i.val) (res m d)
  x := fun _ _ => iprop(emp)

instance hold_storable (d : Dev nD) (n : ℕ) (o : Buf (Elt F) (tloc d main_v5)) : BI.Storable (upEmb : UEmb _ 𝕄) (Hold m d n o) := by
  unfold Hold
  infer_instance

instance P_storable : (P (F := F) m).IsStorable where
  st q d c := (inferInstance : BI.Storable (upEmb : UEmb _ 𝕄) (bigSep Finset.univ fun i : Fin ((K (F := F)).nSub q) => Hold m d (16 * c.val + i.val) (m (tloc d main_v5))))
  dn q d c := (inferInstance : BI.Storable (upEmb : UEmb _ 𝕄) (bigSep Finset.univ fun i : Fin ((K (F := F)).nSub q) => Hold m d (16 * c.val + i.val) (res m d)))
  go q d c i := hold_storable m d _ _
  td q d c i := hold_storable m d _ _

/-- What the run asks of the launch memory. -/
def PreOK : Prop := ∀ d : Dev nD, InRange (mTok m d) (mOff m d)

/-! ## The task -/

section Tile

variable (d : Dev nD) (L : grid0.Coords)

/-- The kernel on tile `L`, at the call's operands. -/
def tileBody : TProg F L PUnit :=
  cc0__bag_body L (Memref.whole main_v0_scv) (Memref.isWhole_whole _) (Memref.whole main_v2_scv) (Memref.isWhole_whole _) (Memref.whole main_v4_scv) (Memref.isWhole_whole _)
    (Memref.whole main_arg3_scv) (Memref.isWhole_whole _) (Memref.whole main_v5_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scoped0 cc0_scoped1 cc0_scoped2

/-- What the tile reads, out of what it holds. -/
abbrev Rd (n : ℕ) : sProp 𝕄 :=
  Reads (F := F) d L (Memref.whole main_v0_scv) (Memref.whole main_v2_scv) (Memref.whole main_v4_scv) (Memref.whole main_arg3_scv)
    (sh n).left (sh n).right (sh n).left (sh n).right (sh n) (sh n) (padTok (mTok m d)) (padTab (mTab m d)) (padOff (mOff m d)) (mBias m d)

theorem hold_eq (n : ℕ) (o : Buf (Elt F) (tloc d main_v5)) :
    (Hold m d n o : sProp 𝕄) = iprop(Rd m d L n ∗ tloc d main_v5 ↦[rowSet n]{fullShare} o) := by
  unfold Hold Rd Reads
  rw [pts_halves (ℓ := tloc d main_v2) (padTok (mTok m d)) (sh n), pts_halves (ℓ := tloc d main_v0) (padTab (mTab m d)) (sh n)]
  refine BI.Entails.antisymm (show (_ : sProp 𝕄) ⊢ _ from ?_) (show (_ : sProp 𝕄) ⊢ _ from ?_)
  · iintro ⟨H1, H2, ⟨H3, H4⟩, ⟨H5, H6⟩, H7⟩
    isplitr [H7]
    · isplitl [H1]; · iexact H1
      isplitl [H2]; · iexact H2
      isplitl [H3]; · iexact H3
      isplitl [H4]; · iexact H4
      isplitl [H5]; · iexact H5
      iexact H6
    · iexact H7
  · iintro ⟨⟨H1, H2, H3, H4, H5, H6⟩, H7⟩
    isplitl [H1]; · iexact H1
    isplitl [H2]; · iexact H2
    isplitl [H3 H4]
    · isplitl [H3]; · iexact H3
      iexact H4
    isplitl [H5 H6]
    · isplitl [H5]; · iexact H5
      iexact H6
    iexact H7

/-- The task on tile `L`: it leaves its rows of the result. -/
theorem tile_run (hF : (K (F := F)).Facts) (hpre : PreOK m) (O : CellTallies nD τ sig (HIx 1)) (W : Waits sig (HIx 1)) (hO : ∀ g, O g none = 0) :
    iprop(levAts (K (F := F)).L (K (F := F)).lev ∗ emp ∗ Hold m d (num L) (m (tloc d main_v5))
        ∗ scopedBufs (V d (cV L) (jV L)) ∗ scopedSems0 (V d (cV L) (jV L)) ∗ owes (V d (cV L) (jV L)) O W)
      ⊢ twp d L (tileBody (F := F) L) fun _ => iprop(Hold m d (num L) (res m d) ∗ scopedBufs (V d (cV L) (jV L)) ∗ scopedSems0 (V d (cV L) (jV L))
          ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), sems_split, bufs_split,
    hold_eq m d L, hold_eq m d L]
  iintro ⟨#Hlv, -, ⟨HR, H5⟩, ⟨Hbufs, Hbr⟩, ⟨Hsems, Hsr⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hscr := (Entails.of_eq (scr_eq (F := F) d L).symm) $$ [Hbufs Hsems]
  · isplitl [Hbufs]; · iexact Hbufs
    iexact Hsems
  have hset := outRows_set L
  unfold tileBody
  iapply (wp_wand_r frame (wpE (defs₀ (F := F)) 𝒱₀ (V d (cV L) (jV L)) none) Set.univ)
  isplitr [Hbr Hsr]
  · iapply (wp_body d L (Memref.whole main_v0_scv) (Memref.isWhole_whole _) (Memref.whole main_v2_scv) (Memref.isWhole_whole _) (Memref.whole main_v4_scv) (Memref.isWhole_whole _)
      (Memref.whole main_arg3_scv) (Memref.isWhole_whole _) (Memref.whole main_v5_scv) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      cc0_scratch7 cc0_scratch8 cc0_scratch9 cc0_scratch10 cc0_scoped0 cc0_scoped1 cc0_scoped2
      (sh (num L)).left (sh (num L)).right (sh (num L)).left (sh (num L)).right O W (sh (num L)) (sh (num L))
      (given L (hpre d)) (sizes L) (m (tloc d main_v5)))
    isplitl [Hmw]; · iexact Hmw
    isplitl [HR]; · iexact HR
    isplitl [H5]
    · rw [hset]
      iexact H5
    isplitl [Hscr]; · iexact Hscr
    unfold Ow
    iexists W
    isplitr
    · ipureintro
      exact fun p hp => .inl hp
    · iexact HO
  · iintro %u ⟨HR, ⟨%f, %hf, H5⟩, Hscr, HO⟩
    ihave Hs := (Entails.of_eq (scr_eq (F := F) d L)) $$ Hscr
    icases Hs with ⟨Hbufs, Hsems⟩
    isplitl [HR H5]
    · isplitl [HR]; · iexact HR
      have hr : ∀ i ∈ rowSet (num L), f i = res m d i := outRows_eq L f hf
      iapply (Entails.of_eq (pointsTo_congr (ℓ := tloc d main_v5) (q := fullShare) hr))
      rw [← hset]
      iexact H5
    isplitl [Hbufs Hbr]
    · isplitl [Hbufs]; · iexact Hbufs
      iexact Hbr
    isplitl [Hsems Hsr]
    · isplitl [Hsems]; · iexact Hsems
      iexact Hsr
    unfold Ow
    iexact HO

/-- A tile's coordinates. -/
def tileAt (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileBody (tileAt c s)) ⟨⟩ c s := rfl

theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro
    exact fun p hp => (hW' p hp).imp_right Or.inl
  · iexact HO

attribute [local irreducible] tileBody Hold res in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have h := tile_run m d (tileAt ⟨_, hci.1⟩ ⟨_, hci.2⟩) hF hpre O W hO
  rw [show num (tileAt ⟨_, hci.1⟩ ⟨_, hci.2⟩) = 16 * c.val + i.val from rfl] at h
  refine BI.Entails.trans h ?_
  refine wp_mono frame _ _ ?_
  intro u
  exact own_waits

end Tile

theorem vecSplit : (K (F := F)).VecSplit' (P m) 0 := by
  intro d c
  show (bigSep Finset.univ fun i : Fin ((K (F := F)).nSub 0) => Hold m d (16 * c.val + i.val) (m (tloc d main_v5))) ⊢ |={Set.univ}=> iprop(
    (bigSep Finset.univ fun i : Fin ((K (F := F)).nSub 0) => Hold m d (16 * c.val + i.val) (m (tloc d main_v5)))
      ∗ ((bigSep Finset.univ fun i : Fin ((K (F := F)).nSub 0) => Hold m d (16 * c.val + i.val) (res m d))
          -∗ bigSep Finset.univ fun i : Fin ((K (F := F)).nSub 0) => Hold m d (16 * c.val + i.val) (res m d)))
  iintro H
  imodintro
  isplitl [H]
  · iexact H
  · iintro H
    iexact H

/-! ## The launch's ghost state -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none, bigSep_none]
  isplitr <;> iempintro

end Cert.KernelIdeal.Bag

end

end
-- ==== Proof.KernelIdeal.Host.lean ====
/-
The operations of the program before its call, and what they leave.
-/
module

public import proofs.«01_k».proof.Proof.KernelIdeal.Launch

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations before the call -/

abbrev dref (b : Ref sig .tc) : DevRef τ sig := Proc.devRef .tc b

/-- The operations that make the call's operands. -/
def hostOps : List (HloOp τ sig (Elt F)) :=
  [StableHlo.nullary main_c (constantI S_ 32 0#32),
    StableHlo.TRef.unary (.of main_c : StableHlo.TRef sig ⟨S_, .i32⟩) main_call0.v0 (sitofp .f32),
    StableHlo.TRef.binary (.of main_arg2 : StableHlo.TRef sig ⟨S100000x64, .f32⟩) main_call0.v0 main_call0.v1
      (fun x v => pad S100000x128 ![0, 0] ![0, 64] ![0, 0] x v pads_S100000x64_S100000x128_000_0640 h_S_),
    StableHlo.nullary main_c_0 (constantI S_ 32 0#32),
    StableHlo.unary main_c_0 main_v1 (broadcastInDim S128 ![] bcast_S_S128 : (⟨S_, .i32⟩ : BufTy).Contents (Elt F) → (⟨S128, .i32⟩ : BufTy).Contents (Elt F)),
    StableHlo.binary main_arg0 main_v1 main_v2 ((fun a b => concatenate S327808 0 [⟨S327680, a⟩, ⟨S128, b⟩] concatenates_S327680_S128_S327808_d0) : (⟨S327680, .i32⟩ : BufTy).Contents (Elt F) → (⟨S128, .i32⟩ : BufTy).Contents (Elt F) → (⟨S327808, .i32⟩ : BufTy).Contents (Elt F)),
    StableHlo.nullary main_c_1 (constantI S_ 32 327680#32),
    StableHlo.unary main_c_1 main_v3 (broadcastInDim S24 ![] bcast_S_S24 : (⟨S_, .i32⟩ : BufTy).Contents (Elt F) → (⟨S24, .i32⟩ : BufTy).Contents (Elt F)),
    StableHlo.binary main_arg1 main_v3 main_v4 ((fun a b => concatenate S16408 0 [⟨S16384, a⟩, ⟨S24, b⟩] concatenates_S16384_S24_S16408_d0) : (⟨S16384, .i32⟩ : BufTy).Contents (Elt F) → (⟨S24, .i32⟩ : BufTy).Contents (Elt F) → (⟨S16408, .i32⟩ : BufTy).Contents (Elt F))]

theorem main_eq (d : Dev nD) : main (F := F) d = (StableHlo.seq hostOps >>= fun _ => (sc (F := F)).run d 0 >>= fun _ => pure ⟨⟩) := rfl

/-- The arrays of the program. -/
def arrs : Finset (Ref sig .tc) :=
  {main_arg0, main_arg1, main_arg2, main_arg3, main_v0, main_v2, main_v4, main_v5, main_c, main_call0_v0, main_c_0, main_v1, main_c_1, main_v3}

/-- The launch's contents. -/
def V0 (d : Dev nD) : Valuation τ sig (Elt F) := fun b => m (d, b)

open StableHlo (held after)

theorem held_arrs (d : Dev nD) (W : Valuation τ sig (Elt F)) :
    (held (T d) (arrs.image dref) W : sProp 𝕄) = bigSep arrs fun b => (tloc d b) ↦{fullShare} W (dref b) := by
  unfold StableHlo.held
  exact SparseCore.bigSep_image_of_injOn (f := dref) (fun _ _ _ _ h => Proc.devRef_injective _ h) _

theorem unscoped_held (d : Dev nD) : (unscopedBufs d (fun b => m (tloc d b)) : sProp 𝕄) = held (T d) (arrs.image dref) (V0 m d) := by
  rw [held_arrs]
  unfold unscopedBufs
  rw [show (Finset.univ.filter fun b : Ref sig .tc => ¬ b.isScoped) = arrs by decide]
  rfl

theorem after_v0 (d : Dev nD) : after (hostOps (F := F)) (V0 m d) (dref main_v0) = padTab (mTab m d) := by
  unfold hostOps
  after_results
  rfl
theorem after_v2 (d : Dev nD) : after (hostOps (F := F)) (V0 m d) (dref main_v2) = padTok (mTok m d) := by
  unfold hostOps
  after_results
  rfl
theorem after_v4 (d : Dev nD) : after (hostOps (F := F)) (V0 m d) (dref main_v4) = padOff (mOff m d) := by
  unfold hostOps
  after_results
  rfl

theorem after_kept (d : Dev nD) (b : Ref sig .tc) (hb : b ∉ [main_c, main_call0_v0, main_v0, main_c_0, main_v1, main_v2, main_c_1, main_v3, main_v4]) :
    after (hostOps (F := F)) (V0 m d) (dref b) = m (tloc d b) :=
  StableHlo.after_of_writes_sub (W := [main_c, main_call0_v0, main_v0, main_c_0, main_v1, main_v2, main_c_1, main_v3, main_v4]) hostOps (V0 m d) (StableHlo.forall_writes_sub_of_map rfl) hb

theorem bufs_sub : ∀ op ∈ hostOps (F := F), op.bufs ⊆ arrs.image dref :=
  List.forall_iff_forall_mem.mp (show List.Forall (fun op : HloOp τ sig (Elt F) => op.bufs ⊆ arrs.image dref) hostOps from
    ⟨show ({dref main_c} : Finset (DevRef τ sig)) ⊆ arrs.image dref by decide,
      show ({dref main_c, dref main_call0_v0} : Finset (DevRef τ sig)) ⊆ arrs.image dref by decide,
      show ({dref main_arg2, dref main_call0_v0, dref main_v0} : Finset (DevRef τ sig)) ⊆ arrs.image dref by decide,
      show ({dref main_c_0} : Finset (DevRef τ sig)) ⊆ arrs.image dref by decide,
      show ({dref main_c_0, dref main_v1} : Finset (DevRef τ sig)) ⊆ arrs.image dref by decide,
      show ({dref main_arg0, dref main_v1, dref main_v2} : Finset (DevRef τ sig)) ⊆ arrs.image dref by decide,
      show ({dref main_c_1} : Finset (DevRef τ sig)) ⊆ arrs.image dref by decide,
      show ({dref main_c_1, dref main_v3} : Finset (DevRef τ sig)) ⊆ arrs.image dref by decide,
      show ({dref main_arg1, dref main_v3, dref main_v4} : Finset (DevRef τ sig)) ⊆ arrs.image dref by decide⟩)

theorem none_fresh : ∀ op ∈ hostOps (F := F), op.fresh = ∅ :=
  List.forall_iff_forall_mem.mp (show List.Forall (fun op : HloOp τ sig (Elt F) => op.fresh = ∅) hostOps from
    ⟨rfl, rfl, rfl, rfl, rfl, rfl, rfl, rfl, rfl⟩)

end Cert.KernelIdeal.Bag

end

end
-- ==== Proof.KernelIdeal.Run.lean ====
/-
The run of the whole program.
-/
module

public import proofs.«01_k».proof.Proof.KernelIdeal.Host

@[expose] public section

set_option maxRecDepth 16384

noncomputable section

namespace Cert.KernelIdeal.Bag

open Cert.KernelIdeal Cert.KernelIdeal.Gen Cert.Proof.Bag

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open StableHlo (held after)

variable (m : (ℓ : Loc nD τ sig) → Buf (Elt F) ℓ) (ρ : Dev nD → PrngReg)

/-- What is left beside the arguments and the result. -/
def FIN (d : Dev nD) : sProp 𝕄 :=
  iprop((tloc d main_arg0 ↦{fullShare} m (tloc d main_arg0)) ∗ (tloc d main_arg1 ↦{fullShare} m (tloc d main_arg1))
    ∗ (tloc d main_arg2 ↦{fullShare} m (tloc d main_arg2)) ∗ (tloc d main_arg3 ↦{fullShare} m (tloc d main_arg3))
    ∗ tloc d main_v5 ↦{fullShare} res m d)

/-- The arrays that the call and the claim read, the rest aside. -/
def others : Finset (Ref sig .tc) := {main_c, main_call0_v0, main_c_0, main_v1, main_c_1, main_v3}

theorem held_after (d : Dev nD) : (held (T d) (arrs.image dref) (after hostOps (V0 m d)) : sProp 𝕄) =
    iprop((tloc d main_arg0 ↦{fullShare} m (tloc d main_arg0)) ∗ (tloc d main_arg1 ↦{fullShare} m (tloc d main_arg1))
      ∗ (tloc d main_arg2 ↦{fullShare} m (tloc d main_arg2)) ∗ (tloc d main_arg3 ↦{fullShare} m (tloc d main_arg3))
      ∗ (tloc d main_v0 ↦{fullShare} padTab (mTab m d)) ∗ (tloc d main_v2 ↦{fullShare} padTok (mTok m d))
      ∗ (tloc d main_v4 ↦{fullShare} padOff (mOff m d)) ∗ (tloc d main_v5 ↦{fullShare} m (tloc d main_v5))
      ∗ bigSep others fun b => (tloc d b) ↦{fullShare} after (hostOps (F := F)) (V0 m d) (dref b)) := by
  rw [held_arrs]
  unfold arrs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide)]
  rw [after_v0, after_v2, after_v4, after_kept m d main_arg0 (by decide), after_kept m d main_arg1 (by decide), after_kept m d main_arg2 (by decide),
    after_kept m d main_arg3 (by decide), after_kept m d main_v5 (by decide)]
  rfl

theorem begun (d : Dev nD) : (bigSep Finset.univ fun c : Fin ((K (F := F)).nCore 0) => (P (F := F) m).st 0 d c) = Whole m d (m (tloc d main_v5)) :=
  (whole_eq m d (m (tloc d main_v5))).symm
theorem ended (d : Dev nD) : (bigSep Finset.univ fun c : Fin ((K (F := F)).nCore 0) => (P (F := F) m).dn 0 d c) = Whole m d (res m d) :=
  (whole_eq m d (res m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (arrs.image dref) (fun _ => (sc (F := F)).run d 0 >>= fun _ => pure ⟨⟩) (hostOps (F := F))
    bufs_sub none_fresh (V0 m d)) $$ [Hb Hheld]
  · isplitl [Hb]; · iexact Hb
    iexact Hheld
  iintro ⟨Hb, Hheld⟩
  ihave Hh := (Entails.of_eq (held_after m d)) $$ Hheld
  icases Hh with ⟨H0, H1, H2, H3, Hv0, Hv2, Hv4, Hv5, -⟩
  simp only [wp_bind, wp_pure]
  iapply ((K (F := F)).wp_run (D (F := F)) 𝒱 (EH := EH) (P := P m) κ d 0) $$ [Hst H3 Hv0 Hv2 Hv4 Hv5 H0 H1 H2 Hb Hts]
  isplitr; · iexact Hctx
  isplitl [Hst]; · iexact Hst
  isplitl [H3 Hv0 Hv2 Hv4 Hv5]
  · iapply (Entails.of_eq (begun m d).symm)
    unfold Whole
    iframe H3 Hv0 Hv2 Hv4 Hv5
  iintro ⟨Hst, Hdn⟩
  ihave Hw := (Entails.of_eq (ended m d)) $$ Hdn
  unfold Whole
  icases Hw with ⟨-, H3, -, -, Hv5⟩
  imodintro
  isplitl [Hst]; · iexact Hst
  isplitr [Hb Hts]
  · unfold FIN
    iframe H0 H1 H2 H3 Hv5
  isplitl [Hb] <;> iassumption

/-! ## The run -/

/-- What memory holds at the end of the run. -/
def Left (d : Dev nD) (s : MemSt nD τ sig (Elt F)) : Prop :=
  s.mem (tloc d main_v5) = res m d ∧ s.mem (tloc d main_arg0) = m (tloc d main_arg0) ∧ s.mem (tloc d main_arg1) = m (tloc d main_arg1)
    ∧ s.mem (tloc d main_arg2) = m (tloc d main_arg2) ∧ s.mem (tloc d main_arg3) = m (tloc d main_arg3)

theorem hfin (d : Dev nD) (s' : Phys nD τ sig (Elt F)) : iprop(FIN m d ∗ SI s') ⊢ (⌜Left m d s'.mem⌝ : sProp 𝕄) := by
  unfold FIN Left
  iintro ⟨⟨H0, H1, H2, H3, H5⟩, HSI⟩
  ihave H := (persistent_entails_right (SI_pointsTo_agree (st := s') (ℓ := tloc d main_arg0) (I := Finset.univ) (q := fullShare) (f := m (tloc d main_arg0)))) $$ [HSI H0]
  · isplitl [HSI] <;> iassumption
  icases H with ⟨%h0, HSI, -⟩
  ihave H := (persistent_entails_right (SI_pointsTo_agree (st := s') (ℓ := tloc d main_arg1) (I := Finset.univ) (q := fullShare) (f := m (tloc d main_arg1)))) $$ [HSI H1]
  · isplitl [HSI] <;> iassumption
  icases H with ⟨%h1, HSI, -⟩
  ihave H := (persistent_entails_right (SI_pointsTo_agree (st := s') (ℓ := tloc d main_arg2) (I := Finset.univ) (q := fullShare) (f := m (tloc d main_arg2)))) $$ [HSI H2]
  · isplitl [HSI] <;> iassumption
  icases H with ⟨%h2, HSI, -⟩
  ihave H := (persistent_entails_right (SI_pointsTo_agree (st := s') (ℓ := tloc d main_arg3) (I := Finset.univ) (q := fullShare) (f := m (tloc d main_arg3)))) $$ [HSI H3]
  · isplitl [HSI] <;> iassumption
  icases H with ⟨%h3, HSI, -⟩
  ihave H := (SI_pointsTo_agree (st := s') (ℓ := tloc d main_v5) (I := Finset.univ) (q := fullShare) (f := res m d)) $$ [HSI H5]
  · isplitl [HSI] <;> iassumption
  icases H with %h5
  ipureintro
  exact ⟨funext fun i => h5 i (Finset.mem_univ i), funext fun i => h0 i (Finset.mem_univ i), funext fun i => h1 i (Finset.mem_univ i),
    funext fun i => h2 i (Finset.mem_univ i), funext fun i => h3 i (Finset.mem_univ i)⟩

/-- The whole program's run: the result is every bag's value, the arguments are unchanged. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, Left m d r.2) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Left m d s'.mem) (hfin m)
    _ (fun _ h hz => ⟨h, hz⟩)

end Cert.KernelIdeal.Bag

end

end
-- ==== Proof.Landing.lean ====
/-
  Sums over the updates that land at one place of a row scatter, and over runs of consecutive tokens.
-/
module

public import proofs.«01_k».proof.Proof.Global
public import Idealize.ShloMosaic.Lib.Routing.Ops
public import Idealize.ShloMosaic.PureOps.Ideal

@[expose] public section

noncomputable section

namespace Cert.Proof.Bag

open Idealize.ShloMosaic Idealize.ShloMosaic.ValueIdx

/-- An update lands at a place exactly when start and window add up to it on every axis. -/
theorem lands_iff {s si u : Shape} {k : ℕ} (d : ScatterDims s si u) (j : u.Idx) (idx : IVec si k) (i : s.Idx) :
    d.resultIdx? j idx = some i ↔ ∀ a, d.start j idx a + d.window j a = ((i a).val : ℤ) := by
  unfold ScatterDims.resultIdx?
  by_cases h : ∀ a, 0 ≤ d.start j idx a + d.window j a ∧ d.start j idx a + d.window j a < s.size a
  · rw [dif_pos h, Option.some.injEq, funext_iff]
    refine forall_congr' fun a => ?_
    rw [Fin.ext_iff]
    have := h a
    show (d.start j idx a + d.window j a).toNat = (i a).val ↔ _
    omega
  · rw [dif_neg h]
    refine ⟨fun e => absurd e (by simp), fun e => absurd (fun a => ?_) h⟩
    have := e a
    have := (i a).isLt
    omega

/-- On the one axis that a column of indices names, an update starts at its row's index. -/
theorem start_eq {s u : Shape} {n : ℕ} (d : ScatterDims s ⟨2, ![n, 1]⟩ u) (a : Fin s.rank) (hsd : d.scatterDimsToOperandDims = [a])
    (hivd : d.indexVectorDim = 1) (idx : IVec ⟨2, ![n, 1]⟩ 32) (j : u.Idx) (c : Fin n) (hj : ∀ k ∈ d.uScatter, (j k).val = c.val) :
    d.start j idx a = (idx (ix2 c (0 : Fin 1))).toInt := by
  unfold ScatterDims.start
  rw [dif_pos (by rw [hsd]; exact List.mem_singleton.2 rfl)]
  refine congrArg (fun i => (idx i).toInt) (funext fun b => ?_)
  match b with
  | ⟨0, _⟩ =>
    refine Fin.ext ?_
    unfold ScatterDims.siIdx
    rw [dif_neg (by rw [hivd]; exact Nat.zero_ne_one)]
    exact hj _ (List.getElem_mem _)
  | ⟨1, _⟩ => exact Subsingleton.elim (α := Fin 1) _ _

/-- An axis left out of the updates has no window. -/
theorem window_out {s si u : Shape} (d : ScatterDims s si u) (j : u.Idx) (a : Fin s.rank) (h : a ∈ d.insertedWindowDims) : d.window j a = 0 := by
  have hk : a ∉ d.sKept := fun hk => (show a ∉ d.insertedWindowDims from of_decide_eq_true (List.mem_filter.1 hk).2) h
  unfold ScatterDims.window
  rw [dif_neg hk]

/-- Update `(c, l)` of a scatter of rows lands at `(b, y)` exactly when row `c`'s index is `b` and the columns agree. -/
theorem lands_row {nb w n : ℕ} (d : ScatterDims ⟨2, ![nb, w]⟩ ⟨2, ![n, 1]⟩ ⟨2, ![n, w]⟩) (huw : d.updateWindowDims = [1])
    (hiw : d.insertedWindowDims = [0]) (hsd : d.scatterDimsToOperandDims = [0]) (hivd : d.indexVectorDim = 1)
    (idx : IVec ⟨2, ![n, 1]⟩ 32) (c : Fin n) (l : Fin w) (b : Fin nb) (y : Fin w) :
    d.resultIdx? (ix2 c l) idx = some (ix2 b y) ↔ (idx (ix2 c (0 : Fin 1))).toInt = (b.val : ℤ) ∧ l = y := by
  have n10 : (1 : Fin 2) ∉ [(0 : Fin 2)] := fun h => Nat.one_ne_zero (congrArg Fin.val (List.mem_singleton.1 h))
  have rows : ∀ k : Fin 2, k ∉ [(1 : Fin 2)] → (ix2 c l k).val = c.val := fun k hk => by
    match k with
    | 0 => rfl
    | 1 => exact absurd (List.mem_singleton.2 rfl) hk
  have cols : ∀ k : Fin 2, k ∈ [(1 : Fin 2)] → (ix2 c l k).val = l.val := fun k hk => by
    obtain rfl := List.mem_singleton.1 hk
    rfl
  have s0 : d.start (ix2 c l) idx 0 = (idx (ix2 c (0 : Fin 1))).toInt := by
    refine start_eq d 0 hsd hivd idx (ix2 c l) c fun k hk => rows k ?_
    rw [← huw]
    exact of_decide_eq_true (List.mem_filter.1 hk).2
  have s1 : d.start (ix2 c l) idx 1 = 0 := dif_neg (by rw [hsd]; exact n10)
  have w0 : d.window (ix2 c l) 0 = 0 := window_out d _ 0 (by rw [hiw]; exact List.mem_singleton.2 rfl)
  have w1 : d.window (ix2 c l) 1 = l.val := by
    refine (dif_pos (List.mem_filter.2 ⟨List.mem_finRange _, decide_eq_true (by rw [hiw]; exact n10)⟩)).trans (cols _ ?_)
    rw [← huw]
    exact List.getElem_mem _
  rw [lands_iff]
  constructor
  · intro e
    have e0 := e 0
    have e1 := e 1
    rw [s0, w0] at e0
    rw [s1, w1] at e1
    change (idx (ix2 c (0 : Fin 1))).toInt + ((0 : ℕ) : ℤ) = (b.val : ℤ) at e0
    change (0 : ℤ) + (l.val : ℤ) = (y.val : ℤ) at e1
    exact ⟨by omega, Fin.ext (by omega)⟩
  · rintro ⟨e, rfl⟩ a
    match a with
    | 0 =>
      rw [s0, w0, e]
      exact add_zero _
    | 1 =>
      rw [s1, w1]
      exact zero_add _

/-- Update `c` of a scatter of numbers lands at `b` exactly when its index is `b`. -/
theorem lands_one {nb n : ℕ} (d : ScatterDims ⟨1, ![nb]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (c : Fin n) (b : Fin nb) :
    d.resultIdx? (ix1 c) idx = some (ix1 b) ↔ (idx (ix2 c (0 : Fin 1))).toInt = (b.val : ℤ) := by
  have s0 : d.start (ix1 c) idx 0 = (idx (ix2 c (0 : Fin 1))).toInt :=
    start_eq d 0 hsd hivd idx (ix1 c) c fun k _ => by
      match k with
      | ⟨0, _⟩ => rfl
  have w0 : d.window (ix1 c) 0 = 0 := window_out d _ 0 (by rw [hiw]; exact List.mem_singleton.2 rfl)
  rw [lands_iff]
  constructor
  · intro e
    have e0 := e 0
    rw [s0, w0] at e0
    exact (add_zero _).symm.trans e0
  · intro e a
    match a with
    | 0 =>
      rw [s0, w0, e]
      exact add_zero _

/-- A sum over what satisfies `p`, when that is one thing at each of `n` consecutive places from `lo` on. -/
theorem sum_run {ι : Type} [Fintype ι] (p : ι → Prop) [DecidablePred p] (pos : ι → ℕ) (lo n : ℕ)
    (hpos : ∀ j, p j → lo ≤ pos j ∧ pos j < lo + n) (hinj : ∀ j k, p j → p k → pos j = pos k → j = k)
    (hsurj : ∀ i, i < n → ∃ j, p j ∧ pos j = lo + i) (f : ι → EReal) (g : ℕ → EReal) (hfg : ∀ j, p j → f j = g (pos j)) :
    ∑ j ∈ Finset.univ.filter p, f j = ∑ i ∈ Finset.range n, g (lo + i) := by
  have mp : ∀ j, j ∈ Finset.univ.filter p → p j := fun j h => (Finset.mem_filter.1 h).2
  refine Finset.sum_bij (fun j _ => pos j - lo) (fun j hj => ?_) (fun j hj k hk e => ?_) (fun i hi => ?_) (fun j hj => ?_)
  · have := hpos j (mp j hj)
    exact Finset.mem_range.2 (by omega)
  · have a := hpos j (mp j hj)
    have b := hpos k (mp k hk)
    exact hinj j k (mp j hj) (mp k hk) (by omega)
  · obtain ⟨j, hj, e⟩ := hsurj i (Finset.mem_range.1 hi)
    exact ⟨j, Finset.mem_filter.2 ⟨Finset.mem_univ _, hj⟩, by omega⟩
  · have := hpos j (mp j hj)
    rw [hfg j (mp j hj)]
    exact congrArg g (by omega)

/-- A scatter of rows whose rows landing at `b` are the consecutive ones from `lo` up to `hi`. -/
theorem scatter_rows {nb w n : ℕ} (d : ScatterDims ⟨2, ![nb, w]⟩ ⟨2, ![n, 1]⟩ ⟨2, ![n, w]⟩) (huw : d.updateWindowDims = [1])
    (hiw : d.insertedWindowDims = [0]) (hsd : d.scatterDimsToOperandDims = [0]) (hivd : d.indexVectorDim = 1)
    (x : FVec Ideal ⟨2, ![nb, w]⟩ .f32) (idx : IVec ⟨2, ![n, 1]⟩ 32) (upd : FVec Ideal ⟨2, ![n, w]⟩ .f32) (b : Fin nb) (y : Fin w)
    (lo hi : ℕ) (hhi : hi ≤ n) (hidx : ∀ c : Fin n, (idx (ix2 c (0 : Fin 1))).toInt = (b.val : ℤ) ↔ lo ≤ c.val ∧ c.val < hi)
    (g : ℕ → EReal) (hupd : ∀ c : Fin n, upd (ix2 c y) = g c.val) :
    Host.scatterAdd d x idx upd (ix2 b y) = (x (ix2 b y) + ∑ i ∈ Finset.range (hi - lo), g (lo + i) : EReal) := by
  have key : ∀ j : (⟨2, ![n, w]⟩ : Shape).Idx, d.resultIdx? j idx = some (ix2 b y) ↔ (lo ≤ (j 0).val ∧ (j 0).val < hi) ∧ j 1 = y := by
    intro j
    obtain ⟨c, l, rfl⟩ : ∃ (c : Fin n) (l : Fin w), j = ix2 c l := ⟨j 0, j 1, eq_ix2 j⟩
    exact (lands_row d huw hiw hsd hivd idx c l b y).trans (and_congr (hidx c) Iff.rfl)
  refine congrArg (fun S : EReal => (x (ix2 b y) + S : EReal)) ?_
  refine sum_run (fun j => d.resultIdx? j idx = some (ix2 b y)) (fun j => (j 0).val) lo (hi - lo) (fun j hj => ?_) (fun j k hj hk e => ?_)
    (fun i hi' => ?_) upd g (fun j hj => ?_)
  · have := (key j).mp hj
    omega
  · have hj' := ((key j).mp hj).2
    have hk' := ((key k).mp hk).2
    funext a
    match a with
    | ⟨0, _⟩ => exact Fin.ext e
    | ⟨1, _⟩ => exact hj'.trans hk'.symm
  · refine ⟨ix2 (⟨lo + i, by omega⟩ : Fin n) y, (key _).mpr ⟨?_, rfl⟩, rfl⟩
    show lo ≤ lo + i ∧ lo + i < hi
    omega
  · obtain ⟨c, l, rfl⟩ : ∃ (c : Fin n) (l : Fin w), j = ix2 c l := ⟨j 0, j 1, eq_ix2 j⟩
    obtain rfl : l = y := ((key _).mp hj).2
    exact hupd c

/-- A scatter of numbers whose places landing at `b` are the consecutive ones from `lo` up to `hi`. -/
theorem scatter_ones {nb n : ℕ} (d : ScatterDims ⟨1, ![nb]⟩ ⟨2, ![n, 1]⟩ ⟨1, ![n]⟩) (hiw : d.insertedWindowDims = [0])
    (hsd : d.scatterDimsToOperandDims = [0]) (hivd : d.indexVectorDim = 1)
    (x : FVec Ideal ⟨1, ![nb]⟩ .f32) (idx : IVec ⟨2, ![n, 1]⟩ 32) (upd : FVec Ideal ⟨1, ![n]⟩ .f32) (b : Fin nb)
    (lo hi : ℕ) (hhi : hi ≤ n) (hidx : ∀ c : Fin n, (idx (ix2 c (0 : Fin 1))).toInt = (b.val : ℤ) ↔ lo ≤ c.val ∧ c.val < hi)
    (g : ℕ → EReal) (hupd : ∀ j, upd j = g (j 0).val) :
    Host.scatterAdd d x idx upd (ix1 b) = (x (ix1 b) + ∑ i ∈ Finset.range (hi - lo), g (lo + i) : EReal) := by
  have key : ∀ j : (⟨1, ![n]⟩ : Shape).Idx, d.resultIdx? j idx = some (ix1 b) ↔ lo ≤ (j 0).val ∧ (j 0).val < hi := by
    intro j
    obtain ⟨c, rfl⟩ : ∃ c : Fin n, j = ix1 c := ⟨j 0, eq_ix1 j⟩
    exact (lands_one d hiw hsd hivd idx c b).trans (hidx c)
  refine congrArg (fun S : EReal => (x (ix1 b) + S : EReal)) ?_
  refine sum_run (fun j => d.resultIdx? j idx = some (ix1 b)) (fun j => (j 0).val) lo (hi - lo) (fun j hj => ?_) (fun j k hj hk e => ?_)
    (fun i hi' => ?_) upd g (fun j hj => hupd j)
  · have := (key j).mp hj
    omega
  · funext a
    match a with
    | ⟨0, _⟩ => exact Fin.ext e
  · refine ⟨ix1 (⟨lo + i, by omega⟩ : Fin n), (key _).mpr ?_, rfl⟩
    show lo ≤ lo + i ∧ lo + i < hi
    omega

theorem zero_bits : Scalar.ofBits (F := Ideal) .f32 0x00000000#32 = (0 : EReal) := by
  show Ideal.ofBits .f32 0x00000000#32 = 0
  simp [Ideal.ofBits, Ideal.ieee]

theorem one_bits : Scalar.ofBits (F := Ideal) .f32 0x3F800000#32 = (1 : EReal) := by
  show Ideal.ofBits .f32 0x3F800000#32 = 1
  simp [Ideal.ofBits, Ideal.ieee, -EReal.coe_mul]; norm_num

/-- The running sum is the sum. -/
theorem fsum_eq (R : ℕ → ℕ → Ideal .f32) (c lo k : ℕ) : fsum (F := Ideal) R c lo k = (∑ i ∈ Finset.range k, R (lo + i) c : EReal) := by
  induction k with
  | zero => exact zero_bits
  | succ k ih =>
    rw [Finset.sum_range_succ, ← ih]
    rfl

/-- Dividing by the number of tokens, at least one, is multiplying by one over it. -/
theorem div_count (S : EReal) (lo hi : ℕ) (hn : hi - lo ≤ 327680) :
    Ideal.div S (max 1 (∑ _i ∈ Finset.range (hi - lo), (1 : EReal))) = S * inv (F := Ideal) lo hi := by
  have hs : (∑ _i ∈ Finset.range (hi - lo), (1 : EReal)) = ((hi - lo : ℕ) : EReal) := by
    rw [Finset.sum_const, Finset.card_range, nsmul_one]
  have hm : max (1 : EReal) ((hi - lo : ℕ) : EReal) = ((max (hi - lo) 1 : ℕ) : EReal) := by
    rw [max_comm, (Nat.mono_cast (α := EReal)).map_max, Nat.cast_one]
  have hw : Scalar.sitofp (F := Ideal) .f32 (BitVec.ofNat 32 (max (hi - lo) 1)) = ((max (hi - lo) 1 : ℕ) : EReal) := by
    show (((BitVec.ofNat 32 (max (hi - lo) 1)).toInt : ℝ) : EReal) = _
    rw [StableHlo.Predicate.toInt_ofNat_small _ (by omega), Int.cast_natCast]
    rfl
  have hz : ((max (hi - lo) 1 : ℕ) : EReal) ≠ 0 := by
    intro e
    have := Nat.cast_eq_zero.mp e
    omega
  rw [hs, hm]
  unfold inv
  rw [hw, one_bits]
  show Ideal.div S _ = S * Ideal.div 1 _
  unfold Ideal.div
  rw [if_neg hz, if_neg hz, one_mul]

end Cert.Proof.Bag

end

end
-- ==== Proof.Value.lean ====
/-
  The reference's value, entry by entry: the bag a token falls into, the rows taken, their sums and counts, and the mean
  with the bias under the relu, which is the bag's value.
-/
module

public import proofs.«01_k».proof.Proof.Landing
public import proofs.«01_k».proof.Proof.Gen.ReferenceIdeal
public import Idealize.ShloMosaic.Lib.Routing.Count
public import Idealize.ShloMosaic.Lib.ReduceAll

@[expose] public section

noncomputable section

namespace Cert.Proof.Bag

open Cert.ReferenceIdeal Cert.ReferenceIdeal.Gen Idealize.ShloMosaic Idealize.ShloMosaic.ValueIdx
open Idealize.ShloMosaic.StableHlo.Predicate (ij ixP i1q toNat_reduce_count_cols bcast_rows bcast_cols bcast_col1 bcast_scalar sle_iff_toNat
  sge_iff_toNat slt_iff_toNat toInt_ofNat_small)

/-- How many bags start at or before token `t`. -/
def started (xo : (⟨1, ![16384]⟩ : Shape).Idx → BitVec 32) (t : ℕ) : ℕ := Nat.count (fun k => xg xo k ≤ t) 16384

theorem count_iff {X : ℕ → ℕ} (hX : Monotone X) (t n : ℕ) {j : ℕ} (hj : j < n) : X j ≤ t ↔ j < Nat.count (fun k => X k ≤ t) n :=
  Routing.lt_count_iff (Q := fun k => X k ≤ t) (fun _ _ hab _ hb => (hX hab).trans hb) hj

variable {xt : (⟨1, ![327680]⟩ : Shape).Idx → BitVec 32} {xo : (⟨1, ![16384]⟩ : Shape).Idx → BitVec 32}

theorem started_le (t : ℕ) : started xo t ≤ 16384 := Nat.count_le _

theorem started_pos (h : InRange xt xo) (t : ℕ) : 0 < started xo t :=
  (count_iff (xg_mono h) t 16384 (j := 0) (by omega)).mp (by rw [xg_zero h]; omega)

/-- The last bag started by token `t` is the one that holds it. -/
theorem started_iff (h : InRange xt xo) {t : ℕ} (ht : t < 327680) {b : ℕ} (hb : b < 16384) :
    started xo t - 1 = b ↔ xg xo b ≤ t ∧ t < xg xo (b + 1) := by
  have hp := started_pos h t
  have hle := started_le (xo := xo) t
  have e : xg xo b ≤ t ↔ b < started xo t := count_iff (xg_mono h) t 16384 hb
  have e' : xg xo (b + 1) ≤ t ↔ b + 1 < started xo t := by
    by_cases hb' : b + 1 < 16384
    · exact count_iff (xg_mono h) t 16384 hb'
    · rw [show xg xo (b + 1) = 327680 from dif_neg hb']
      omega
  constructor
  · intro hs
    exact ⟨e.mpr (by omega), by by_contra hn; have := e'.mp (by omega); omega⟩
  · rintro ⟨h1, h2⟩
    have := e.mp h1
    have : ¬ b + 1 < started xo t := fun hn => by have := e'.mpr hn; omega
    omega

theorem clamp_word {n : ℕ} (hp : 0 < n) (hle : n ≤ 16384) :
    IntOp.minsi (16383#32) (IntOp.maxsi (0#32) (IntOp.subi (BitVec.ofNat 32 n) 1#32)) = BitVec.ofNat 32 (n - 1) := by
  have hs : IntOp.subi (BitVec.ofNat 32 n) 1#32 = BitVec.ofNat 32 (n - 1) := by
    show BitVec.ofNat 32 n - 1#32 = _
    exact StableHlo.Predicate.sub_one_ofNat n hp (by omega)
  have hi : (BitVec.ofNat 32 (n - 1)).toInt = ((n - 1 : ℕ) : ℤ) := toInt_ofNat_small _ (by omega)
  have hz : (0#32 : BitVec 32).toInt = 0 := by decide
  have hk : (16383#32 : BitVec 32).toInt = 16383 := by decide
  rw [hs]
  have hmax : IntOp.maxsi (0#32) (BitVec.ofNat 32 (n - 1)) = BitVec.ofNat 32 (n - 1) := by
    unfold IntOp.maxsi
    split
    · next hc =>
      simp only [BitVec.slt, hi, hz, decide_eq_true_eq] at hc
      apply BitVec.eq_of_toInt_eq
      omega
    · next hc =>
      simp only [BitVec.slt, hi, hz, decide_eq_true_eq] at hc
      apply BitVec.eq_of_toInt_eq
      omega
  rw [hmax]
  unfold IntOp.minsi
  split
  · next hc =>
    simp only [BitVec.slt, hi, hk, decide_eq_true_eq] at hc
    apply BitVec.eq_of_toInt_eq
    omega
  · next hc =>
    simp only [BitVec.slt, hi, hk, decide_eq_true_eq] at hc
    apply BitVec.eq_of_toInt_eq
    omega

/-- The bag each token falls into, as the reference computes it. -/
def bagOf (xo : IVec S16384 32) : IVec S327680x1 32 :=
  broadcastInDim S327680x1 ![0] bcast_S327680_S327680x1_0 (minsi (broadcastInDim S327680 ![] bcast_S_S327680 (id (constantI S_ 32 16383#32))) (maxsi (broadcastInDim S327680 ![] bcast_S_S327680 (id (constantI S_ 32 0#32))) (subi (Host.reduce IntOp.addi (extui 32 (cmpi .sle (broadcastInDim S327680x16384 ![0, 1] bcast_S1x16384_S327680x16384_0_1 (broadcastInDim S1x16384 ![1] bcast_S16384_S1x16384_1 xo)) (broadcastInDim S327680x16384 ![0, 1] bcast_S327680x1_S327680x16384_0_1 (broadcastInDim S327680x1 ![0] bcast_S327680_S327680x1_0 (iotaInDim S327680 32 0)))) natLt_1_32) (constantI S_ 32 0#32) reducesTo_S327680x16384_S327680_d1 h_S_) (broadcastInDim S327680 ![] bcast_S_S327680 (constantI S_ 32 1#32)))))

theorem count_word (h : InRange xt xo) (t : Fin 327680) :
    Host.reduce IntOp.addi (extui 32 (cmpi .sle (broadcastInDim S327680x16384 ![0, 1] bcast_S1x16384_S327680x16384_0_1 (broadcastInDim S1x16384 ![1] bcast_S16384_S1x16384_1 xo)) (broadcastInDim S327680x16384 ![0, 1] bcast_S327680x1_S327680x16384_0_1 (broadcastInDim S327680x1 ![0] bcast_S327680_S327680x1_0 (iotaInDim S327680 32 0)))) natLt_1_32) (constantI S_ 32 0#32) reducesTo_S327680x16384_S327680_d1 h_S_ (Shape.Idx.ofFin t)
      = BitVec.ofNat 32 (started xo t.val) := by
  have hle := started_le (xo := xo) t.val
  apply BitVec.eq_of_toNat_eq
  refine (toNat_reduce_count_cols (n := 327680) (m := 16384) (by omega) _ _ _ _ _).trans ?_
  rw [BitVec.toNat_ofNat, Nat.mod_eq_of_lt (by omega)]
  unfold started
  rw [← Routing.card_filter_fin 16384 (fun k => xg xo k ≤ t.val)]
  refine congrArg Finset.card (Finset.filter_congr fun q _ => ?_)
  show IntOp.cmpi .sle (broadcastInDim S327680x16384 ![0, 1] bcast_S1x16384_S327680x16384_0_1 (broadcastInDim S1x16384 ![1] bcast_S16384_S1x16384_1 xo) (ij t q)) (broadcastInDim S327680x16384 ![0, 1] bcast_S327680x1_S327680x16384_0_1 (broadcastInDim S327680x1 ![0] bcast_S327680_S327680x1_0 (iotaInDim S327680 32 0)) (ij t q)) = 1#1 ↔ _
  rw [bcast_cols (n := 327680) (m := 16384) _ _ xo t q, bcast_rows (n := 327680) (m := 16384) _ _ (iotaInDim S327680 32 0) t q]
  have hq : Shape.Idx.ofFin q = at1 q.val q.isLt := by
    funext a
    match a with
    | ⟨0, _⟩ => rfl
  have ht : (iotaInDim S327680 32 0 (Shape.Idx.ofFin t)) = BitVec.ofNat 32 t.val := rfl
  have htl := t.isLt
  have ho := h.off (at1 q.val q.isLt)
  rw [hq, ht, sle_iff_toNat (by omega) (by rw [BitVec.toNat_ofNat]; omega), BitVec.toNat_ofNat, Nat.mod_eq_of_lt (by omega)]
  unfold xg
  rw [dif_pos q.isLt]

theorem bagOf_eq (h : InRange xt xo) (t : Fin 327680) : bagOf xo (ix2 t (0 : Fin 1)) = BitVec.ofNat 32 (started xo t.val - 1) := by
  rw [← Routing.ixP_eq_ix2 t]
  refine (bcast_col1 (n := 327680) _ _ t).trans ?_
  show IntOp.minsi (16383#32) (IntOp.maxsi (0#32) (IntOp.subi (Host.reduce IntOp.addi _ _ reducesTo_S327680x16384_S327680_d1 h_S_ (Shape.Idx.ofFin t)) 1#32)) = _
  rw [count_word h t]
  exact clamp_word (started_pos h t.val) (started_le t.val)

/-- The row each token names, as the reference reads it. -/
abbrev rowOf (xt : IVec S327680 32) : IVec S327680x1 32 :=
  broadcastInDim S327680x1 ![0] bcast_S327680_S327680x1_0 (select (cmpi .slt xt (broadcastInDim S327680 ![] bcast_S_S327680 (constantI S_ 32 0#32))) (addi xt (broadcastInDim S327680 ![] bcast_S_S327680 (constantI S_ 32 100000#32))) xt)

theorem rowOf_eq (h : InRange xt xo) (t : Fin 327680) : rowOf xt (ix2 t (0 : Fin 1)) = xt (at1 t.val t.isLt) := by
  rw [← Routing.ixP_eq_ix2 t]
  refine (bcast_col1 (n := 327680) _ _ t).trans ?_
  have ht : Shape.Idx.ofFin t = at1 t.val t.isLt := by
    funext a
    match a with
    | ⟨0, _⟩ => rfl
  have hv := h.tok (at1 t.val t.isLt)
  rw [ht]
  show (if IntOp.cmpi .slt (xt (at1 t.val t.isLt)) 0#32 = 1#1 then _ else xt (at1 t.val t.isLt)) = _
  rw [if_neg]
  rw [slt_iff_toNat (by omega) (by decide)]
  simp

/-- The rows taken, as the reference takes them. -/
def taken (xt : IVec S327680 32) (tab : FVec Ideal S100000x64 .f32) : FVec Ideal S327680x64 .f32 :=
  select (broadcastInDim S327680x64 ![0] bcast_S327680_S327680x64_0 (Host.reduce IntOp.andi (andi (cmpi .sge (rowOf xt) (broadcastInDim S327680x1 ![] bcast_S_S327680x1 (constantI S_ 32 0#32))) (cmpi .sle (rowOf xt) (broadcastInDim S327680x1 ![0, 1] bcast_S1x1_S327680x1_0_1 (broadcastInDim S1x1 ![1] bcast_S1_S1x1_1 (constantI S1 32 99999#32))))) (constantI S_ 1 1#1) reducesTo_S327680x1_S327680_d1 h_S_)) (Host.gather gather_S100000x64_S327680x1_S327680x64_1_0_n_n_0_1_164 tab (rowOf xt)) (broadcastInDim S327680x64 ![] bcast_S_S327680x64 (constant S_ .f32 0x7FC00000#32))

theorem select_set {α : Type} (hb : S327680.BroadcastsInDim S327680x64 ![0]) (c : IVec S327680 1) (hc : ∀ j, c j = 1#1) (x y : S327680x64.Idx → α)
    (i : S327680x64.Idx) : select (broadcastInDim S327680x64 ![0] hb c) x y i = x i := by
  show (if broadcastInDim S327680x64 ![0] hb c i = 1#1 then x i else y i) = x i
  rw [if_pos]
  unfold broadcastInDim
  exact hc _

theorem taken_eq (h : InRange xt xo) (tab : FVec Ideal S100000x64 .f32) (t : Fin 327680) (l : Fin 64) :
    taken xt tab (ix2 t l) = gg tab (tg xt t.val) l.val := by
  have hv := h.tok (at1 t.val t.isLt)
  have hmask : ∀ j, Host.reduce IntOp.andi (andi (cmpi .sge (rowOf xt) (broadcastInDim S327680x1 ![] bcast_S_S327680x1 (constantI S_ 32 0#32))) (cmpi .sle (rowOf xt) (broadcastInDim S327680x1 ![0, 1] bcast_S1x1_S327680x1_0_1 (broadcastInDim S1x1 ![1] bcast_S1_S1x1_1 (constantI S1 32 99999#32))))) (constantI S_ 1 1#1) reducesTo_S327680x1_S327680_d1 h_S_ j = 1#1 := by
    intro j
    refine Host.reduce_andi_one _ _ _ _ _ rfl fun i => ?_
    have hi : i = ix2 (i 0) (0 : Fin 1) := by
      funext a
      match a with
      | ⟨0, _⟩ => rfl
      | ⟨1, _⟩ => exact Subsingleton.elim (α := Fin 1) _ _
    have hr : rowOf xt i = xt (at1 (i 0).val (i 0).isLt) := by
      rw [hi]
      exact rowOf_eq h (i 0)
    show IntOp.andi (IntOp.cmpi .sge (rowOf xt i) 0#32) (IntOp.cmpi .sle (rowOf xt i) 99999#32) = 1#1
    rw [hr]
    have hw := h.tok (at1 (i 0).val (i 0).isLt)
    rw [(sge_iff_toNat (by omega) (by decide)).mpr (by simp),
      (sle_iff_toNat (a := xt (at1 (i 0).val (i 0).isLt)) (b := 99999#32) (by omega) (by decide)).mpr (by rw [show (99999#32 : BitVec 32).toNat = 99999 from rfl]; omega)]
    rfl
  refine (select_set bcast_S327680_S327680x64_0 _ hmask _ _ _).trans ?_
  rw [Routing.gather_row (nb := 100000) (B := 64) (n := 327680) gather_S100000x64_S327680x1_S327680x64_1_0_n_n_0_1_164 rfl rfl rfl rfl rfl tab (rowOf xt) t l
    ⟨(xt (at1 t.val t.isLt)).toNat, hv⟩ (by rw [rowOf_eq h t]; simp) (by omega)]
  unfold gg tg
  rw [dif_pos t.isLt]
  refine congrArg tab (funext fun a => Fin.ext ?_)
  have hl := l.isLt
  match a with
  | ⟨0, _⟩ => show (xt (at1 t.val t.isLt)).toNat = min _ 99999; omega
  | ⟨1, _⟩ => show l.val = min l.val 63; omega

/-- Token `t` lands in bag `b` exactly when `b` holds it. -/
theorem bag_iff (h : InRange xt xo) (t : Fin 327680) (b : Fin 16384) :
    (bagOf xo (ix2 t (0 : Fin 1))).toInt = (b.val : ℤ) ↔ xg xo b.val ≤ t.val ∧ t.val < xg xo (b.val + 1) := by
  have hle := started_le (xo := xo) t.val
  rw [bagOf_eq h t, toInt_ofNat_small _ (by omega), ← started_iff h t.isLt b.isLt]
  omega

/-- The bags' sums, as the reference computes them. -/
def sumsOf (xt : IVec S327680 32) (xo : IVec S16384 32) (tab : FVec Ideal S100000x64 .f32) : FVec Ideal S16384x64 .f32 :=
  Host.scatterAdd scatter_S16384x64_S327680x1_S327680x64_1_0_0_1 (broadcastInDim S16384x64 ![] bcast_S_S16384x64 (constant S_ .f32 0x00000000#32)) (bagOf xo) (taken xt tab)

attribute [local irreducible] bagOf taken in
theorem sumsOf_eq (h : InRange xt xo) (tab : FVec Ideal S100000x64 .f32) (b : Fin 16384) (l : Fin 64) :
    sumsOf xt xo tab (ix2 b l)
      = (∑ i ∈ Finset.range (xg xo (b.val + 1) - xg xo b.val), gg tab (tg xt (xg xo b.val + i)) l.val : EReal) := by
  refine (scatter_rows (nb := 16384) (w := 64) (n := 327680) scatter_S16384x64_S327680x1_S327680x64_1_0_0_1 rfl rfl rfl rfl _ (bagOf xo)
    (taken xt tab) b l (xg xo b.val) (xg xo (b.val + 1)) (xg_le h _) (fun c => bag_iff h c b) (fun t => gg tab (tg xt t) l.val)
    (fun c => taken_eq h tab c l)).trans ?_
  refine Eq.trans ?_ (zero_add _)
  exact congrArg (fun S : EReal => S + _) zero_bits

/-- The bags' counts, as the reference computes them. -/
def countsOf (xo : IVec S16384 32) : FVec Ideal S16384 .f32 :=
  Host.scatterAdd scatter_S16384_S327680x1_S327680_n_0_0_1 (broadcastInDim S16384 ![] bcast_S_S16384 (constant S_ .f32 0x00000000#32)) (bagOf xo) (broadcastInDim S327680 ![] bcast_S_S327680 (constant S_ .f32 0x3F800000#32))

attribute [local irreducible] bagOf in
theorem countsOf_eq (h : InRange xt xo) (b : Fin 16384) :
    countsOf xo (ix1 b) = (∑ _i ∈ Finset.range (xg xo (b.val + 1) - xg xo b.val), 1 : EReal) := by
  refine (scatter_ones (nb := 16384) (n := 327680) scatter_S16384_S327680x1_S327680_n_0_0_1 rfl rfl rfl _ (bagOf xo)
    _ b (xg xo b.val) (xg xo (b.val + 1)) (xg_le h _) (fun c => bag_iff h c b) (fun _ => 1) (fun _ => one_bits)).trans ?_
  refine Eq.trans ?_ (zero_add _)
  exact congrArg (fun S : EReal => S + _) zero_bits

/-- The mean with the bias under the relu, entry by entry, of any sums and counts. -/
theorem mean_ap (A : FVec Ideal S16384x64 .f32) (N : FVec Ideal S16384 .f32) (b1 : FVec Ideal S64 .f32) (p : Fin 16384) (q : Fin 64) :
    maximumf (addf (Host.divf A (broadcastInDim S16384x64 ![0, 1] bcast_S16384x1_S16384x64_0_1 (broadcastInDim S16384x1 ![0] bcast_S16384_S16384x1_0 (maximumf (broadcastInDim S16384 ![] bcast_S_S16384 (id (constant S_ .f32 0x3F800000#32))) N)))) (broadcastInDim S16384x64 ![0, 1] bcast_S1x64_S16384x64_0_1 (broadcastInDim S1x64 ![1] bcast_S64_S1x64_1 b1))) (broadcastInDim S16384x64 ![] bcast_S_S16384x64 (constant S_ .f32 0x00000000#32)) (ij p q)
      = FloatOps.maximumf (F := Ideal) (φ := .f32) (FloatOps.addf (F := Ideal) (φ := .f32) (Ideal.div (A (ij p q)) (max 1 (N (ix1 p)))) (b1 (ix1 q))) (Scalar.ofBits .f32 0x00000000#32) := by
  have e1 := bcast_rows (n := 16384) (m := 64) bcast_S16384_S16384x1_0 bcast_S16384x1_S16384x64_0_1 (maximumf (broadcastInDim S16384 ![] bcast_S_S16384 (id (constant (F := Ideal) S_ .f32 0x3F800000#32))) N) p q
  have e2 := bcast_cols (n := 16384) (m := 64) bcast_S64_S1x64_1 bcast_S1x64_S16384x64_0_1 b1 p q
  rw [Routing.ofFin_eq_ix1] at e1 e2
  have e3 : maximumf (broadcastInDim S16384 ![] bcast_S_S16384 (id (constant (F := Ideal) S_ .f32 0x3F800000#32))) N (ix1 p) = (max 1 (N (ix1 p)) : EReal) :=
    congrArg (fun o : EReal => max o (N (ix1 p))) one_bits
  rw [e3] at e1
  exact congrArg₂ (fun u v : EReal => FloatOps.maximumf (F := Ideal) (φ := .f32) (FloatOps.addf (F := Ideal) (φ := .f32) (Ideal.div (A (ij p q)) u) v) (Scalar.ofBits .f32 0x00000000#32)) e1 e2

attribute [local irreducible] bagOf taken sumsOf countsOf fsum inv xg in
/-- The reference's result is every bag's value. -/
theorem value_eq (h : InRange xt xo) (tab : FVec Ideal S100000x64 .f32) (b1 : FVec Ideal S64 .f32) :
    maximumf (addf (Host.divf (sumsOf xt xo tab) (broadcastInDim S16384x64 ![0, 1] bcast_S16384x1_S16384x64_0_1 (broadcastInDim S16384x1 ![0] bcast_S16384_S16384x1_0 (maximumf (broadcastInDim S16384 ![] bcast_S_S16384 (id (constant S_ .f32 0x3F800000#32))) (countsOf xo))))) (broadcastInDim S16384x64 ![0, 1] bcast_S1x64_S16384x64_0_1 (broadcastInDim S1x64 ![1] bcast_S64_S1x64_1 b1))) (broadcastInDim S16384x64 ![] bcast_S_S16384x64 (constant S_ .f32 0x00000000#32))
      = bags (F := Ideal) xt xo tab b1 := by
  funext y
  obtain ⟨p, q, rfl⟩ : ∃ (p : Fin 16384) (q : Fin 64), y = ij p q := ⟨y 0, y 1, by
    funext a
    match a with
    | ⟨0, _⟩ => rfl
    | ⟨1, _⟩ => rfl⟩
  refine (mean_ap (sumsOf xt xo tab) (countsOf xo) b1 p q).trans ?_
  have hT := xg_le h (p.val + 1)
  have hij : ij p q = ix2 p q := by
    funext a
    match a with
    | ⟨0, _⟩ => rfl
    | ⟨1, _⟩ => rfl
  have hb : b1 (ix1 q) = bg b1 q.val := by
    have hl := q.isLt
    refine congrArg b1 (funext fun a => Fin.ext ?_)
    match a with
    | ⟨0, _⟩ => show q.val = min q.val 63; omega
  have hs : sumsOf xt xo tab (ij p q) = fsum (F := Ideal) (fun t l => gg tab (tg xt t) l) q.val (xg xo p.val) (xg xo (p.val + 1) - xg xo p.val) := by
    rw [fsum_eq, hij]
    exact sumsOf_eq h tab p q
  have hd := div_count (fsum (F := Ideal) (fun t l => gg tab (tg xt t) l) q.val (xg xo p.val) (xg xo (p.val + 1) - xg xo p.val))
    (xg xo p.val) (xg xo (p.val + 1)) (by omega)
  rw [hs, countsOf_eq h p, hb, hd]
  rfl

/-- The same of the reference's result as its run leaves it. -/
theorem value_run (h : InRange xt xo) (tab : FVec Ideal S100000x64 .f32) (b1 : FVec Ideal S64 .f32) :
    maximumf (addf (Host.divf (Host.scatterAdd scatter_S16384x64_S327680x1_S327680x64_1_0_0_1 (broadcastInDim S16384x64 ![] bcast_S_S16384x64 (constant S_ .f32 0x00000000#32)) (broadcastInDim S327680x1 ![0] bcast_S327680_S327680x1_0 (minsi (broadcastInDim S327680 ![] bcast_S_S327680 (id (constantI S_ 32 16383#32))) (maxsi (broadcastInDim S327680 ![] bcast_S_S327680 (id (constantI S_ 32 0#32))) (subi (Host.reduce IntOp.addi (extui 32 (cmpi .sle (broadcastInDim S327680x16384 ![0, 1] bcast_S1x16384_S327680x16384_0_1 (broadcastInDim S1x16384 ![1] bcast_S16384_S1x16384_1 xo)) (broadcastInDim S327680x16384 ![0, 1] bcast_S327680x1_S327680x16384_0_1 (broadcastInDim S327680x1 ![0] bcast_S327680_S327680x1_0 (iotaInDim S327680 32 0)))) natLt_1_32) (constantI S_ 32 0#32) reducesTo_S327680x16384_S327680_d1 h_S_) (broadcastInDim S327680 ![] bcast_S_S327680 (constantI S_ 32 1#32)))))) (select (broadcastInDim S327680x64 ![0] bcast_S327680_S327680x64_0 (Host.reduce IntOp.andi (andi (cmpi .sge (rowOf xt) (broadcastInDim S327680x1 ![] bcast_S_S327680x1 (constantI S_ 32 0#32))) (cmpi .sle (rowOf xt) (broadcastInDim S327680x1 ![0, 1] bcast_S1x1_S327680x1_0_1 (broadcastInDim S1x1 ![1] bcast_S1_S1x1_1 (constantI S1 32 99999#32))))) (constantI S_ 1 1#1) reducesTo_S327680x1_S327680_d1 h_S_)) (Host.gather gather_S100000x64_S327680x1_S327680x64_1_0_n_n_0_1_164 tab (rowOf xt)) (broadcastInDim S327680x64 ![] bcast_S_S327680x64 (constant S_ .f32 0x7FC00000#32)))) (broadcastInDim S16384x64 ![0, 1] bcast_S16384x1_S16384x64_0_1 (broadcastInDim S16384x1 ![0] bcast_S16384_S16384x1_0 (maximumf (broadcastInDim S16384 ![] bcast_S_S16384 (id (constant S_ .f32 0x3F800000#32))) (Host.scatterAdd scatter_S16384_S327680x1_S327680_n_0_0_1 (broadcastInDim S16384 ![] bcast_S_S16384 (constant S_ .f32 0x00000000#32)) (broadcastInDim S327680x1 ![0] bcast_S327680_S327680x1_0 (minsi (broadcastInDim S327680 ![] bcast_S_S327680 (id (constantI S_ 32 16383#32))) (maxsi (broadcastInDim S327680 ![] bcast_S_S327680 (id (constantI S_ 32 0#32))) (subi (Host.reduce IntOp.addi (extui 32 (cmpi .sle (broadcastInDim S327680x16384 ![0, 1] bcast_S1x16384_S327680x16384_0_1 (broadcastInDim S1x16384 ![1] bcast_S16384_S1x16384_1 xo)) (broadcastInDim S327680x16384 ![0, 1] bcast_S327680x1_S327680x16384_0_1 (broadcastInDim S327680x1 ![0] bcast_S327680_S327680x1_0 (iotaInDim S327680 32 0)))) natLt_1_32) (constantI S_ 32 0#32) reducesTo_S327680x16384_S327680_d1 h_S_) (broadcastInDim S327680 ![] bcast_S_S327680 (constantI S_ 32 1#32)))))) (broadcastInDim S327680 ![] bcast_S_S327680 (constant S_ .f32 0x3F800000#32))))))) (broadcastInDim S16384x64 ![0, 1] bcast_S1x64_S16384x64_0_1 (broadcastInDim S1x64 ![1] bcast_S64_S1x64_1 b1))) (broadcastInDim S16384x64 ![] bcast_S_S16384x64 (constant S_ .f32 0x00000000#32))
      = bags (F := Ideal) xt xo tab b1 := by
  have e := value_eq h tab b1
  unfold sumsOf countsOf taken bagOf at e
  exact e

end Cert.Proof.Bag

end

end
-- ==== Proof.lean ====
/-
  The proof of the certificate's claims: the kernel's run, read at both instances, against the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_offsets_ok
public import proofs.«01_k».proof.Proof.Gen.ReferenceIdeal.Run
public import proofs.«01_k».proof.Proof.Gen.Table
public import proofs.«01_k».proof.Proof.Gen.Table.Frame
public import proofs.«01_k».proof.Proof.Gen.TableIdeal
public import proofs.«01_k».proof.Proof.Gen.TableIdeal.Frame
public import proofs.«01_k».proof.Proof.Gen.TableIdeal.Value
public import proofs.«01_k».proof.Proof.Gen.TableReferenceIdeal
public import proofs.«01_k».proof.Proof.Gen.TableReferenceIdeal.Run
public import proofs.«01_k».proof.Proof.Gen.Layers
public import proofs.«01_k».proof.Proof.Gen.Layers.Frame
public import proofs.«01_k».proof.Proof.Table
public import proofs.«01_k».proof.Proof.Layers
public import proofs.«01_k».proof.Proof.Gen.LayersIdeal
public import proofs.«01_k».proof.Proof.Gen.LayersIdeal.Frame
public import proofs.«01_k».proof.Proof.Gen.LayersIdeal.Value
public import proofs.«01_k».proof.Proof.Gen.LayersReferenceIdeal
public import proofs.«01_k».proof.Proof.Gen.LayersReferenceIdeal.Run
public import proofs.«01_k».proof.Proof.Pre
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_offsets_ok.Facts := Cert.Pre_offsets_ok.Gen.facts
instance : Cert.Table.Facts := Cert.Table.Gen.facts
instance : Cert.TableIdeal.Facts := Cert.TableIdeal.Gen.facts
instance : Cert.TableReferenceIdeal.Facts := Cert.TableReferenceIdeal.Gen.facts
instance : Cert.Layers.Facts := Cert.Layers.Gen.facts
instance : Cert.LayersIdeal.Facts := Cert.LayersIdeal.Gen.facts
instance : Cert.LayersReferenceIdeal.Facts := Cert.LayersReferenceIdeal.Gen.facts

theorem ok_Kernel (m : (ℓ : Loc Cert.Kernel.nD Cert.Kernel.τ Cert.Kernel.sig) → Buf (Elt Bits) ℓ) (h : Cert.Pre_Kernel m) :
    Cert.Kernel.Bag.PreOK (F := Bits) m := fun d => Bag.inRange_of_fn _ _ _ _ (h d)

theorem ok_KernelIdeal (m : (ℓ : Loc Cert.KernelIdeal.nD Cert.KernelIdeal.τ Cert.KernelIdeal.sig) → Buf (Elt Ideal) ℓ) (h : Cert.Pre_KernelIdeal m) :
    Cert.KernelIdeal.Bag.PreOK (F := Ideal) m := fun d => Bag.inRange_of_fn _ _ _ _ (h d)

theorem frame_Kernel : Cert.quiescent_Kernel := fun m ρ h =>
  (θ_run Cert.Kernel.defs _ _).mono (fun _ hr => ⟨fun c => (hr.1 c).2, hr.2⟩) (Cert.Kernel.Bag.run_main (F := Bits) m ρ (ok_Kernel m h))

theorem frame_KernelIdeal : Cert.quiescent_KernelIdeal := fun m ρ h =>
  (θ_run Cert.KernelIdeal.defs _ _).mono (fun _ hr => ⟨fun c => (hr.1 c).2, hr.2⟩) (Cert.KernelIdeal.Bag.run_main (F := Ideal) m ρ (ok_KernelIdeal m h))

theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ReferenceIdeal_pre : Cert.quiescent_ReferenceIdeal_pre_offsets_ok := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

attribute [local irreducible] Bag.bags in
/-- Both leave every bag's value. -/
theorem algebraic : Cert.algebraic_KernelIdeal_ReferenceIdeal := by
  intro m g m' g' hpre hag
  have hok := ok_KernelIdeal m hpre
  refine ⟨fun c => Cert.KernelIdeal.Bag.res m c, ?_, ?_⟩
  · exact (θ_run Cert.KernelIdeal.defs _ _).mono (fun _ hr c => hr.1 c) (Cert.KernelIdeal.Bag.run_main (F := Ideal) m g hok)
  · refine (θ_run Cert.ReferenceIdeal.defs _ _).mono (fun r h c => ⟨?_, (h c).2⟩) (Cert.ReferenceIdeal.Value.run (F := Ideal) m' g')
    obtain ⟨h0, h1, h2, h3⟩ := hag c
    have hin : Bag.InRange (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := by
      rw [h0, h1]
      exact hok c
    refine (h c).1.trans ((Bag.value_run hin _ _).trans ?_)
    rw [h0, h1, h2, h3]
    rfl

theorem frame_Table : Cert.quiescent_Table := fun m ρ _ => Cert.Table.Gen.frame m ρ

theorem frame_TableIdeal : Cert.quiescent_TableIdeal := fun m ρ _ => Cert.TableIdeal.Gen.frame m ρ

theorem frame_Layers : Cert.quiescent_Layers := fun m ρ _ => Cert.Layers.Gen.frame m ρ

theorem frame_LayersIdeal : Cert.quiescent_LayersIdeal := fun m ρ _ => Cert.LayersIdeal.Gen.frame m ρ

theorem frame_TableReferenceIdeal : Cert.quiescent_TableReferenceIdeal := fun m ρ _ =>
  (θ_run Cert.TableReferenceIdeal.defs _ _).mono (fun r h => ⟨fun c => (h c).2, Idealize.ShloMosaic.sem_eq_zero_of_no_sems (by decide) r.2⟩)
    (Cert.TableReferenceIdeal.Value.run (F := Ideal) m ρ)

theorem frame_LayersReferenceIdeal : Cert.quiescent_LayersReferenceIdeal := fun m ρ _ =>
  (θ_run Cert.LayersReferenceIdeal.defs _ _).mono (fun r h => ⟨fun c => (h c).2, Idealize.ShloMosaic.sem_eq_zero_of_no_sems (by decide) r.2⟩)
    (Cert.LayersReferenceIdeal.Value.run (F := Ideal) m ρ)

/-- Both leave the whole product. -/
theorem algebraic_Table : Cert.algebraic_TableIdeal_TableReferenceIdeal := by
  intro m g m' g' _ hag
  refine ⟨fun c => Cert.TableIdeal.Rows.whole m c, Cert.TableIdeal.Rows.run m g, ?_⟩
  refine (θ_run Cert.TableReferenceIdeal.defs _ _).mono (fun r h c => ⟨?_, (h c).2⟩) (Cert.TableReferenceIdeal.Value.run (F := Ideal) m' g')
  obtain ⟨h0, h1⟩ := hag c
  refine (h c).1.trans ?_
  rw [h0, h1]
  rfl

/-- Both leave every row's score. -/
theorem algebraic_Layers : Cert.algebraic_LayersIdeal_LayersReferenceIdeal := by
  intro m g m' g' _ hag
  refine ⟨fun c => Cert.LayersIdeal.Rows.whole m c, Cert.LayersIdeal.Rows.run m g, ?_⟩
  refine (θ_run Cert.LayersReferenceIdeal.defs _ _).mono (fun r h c => ⟨?_, (h c).2⟩) (Cert.LayersReferenceIdeal.Value.run (F := Ideal) m' g')
  obtain ⟨h0, h1, h2, h3, h4, h5, h6, h7, h8, h9, h10, h11⟩ := hag c
  refine (h c).1.trans ?_
  rw [h0, h1, h2, h3, h4, h5, h6, h7, h8, h9, h10, h11]
  rfl

theorem claim : Cert.Claim :=
  ⟨Cert.Kernel.Gen.facts, Cert.KernelIdeal.Gen.facts, Cert.ReferenceIdeal.Gen.facts, Cert.Table.Gen.facts,
    Cert.TableIdeal.Gen.facts, Cert.TableReferenceIdeal.Gen.facts, Cert.Layers.Gen.facts, Cert.LayersIdeal.Gen.facts,
    Cert.LayersReferenceIdeal.Gen.facts, Cert.Pre_offsets_ok.Gen.facts,
    frame_Kernel, frame_KernelIdeal, frame_ReferenceIdeal, frame_ReferenceIdeal_pre,
    frame_Table, frame_TableIdeal, frame_TableReferenceIdeal, frame_Layers, frame_LayersIdeal, frame_LayersReferenceIdeal,
    trivial, algebraic, trivial, algebraic_Table, trivial, algebraic_Layers⟩

end Cert.Proof

end

end
